-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v21_0)) (v1 : (c : Dev Cert.QkvIdeal.nD) → Buf (Elt Ideal) ((c.tc : Thread Cert.QkvIdeal.nD Cert.QkvIdeal.τ).loc Cert.QkvIdeal.main_v21_1)) (v2 : (c : Dev Cert.QkvIdeal.nD) → Buf (Elt Ideal) ((c.tc : Thread Cert.QkvIdeal.nD Cert.QkvIdeal.τ).loc Cert.QkvIdeal.main_v21_2)) (v3 : (c : Dev Cert.QkvIdeal.nD) → Buf (Elt Ideal) ((c.tc : Thread Cert.QkvIdeal.nD Cert.QkvIdeal.τ).loc Cert.QkvIdeal.main_v21_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21_0) = v0 c
          ∧ r.2.mem ((c.tc : Thread Cert.QkvIdeal.nD Cert.QkvIdeal.τ).loc Cert.QkvIdeal.main_v21_1) = v1 c
          ∧ r.2.mem ((c.tc : Thread Cert.QkvIdeal.nD Cert.QkvIdeal.τ).loc Cert.QkvIdeal.main_v21_2) = v2 c
          ∧ r.2.mem ((c.tc : Thread Cert.QkvIdeal.nD Cert.QkvIdeal.τ).loc Cert.QkvIdeal.main_v21_4) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S8x1008x2240 : Shape := ⟨3, ![8, 1008, 2240]⟩
abbrev S8x1008 : Shape := ⟨2, ![8, 1008]⟩
abbrev S2240x11200 : Shape := ⟨2, ![2240, 11200]⟩
abbrev S11200 : Shape := ⟨1, ![11200]⟩
abbrev S3x3x11200 : Shape := ⟨3, ![3, 3, 11200]⟩
abbrev S5600x2240 : Shape := ⟨2, ![5600, 2240]⟩
abbrev S2240 : Shape := ⟨1, ![2240]⟩
abbrev S8x6x2240 : Shape := ⟨3, ![8, 6, 2240]⟩
abbrev S6x2240 : Shape := ⟨2, ![6, 2240]⟩
abbrev S8x1008x1 : Shape := ⟨3, ![8, 1008, 1]⟩
abbrev S8x1008x128 : Shape := ⟨3, ![8, 1008, 128]⟩
abbrev S2240x2x5600 : Shape := ⟨3, ![2240, 2, 5600]⟩
abbrev S_ : Shape := ⟨0, ![]⟩
abbrev S2240x2x32 : Shape := ⟨3, ![2240, 2, 32]⟩
abbrev S2240x2x5632 : Shape := ⟨3, ![2240, 2, 5632]⟩
abbrev S2240x2x44x128 : Shape := ⟨4, ![2240, 2, 44, 128]⟩
abbrev S44x2240x2x128 : Shape := ⟨4, ![44, 2240, 2, 128]⟩
abbrev S44x2240x256 : Shape := ⟨3, ![44, 2240, 256]⟩
abbrev S1x11200 : Shape := ⟨2, ![1, 11200]⟩
abbrev S9x11200 : Shape := ⟨2, ![9, 11200]⟩
abbrev S4x11200 : Shape := ⟨2, ![4, 11200]⟩
abbrev S16x11200 : Shape := ⟨2, ![16, 11200]⟩
abbrev S16x2x5600 : Shape := ⟨3, ![16, 2, 5600]⟩
abbrev S16x2x5632 : Shape := ⟨3, ![16, 2, 5632]⟩
abbrev S16x2x44x128 : Shape := ⟨4, ![16, 2, 44, 128]⟩
abbrev S44x16x2x128 : Shape := ⟨4, ![44, 16, 2, 128]⟩
abbrev S44x16x256 : Shape := ⟨3, ![44, 16, 256]⟩
abbrev S1x2240 : Shape := ⟨2, ![1, 2240]⟩
abbrev S8x1008x5600 : Shape := ⟨3, ![8, 1008, 5600]⟩
abbrev S8x1x1008 : Shape := ⟨3, ![8, 1, 1008]⟩
abbrev S1x1008x2240 : Shape := ⟨3, ![1, 1008, 2240]⟩
abbrev S1x1008x128 : Shape := ⟨3, ![1, 1008, 128]⟩
abbrev S1x2240x256 : Shape := ⟨3, ![1, 2240, 256]⟩
abbrev S1x16x256 : Shape := ⟨3, ![1, 16, 256]⟩
abbrev S1x6x2240 : Shape := ⟨3, ![1, 6, 2240]⟩
abbrev S1x256x2240 : Shape := ⟨3, ![1, 256, 2240]⟩
abbrev S1x256x5600 : Shape := ⟨3, ![1, 256, 5600]⟩
abbrev S1x1x256 : Shape := ⟨3, ![1, 1, 256]⟩
abbrev S2x1088x128 : Shape := ⟨3, ![2, 1088, 128]⟩
abbrev S44x1024x128 : Shape := ⟨3, ![44, 1024, 128]⟩
abbrev S1024x128 : Shape := ⟨2, ![1024, 128]⟩
abbrev S1x256x128 : Shape := ⟨3, ![1, 256, 128]⟩
abbrev S256x128 : Shape := ⟨2, ![256, 128]⟩
abbrev S256x2240 : Shape := ⟨2, ![256, 2240]⟩
abbrev S2240x256 : Shape := ⟨2, ![2240, 256]⟩
abbrev S256x256 : Shape := ⟨2, ![256, 256]⟩
abbrev S1x1x128 : Shape := ⟨3, ![1, 1, 128]⟩
abbrev S1x128 : Shape := ⟨2, ![1, 128]⟩
abbrev S1x240x128 : Shape := ⟨3, ![1, 240, 128]⟩
abbrev S240x128 : Shape := ⟨2, ![240, 128]⟩
abbrev S1x240x2240 : Shape := ⟨3, ![1, 240, 2240]⟩
abbrev S240x2240 : Shape := ⟨2, ![240, 2240]⟩
abbrev S240x256 : Shape := ⟨2, ![240, 256]⟩
abbrev S72x128 : Shape := ⟨2, ![72, 128]⟩
abbrev S1x72x128 : Shape := ⟨3, ![1, 72, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S256x96 : Shape := ⟨2, ![256, 96]⟩
abbrev S1x256x96 : Shape := ⟨3, ![1, 256, 96]⟩
abbrev S1x1x2240 : Shape := ⟨3, ![1, 1, 2240]⟩
abbrev S256x5600 : Shape := ⟨2, ![256, 5600]⟩
abbrev S5600x256 : Shape := ⟨2, ![5600, 256]⟩
abbrev S1x256x256 : Shape := ⟨3, ![1, 256, 256]⟩
abbrev S5600x192 : Shape := ⟨2, ![5600, 192]⟩
abbrev S256x192 : Shape := ⟨2, ![256, 192]⟩
abbrev S1x192 : Shape := ⟨2, ![1, 192]⟩
abbrev S1x256x192 : Shape := ⟨3, ![1, 256, 192]⟩

abbrev nBuf : Space → Nat
  | .hbm => 40
  | .vmem => 24
  | .smem => 0
  | _ => 0

abbrev bufTy : (tb : Table) → Fin (tcTables nBuf tb) → BufTy
  | .hbm, ⟨0, _⟩ => ⟨S8x1008x2240, .fp8e4m3⟩
  | .hbm, ⟨1, _⟩ => ⟨S8x1008, .f32⟩
  | .hbm, ⟨2, _⟩ => ⟨S2240x11200, .fp8e4m3⟩
  | .hbm, ⟨3, _⟩ => ⟨S11200, .f32⟩
  | .hbm, ⟨4, _⟩ => ⟨S11200, .f32⟩
  | .hbm, ⟨5, _⟩ => ⟨S3x3x11200, .f32⟩
  | .hbm, ⟨6, _⟩ => ⟨S11200, .f32⟩
  | .hbm, ⟨7, _⟩ => ⟨S5600x2240, .fp8e4m3⟩
  | .hbm, ⟨8, _⟩ => ⟨S2240, .f32⟩
  | .hbm, ⟨9, _⟩ => ⟨S8x6x2240, .f32⟩
  | .hbm, ⟨10, _⟩ => ⟨S6x2240, .f32⟩
  | .hbm, ⟨11, _⟩ => ⟨S8x1008x2240, .f32⟩
  | .hbm, ⟨12, _⟩ => ⟨S8x1008x1, .f32⟩
  | .hbm, ⟨13, _⟩ => ⟨S8x1008x128, .f32⟩
  | .hbm, ⟨14, _⟩ => ⟨S2240x2x5600, .fp8e4m3⟩
  | .hbm, ⟨15, _⟩ => ⟨S_, .i8⟩
  | .hbm, ⟨16, _⟩ => ⟨S2240x2x32, .i8⟩
  | .hbm, ⟨17, _⟩ => ⟨S2240x2x32, .fp8e4m3⟩
  | .hbm, ⟨18, _⟩ => ⟨S2240x2x5632, .fp8e4m3⟩
  | .hbm, ⟨19, _⟩ => ⟨S2240x2x44x128, .fp8e4m3⟩
  | .hbm, ⟨20, _⟩ => ⟨S44x2240x2x128, .fp8e4m3⟩
  | .hbm, ⟨21, _⟩ => ⟨S44x2240x256, .fp8e4m3⟩
  | .hbm, ⟨22, _⟩ => ⟨S1x11200, .f32⟩
  | .hbm, ⟨23, _⟩ => ⟨S1x11200, .f32⟩
  | .hbm, ⟨24, _⟩ => ⟨S1x11200, .f32⟩
  | .hbm, ⟨25, _⟩ => ⟨S9x11200, .f32⟩
  | .hbm, ⟨26, _⟩ => ⟨S_, .f32⟩
  | .hbm, ⟨27, _⟩ => ⟨S4x11200, .f32⟩
  | .hbm, ⟨28, _⟩ => ⟨S16x11200, .f32⟩
  | .hbm, ⟨29, _⟩ => ⟨S16x2x5600, .f32⟩
  | .hbm, ⟨30, _⟩ => ⟨S_, .i32⟩
  | .hbm, ⟨31, _⟩ => ⟨S_, .f32⟩
  | .hbm, ⟨32, _⟩ => ⟨S16x2x5632, .f32⟩
  | .hbm, ⟨33, _⟩ => ⟨S16x2x44x128, .f32⟩
  | .hbm, ⟨34, _⟩ => ⟨S44x16x2x128, .f32⟩
  | .hbm, ⟨35, _⟩ => ⟨S44x16x256, .f32⟩
  | .hbm, ⟨36, _⟩ => ⟨S1x2240, .f32⟩
  | .hbm, ⟨37, _⟩ => ⟨S8x1008x5600, .fp8e4m3⟩
  | .hbm, ⟨38, _⟩ => ⟨S8x1x1008, .f32⟩
  | .hbm, ⟨39, _⟩ => ⟨S8x1008x2240, .bf16⟩
  | .local _ .vmem, ⟨0, _⟩ => ⟨S1x1008x2240, .fp8e4m3⟩
  | .local _ .vmem, ⟨1, _⟩ => ⟨S1x1008x2240, .fp8e4m3⟩
  | .local _ .vmem, ⟨2, _⟩ => ⟨S1x1008x128, .f32⟩
  | .local _ .vmem, ⟨3, _⟩ => ⟨S1x1008x128, .f32⟩
  | .local _ .vmem, ⟨4, _⟩ => ⟨S1x2240x256, .fp8e4m3⟩
  | .local _ .vmem, ⟨5, _⟩ => ⟨S1x2240x256, .fp8e4m3⟩
  | .local _ .vmem, ⟨6, _⟩ => ⟨S1x16x256, .f32⟩
  | .local _ .vmem, ⟨7, _⟩ => ⟨S1x16x256, .f32⟩
  | .local _ .vmem, ⟨8, _⟩ => ⟨S5600x2240, .fp8e4m3⟩
  | .local _ .vmem, ⟨9, _⟩ => ⟨S1x2240, .f32⟩
  | .local _ .vmem, ⟨10, _⟩ => ⟨S1x6x2240, .f32⟩
  | .local _ .vmem, ⟨11, _⟩ => ⟨S1x6x2240, .f32⟩
  | .local _ .vmem, ⟨12, _⟩ => ⟨S6x2240, .f32⟩
  | .local _ .vmem, ⟨13, _⟩ => ⟨S1x256x2240, .f32⟩
  | .local _ .vmem, ⟨14, _⟩ => ⟨S1x256x2240, .f32⟩
  | .local _ .vmem, ⟨15, _⟩ => ⟨S1x256x5600, .fp8e4m3⟩
  | .local _ .vmem, ⟨16, _⟩ => ⟨S1x256x5600, .fp8e4m3⟩
  | .local _ .vmem, ⟨17, _⟩ => ⟨S1x1x256, .f32⟩
  | .local _ .vmem, ⟨18, _⟩ => ⟨S1x1x256, .f32⟩
  | .local _ .vmem, ⟨19, _⟩ => ⟨S1x256x2240, .bf16⟩
  | .local _ .vmem, ⟨20, _⟩ => ⟨S1x256x2240, .bf16⟩
  | .local _ .vmem, ⟨21, _⟩ => ⟨S2x1088x128, .f32⟩
  | .local _ .vmem, ⟨22, _⟩ => ⟨S44x1024x128, .f32⟩
  | .local _ .vmem, ⟨23, _⟩ => ⟨S1024x128, .f32⟩
  | _, _ => ⟨S8x1008x2240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 48], ![false, false]⟩

def k0_cond2 (i : grid0.Coords) : BitVec 1 :=
  let arg1 : BitVec 32 := BitVec.ofNat 32 (i 1).val
  let c44_i32 : BitVec 32 := 44#32
  let v3 : BitVec 1 := Scalar.cmpi .slt arg1 c44_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v341 : Index := Scalar.indexCast arg1
  let c0_215 : Index := 0#32
  let c0_216 : Index := 0#32
  ![v341.toNat, 0, 0]
def k0_off2 (i : grid0.Coords) : Fin 3 → Nat :=
  let arg1 : BitVec 32 := BitVec.ofNat 32 (i 1).val
  let v502 : Index := Scalar.indexCast arg1
  let c72 : Index := 72#32
  let c0_337 : Index := 0#32
  ![v502.toNat, 72, 0]
def k0_off3 (i : grid0.Coords) : Fin 3 → Nat :=
  let arg1 : BitVec 32 := BitVec.ofNat 32 (i 1).val
  let v663 : Index := Scalar.indexCast arg1
  let c144 : Index := 144#32
  let c0_458 : Index := 0#32
  ![v663.toNat, 144, 0]
def k0_off4 (i : grid0.Coords) : Fin 3 → Nat :=
  let arg1 : BitVec 32 := BitVec.ofNat 32 (i 1).val
  let v824 : Index := Scalar.indexCast arg1
  let c216 : Index := 216#32
  let c0_580 : Index := 0#32
  ![v824.toNat, 216, 0]
def k0_off5 (i : grid0.Coords) : Fin 3 → Nat :=
  let arg1 : BitVec 32 := BitVec.ofNat 32 (i 1).val
  let v985 : Index := Scalar.indexCast arg1
  let c288 : Index := 288#32
  let c0_701 : Index := 0#32
  ![v985.toNat, 288, 0]
def k0_off6 (i : grid0.Coords) : Fin 3 → Nat :=
  let arg1 : BitVec 32 := BitVec.ofNat 32 (i 1).val
  let v1146 : Index := Scalar.indexCast arg1
  let c360 : Index := 360#32
  let c0_822 : Index := 0#32
  ![v1146.toNat, 360, 0]
def k0_off7 (i : grid0.Coords) : Fin 3 → Nat :=
  let arg1 : BitVec 32 := BitVec.ofNat 32 (i 1).val
  let v1307 : Index := Scalar.indexCast arg1
  let c432 : Index := 432#32
  let c0_943 : Index := 0#32
  ![v1307.toNat, 432, 0]
def k0_off8 (i : grid0.Coords) : Fin 3 → Nat :=
  let arg1 : BitVec 32 := BitVec.ofNat 32 (i 1).val
  let v1468 : Index := Scalar.indexCast arg1
  let c504 : Index := 504#32
  let c0_1064 : Index := 0#32
  ![v1468.toNat, 504, 0]
def k0_off9 (i : grid0.Coords) : Fin 3 → Nat :=
  let arg1 : BitVec 32 := BitVec.ofNat 32 (i 1).val
  let v1629 : Index := Scalar.indexCast arg1
  let c576 : Index := 576#32
  let c0_1185 : Index := 0#32
  ![v1629.toNat, 576, 0]
def k0_off10 (i : grid0.Coords) : Fin 3 → Nat :=
  let arg1 : BitVec 32 := BitVec.ofNat 32 (i 1).val
  let v1790 : Index := Scalar.indexCast arg1
  let c648 : Index := 648#32
  let c0_1306 : Index := 0#32
  ![v1790.toNat, 648, 0]
def k0_off11 (i : grid0.Coords) : Fin 3 → Nat :=
  let arg1 : BitVec 32 := BitVec.ofNat 32 (i 1).val
  let v1951 : Index := Scalar.indexCast arg1
  let c720 : Index := 720#32
  let c0_1427 : Index := 0#32
  ![v1951.toNat, 720, 0]
def k0_off12 (i : grid0.Coords) : Fin 3 → Nat :=
  let arg1 : BitVec 32 := BitVec.ofNat 32 (i 1).val
  let v2112 : Index := Scalar.indexCast arg1
  let c792 : Index := 792#32
  let c0_1548 : Index := 0#32
  ![v2112.toNat, 792, 0]
def k0_off13 (i : grid0.Coords) : Fin 3 → Nat :=
  let arg1 : BitVec 32 := BitVec.ofNat 32 (i 1).val
  let v2273 : Index := Scalar.indexCast arg1
  let c864 : Index := 864#32
  let c0_1669 : Index := 0#32
  ![v2273.toNat, 864, 0]
def k0_off14 (i : grid0.Coords) : Fin 3 → Nat :=
  let arg1 : BitVec 32 := BitVec.ofNat 32 (i 1).val
  let v2434 : Index := Scalar.indexCast arg1
  let c936 : Index := 936#32
  let c0_1790 : Index := 0#32
  ![v2434.toNat, 936, 0]
def k0_cond3 (i : grid0.Coords) : BitVec 1 :=
  let arg1 : BitVec 32 := BitVec.ofNat 32 (i 1).val
  let c44_i32_2 : BitVec 32 := 44#32
  let v6 : BitVec 1 := Scalar.cmpi .sge arg1 c44_i32_2
  let v7 : BitVec 32 := Scalar.extui v6
  let c0_i32_3 : BitVec 32 := 0#32
  let v8 : BitVec 1 := Scalar.cmpi .ne v7 c0_i32_3
  v8

def k0_off15 (i : grid0.Coords) : Fin 2 → Nat :=
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v11 : Index := Scalar.indexCast v10
  let c0 : Index := 0#32
  ![v11.toNat, 0]
def k0_off16 (i : grid0.Coords) : Fin 3 → Nat :=
  let c0_12 : Index := 0#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v30 : Index := Scalar.indexCast v10
  let c0_13 : Index := 0#32
  ![0, v30.toNat, 0]
def k0_off17 (i : grid0.Coords) : Fin 3 → Nat :=
  let c1 : Index := 1#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v43 : Index := Scalar.indexCast v10
  let c0_19 : Index := 0#32
  ![1, v43.toNat, 0]
def k0_off18 (i : grid0.Coords) : Fin 3 → Nat :=
  let c2 : Index := 2#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v56 : Index := Scalar.indexCast v10
  let c0_24 : Index := 0#32
  ![2, v56.toNat, 0]
def k0_off19 (i : grid0.Coords) : Fin 3 → Nat :=
  let c3 : Index := 3#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v69 : Index := Scalar.indexCast v10
  let c0_29 : Index := 0#32
  ![3, v69.toNat, 0]
def k0_off20 (i : grid0.Coords) : Fin 3 → Nat :=
  let c4 : Index := 4#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v82 : Index := Scalar.indexCast v10
  let c0_34 : Index := 0#32
  ![4, v82.toNat, 0]
def k0_off21 (i : grid0.Coords) : Fin 3 → Nat :=
  let c5 : Index := 5#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v95 : Index := Scalar.indexCast v10
  let c0_39 : Index := 0#32
  ![5, v95.toNat, 0]
def k0_off22 (i : grid0.Coords) : Fin 3 → Nat :=
  let c6 : Index := 6#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v108 : Index := Scalar.indexCast v10
  let c0_44 : Index := 0#32
  ![6, v108.toNat, 0]
def k0_off23 (i : grid0.Coords) : Fin 3 → Nat :=
  let c7 : Index := 7#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v121 : Index := Scalar.indexCast v10
  let c0_49 : Index := 0#32
  ![7, v121.toNat, 0]
def k0_off24 (i : grid0.Coords) : Fin 3 → Nat :=
  let c8 : Index := 8#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v134 : Index := Scalar.indexCast v10
  let c0_54 : Index := 0#32
  ![8, v134.toNat, 0]
def k0_off25 (i : grid0.Coords) : Fin 3 → Nat :=
  let c9 : Index := 9#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v147 : Index := Scalar.indexCast v10
  let c0_59 : Index := 0#32
  ![9, v147.toNat, 0]
def k0_off26 (i : grid0.Coords) : Fin 3 → Nat :=
  let c10 : Index := 10#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v160 : Index := Scalar.indexCast v10
  let c0_64 : Index := 0#32
  ![10, v160.toNat, 0]
def k0_off27 (i : grid0.Coords) : Fin 3 → Nat :=
  let c11 : Index := 11#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v173 : Index := Scalar.indexCast v10
  let c0_69 : Index := 0#32
  ![11, v173.toNat, 0]
def k0_off28 (i : grid0.Coords) : Fin 3 → Nat :=
  let c12 : Index := 12#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v186 : Index := Scalar.indexCast v10
  let c0_74 : Index := 0#32
  ![12, v186.toNat, 0]
def k0_off29 (i : grid0.Coords) : Fin 3 → Nat :=
  let c13 : Index := 13#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v199 : Index := Scalar.indexCast v10
  let c0_79 : Index := 0#32
  ![13, v199.toNat, 0]
def k0_off30 (i : grid0.Coords) : Fin 3 → Nat :=
  let c14 : Index := 14#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v212 : Index := Scalar.indexCast v10
  let c0_84 : Index := 0#32
  ![14, v212.toNat, 0]
def k0_off31 (i : grid0.Coords) : Fin 3 → Nat :=
  let c15 : Index := 15#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v225 : Index := Scalar.indexCast v10
  let c0_89 : Index := 0#32
  ![15, v225.toNat, 0]
def k0_off32 (i : grid0.Coords) : Fin 3 → Nat :=
  let c16 : Index := 16#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v238 : Index := Scalar.indexCast v10
  let c0_94 : Index := 0#32
  ![16, v238.toNat, 0]
def k0_off33 (i : grid0.Coords) : Fin 3 → Nat :=
  let c17 : Index := 17#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v251 : Index := Scalar.indexCast v10
  let c0_99 : Index := 0#32
  ![17, v251.toNat, 0]
def k0_off34 (i : grid0.Coords) : Fin 3 → Nat :=
  let c18 : Index := 18#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v264 : Index := Scalar.indexCast v10
  let c0_104 : Index := 0#32
  ![18, v264.toNat, 0]
def k0_off35 (i : grid0.Coords) : Fin 3 → Nat :=
  let c19 : Index := 19#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v277 : Index := Scalar.indexCast v10
  let c0_109 : Index := 0#32
  ![19, v277.toNat, 0]
def k0_off36 (i : grid0.Coords) : Fin 3 → Nat :=
  let c20 : Index := 20#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v290 : Index := Scalar.indexCast v10
  let c0_114 : Index := 0#32
  ![20, v290.toNat, 0]
def k0_off37 (i : grid0.Coords) : Fin 3 → Nat :=
  let c21 : Index := 21#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v303 : Index := Scalar.indexCast v10
  let c0_119 : Index := 0#32
  ![21, v303.toNat, 0]
def k0_off38 (i : grid0.Coords) : Fin 3 → Nat :=
  let c22 : Index := 22#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v316 : Index := Scalar.indexCast v10
  let c0_124 : Index := 0#32
  ![22, v316.toNat, 0]
def k0_off39 (i : grid0.Coords) : Fin 3 → Nat :=
  let c23 : Index := 23#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v329 : Index := Scalar.indexCast v10
  let c0_129 : Index := 0#32
  ![23, v329.toNat, 0]
def k0_off40 (i : grid0.Coords) : Fin 3 → Nat :=
  let c24 : Index := 24#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v342 : Index := Scalar.indexCast v10
  let c0_134 : Index := 0#32
  ![24, v342.toNat, 0]
def k0_off41 (i : grid0.Coords) : Fin 3 → Nat :=
  let c25 : Index := 25#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v355 : Index := Scalar.indexCast v10
  let c0_139 : Index := 0#32
  ![25, v355.toNat, 0]
def k0_off42 (i : grid0.Coords) : Fin 3 → Nat :=
  let c26 : Index := 26#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v368 : Index := Scalar.indexCast v10
  let c0_144 : Index := 0#32
  ![26, v368.toNat, 0]
def k0_off43 (i : grid0.Coords) : Fin 3 → Nat :=
  let c27 : Index := 27#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v381 : Index := Scalar.indexCast v10
  let c0_149 : Index := 0#32
  ![27, v381.toNat, 0]
def k0_off44 (i : grid0.Coords) : Fin 3 → Nat :=
  let c28 : Index := 28#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v394 : Index := Scalar.indexCast v10
  let c0_154 : Index := 0#32
  ![28, v394.toNat, 0]
def k0_off45 (i : grid0.Coords) : Fin 3 → Nat :=
  let c29 : Index := 29#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v407 : Index := Scalar.indexCast v10
  let c0_159 : Index := 0#32
  ![29, v407.toNat, 0]
def k0_off46 (i : grid0.Coords) : Fin 3 → Nat :=
  let c30 : Index := 30#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v420 : Index := Scalar.indexCast v10
  let c0_164 : Index := 0#32
  ![30, v420.toNat, 0]
def k0_off47 (i : grid0.Coords) : Fin 3 → Nat :=
  let c31 : Index := 31#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v433 : Index := Scalar.indexCast v10
  let c0_169 : Index := 0#32
  ![31, v433.toNat, 0]
def k0_off48 (i : grid0.Coords) : Fin 3 → Nat :=
  let c32 : Index := 32#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v446 : Index := Scalar.indexCast v10
  let c0_174 : Index := 0#32
  ![32, v446.toNat, 0]
def k0_off49 (i : grid0.Coords) : Fin 3 → Nat :=
  let c33 : Index := 33#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v459 : Index := Scalar.indexCast v10
  let c0_179 : Index := 0#32
  ![33, v459.toNat, 0]
def k0_off50 (i : grid0.Coords) : Fin 3 → Nat :=
  let c34 : Index := 34#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v472 : Index := Scalar.indexCast v10
  let c0_184 : Index := 0#32
  ![34, v472.toNat, 0]
def k0_off51 (i : grid0.Coords) : Fin 3 → Nat :=
  let c35 : Index := 35#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v485 : Index := Scalar.indexCast v10
  let c0_189 : Index := 0#32
  ![35, v485.toNat, 0]
def k0_off52 (i : grid0.Coords) : Fin 3 → Nat :=
  let c36 : Index := 36#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v498 : Index := Scalar.indexCast v10
  let c0_194 : Index := 0#32
  ![36, v498.toNat, 0]
def k0_off53 (i : grid0.Coords) : Fin 3 → Nat :=
  let c37 : Index := 37#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v511 : Index := Scalar.indexCast v10
  let c0_199 : Index := 0#32
  ![37, v511.toNat, 0]
def k0_off54 (i : grid0.Coords) : Fin 3 → Nat :=
  let c38 : Index := 38#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v524 : Index := Scalar.indexCast v10
  let c0_204 : Index := 0#32
  ![38, v524.toNat, 0]
def k0_off55 (i : grid0.Coords) : Fin 3 → Nat :=
  let c39 : Index := 39#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v537 : Index := Scalar.indexCast v10
  let c0_209 : Index := 0#32
  ![39, v537.toNat, 0]
def k0_off56 (i : grid0.Coords) : Fin 3 → Nat :=
  let c40 : Index := 40#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v550 : Index := Scalar.indexCast v10
  let c0_214 : Index := 0#32
  ![40, v550.toNat, 0]
def k0_off57 (i : grid0.Coords) : Fin 3 → Nat :=
  let c41 : Index := 41#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v563 : Index := Scalar.indexCast v10
  let c0_219 : Index := 0#32
  ![41, v563.toNat, 0]
def k0_off58 (i : grid0.Coords) : Fin 3 → Nat :=
  let c42 : Index := 42#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v576 : Index := Scalar.indexCast v10
  let c0_224 : Index := 0#32
  ![42, v576.toNat, 0]
def k0_off59 (i : grid0.Coords) : Fin 3 → Nat :=
  let c43 : Index := 43#32
  let arg1 : BitVec 32 := BitVec.ofNat 32 (i 1).val
  let c44_i32_4 : BitVec 32 := 44#32
  let v9 : BitVec 32 := Scalar.subi arg1 c44_i32_4
  let c256_i32 : BitVec 32 := 256#32
  let v10 : BitVec 32 := Scalar.muli v9 c256_i32
  let v589 : Index := Scalar.indexCast v10
  let c0_229 : Index := 0#32
  ![43, v589.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.minsi arg1 c43_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.minsi arg1 c43_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.subi arg1 c44_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.subi arg1 c44_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.subi arg1 c44_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_11 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.subi arg1 c44_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1008x2240 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1008x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2240x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S5600x2240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x6x2240 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S6x2240 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2240 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x5600 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2240 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x1008x2240 : Shape := ⟨3, ![8, 1008, 2240]⟩
abbrev S8x1008 : Shape := ⟨2, ![8, 1008]⟩
abbrev S2240x11200 : Shape := ⟨2, ![2240, 11200]⟩
abbrev S11200 : Shape := ⟨1, ![11200]⟩
abbrev S3x3x11200 : Shape := ⟨3, ![3, 3, 11200]⟩
abbrev S5600x2240 : Shape := ⟨2, ![5600, 2240]⟩
abbrev S2240 : Shape := ⟨1, ![2240]⟩
abbrev S8x6x2240 : Shape := ⟨3, ![8, 6, 2240]⟩
abbrev S6x2240 : Shape := ⟨2, ![6, 2240]⟩
abbrev S8x1008x5600 : Shape := ⟨3, ![8, 1008, 5600]⟩
abbrev S8x1x1008 : Shape := ⟨3, ![8, 1, 1008]⟩
abbrev S8x1008x11200 : Shape := ⟨3, ![8, 1008, 11200]⟩
abbrev S8x1008x1 : Shape := ⟨3, ![8, 1008, 1]⟩
abbrev S1x1x11200 : Shape := ⟨3, ![1, 1, 11200]⟩
abbrev S8x28x36x11200 : Shape := ⟨4, ![8, 28, 36, 11200]⟩
abbrev S8x1x36x11200 : Shape := ⟨4, ![8, 1, 36, 11200]⟩
abbrev S8x30x1x11200 : Shape := ⟨4, ![8, 30, 1, 11200]⟩
abbrev S8x30x36x11200 : Shape := ⟨4, ![8, 30, 36, 11200]⟩
abbrev S8x30x38x11200 : Shape := ⟨4, ![8, 30, 38, 11200]⟩
abbrev S1x1x1x11200 : Shape := ⟨4, ![1, 1, 1, 11200]⟩
abbrev S1x1x2240 : Shape := ⟨3, ![1, 1, 2240]⟩
abbrev S1x6x2240 : Shape := ⟨3, ![1, 6, 2240]⟩
abbrev S8x1x2240 : Shape := ⟨3, ![8, 1, 2240]⟩

abbrev nBuf : Space → Nat
  | .hbm => 15
  | .vmem => 15
  | .smem => 0
  | _ => 0

abbrev bufTy : (tb : Table) → Fin (tcTables nBuf tb) → BufTy
  | .hbm, ⟨0, _⟩ => ⟨S8x1008x2240, .fp8e4m3⟩
  | .hbm, ⟨1, _⟩ => ⟨S8x1008, .f32⟩
  | .hbm, ⟨2, _⟩ => ⟨S2240x11200, .fp8e4m3⟩
  | .hbm, ⟨3, _⟩ => ⟨S11200, .f32⟩
  | .hbm, ⟨4, _⟩ => ⟨S11200, .f32⟩
  | .hbm, ⟨5, _⟩ => ⟨S3x3x11200, .f32⟩
  | .hbm, ⟨6, _⟩ => ⟨S11200, .f32⟩
  | .hbm, ⟨7, _⟩ => ⟨S5600x2240, .fp8e4m3⟩
  | .hbm, ⟨8, _⟩ => ⟨S2240, .f32⟩
  | .hbm, ⟨9, _⟩ => ⟨S8x6x2240, .f32⟩
  | .hbm, ⟨10, _⟩ => ⟨S6x2240, .f32⟩
  | .hbm, ⟨11, _⟩ => ⟨S8x1008x2240, .f32⟩
  | .hbm, ⟨12, _⟩ => ⟨S8x1008x5600, .fp8e4m3⟩
  | .hbm, ⟨13, _⟩ => ⟨S8x1x1008, .f32⟩
  | .hbm, ⟨14, _⟩ => ⟨S8x1008x2240, .bf16⟩
  | .local _ .vmem, ⟨0, _⟩ => ⟨S8x1008x2240, .fp8e4m3⟩
  | .local _ .vmem, ⟨1, _⟩ => ⟨S8x1008, .f32⟩
  | .local _ .vmem, ⟨2, _⟩ => ⟨S2240x11200, .fp8e4m3⟩
  | .local _ .vmem, ⟨3, _⟩ => ⟨S11200, .f32⟩
  | .local _ .vmem, ⟨4, _⟩ => ⟨S11200, .f32⟩
  | .local _ .vmem, ⟨5, _⟩ => ⟨S3x3x11200, .f32⟩
  | .local _ .vmem, ⟨6, _⟩ => ⟨S11200, .f32⟩
  | .local _ .vmem, ⟨7, _⟩ => ⟨S5600x2240, .fp8e4m3⟩
  | .local _ .vmem, ⟨8, _⟩ => ⟨S2240, .f32⟩
  | .local _ .vmem, ⟨9, _⟩ => ⟨S8x6x2240, .f32⟩
  | .local _ .vmem, ⟨10, _⟩ => ⟨S6x2240, .f32⟩
  | .local _ .vmem, ⟨11, _⟩ => ⟨S8x1008x2240, .f32⟩
  | .local _ .vmem, ⟨12, _⟩ => ⟨S8x1008x5600, .fp8e4m3⟩
  | .local _ .vmem, ⟨13, _⟩ => ⟨S8x1x1008, .f32⟩
  | .local _ .vmem, ⟨14, _⟩ => ⟨S8x1008x2240, .bf16⟩
  | _, _ => ⟨S8x1008x2240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x1008x2240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2240x11200 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x11200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5600x2240 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2240 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x6x2240 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2240 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1008x2240 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1008x5600 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1x1008 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1008x2240 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Qkv.lean ====
abbrev S8x1008x2240 : Shape := ⟨3, ![8, 1008, 2240]⟩
abbrev S8x6x2240 : Shape := ⟨3, ![8, 6, 2240]⟩
abbrev S6x2240 : Shape := ⟨2, ![6, 2240]⟩
abbrev S2240x6720 : Shape := ⟨2, ![2240, 6720]⟩
abbrev S6720 : Shape := ⟨1, ![6720]⟩
abbrev S8x1008x16 : Shape := ⟨3, ![8, 1008, 16]⟩
abbrev S8x1008x16x2 : Shape := ⟨4, ![8, 1008, 16, 2]⟩
abbrev S8x1008x32 : Shape := ⟨3, ![8, 1008, 32]⟩
abbrev S1x8x1x1008x1x32 : Shape := ⟨6, ![1, 8, 1, 1008, 1, 32]⟩
abbrev S1x8x1x1008x4x32 : Shape := ⟨6, ![1, 8, 1, 1008, 4, 32]⟩
abbrev S8x1008x128 : Shape := ⟨3, ![8, 1008, 128]⟩
abbrev S8x1008x16x1 : Shape := ⟨4, ![8, 1008, 16, 1]⟩
abbrev S2240x3x2240 : Shape := ⟨3, ![2240, 3, 2240]⟩
abbrev S_ : Shape := ⟨0, ![]⟩
abbrev S2240x3x64 : Shape := ⟨3, ![2240, 3, 64]⟩
abbrev S2240x3x2304 : Shape := ⟨3, ![2240, 3, 2304]⟩
abbrev S2240x6912 : Shape := ⟨2, ![2240, 6912]⟩
abbrev S3x2240 : Shape := ⟨2, ![3, 2240]⟩
abbrev S3x2304 : Shape := ⟨2, ![3, 2304]⟩
abbrev S1x6912 : Shape := ⟨2, ![1, 6912]⟩
abbrev S8x1x1008 : Shape := ⟨3, ![8, 1, 1008]⟩
abbrev S8x1024x2304 : Shape := ⟨3, ![8, 1024, 2304]⟩
abbrev S8x18x128x128 : Shape := ⟨4, ![8, 18, 128, 128]⟩
abbrev S8x1x2304 : Shape := ⟨3, ![8, 1, 2304]⟩
abbrev S1x256x2240 : Shape := ⟨3, ![1, 256, 2240]⟩
abbrev S1x6x2240 : Shape := ⟨3, ![1, 6, 2240]⟩
abbrev S1x256x128 : Shape := ⟨3, ![1, 256, 128]⟩
abbrev S1x1x256 : Shape := ⟨3, ![1, 1, 256]⟩
abbrev S1x256x2304 : Shape := ⟨3, ![1, 256, 2304]⟩
abbrev S1x18x128x128 : Shape := ⟨4, ![1, 18, 128, 128]⟩
abbrev S1x1x2304 : Shape := ⟨3, ![1, 1, 2304]⟩
abbrev S256x1 : Shape := ⟨2, ![256, 1]⟩
abbrev S256x2240 : Shape := ⟨2, ![256, 2240]⟩
abbrev S1x2240 : Shape := ⟨2, ![1, 2240]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S2240x256 : Shape := ⟨2, ![2240, 256]⟩
abbrev S256x256 : Shape := ⟨2, ![256, 256]⟩
abbrev S1x256x256 : Shape := ⟨3, ![1, 256, 256]⟩
abbrev S256x384 : Shape := ⟨2, ![256, 384]⟩
abbrev S384x256 : Shape := ⟨2, ![384, 256]⟩
abbrev S128x128 : Shape := ⟨2, ![128, 128]⟩
abbrev S1x1x128x128 : Shape := ⟨4, ![1, 1, 128, 128]⟩

abbrev nBuf : Space → Nat
  | .hbm => 36
  | .vmem => 21
  | .smem => 0
  | _ => 0

abbrev bufTy : (tb : Table) → Fin (tcTables nBuf tb) → BufTy
  | .hbm, ⟨0, _⟩ => ⟨S8x1008x2240, .bf16⟩
  | .hbm, ⟨1, _⟩ => ⟨S8x6x2240, .f32⟩
  | .hbm, ⟨2, _⟩ => ⟨S6x2240, .f32⟩
  | .hbm, ⟨3, _⟩ => ⟨S2240x6720, .fp8e4m3⟩
  | .hbm, ⟨4, _⟩ => ⟨S6720, .f32⟩
  | .hbm, ⟨5, _⟩ => ⟨S8x1008x16, .f32⟩
  | .hbm, ⟨6, _⟩ => ⟨S8x1008x16, .f32⟩
  | .hbm, ⟨7, _⟩ => ⟨S8x1008x16x2, .f32⟩
  | .hbm, ⟨8, _⟩ => ⟨S8x1008x32, .f32⟩
  | .hbm, ⟨9, _⟩ => ⟨S1x8x1x1008x1x32, .f32⟩
  | .hbm, ⟨10, _⟩ => ⟨S1x8x1x1008x4x32, .f32⟩
  | .hbm, ⟨11, _⟩ => ⟨S8x1008x128, .f32⟩
  | .hbm, ⟨12, _⟩ => ⟨S8x1008x16, .f32⟩
  | .hbm, ⟨13, _⟩ => ⟨S8x1008x16x1, .f32⟩
  | .hbm, ⟨14, _⟩ => ⟨S8x1008x16x1, .f32⟩
  | .hbm, ⟨15, _⟩ => ⟨S8x1008x16x2, .f32⟩
  | .hbm, ⟨16, _⟩ => ⟨S8x1008x32, .f32⟩
  | .hbm, ⟨17, _⟩ => ⟨S1x8x1x1008x1x32, .f32⟩
  | .hbm, ⟨18, _⟩ => ⟨S1x8x1x1008x4x32, .f32⟩
  | .hbm, ⟨19, _⟩ => ⟨S8x1008x128, .f32⟩
  | .hbm, ⟨20, _⟩ => ⟨S2240x3x2240, .fp8e4m3⟩
  | .hbm, ⟨21, _⟩ => ⟨S_, .i8⟩
  | .hbm, ⟨22, _⟩ => ⟨S2240x3x64, .i8⟩
  | .hbm, ⟨23, _⟩ => ⟨S2240x3x64, .fp8e4m3⟩
  | .hbm, ⟨24, _⟩ => ⟨S2240x3x2304, .fp8e4m3⟩
  | .hbm, ⟨25, _⟩ => ⟨S2240x6912, .fp8e4m3⟩
  | .hbm, ⟨26, _⟩ => ⟨S3x2240, .f32⟩
  | .hbm, ⟨27, _⟩ => ⟨S_, .i32⟩
  | .hbm, ⟨28, _⟩ => ⟨S_, .f32⟩
  | .hbm, ⟨29, _⟩ => ⟨S3x2304, .f32⟩
  | .hbm, ⟨30, _⟩ => ⟨S1x6912, .f32⟩
  | .hbm, ⟨31, _⟩ => ⟨S8x1008x2240, .fp8e4m3⟩
  | .hbm, ⟨32, _⟩ => ⟨S8x1x1008, .f32⟩
  | .hbm, ⟨33, _⟩ => ⟨S8x1024x2304, .f32⟩
  | .hbm, ⟨34, _⟩ => ⟨S8x18x128x128, .f32⟩
  | .hbm, ⟨35, _⟩ => ⟨S8x1x2304, .f32⟩
  | .local _ .vmem, ⟨0, _⟩ => ⟨S1x256x2240, .bf16⟩
  | .local _ .vmem, ⟨1, _⟩ => ⟨S1x256x2240, .bf16⟩
  | .local _ .vmem, ⟨2, _⟩ => ⟨S1x6x2240, .f32⟩
  | .local _ .vmem, ⟨3, _⟩ => ⟨S1x6x2240, .f32⟩
  | .local _ .vmem, ⟨4, _⟩ => ⟨S6x2240, .f32⟩
  | .local _ .vmem, ⟨5, _⟩ => ⟨S2240x6912, .fp8e4m3⟩
  | .local _ .vmem, ⟨6, _⟩ => ⟨S1x6912, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x2240, .fp8e4m3⟩
  | .local _ .vmem, ⟨12, _⟩ => ⟨S1x256x2240, .fp8e4m3⟩
  | .local _ .vmem, ⟨13, _⟩ => ⟨S1x1x256, .f32⟩
  | .local _ .vmem, ⟨14, _⟩ => ⟨S1x1x256, .f32⟩
  | .local _ .vmem, ⟨15, _⟩ => ⟨S1x256x2304, .f32⟩
  | .local _ .vmem, ⟨16, _⟩ => ⟨S1x256x2304, .f32⟩
  | .local _ .vmem, ⟨17, _⟩ => ⟨S1x18x128x128, .f32⟩
  | .local _ .vmem, ⟨18, _⟩ => ⟨S1x18x128x128, .f32⟩
  | .local _ .vmem, ⟨19, _⟩ => ⟨S1x1x2304, .f32⟩
  | .local _ .vmem, ⟨20, _⟩ => ⟨S1x1x2304, .f32⟩
  | _, _ => ⟨S8x1008x2240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x2240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2240x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2240 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2304 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x18x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2304 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== QkvReferenceIdeal.lean ====
abbrev S8x1008x2240 : Shape := ⟨3, ![8, 1008, 2240]⟩
abbrev S8x6x2240 : Shape := ⟨3, ![8, 6, 2240]⟩
abbrev S6x2240 : Shape := ⟨2, ![6, 2240]⟩
abbrev S2240x6720 : Shape := ⟨2, ![2240, 6720]⟩
abbrev S6720 : Shape := ⟨1, ![6720]⟩
abbrev S8x1008x16 : Shape := ⟨3, ![8, 1008, 16]⟩
abbrev S8x1x1008 : Shape := ⟨3, ![8, 1, 1008]⟩
abbrev S8x1024x2304 : Shape := ⟨3, ![8, 1024, 2304]⟩
abbrev S8x1x2304 : Shape := ⟨3, ![8, 1, 2304]⟩
abbrev S1x6x2240 : Shape := ⟨3, ![1, 6, 2240]⟩
abbrev S8x1x2240 : Shape := ⟨3, ![8, 1, 2240]⟩
abbrev S8x1008 : Shape := ⟨2, ![8, 1008]⟩
abbrev S8x1008x1 : Shape := ⟨3, ![8, 1008, 1]⟩
abbrev S8x1008x6720 : Shape := ⟨3, ![8, 1008, 6720]⟩
abbrev S1x1x6720 : Shape := ⟨3, ![1, 1, 6720]⟩
abbrev S8x16x2240 : Shape := ⟨3, ![8, 16, 2240]⟩
abbrev S8x1024x2240 : Shape := ⟨3, ![8, 1024, 2240]⟩
abbrev S8x1024x64 : Shape := ⟨3, ![8, 1024, 64]⟩
abbrev S8x2240 : Shape := ⟨2, ![8, 2240]⟩
abbrev S8x1x64 : Shape := ⟨3, ![8, 1, 64]⟩

abbrev nBuf : Space → Nat
  | .hbm => 11
  | .vmem => 9
  | .smem => 0
  | _ => 0

abbrev bufTy : (tb : Table) → Fin (tcTables nBuf tb) → BufTy
  | .hbm, ⟨0, _⟩ => ⟨S8x1008x2240, .bf16⟩
  | .hbm, ⟨1, _⟩ => ⟨S8x6x2240, .f32⟩
  | .hbm, ⟨2, _⟩ => ⟨S6x2240, .f32⟩
  | .hbm, ⟨3, _⟩ => ⟨S2240x6720, .fp8e4m3⟩
  | .hbm, ⟨4, _⟩ => ⟨S6720, .f32⟩
  | .hbm, ⟨5, _⟩ => ⟨S8x1008x16, .f32⟩
  | .hbm, ⟨6, _⟩ => ⟨S8x1008x16, .f32⟩
  | .hbm, ⟨7, _⟩ => ⟨S8x1008x2240, .fp8e4m3⟩
  | .hbm, ⟨8, _⟩ => ⟨S8x1x1008, .f32⟩
  | .hbm, ⟨9, _⟩ => ⟨S8x1024x2304, .f32⟩
  | .hbm, ⟨10, _⟩ => ⟨S8x1x2304, .f32⟩
  | .local _ .vmem, ⟨0, _⟩ => ⟨S8x1008x2240, .bf16⟩
  | .local _ .vmem, ⟨1, _⟩ => ⟨S8x6x2240, .f32⟩
  | .local _ .vmem, ⟨2, _⟩ => ⟨S6x2240, .f32⟩
  | .local _ .vmem, ⟨3, _⟩ => ⟨S2240x6720, .fp8e4m3⟩
  | .local _ .vmem, ⟨4, _⟩ => ⟨S6720, .f32⟩
  | .local _ .vmem, ⟨5, _⟩ => ⟨S8x1008x2240, .fp8e4m3⟩
  | .local _ .vmem, ⟨6, _⟩ => ⟨S8x1x1008, .f32⟩
  | .local _ .vmem, ⟨7, _⟩ => ⟨S8x1024x2304, .f32⟩
  | .local _ .vmem, ⟨8, _⟩ => ⟨S8x1x2304, .f32⟩
  | _, _ => ⟨S8x1008x2240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1008x2240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6x2240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2240x6720 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6720 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1008x2240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem name_contents (c : Dev nD) {sp : Space} {S : Shape} {e : EltTy} (M : Memref sig .tc sp S e) (f : Bf (F := F) c M) :
    (M.view.loc (c : Thread nD τ) ↦[M.view.set]{fullShare} f : sProp 𝕄) ⊢ iprop(∃ g, ⌜g = f⌝ ∗ pt c M g) := by
  iintro H; iexists f; isplitr
  · ipureintro; rfl
  iexact H

/-- A list of stores into a memref of shape `S`. -/
abbrev Pcs (S : Shape) (e : EltTy) : Type := List (View.Piece (Elt F) S e)

set_option sl_exec.stopBefore "k0_part6" in
set_option maxHeartbeats 4000000 in
/-- A point of the first half (`j < 44`), run once: the scratch buffers at the returned stores over what was found. The first
    component is what the scratch of activations holds after the matrix products, the second what the maxima's scratch holds after the
    zeroing, the third and fourth the stores of the fourteen convolution blocks, from those two. -/
def upRun (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) :
    { W : Bf (F := F) c arg14 × Bf (F := F) c arg16 × (Bf (F := F) c arg14 → Pcs (F := F) S44x1024x128 .f32)
            × (Bf (F := F) c arg14 → Bf (F := F) c arg16 → Pcs (F := F) S1024x128 .f32) //
      ∀ Q : PUnit → sProp 𝕄,
      iprop(pt c arg2 f2 ∗ pt c arg3 f3 ∗ pt c arg4 f4 ∗ pt c arg5 f5 ∗ pt c arg14 f14 ∗ pt c arg15 f15 ∗ pt c arg16 f16
        ∗ (iprop(∃ g14 g16, ⌜g14 = W.1⌝ ∗ ⌜g16 = W.2.1⌝ ∗ pt c arg2 f2 ∗ pt c arg3 f3 ∗ pt c arg4 f4 ∗ pt c arg5 f5
            ∗ pt c arg14 g14 ∗ pt c arg15 (arg15.view.writes (Elt F) f15 (W.2.2.1 g14))
            ∗ pt c arg16 (arg16.view.writes (Elt F) g16 (W.2.2.2 g14 g16))) -∗ Q ⟨⟩))
      ⊢ wp frame (wpE (defs₀ (F := F)) Variants.none c none) Set.univ
          (cc0_mix_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨(?_, ?_, ?_, ?_), fun Q => ?_⟩
  rotate_left 4
  · simp only [cc0_mix_ffn_eq_skeleton]; unfold cc0_mix_ffn_skel
    iintro ⟨H2, H3, H4, H5, H14, H15, H16, Hk⟩
    sl_exec
    ihave H14' := (name_contents c arg14 _) $$ H14
    icases H14' with ⟨%g14, %hg14, H14⟩
    ihave H16' := (name_contents c arg16 _) $$ H16
    icases H16' with ⟨%g16, %hg16, H16⟩
    set_option sl_exec.stopBefore "" in sl_exec_parts
    sl_step
    iapply Hk
    iexists g14, g16
    isplitr; · ipureintro; exact hg14
    isplitr; · ipureintro; exact hg16
    isplitl [H2]; · iexact H2
    isplitl [H3]; · iexact H3
    isplitl [H4]; · iexact H4
    isplitl [H5]; · iexact H5
    isplitl [H14]; · iexact H14
    isplitl [H15]; · iexact H15
    iexact H16

set_option sl_exec.stopBefore "k0_part91" in
set_option maxHeartbeats 4000000 in
/-- A point of the second half (`44 ≤ j`), run once. The first component is what the window of codes holds after the forty-four stores
    of codes, the second the stores of scales, the third the nine stores of `y`, from the first. -/
def dnRun (c : Dev nD) (i : grid0.Coords) (h1 : ¬ (Scalar.cmpi .ne (Scalar.extui (Scalar.cmpi .eq (BitVec.ofNat 32 (i 1).val) (0#32)) : BitVec 32) (0#32)) = 1#1)
    (h2 : ¬ k0_cond2 i = 1#1) (h3 : k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16) :
    { W : Pcs (F := F) S1x256x5600 .fp8e4m3 × Pcs (F := F) S1x1x256 .f32 × (Bf (F := F) c arg11 → Pcs (F := F) S1x256x2240 .bf16) //
      ∀ Q : PUnit → sProp 𝕄,
      iprop(pt c arg6 f6 ∗ pt c arg7 f7 ∗ pt c arg8 f8 ∗ pt c arg9 f9 ∗ pt c arg10 f10 ∗ pt c arg11 f11 ∗ pt c arg12 f12 ∗ pt c arg13 f13
        ∗ pt c arg15 f15 ∗ pt c arg16 f16
        ∗ (iprop(∃ g11, ⌜g11 = arg11.view.writes (Elt F) f11 W.1⌝ ∗ pt c arg6 f6 ∗ pt c arg7 f7 ∗ pt c arg8 f8 ∗ pt c arg9 f9 ∗ pt c arg10 f10
            ∗ pt c arg11 g11 ∗ pt c arg12 (arg12.view.writes (Elt F) f12 W.2.1) ∗ pt c arg13 (arg13.view.writes (Elt F) f13 (W.2.2 g11))
            ∗ pt c arg15 f15 ∗ pt c arg16 f16) -∗ Q ⟨⟩))
      ⊢ wp frame (wpE (defs₀ (F := F)) Variants.none c none) Set.univ
          (cc0_mix_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨(?_, ?_, ?_), fun Q => ?_⟩
  rotate_left 3
  · simp only [cc0_mix_ffn_eq_skeleton]; unfold cc0_mix_ffn_skel
    iintro ⟨H6, H7, H8, H9, H10, H11, H12, H13, H15, H16, Hk⟩
    sl_exec
    ihave H11' := (name_contents c arg11 _) $$ H11
    icases H11' with ⟨%g11, %hg11, H11⟩
    set_option sl_exec.stopBefore "" in sl_exec_parts
    sl_step
    iapply Hk
    iexists g11
    isplitr; · ipureintro; exact hg11
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    iexact H16

end Cert.KernelIdeal.Hand
end
-- ==== Proof.Body.lean ====
module

public import proofs.«01_k».proof.Proof.Run
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-! ## The grid: 8 batches of 48 points -/

theorem coords_1 : ∀ t : Fin cfg0.N, ((grid0.coords t) 1).val = t.val % 48 := by decide +kernel
theorem coords_0 : ∀ t : Fin cfg0.N, ((grid0.coords t) 0).val = t.val / 48 := by decide +kernel

/-- The condition of the first conditional: the point is the first of its batch. -/
abbrev first (i : grid0.Coords) : BitVec 1 :=
  Scalar.cmpi .ne (Scalar.extui (Scalar.cmpi .eq (BitVec.ofNat 32 (i 1).val) (0#32)) : BitVec 32) (0#32)

theorem first_iff (i : grid0.Coords) : first i = 1#1 ↔ (i 1).val = 0 := by
  have h : ∀ j : Fin 48, (Scalar.cmpi .ne (Scalar.extui (Scalar.cmpi .eq (BitVec.ofNat 32 j.val) (0#32)) : BitVec 32) (0#32) = 1#1 ↔ j.val = 0) := by
    decide +kernel
  exact h (i 1)
theorem cond2_iff (i : grid0.Coords) : k0_cond2 i = 1#1 ↔ (i 1).val < 44 := by
  have h : ∀ j : Fin 48, (Scalar.cmpi .ne (Scalar.extui (Scalar.cmpi .slt (BitVec.ofNat 32 j.val) (44#32)) : BitVec 32) (0#32) = 1#1 ↔ j.val < 44) := by
    decide +kernel
  exact h (i 1)
theorem cond3_iff (i : grid0.Coords) : k0_cond3 i = 1#1 ↔ 44 ≤ (i 1).val := by
  have h : ∀ j : Fin 48, (Scalar.cmpi .ne (Scalar.extui (Scalar.cmpi .sge (BitVec.ofNat 32 j.val) (44#32)) : BitVec 32) (0#32) = 1#1 ↔ 44 ≤ j.val) := by
    decide +kernel
  exact h (i 1)

variable (m : (ℓ : Loc nD τ sig) → Buf (Elt F) ℓ) (ρ : Dev nD → PrngReg)

/-! ## What a certificate states of the scratch and of the outputs -/

/-- An invariant of the three scratch buffers before each point, and a property of what each output's window holds after a point of
    the second half, kept by the two halves of the body. -/
structure Plan where
  /-- Of the scratch before point `n`. -/
  J : Dev nD → ℕ → (S2x1088x128.Idx → Elt F .f32) → (S44x1024x128.Idx → Elt F .f32) → (S1024x128.Idx → Elt F .f32) → Prop
  R9 : Dev nD → Fin cfg0.N → (S1x256x5600.Idx → Elt F .fp8e4m3) → Prop
  R10 : Dev nD → Fin cfg0.N → (S1x1x256.Idx → Elt F .f32) → Prop
  R11 : Dev nD → Fin cfg0.N → (S1x256x2240.Idx → Elt F .bf16) → Prop
  init : ∀ c X14 X15 X16, J c 0 X14 X15 X16
  up : ∀ (c : Dev nD) (t : Fin cfg0.N) (h2 : k0_cond2 (grid0.coords t) = 1#1) (h3 : ¬ k0_cond3 (grid0.coords t) = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16),
    arg2.view.read (Elt F) f2 = iblk m c 0 t → arg3.view.read (Elt F) f3 = iblk m c 1 t →
    arg4.view.read (Elt F) f4 = iblk m c 2 t → arg5.view.read (Elt F) f5 = iblk m c 3 t →
    J c t.val (arg14.view.read (Elt F) f14) (arg15.view.read (Elt F) f15) (arg16.view.read (Elt F) f16) →
    ∀ g14 g16, g14 = (upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.1 →
      g16 = (upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.1 →
      J c (t.val + 1) (arg14.view.read (Elt F) g14)
        (arg15.view.read (Elt F) (arg15.view.writes (Elt F) f15 ((upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.1 g14)))
        (arg16.view.read (Elt F) (arg16.view.writes (Elt F) g16 ((upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.2 g14 g16)))
  dn : ∀ (c : Dev nD) (t : Fin cfg0.N) (h1 : ¬ first (grid0.coords t) = 1#1) (h2 : ¬ k0_cond2 (grid0.coords t) = 1#1) (h3 : k0_cond3 (grid0.coords t) = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16)
    (X14 : S2x1088x128.Idx → Elt F .f32) (d : S1x256x2240.Idx → Elt F .f32),
    arg6.view.read (Elt F) f6 = iblk m c 4 t → arg7.view.read (Elt F) f7 = iblk m c 5 t →
    arg8.view.read (Elt F) f8 = iblk m c 6 t → arg9.view.read (Elt F) f9 = iblk m c 7 t →
    arg10.view.read (Elt F) f10 = (cfg0.win 8).fill (grid0.coords t) d (iblk m c 8 t) →
    J c t.val X14 (arg15.view.read (Elt F) f15) (arg16.view.read (Elt F) f16) →
    ∀ g11, g11 = arg11.view.writes (Elt F) f11 (dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.1 →
      J c (t.val + 1) X14 (arg15.view.read (Elt F) f15) (arg16.view.read (Elt F) f16)
      ∧ R9 c t (arg11.view.read (Elt F) g11)
      ∧ R10 c t (arg12.view.read (Elt F) (arg12.view.writes (Elt F) f12 (dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.1))
      ∧ R11 c t (arg13.view.read (Elt F) (arg13.view.writes (Elt F) f13 ((dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.2 g11)))

/-- The plan that says nothing. -/
def Plan.trivial : Plan (F := F) m where
  J _ _ _ _ _ := True
  R9 _ _ _ := True
  R10 _ _ _ := True
  R11 _ _ _ := True
  init _ _ _ _ := True.intro
  up := by intros; exact True.intro
  dn := by intros; exact ⟨True.intro, True.intro, True.intro, True.intro⟩

variable (P : Plan (F := F) m)

abbrev sc14 : Memref sig .tc .vmem S2x1088x128 .f32 := Memref.whole cc0_scratch0
abbrev sc15 : Memref sig .tc .vmem S44x1024x128 .f32 := Memref.whole cc0_scratch1
abbrev sc16 : Memref sig .tc .vmem S1024x128 .f32 := Memref.whole cc0_scratch2

/-- The scratch before point `n`, at contents of which the plan's invariant holds. -/
def Φ (c : Dev nD) (n : ℕ) : sProp 𝕄 :=
  iprop((∃ X14 X15 X16, ⌜P.J c n X14 X15 X16⌝ ∗ owns (c : Thread nD τ) sc14 fullShare X14 ∗ owns (c : Thread nD τ) sc15 fullShare X15
      ∗ owns (c : Thread nD τ) sc16 fullShare X16) ∗ ∃ r, prngReg c r)

/-- The windows that the data hold to a predicate: the clipped input and the three outputs. -/
def marks : Fin cfg0.W → Bool := fun w => decide (8 ≤ w.val)

/-- The proof data on core `c`: the eight whole inputs left as found. -/
def dats (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => Pipeline.Dat.unnamed (cfg := cfg0) 8 t
    | 9 => fun t => Pipeline.Dat.unnamed (cfg := cfg0) 9 t
    | 10 => fun t => Pipeline.Dat.unnamed (cfg := cfg0) 10 t
    | 11 => fun t => Pipeline.Dat.unnamed (cfg := cfg0) 11 t
    | ⟨_ + 12, h⟩ => absurd h (Nat.not_lt.2 (Nat.le_add_left _ _))
  Φ t := Φ m P c t.val
  q _ := fullShare
  owed _ := 0

/-- What the marked windows are held to after point `t`: the clipped input is the array's block on the part moved; each output, at a point
    of the second half, has the plan's property. -/
def Rl (c : Dev nD) : (w : Fin cfg0.W) → Fin cfg0.N → ((cfg0.win w).block.Idx → Elt F (cfg0.win w).elt) → Prop := fun
  | 8 => fun t X => ∃ d, X = (cfg0.win 8).fill (grid0.coords t) d (iblk m c 8 t)
  | 9 => fun t X => 44 ≤ t.val % 48 → P.R9 c t X
  | 10 => fun t X => 44 ≤ t.val % 48 → P.R10 c t X
  | 11 => fun t X => 44 ≤ t.val % 48 → P.R11 c t X
  | ⟨0, _⟩ | ⟨1, _⟩ | ⟨2, _⟩ | ⟨3, _⟩ | ⟨4, _⟩ | ⟨5, _⟩ | ⟨6, _⟩ | ⟨7, _⟩ => fun _ _ => True
  | ⟨_ + 12, h⟩ => absurd h (Nat.not_lt.2 (Nat.le_add_left _ _))

/-- The relational data. -/
abbrev rdat (c : Dev nD) : RDat τ (Elt F) Unit ℕ (UR sig nD τ) ℕ cfg0 c := (dats m P c).toRRel marks (Rl m P c)

theorem A_eq (c : Dev nD) (w : Fin cfg0.W) : (dats m P c).A w = V m c (Pipeline.arrRef spec0 w) := by dsimp only [dats]

/-! ## The clipped input -/

theorem clip8 (t t' : Fin cfg0.N) (h : (cfg0.win 8).index t = (cfg0.win 8).index t') :
    (cfg0.win 8).clip (cfg0.grid.coords t) = (cfg0.win 8).clip (cfg0.grid.coords t') := by
  have h' : cc0_transform_8 (grid0.coords t) = cc0_transform_8 (grid0.coords t') := h
  show (fun a => Pipeline.Clip.of (cc0_transform_8 (grid0.coords t) a) _ _) = fun a => Pipeline.Clip.of (cc0_transform_8 (grid0.coords t') a) _ _
  rw [h']

theorem finds8 (c : Dev nD) (t : Fin cfg0.N) (X : (cfg0.win 8).block.Idx → Elt F (cfg0.win 8).elt) (h : (rdat m P c).Finds 8 t X) :
    ∃ d, X = (cfg0.win 8).fill (grid0.coords t) d (iblk m c 8 t) := by
  by_cases hf : (cfg0.win 8).fetch t = true
  · exact (RDat.finds_of_fetch _ hf X).1 h
  · rw [Bool.not_eq_true] at hf
    obtain ⟨ht, hix⟩ := (cfg0.win 8).index_eq_of_fetch rfl t hf
    rcases (RDat.finds_of_pos _ hf ht X).1 h with h | h
    · rw [(cfg0.win 8).flush_in rfl] at h; exact absurd h Bool.false_ne_true
    · obtain ⟨d, hd⟩ := Dat.toRRel_leaves (dats m P c) (fgt := marks) (Rl := Rl m P c) (by decide) h
      have he : X = (dats m P c).fetched 8 ⟨t.val - 1, Nat.lt_of_le_of_lt (Nat.sub_le _ _) t.isLt⟩ d := hd
      rw [(dats m P c).fetched_congr 8 hix.symm (clip8 _ _ hix.symm) d] at he
      exact ⟨d, he⟩

/-! ## The body's triple -/

/-- What the body is called with at point `t`, and what it returns. -/
def bodyPre (c : Dev nD) (t : Fin cfg0.N) : sProp 𝕄 :=
  iprop(Φ m P c t.val ∗ (dats m P c).owesAt () t.castSucc
    ∗ (∃ d, owns (c : Thread nD τ) (st0_0 t) fullShare ((dats m P c).before 0 t d)) ∗ (∃ d, owns (c : Thread nD τ) (st0_1 t) fullShare ((dats m P c).before 1 t d)) ∗ (∃ d, owns (c : Thread nD τ) (st0_2 t) fullShare ((dats m P c).before 2 t d)) ∗ (∃ d, owns (c : Thread nD τ) (st0_3 t) fullShare ((dats m P c).before 3 t d)) ∗ (∃ d, owns (c : Thread nD τ) (st0_4 t) fullShare ((dats m P c).before 4 t d)) ∗ (∃ d, owns (c : Thread nD τ) (st0_5 t) fullShare ((dats m P c).before 5 t d)) ∗ (∃ d, owns (c : Thread nD τ) (st0_6 t) fullShare ((dats m P c).before 6 t d)) ∗ (∃ d, owns (c : Thread nD τ) (st0_7 t) fullShare ((dats m P c).before 7 t d)) ∗ (∃ Y, ⌜(rdat m P c).Finds 8 t Y⌝ ∗ owns (c : Thread nD τ) (st0_8 t) fullShare Y) ∗ (∃ Y, ⌜(rdat m P c).Finds 9 t Y⌝ ∗ owns (c : Thread nD τ) (st0_9 t) fullShare Y) ∗ (∃ Y, ⌜(rdat m P c).Finds 10 t Y⌝ ∗ owns (c : Thread nD τ) (st0_10 t) fullShare Y) ∗ (∃ Y, ⌜(rdat m P c).Finds 11 t Y⌝ ∗ owns (c : Thread nD τ) (st0_11 t) fullShare Y))
def bodyPost (c : Dev nD) (t : Fin cfg0.N) : sProp 𝕄 :=
  iprop(Φ m P c (t.val + 1) ∗ (dats m P c).owesAt () t.succ
    ∗ owns (c : Thread nD τ) (st0_0 t) fullShare ((dats m P c).after 0 t) ∗ owns (c : Thread nD τ) (st0_1 t) fullShare ((dats m P c).after 1 t) ∗ owns (c : Thread nD τ) (st0_2 t) fullShare ((dats m P c).after 2 t) ∗ owns (c : Thread nD τ) (st0_3 t) fullShare ((dats m P c).after 3 t) ∗ owns (c : Thread nD τ) (st0_4 t) fullShare ((dats m P c).after 4 t) ∗ owns (c : Thread nD τ) (st0_5 t) fullShare ((dats m P c).after 5 t) ∗ owns (c : Thread nD τ) (st0_6 t) fullShare ((dats m P c).after 6 t) ∗ owns (c : Thread nD τ) (st0_7 t) fullShare ((dats m P c).after 7 t) ∗ (∃ X, ⌜Rl m P c 8 t X⌝ ∗ owns (c : Thread nD τ) (st0_8 t) fullShare X) ∗ (∃ X, ⌜Rl m P c 9 t X⌝ ∗ owns (c : Thread nD τ) (st0_9 t) fullShare X) ∗ (∃ X, ⌜Rl m P c 10 t X⌝ ∗ owns (c : Thread nD τ) (st0_10 t) fullShare X) ∗ (∃ X, ⌜Rl m P c 11 t X⌝ ∗ owns (c : Thread nD τ) (st0_11 t) fullShare X))

theorem before_0 (c : Dev nD) (t : Fin cfg0.N) (d) : (dats m P c).before 0 t d = iblk m c 0 t :=
  before0_0_of m (dats m P c) (A_eq m P c 0) (fun _ => rfl) t d
theorem before_1 (c : Dev nD) (t : Fin cfg0.N) (d) : (dats m P c).before 1 t d = iblk m c 1 t :=
  before0_1_of m (dats m P c) (A_eq m P c 1) (fun _ => rfl) t d
theorem before_2 (c : Dev nD) (t : Fin cfg0.N) (d) : (dats m P c).before 2 t d = iblk m c 2 t :=
  before0_2_of m (dats m P c) (A_eq m P c 2) (fun _ => rfl) t d
theorem before_3 (c : Dev nD) (t : Fin cfg0.N) (d) : (dats m P c).before 3 t d = iblk m c 3 t :=
  before0_3_of m (dats m P c) (A_eq m P c 3) (fun _ => rfl) t d
theorem before_4 (c : Dev nD) (t : Fin cfg0.N) (d) : (dats m P c).before 4 t d = iblk m c 4 t :=
  before0_4_of m (dats m P c) (A_eq m P c 4) (fun _ => rfl) t d
theorem before_5 (c : Dev nD) (t : Fin cfg0.N) (d) : (dats m P c).before 5 t d = iblk m c 5 t :=
  before0_5_of m (dats m P c) (A_eq m P c 5) (fun _ => rfl) t d
theorem before_6 (c : Dev nD) (t : Fin cfg0.N) (d) : (dats m P c).before 6 t d = iblk m c 6 t :=
  before0_6_of m (dats m P c) (A_eq m P c 6) (fun _ => rfl) t d
theorem before_7 (c : Dev nD) (t : Fin cfg0.N) (d) : (dats m P c).before 7 t d = iblk m c 7 t :=
  before0_7_of m (dats m P c) (A_eq m P c 7) (fun _ => rfl) t d

set_option maxHeartbeats 4000000 in
theorem sound_up (c : Dev nD) (t : Fin cfg0.N) (hj : t.val % 48 < 44) :
    bodyPre m P c t ⊢ wp frame (wpE (defs₀ (F := F)) Variants.none c none) Set.univ (bodyAt0 t) (fun _ => bodyPost m P c t) := by
  have h2 : k0_cond2 (grid0.coords t) = 1#1 := (cond2_iff _).2 (by rw [coords_1]; exact hj)
  have h3 : ¬ k0_cond3 (grid0.coords t) = 1#1 := fun h => by have := (cond3_iff _).1 h; rw [coords_1] at this; omega
  unfold bodyPre bodyPost bodyAt0 Φ
  rw [show (dats m P c).owesAt () t.succ = (dats m P c).owesAt () t.castSucc from rfl]
  unfold owns
  iintro ⟨⟨⟨%X14, %X15, %X16, %hJ, ⟨%f14, %e14, S14⟩, ⟨%f15, %e15, S15⟩, ⟨%f16, %e16, S16⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  iapply ((upRun c (grid0.coords t) h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f0 f1 f2 f3 f14 f15 f16).2 _)
  isplitl [H0]; · iexact H0
  isplitl [H1]; · iexact H1
  isplitl [H2]; · iexact H2
  isplitl [H3]; · iexact H3
  isplitl [S14]; · iexact S14
  isplitl [S15]; · iexact S15
  isplitl [S16]; · iexact S16
  iintro ⟨%g14, %g16, %hg14, %hg16, H0, H1, H2, H3, S14, S15, S16⟩
  have hJ' := P.up c t h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f0 f1 f2 f3 f14 f15 f16
    (e0.trans (before_0 m P c t d0)) (e1.trans (before_1 m P c t d1)) (e2.trans (before_2 m P c t d2)) (e3.trans (before_3 m P c t d3))
    (by rw [e14, e15, e16]; exact hJ) g14 g16 hg14 hg16
  isplitl [S14 S15 S16 Hg]
  · isplitl [S14 S15 S16]
    · iexists _, _, _; isplitr; · ipureintro; exact hJ'
      isplitl [S14]
      · iexists g14; isplitr; · ipureintro; rfl
        iexact S14
      isplitl [S15]
      · iexists _; isplitr; swap; · iexact S15
        ipureintro; rfl
      iexists _; isplitr; swap; · iexact S16
      ipureintro; rfl
    iexact Hg
  isplitl [HO]; · iexact HO
  isplitl [H0]
  · iexists f0; isplitr; · ipureintro; exact e0.trans (before_0 m P c t d0)
    iexact H0
  isplitl [H1]
  · iexists f1; isplitr; · ipureintro; exact e1.trans (before_1 m P c t d1)
    iexact H1
  isplitl [H2]
  · iexists f2; isplitr; · ipureintro; exact e2.trans (before_2 m P c t d2)
    iexact H2
  isplitl [H3]
  · iexists f3; isplitr; · ipureintro; exact e3.trans (before_3 m P c t d3)
    iexact H3
  isplitl [H4]
  · iexists f4; isplitr; · ipureintro; exact e4.trans (before_4 m P c t d4)
    iexact H4
  isplitl [H5]
  · iexists f5; isplitr; · ipureintro; exact e5.trans (before_5 m P c t d5)
    iexact H5
  isplitl [H6]
  · iexists f6; isplitr; · ipureintro; exact e6.trans (before_6 m P c t d6)
    iexact H6
  isplitl [H7]
  · iexists f7; isplitr; · ipureintro; exact e7.trans (before_7 m P c t d7)
    iexact H7
  isplitl [H8]
  · iexists Y8; isplitr; · ipureintro; exact finds8 m P c t Y8 F8
    iexists f8; isplitr; · ipureintro; exact e8
    iexact H8
  isplitl [H9]
  · iexists Y9; isplitr; · ipureintro; exact fun h => absurd h (by omega)
    iexists f9; isplitr; · ipureintro; exact e9
    iexact H9
  isplitl [H10]
  · iexists Y10; isplitr; · ipureintro; exact fun h => absurd h (by omega)
    iexists f10; isplitr; · ipureintro; exact e10
    iexact H10
  iexists Y11; isplitr; · ipureintro; exact fun h => absurd h (by omega)
  iexists f11; isplitr; · ipureintro; exact e11
  iexact H11

set_option maxHeartbeats 4000000 in
theorem sound_dn (c : Dev nD) (t : Fin cfg0.N) (hj : 44 ≤ t.val % 48) :
    bodyPre m P c t ⊢ wp frame (wpE (defs₀ (F := F)) Variants.none c none) Set.univ (bodyAt0 t) (fun _ => bodyPost m P c t) := by
  have h1 : ¬ first (grid0.coords t) = 1#1 := fun h => by have := (first_iff _).1 h; rw [coords_1] at this; omega
  have h2 : ¬ k0_cond2 (grid0.coords t) = 1#1 := fun h => by have := (cond2_iff _).1 h; rw [coords_1] at this; omega
  have h3 : k0_cond3 (grid0.coords t) = 1#1 := (cond3_iff _).2 (by rw [coords_1]; exact hj)
  unfold bodyPre bodyPost bodyAt0 Φ
  rw [show (dats m P c).owesAt () t.succ = (dats m P c).owesAt () t.castSucc from rfl]
  unfold owns
  iintro ⟨⟨⟨%X14, %X15, %X16, %hJ, ⟨%f14, %e14, S14⟩, ⟨%f15, %e15, S15⟩, ⟨%f16, %e16, S16⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d8, hd8⟩ := finds8 m P c t Y8 F8
  iapply ((dnRun c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f4 f5 f6 f7 f8 f9 f10 f11 f15 f16).2 _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S15]; · iexact S15
  isplitl [S16]; · iexact S16
  iintro ⟨%g9, %hg9, H4, H5, H6, H7, H8, H9, H10, H11, S15, S16⟩
  have hJ' := P.dn c t h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f4 f5 f6 f7 f8 f9 f10 f11 f15 f16 X14 d8
    (e4.trans (before_4 m P c t d4)) (e5.trans (before_5 m P c t d5)) (e6.trans (before_6 m P c t d6)) (e7.trans (before_7 m P c t d7))
    (e8.trans hd8) (by rw [e15, e16]; exact hJ) g9 hg9
  obtain ⟨hJ', hR9, hR10, hR11⟩ := hJ'
  isplitl [S14 S15 S16 Hg]
  · isplitl [S14 S15 S16]
    · iexists _, _, _; isplitr; · ipureintro; exact hJ'
      isplitl [S14]
      · iexists f14; isplitr; · ipureintro; exact e14
        iexact S14
      isplitl [S15]
      · iexists f15; isplitr; · ipureintro; rfl
        iexact S15
      iexists f16; isplitr; · ipureintro; rfl
      iexact S16
    iexact Hg
  isplitl [HO]; · iexact HO
  isplitl [H0]
  · iexists f0; isplitr; · ipureintro; exact e0.trans (before_0 m P c t d0)
    iexact H0
  isplitl [H1]
  · iexists f1; isplitr; · ipureintro; exact e1.trans (before_1 m P c t d1)
    iexact H1
  isplitl [H2]
  · iexists f2; isplitr; · ipureintro; exact e2.trans (before_2 m P c t d2)
    iexact H2
  isplitl [H3]
  · iexists f3; isplitr; · ipureintro; exact e3.trans (before_3 m P c t d3)
    iexact H3
  isplitl [H4]
  · iexists f4; isplitr; · ipureintro; exact e4.trans (before_4 m P c t d4)
    iexact H4
  isplitl [H5]
  · iexists f5; isplitr; · ipureintro; exact e5.trans (before_5 m P c t d5)
    iexact H5
  isplitl [H6]
  · iexists f6; isplitr; · ipureintro; exact e6.trans (before_6 m P c t d6)
    iexact H6
  isplitl [H7]
  · iexists f7; isplitr; · ipureintro; exact e7.trans (before_7 m P c t d7)
    iexact H7
  isplitl [H8]
  · iexists Y8; isplitr; · ipureintro; exact ⟨d8, hd8⟩
    iexists f8; isplitr; · ipureintro; exact e8
    iexact H8
  isplitl [H9]
  · iexists _; isplitr; · ipureintro; exact fun _ => hR9
    iexists _; isplitr; swap; · iexact H9
    ipureintro; rfl
  isplitl [H10]
  · iexists _; isplitr; · ipureintro; exact fun _ => hR10
    iexists _; isplitr; swap; · iexact H10
    ipureintro; rfl
  iexists _; isplitr; · ipureintro; exact fun _ => hR11
  iexists _; isplitr; swap; · iexact H11
  ipureintro; rfl

theorem defs₀_row (t : Fin cfg0.N) : defs₀ (F := F) .tc cfg0.body (cfg0.bodyArgs t (cfg0.slots t)) = bodyAt0 t := by
  unfold defs₀; rw [Defs.onTc_tc]

set_option maxHeartbeats 4000000 in
theorem sound_body (c : Dev nD) (t : Fin cfg0.N) :
    bodyPre m P c t ⊢ wp frame (wpE (defs₀ (F := F)) Variants.none c none) Set.univ (bodyAt0 t) (fun _ => bodyPost m P c t) := by
  by_cases hj : t.val % 48 < 44
  · exact sound_up m P c t hj
  · exact sound_dn m P c t (by omega)

theorem body_obligation (c : Dev nD) :
    Pipeline.BodyObligationRel (dats m P c) (defs₀ (F := F)) Variants.none () Set.univ marks (Rl m P c) := fun t => by
  rw [bigSep_W0, bigSep_W0, defs₀_row]
  exact triple_restated (sound_body m P c t) rfl .rfl fun _ => .rfl

/-! ## The launch -/

theorem hin (c : Dev nD) : (Pipeline.ΦA spec0 c : sProp 𝕄) ⊢ (dats m P c).Φ 0 := by
  show _ ⊢ Φ m P c 0
  unfold Pipeline.ΦA Φ
  rw [scopedRest0_eq]
  simp only [owns_whole]
  iintro ⟨⟨⟨%X14, S14⟩, ⟨%X15, S15⟩, ⟨%X16, S16⟩⟩, Hg⟩
  isplitr [Hg]
  · iexists X14, X15, X16
    isplitr; · ipureintro; exact P.init c _ _ _
    isplitl [S14]; · iexact S14
    isplitl [S15]; · iexact S15
    iexact S16
  iexact Hg

theorem hout (c : Dev nD) : (dats m P c).Φ (Fin.last cfg0.N) ⊢ (Pipeline.ΦA spec0 c : sProp 𝕄) := by
  show Φ m P c cfg0.N ⊢ _
  unfold Pipeline.ΦA Φ
  rw [scopedRest0_eq]
  simp only [owns_whole]
  iintro ⟨⟨%X14, %X15, %X16, -, S14, S15, S16⟩, Hg⟩
  isplitr [Hg]
  · isplitl [S14]; · iexists X14; iexact S14
    isplitl [S15]; · iexists X15; iexact S15
    iexists X16; iexact S16
  iexact Hg

set_option backward.isDefEq.respectTransparency.types false in
/-- Every weakly fair execution of @main terminates, with every array as the data name it and every semaphore counter at zero. -/
theorem run_main :
    θ_run defs (onTc (τ := τ) (main (F := F))) (s₀ m ρ)
      (fun r => Pipeline.RDat.FramePost (cfgs 0) (rdat m P) (V m) r ∧ r.2.sem = fun _ => 0) :=
  Pipeline.RDat.θ_run_frame_track (Q' := _) cfgs (0 : Fin 1) launch0 defs₀ Variants.none (rdat m P) m ρ main
    (fun c => (body_obligation m P c).toRRel) (fun c => (dats m P c).share_full fun _ => rfl)
    (fun _ _ => rfl) (V m) (hmain m Variants.none) (A_eq m P) (hin m P) (hout m P)

/-- The arguments after the run. -/
theorem args_of {r : PUnit × MemSt nD τ sig (Elt F)} (h : Pipeline.RDat.FramePost (cfgs 0) (rdat m P) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨(Pipeline.RDat.FramePost.arr_in h c 0 rfl).trans ((A_eq m P c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   (Pipeline.RDat.FramePost.arr_in h c 4 rfl).trans ((A_eq m P c 4).trans (V_main_arg7 m c)),
   ((h c).2 main_arg8 (Pipeline.mem_restRefs_of main_arg8 (by decide) (by decide))).trans (V_main_arg8 m c),
   (Pipeline.RDat.FramePost.arr_in h c 6 rfl).trans ((A_eq m P c 6).trans (V_main_arg9 m c)),
   (Pipeline.RDat.FramePost.arr_in h c 7 rfl).trans ((A_eq m P c 7).trans (V_main_arg10 m c)),
   (Pipeline.RDat.FramePost.arr_in h c 8 rfl).trans ((A_eq m P c 8).trans (V_main_arg11 m c))⟩

end Cert.KernelIdeal.Hand

end
-- ==== Proof.KRun.lean ====
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem name_contents (c : Dev nD) {sp : Space} {S : Shape} {e : EltTy} (M : Memref sig .tc sp S e) (f : Bf (F := F) c M) :
    (M.view.loc (c : Thread nD τ) ↦[M.view.set]{fullShare} f : sProp 𝕄) ⊢ iprop(∃ g, ⌜g = f⌝ ∗ pt c M g) := by
  iintro H; iexists f; isplitr
  · ipureintro; rfl
  iexact H

/-- A list of stores into a memref of shape `S`. -/
abbrev Pcs (S : Shape) (e : EltTy) : Type := List (View.Piece (Elt F) S e)

set_option sl_exec.stopBefore "k0_part6" in
set_option maxHeartbeats 4000000 in
/-- A point of the first half (`j < 44`), run once: the scratch buffers at the returned stores over what was found. The first
    component is what the scratch of activations holds after the matrix products, the second what the maxima's scratch holds after the
    zeroing, the third and fourth the stores of the fourteen convolution blocks, from those two. -/
def upRun (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) :
    { W : Bf (F := F) c arg14 × Bf (F := F) c arg16 × (Bf (F := F) c arg14 → Pcs (F := F) S44x1024x128 .f32)
            × (Bf (F := F) c arg14 → Bf (F := F) c arg16 → Pcs (F := F) S1024x128 .f32) //
      ∀ Q : PUnit → sProp 𝕄,
      iprop(pt c arg2 f2 ∗ pt c arg3 f3 ∗ pt c arg4 f4 ∗ pt c arg5 f5 ∗ pt c arg14 f14 ∗ pt c arg15 f15 ∗ pt c arg16 f16
        ∗ (iprop(∃ g14 g16, ⌜g14 = W.1⌝ ∗ ⌜g16 = W.2.1⌝ ∗ pt c arg2 f2 ∗ pt c arg3 f3 ∗ pt c arg4 f4 ∗ pt c arg5 f5
            ∗ pt c arg14 g14 ∗ pt c arg15 (arg15.view.writes (Elt F) f15 (W.2.2.1 g14))
            ∗ pt c arg16 (arg16.view.writes (Elt F) g16 (W.2.2.2 g14 g16))) -∗ Q ⟨⟩))
      ⊢ wp frame (wpE (defs₀ (F := F)) Variants.none c none) Set.univ
          (cc0_mix_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨(?_, ?_, ?_, ?_), fun Q => ?_⟩
  rotate_left 4
  · simp only [cc0_mix_ffn_eq_skeleton]; unfold cc0_mix_ffn_skel
    iintro ⟨H2, H3, H4, H5, H14, H15, H16, Hk⟩
    sl_exec
    ihave H14' := (name_contents c arg14 _) $$ H14
    icases H14' with ⟨%g14, %hg14, H14⟩
    ihave H16' := (name_contents c arg16 _) $$ H16
    icases H16' with ⟨%g16, %hg16, H16⟩
    set_option sl_exec.stopBefore "" in sl_exec_parts
    sl_step
    iapply Hk
    iexists g14, g16
    isplitr; · ipureintro; exact hg14
    isplitr; · ipureintro; exact hg16
    isplitl [H2]; · iexact H2
    isplitl [H3]; · iexact H3
    isplitl [H4]; · iexact H4
    isplitl [H5]; · iexact H5
    isplitl [H14]; · iexact H14
    isplitl [H15]; · iexact H15
    iexact H16

set_option sl_exec.stopBefore "k0_part91" in
set_option maxHeartbeats 4000000 in
/-- A point of the second half (`44 ≤ j`), run once. The first component is what the window of codes holds after the forty-four stores
    of codes, the second the stores of scales, the third the nine stores of `y`, from the first. -/
def dnRun (c : Dev nD) (i : grid0.Coords) (h1 : ¬ (Scalar.cmpi .ne (Scalar.extui (Scalar.cmpi .eq (BitVec.ofNat 32 (i 1).val) (0#32)) : BitVec 32) (0#32)) = 1#1)
    (h2 : ¬ k0_cond2 i = 1#1) (h3 : k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16) :
    { W : Pcs (F := F) S1x256x5600 .fp8e4m3 × Pcs (F := F) S1x1x256 .f32 × (Bf (F := F) c arg11 → Pcs (F := F) S1x256x2240 .bf16) //
      ∀ Q : PUnit → sProp 𝕄,
      iprop(pt c arg6 f6 ∗ pt c arg7 f7 ∗ pt c arg8 f8 ∗ pt c arg9 f9 ∗ pt c arg10 f10 ∗ pt c arg11 f11 ∗ pt c arg12 f12 ∗ pt c arg13 f13
        ∗ pt c arg15 f15 ∗ pt c arg16 f16
        ∗ (iprop(∃ g11, ⌜g11 = arg11.view.writes (Elt F) f11 W.1⌝ ∗ pt c arg6 f6 ∗ pt c arg7 f7 ∗ pt c arg8 f8 ∗ pt c arg9 f9 ∗ pt c arg10 f10
            ∗ pt c arg11 g11 ∗ pt c arg12 (arg12.view.writes (Elt F) f12 W.2.1) ∗ pt c arg13 (arg13.view.writes (Elt F) f13 (W.2.2 g11))
            ∗ pt c arg15 f15 ∗ pt c arg16 f16) -∗ Q ⟨⟩))
      ⊢ wp frame (wpE (defs₀ (F := F)) Variants.none c none) Set.univ
          (cc0_mix_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨(?_, ?_, ?_), fun Q => ?_⟩
  rotate_left 3
  · simp only [cc0_mix_ffn_eq_skeleton]; unfold cc0_mix_ffn_skel
    iintro ⟨H6, H7, H8, H9, H10, H11, H12, H13, H15, H16, Hk⟩
    sl_exec
    ihave H11' := (name_contents c arg11 _) $$ H11
    icases H11' with ⟨%g11, %hg11, H11⟩
    set_option sl_exec.stopBefore "" in sl_exec_parts
    sl_step
    iapply Hk
    iexists g11
    isplitr; · ipureintro; exact hg11
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    iexact H16

end Cert.Kernel.Hand
end
-- ==== Proof.KBody.lean ====
module

public import proofs.«01_k».proof.Proof.KRun
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-! ## The grid: 8 batches of 48 points -/

theorem coords_1 : ∀ t : Fin cfg0.N, ((grid0.coords t) 1).val = t.val % 48 := by decide +kernel
theorem coords_0 : ∀ t : Fin cfg0.N, ((grid0.coords t) 0).val = t.val / 48 := by decide +kernel

/-- The condition of the first conditional: the point is the first of its batch. -/
abbrev first (i : grid0.Coords) : BitVec 1 :=
  Scalar.cmpi .ne (Scalar.extui (Scalar.cmpi .eq (BitVec.ofNat 32 (i 1).val) (0#32)) : BitVec 32) (0#32)

theorem first_iff (i : grid0.Coords) : first i = 1#1 ↔ (i 1).val = 0 := by
  have h : ∀ j : Fin 48, (Scalar.cmpi .ne (Scalar.extui (Scalar.cmpi .eq (BitVec.ofNat 32 j.val) (0#32)) : BitVec 32) (0#32) = 1#1 ↔ j.val = 0) := by
    decide +kernel
  exact h (i 1)
theorem cond2_iff (i : grid0.Coords) : k0_cond2 i = 1#1 ↔ (i 1).val < 44 := by
  have h : ∀ j : Fin 48, (Scalar.cmpi .ne (Scalar.extui (Scalar.cmpi .slt (BitVec.ofNat 32 j.val) (44#32)) : BitVec 32) (0#32) = 1#1 ↔ j.val < 44) := by
    decide +kernel
  exact h (i 1)
theorem cond3_iff (i : grid0.Coords) : k0_cond3 i = 1#1 ↔ 44 ≤ (i 1).val := by
  have h : ∀ j : Fin 48, (Scalar.cmpi .ne (Scalar.extui (Scalar.cmpi .sge (BitVec.ofNat 32 j.val) (44#32)) : BitVec 32) (0#32) = 1#1 ↔ 44 ≤ j.val) := by
    decide +kernel
  exact h (i 1)

variable (m : (ℓ : Loc nD τ sig) → Buf (Elt F) ℓ) (ρ : Dev nD → PrngReg)

/-! ## What a certificate states of the scratch and of the outputs -/

/-- An invariant of the three scratch buffers before each point, and a property of what each output's window holds after a point of
    the second half, kept by the two halves of the body. -/
structure Plan where
  /-- Of the scratch before point `n`. -/
  J : Dev nD → ℕ → (S2x1088x128.Idx → Elt F .f32) → (S44x1024x128.Idx → Elt F .f32) → (S1024x128.Idx → Elt F .f32) → Prop
  R9 : Dev nD → Fin cfg0.N → (S1x256x5600.Idx → Elt F .fp8e4m3) → Prop
  R10 : Dev nD → Fin cfg0.N → (S1x1x256.Idx → Elt F .f32) → Prop
  R11 : Dev nD → Fin cfg0.N → (S1x256x2240.Idx → Elt F .bf16) → Prop
  init : ∀ c X14 X15 X16, J c 0 X14 X15 X16
  up : ∀ (c : Dev nD) (t : Fin cfg0.N) (h2 : k0_cond2 (grid0.coords t) = 1#1) (h3 : ¬ k0_cond3 (grid0.coords t) = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16),
    arg2.view.read (Elt F) f2 = iblk m c 0 t → arg3.view.read (Elt F) f3 = iblk m c 1 t →
    arg4.view.read (Elt F) f4 = iblk m c 2 t → arg5.view.read (Elt F) f5 = iblk m c 3 t →
    J c t.val (arg14.view.read (Elt F) f14) (arg15.view.read (Elt F) f15) (arg16.view.read (Elt F) f16) →
    ∀ g14 g16, g14 = (upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.1 →
      g16 = (upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.1 →
      J c (t.val + 1) (arg14.view.read (Elt F) g14)
        (arg15.view.read (Elt F) (arg15.view.writes (Elt F) f15 ((upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.1 g14)))
        (arg16.view.read (Elt F) (arg16.view.writes (Elt F) g16 ((upRun c (grid0.coords t) h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.2 g14 g16)))
  dn : ∀ (c : Dev nD) (t : Fin cfg0.N) (h1 : ¬ first (grid0.coords t) = 1#1) (h2 : ¬ k0_cond2 (grid0.coords t) = 1#1) (h3 : k0_cond3 (grid0.coords t) = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16)
    (X14 : S2x1088x128.Idx → Elt F .f32) (d : S1x256x2240.Idx → Elt F .f32),
    arg6.view.read (Elt F) f6 = iblk m c 4 t → arg7.view.read (Elt F) f7 = iblk m c 5 t →
    arg8.view.read (Elt F) f8 = iblk m c 6 t → arg9.view.read (Elt F) f9 = iblk m c 7 t →
    arg10.view.read (Elt F) f10 = (cfg0.win 8).fill (grid0.coords t) d (iblk m c 8 t) →
    J c t.val X14 (arg15.view.read (Elt F) f15) (arg16.view.read (Elt F) f16) →
    ∀ g11, g11 = arg11.view.writes (Elt F) f11 (dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.1 →
      J c (t.val + 1) X14 (arg15.view.read (Elt F) f15) (arg16.view.read (Elt F) f16)
      ∧ R9 c t (arg11.view.read (Elt F) g11)
      ∧ R10 c t (arg12.view.read (Elt F) (arg12.view.writes (Elt F) f12 (dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.1))
      ∧ R11 c t (arg13.view.read (Elt F) (arg13.view.writes (Elt F) f13 ((dnRun c (grid0.coords t) h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.2 g11)))

/-- The plan that says nothing. -/
def Plan.trivial : Plan (F := F) m where
  J _ _ _ _ _ := True
  R9 _ _ _ := True
  R10 _ _ _ := True
  R11 _ _ _ := True
  init _ _ _ _ := True.intro
  up := by intros; exact True.intro
  dn := by intros; exact ⟨True.intro, True.intro, True.intro, True.intro⟩

variable (P : Plan (F := F) m)

abbrev sc14 : Memref sig .tc .vmem S2x1088x128 .f32 := Memref.whole cc0_scratch0
abbrev sc15 : Memref sig .tc .vmem S44x1024x128 .f32 := Memref.whole cc0_scratch1
abbrev sc16 : Memref sig .tc .vmem S1024x128 .f32 := Memref.whole cc0_scratch2

/-- The scratch before point `n`, at contents of which the plan's invariant holds. -/
def Φ (c : Dev nD) (n : ℕ) : sProp 𝕄 :=
  iprop((∃ X14 X15 X16, ⌜P.J c n X14 X15 X16⌝ ∗ owns (c : Thread nD τ) sc14 fullShare X14 ∗ owns (c : Thread nD τ) sc15 fullShare X15
      ∗ owns (c : Thread nD τ) sc16 fullShare X16) ∗ ∃ r, prngReg c r)

/-- The windows that the data hold to a predicate: the clipped input and the three outputs. -/
def marks : Fin cfg0.W → Bool := fun w => decide (8 ≤ w.val)

/-- The proof data on core `c`: the eight whole inputs left as found. -/
def dats (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => Pipeline.Dat.unnamed (cfg := cfg0) 8 t
    | 9 => fun t => Pipeline.Dat.unnamed (cfg := cfg0) 9 t
    | 10 => fun t => Pipeline.Dat.unnamed (cfg := cfg0) 10 t
    | 11 => fun t => Pipeline.Dat.unnamed (cfg := cfg0) 11 t
    | ⟨_ + 12, h⟩ => absurd h (Nat.not_lt.2 (Nat.le_add_left _ _))
  Φ t := Φ m P c t.val
  q _ := fullShare
  owed _ := 0

/-- What the marked windows are held to after point `t`: the clipped input is the array's block on the part moved; each output, at a point
    of the second half, has the plan's property. -/
def Rl (c : Dev nD) : (w : Fin cfg0.W) → Fin cfg0.N → ((cfg0.win w).block.Idx → Elt F (cfg0.win w).elt) → Prop := fun
  | 8 => fun t X => ∃ d, X = (cfg0.win 8).fill (grid0.coords t) d (iblk m c 8 t)
  | 9 => fun t X => 44 ≤ t.val % 48 → P.R9 c t X
  | 10 => fun t X => 44 ≤ t.val % 48 → P.R10 c t X
  | 11 => fun t X => 44 ≤ t.val % 48 → P.R11 c t X
  | ⟨0, _⟩ | ⟨1, _⟩ | ⟨2, _⟩ | ⟨3, _⟩ | ⟨4, _⟩ | ⟨5, _⟩ | ⟨6, _⟩ | ⟨7, _⟩ => fun _ _ => True
  | ⟨_ + 12, h⟩ => absurd h (Nat.not_lt.2 (Nat.le_add_left _ _))

/-- The relational data. -/
abbrev rdat (c : Dev nD) : RDat τ (Elt F) Unit ℕ (UR sig nD τ) ℕ cfg0 c := (dats m P c).toRRel marks (Rl m P c)

theorem A_eq (c : Dev nD) (w : Fin cfg0.W) : (dats m P c).A w = V m c (Pipeline.arrRef spec0 w) := by dsimp only [dats]

/-! ## The clipped input -/

theorem clip8 (t t' : Fin cfg0.N) (h : (cfg0.win 8).index t = (cfg0.win 8).index t') :
    (cfg0.win 8).clip (cfg0.grid.coords t) = (cfg0.win 8).clip (cfg0.grid.coords t') := by
  have h' : cc0_transform_8 (grid0.coords t) = cc0_transform_8 (grid0.coords t') := h
  show (fun a => Pipeline.Clip.of (cc0_transform_8 (grid0.coords t) a) _ _) = fun a => Pipeline.Clip.of (cc0_transform_8 (grid0.coords t') a) _ _
  rw [h']

theorem finds8 (c : Dev nD) (t : Fin cfg0.N) (X : (cfg0.win 8).block.Idx → Elt F (cfg0.win 8).elt) (h : (rdat m P c).Finds 8 t X) :
    ∃ d, X = (cfg0.win 8).fill (grid0.coords t) d (iblk m c 8 t) := by
  by_cases hf : (cfg0.win 8).fetch t = true
  · exact (RDat.finds_of_fetch _ hf X).1 h
  · rw [Bool.not_eq_true] at hf
    obtain ⟨ht, hix⟩ := (cfg0.win 8).index_eq_of_fetch rfl t hf
    rcases (RDat.finds_of_pos _ hf ht X).1 h with h | h
    · rw [(cfg0.win 8).flush_in rfl] at h; exact absurd h Bool.false_ne_true
    · obtain ⟨d, hd⟩ := Dat.toRRel_leaves (dats m P c) (fgt := marks) (Rl := Rl m P c) (by decide) h
      have he : X = (dats m P c).fetched 8 ⟨t.val - 1, Nat.lt_of_le_of_lt (Nat.sub_le _ _) t.isLt⟩ d := hd
      rw [(dats m P c).fetched_congr 8 hix.symm (clip8 _ _ hix.symm) d] at he
      exact ⟨d, he⟩

/-! ## The body's triple -/

/-- What the body is called with at point `t`, and what it returns. -/
def bodyPre (c : Dev nD) (t : Fin cfg0.N) : sProp 𝕄 :=
  iprop(Φ m P c t.val ∗ (dats m P c).owesAt () t.castSucc
    ∗ (∃ d, owns (c : Thread nD τ) (st0_0 t) fullShare ((dats m P c).before 0 t d)) ∗ (∃ d, owns (c : Thread nD τ) (st0_1 t) fullShare ((dats m P c).before 1 t d)) ∗ (∃ d, owns (c : Thread nD τ) (st0_2 t) fullShare ((dats m P c).before 2 t d)) ∗ (∃ d, owns (c : Thread nD τ) (st0_3 t) fullShare ((dats m P c).before 3 t d)) ∗ (∃ d, owns (c : Thread nD τ) (st0_4 t) fullShare ((dats m P c).before 4 t d)) ∗ (∃ d, owns (c : Thread nD τ) (st0_5 t) fullShare ((dats m P c).before 5 t d)) ∗ (∃ d, owns (c : Thread nD τ) (st0_6 t) fullShare ((dats m P c).before 6 t d)) ∗ (∃ d, owns (c : Thread nD τ) (st0_7 t) fullShare ((dats m P c).before 7 t d)) ∗ (∃ Y, ⌜(rdat m P c).Finds 8 t Y⌝ ∗ owns (c : Thread nD τ) (st0_8 t) fullShare Y) ∗ (∃ Y, ⌜(rdat m P c).Finds 9 t Y⌝ ∗ owns (c : Thread nD τ) (st0_9 t) fullShare Y) ∗ (∃ Y, ⌜(rdat m P c).Finds 10 t Y⌝ ∗ owns (c : Thread nD τ) (st0_10 t) fullShare Y) ∗ (∃ Y, ⌜(rdat m P c).Finds 11 t Y⌝ ∗ owns (c : Thread nD τ) (st0_11 t) fullShare Y))
def bodyPost (c : Dev nD) (t : Fin cfg0.N) : sProp 𝕄 :=
  iprop(Φ m P c (t.val + 1) ∗ (dats m P c).owesAt () t.succ
    ∗ owns (c : Thread nD τ) (st0_0 t) fullShare ((dats m P c).after 0 t) ∗ owns (c : Thread nD τ) (st0_1 t) fullShare ((dats m P c).after 1 t) ∗ owns (c : Thread nD τ) (st0_2 t) fullShare ((dats m P c).after 2 t) ∗ owns (c : Thread nD τ) (st0_3 t) fullShare ((dats m P c).after 3 t) ∗ owns (c : Thread nD τ) (st0_4 t) fullShare ((dats m P c).after 4 t) ∗ owns (c : Thread nD τ) (st0_5 t) fullShare ((dats m P c).after 5 t) ∗ owns (c : Thread nD τ) (st0_6 t) fullShare ((dats m P c).after 6 t) ∗ owns (c : Thread nD τ) (st0_7 t) fullShare ((dats m P c).after 7 t) ∗ (∃ X, ⌜Rl m P c 8 t X⌝ ∗ owns (c : Thread nD τ) (st0_8 t) fullShare X) ∗ (∃ X, ⌜Rl m P c 9 t X⌝ ∗ owns (c : Thread nD τ) (st0_9 t) fullShare X) ∗ (∃ X, ⌜Rl m P c 10 t X⌝ ∗ owns (c : Thread nD τ) (st0_10 t) fullShare X) ∗ (∃ X, ⌜Rl m P c 11 t X⌝ ∗ owns (c : Thread nD τ) (st0_11 t) fullShare X))

theorem before_0 (c : Dev nD) (t : Fin cfg0.N) (d) : (dats m P c).before 0 t d = iblk m c 0 t :=
  before0_0_of m (dats m P c) (A_eq m P c 0) (fun _ => rfl) t d
theorem before_1 (c : Dev nD) (t : Fin cfg0.N) (d) : (dats m P c).before 1 t d = iblk m c 1 t :=
  before0_1_of m (dats m P c) (A_eq m P c 1) (fun _ => rfl) t d
theorem before_2 (c : Dev nD) (t : Fin cfg0.N) (d) : (dats m P c).before 2 t d = iblk m c 2 t :=
  before0_2_of m (dats m P c) (A_eq m P c 2) (fun _ => rfl) t d
theorem before_3 (c : Dev nD) (t : Fin cfg0.N) (d) : (dats m P c).before 3 t d = iblk m c 3 t :=
  before0_3_of m (dats m P c) (A_eq m P c 3) (fun _ => rfl) t d
theorem before_4 (c : Dev nD) (t : Fin cfg0.N) (d) : (dats m P c).before 4 t d = iblk m c 4 t :=
  before0_4_of m (dats m P c) (A_eq m P c 4) (fun _ => rfl) t d
theorem before_5 (c : Dev nD) (t : Fin cfg0.N) (d) : (dats m P c).before 5 t d = iblk m c 5 t :=
  before0_5_of m (dats m P c) (A_eq m P c 5) (fun _ => rfl) t d
theorem before_6 (c : Dev nD) (t : Fin cfg0.N) (d) : (dats m P c).before 6 t d = iblk m c 6 t :=
  before0_6_of m (dats m P c) (A_eq m P c 6) (fun _ => rfl) t d
theorem before_7 (c : Dev nD) (t : Fin cfg0.N) (d) : (dats m P c).before 7 t d = iblk m c 7 t :=
  before0_7_of m (dats m P c) (A_eq m P c 7) (fun _ => rfl) t d

set_option maxHeartbeats 4000000 in
theorem sound_up (c : Dev nD) (t : Fin cfg0.N) (hj : t.val % 48 < 44) :
    bodyPre m P c t ⊢ wp frame (wpE (defs₀ (F := F)) Variants.none c none) Set.univ (bodyAt0 t) (fun _ => bodyPost m P c t) := by
  have h2 : k0_cond2 (grid0.coords t) = 1#1 := (cond2_iff _).2 (by rw [coords_1]; exact hj)
  have h3 : ¬ k0_cond3 (grid0.coords t) = 1#1 := fun h => by have := (cond3_iff _).1 h; rw [coords_1] at this; omega
  unfold bodyPre bodyPost bodyAt0 Φ
  rw [show (dats m P c).owesAt () t.succ = (dats m P c).owesAt () t.castSucc from rfl]
  unfold owns
  iintro ⟨⟨⟨%X14, %X15, %X16, %hJ, ⟨%f14, %e14, S14⟩, ⟨%f15, %e15, S15⟩, ⟨%f16, %e16, S16⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  iapply ((upRun c (grid0.coords t) h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f0 f1 f2 f3 f14 f15 f16).2 _)
  isplitl [H0]; · iexact H0
  isplitl [H1]; · iexact H1
  isplitl [H2]; · iexact H2
  isplitl [H3]; · iexact H3
  isplitl [S14]; · iexact S14
  isplitl [S15]; · iexact S15
  isplitl [S16]; · iexact S16
  iintro ⟨%g14, %g16, %hg14, %hg16, H0, H1, H2, H3, S14, S15, S16⟩
  have hJ' := P.up c t h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f0 f1 f2 f3 f14 f15 f16
    (e0.trans (before_0 m P c t d0)) (e1.trans (before_1 m P c t d1)) (e2.trans (before_2 m P c t d2)) (e3.trans (before_3 m P c t d3))
    (by rw [e14, e15, e16]; exact hJ) g14 g16 hg14 hg16
  isplitl [S14 S15 S16 Hg]
  · isplitl [S14 S15 S16]
    · iexists _, _, _; isplitr; · ipureintro; exact hJ'
      isplitl [S14]
      · iexists g14; isplitr; · ipureintro; rfl
        iexact S14
      isplitl [S15]
      · iexists _; isplitr; swap; · iexact S15
        ipureintro; rfl
      iexists _; isplitr; swap; · iexact S16
      ipureintro; rfl
    iexact Hg
  isplitl [HO]; · iexact HO
  isplitl [H0]
  · iexists f0; isplitr; · ipureintro; exact e0.trans (before_0 m P c t d0)
    iexact H0
  isplitl [H1]
  · iexists f1; isplitr; · ipureintro; exact e1.trans (before_1 m P c t d1)
    iexact H1
  isplitl [H2]
  · iexists f2; isplitr; · ipureintro; exact e2.trans (before_2 m P c t d2)
    iexact H2
  isplitl [H3]
  · iexists f3; isplitr; · ipureintro; exact e3.trans (before_3 m P c t d3)
    iexact H3
  isplitl [H4]
  · iexists f4; isplitr; · ipureintro; exact e4.trans (before_4 m P c t d4)
    iexact H4
  isplitl [H5]
  · iexists f5; isplitr; · ipureintro; exact e5.trans (before_5 m P c t d5)
    iexact H5
  isplitl [H6]
  · iexists f6; isplitr; · ipureintro; exact e6.trans (before_6 m P c t d6)
    iexact H6
  isplitl [H7]
  · iexists f7; isplitr; · ipureintro; exact e7.trans (before_7 m P c t d7)
    iexact H7
  isplitl [H8]
  · iexists Y8; isplitr; · ipureintro; exact finds8 m P c t Y8 F8
    iexists f8; isplitr; · ipureintro; exact e8
    iexact H8
  isplitl [H9]
  · iexists Y9; isplitr; · ipureintro; exact fun h => absurd h (by omega)
    iexists f9; isplitr; · ipureintro; exact e9
    iexact H9
  isplitl [H10]
  · iexists Y10; isplitr; · ipureintro; exact fun h => absurd h (by omega)
    iexists f10; isplitr; · ipureintro; exact e10
    iexact H10
  iexists Y11; isplitr; · ipureintro; exact fun h => absurd h (by omega)
  iexists f11; isplitr; · ipureintro; exact e11
  iexact H11

set_option maxHeartbeats 4000000 in
theorem sound_dn (c : Dev nD) (t : Fin cfg0.N) (hj : 44 ≤ t.val % 48) :
    bodyPre m P c t ⊢ wp frame (wpE (defs₀ (F := F)) Variants.none c none) Set.univ (bodyAt0 t) (fun _ => bodyPost m P c t) := by
  have h1 : ¬ first (grid0.coords t) = 1#1 := fun h => by have := (first_iff _).1 h; rw [coords_1] at this; omega
  have h2 : ¬ k0_cond2 (grid0.coords t) = 1#1 := fun h => by have := (cond2_iff _).1 h; rw [coords_1] at this; omega
  have h3 : k0_cond3 (grid0.coords t) = 1#1 := (cond3_iff _).2 (by rw [coords_1]; exact hj)
  unfold bodyPre bodyPost bodyAt0 Φ
  rw [show (dats m P c).owesAt () t.succ = (dats m P c).owesAt () t.castSucc from rfl]
  unfold owns
  iintro ⟨⟨⟨%X14, %X15, %X16, %hJ, ⟨%f14, %e14, S14⟩, ⟨%f15, %e15, S15⟩, ⟨%f16, %e16, S16⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d8, hd8⟩ := finds8 m P c t Y8 F8
  iapply ((dnRun c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f4 f5 f6 f7 f8 f9 f10 f11 f15 f16).2 _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S15]; · iexact S15
  isplitl [S16]; · iexact S16
  iintro ⟨%g9, %hg9, H4, H5, H6, H7, H8, H9, H10, H11, S15, S16⟩
  have hJ' := P.dn c t h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) f4 f5 f6 f7 f8 f9 f10 f11 f15 f16 X14 d8
    (e4.trans (before_4 m P c t d4)) (e5.trans (before_5 m P c t d5)) (e6.trans (before_6 m P c t d6)) (e7.trans (before_7 m P c t d7))
    (e8.trans hd8) (by rw [e15, e16]; exact hJ) g9 hg9
  obtain ⟨hJ', hR9, hR10, hR11⟩ := hJ'
  isplitl [S14 S15 S16 Hg]
  · isplitl [S14 S15 S16]
    · iexists _, _, _; isplitr; · ipureintro; exact hJ'
      isplitl [S14]
      · iexists f14; isplitr; · ipureintro; exact e14
        iexact S14
      isplitl [S15]
      · iexists f15; isplitr; · ipureintro; rfl
        iexact S15
      iexists f16; isplitr; · ipureintro; rfl
      iexact S16
    iexact Hg
  isplitl [HO]; · iexact HO
  isplitl [H0]
  · iexists f0; isplitr; · ipureintro; exact e0.trans (before_0 m P c t d0)
    iexact H0
  isplitl [H1]
  · iexists f1; isplitr; · ipureintro; exact e1.trans (before_1 m P c t d1)
    iexact H1
  isplitl [H2]
  · iexists f2; isplitr; · ipureintro; exact e2.trans (before_2 m P c t d2)
    iexact H2
  isplitl [H3]
  · iexists f3; isplitr; · ipureintro; exact e3.trans (before_3 m P c t d3)
    iexact H3
  isplitl [H4]
  · iexists f4; isplitr; · ipureintro; exact e4.trans (before_4 m P c t d4)
    iexact H4
  isplitl [H5]
  · iexists f5; isplitr; · ipureintro; exact e5.trans (before_5 m P c t d5)
    iexact H5
  isplitl [H6]
  · iexists f6; isplitr; · ipureintro; exact e6.trans (before_6 m P c t d6)
    iexact H6
  isplitl [H7]
  · iexists f7; isplitr; · ipureintro; exact e7.trans (before_7 m P c t d7)
    iexact H7
  isplitl [H8]
  · iexists Y8; isplitr; · ipureintro; exact ⟨d8, hd8⟩
    iexists f8; isplitr; · ipureintro; exact e8
    iexact H8
  isplitl [H9]
  · iexists _; isplitr; · ipureintro; exact fun _ => hR9
    iexists _; isplitr; swap; · iexact H9
    ipureintro; rfl
  isplitl [H10]
  · iexists _; isplitr; · ipureintro; exact fun _ => hR10
    iexists _; isplitr; swap; · iexact H10
    ipureintro; rfl
  iexists _; isplitr; · ipureintro; exact fun _ => hR11
  iexists _; isplitr; swap; · iexact H11
  ipureintro; rfl

theorem defs₀_row (t : Fin cfg0.N) : defs₀ (F := F) .tc cfg0.body (cfg0.bodyArgs t (cfg0.slots t)) = bodyAt0 t := by
  unfold defs₀; rw [Defs.onTc_tc]

set_option maxHeartbeats 4000000 in
theorem sound_body (c : Dev nD) (t : Fin cfg0.N) :
    bodyPre m P c t ⊢ wp frame (wpE (defs₀ (F := F)) Variants.none c none) Set.univ (bodyAt0 t) (fun _ => bodyPost m P c t) := by
  by_cases hj : t.val % 48 < 44
  · exact sound_up m P c t hj
  · exact sound_dn m P c t (by omega)

theorem body_obligation (c : Dev nD) :
    Pipeline.BodyObligationRel (dats m P c) (defs₀ (F := F)) Variants.none () Set.univ marks (Rl m P c) := fun t => by
  rw [bigSep_W0, bigSep_W0, defs₀_row]
  exact triple_restated (sound_body m P c t) rfl .rfl fun _ => .rfl

/-! ## The launch -/

theorem hin (c : Dev nD) : (Pipeline.ΦA spec0 c : sProp 𝕄) ⊢ (dats m P c).Φ 0 := by
  show _ ⊢ Φ m P c 0
  unfold Pipeline.ΦA Φ
  rw [scopedRest0_eq]
  simp only [owns_whole]
  iintro ⟨⟨⟨%X14, S14⟩, ⟨%X15, S15⟩, ⟨%X16, S16⟩⟩, Hg⟩
  isplitr [Hg]
  · iexists X14, X15, X16
    isplitr; · ipureintro; exact P.init c _ _ _
    isplitl [S14]; · iexact S14
    isplitl [S15]; · iexact S15
    iexact S16
  iexact Hg

theorem hout (c : Dev nD) : (dats m P c).Φ (Fin.last cfg0.N) ⊢ (Pipeline.ΦA spec0 c : sProp 𝕄) := by
  show Φ m P c cfg0.N ⊢ _
  unfold Pipeline.ΦA Φ
  rw [scopedRest0_eq]
  simp only [owns_whole]
  iintro ⟨⟨%X14, %X15, %X16, -, S14, S15, S16⟩, Hg⟩
  isplitr [Hg]
  · isplitl [S14]; · iexists X14; iexact S14
    isplitl [S15]; · iexists X15; iexact S15
    iexists X16; iexact S16
  iexact Hg

set_option backward.isDefEq.respectTransparency.types false in
/-- Every weakly fair execution of @main terminates, with every array as the data name it and every semaphore counter at zero. -/
theorem run_main :
    θ_run defs (onTc (τ := τ) (main (F := F))) (s₀ m ρ)
      (fun r => Pipeline.RDat.FramePost (cfgs 0) (rdat m P) (V m) r ∧ r.2.sem = fun _ => 0) :=
  Pipeline.RDat.θ_run_frame_track (Q' := _) cfgs (0 : Fin 1) launch0 defs₀ Variants.none (rdat m P) m ρ main
    (fun c => (body_obligation m P c).toRRel) (fun c => (dats m P c).share_full fun _ => rfl)
    (fun _ _ => rfl) (V m) (hmain m Variants.none) (A_eq m P) (hin m P) (hout m P)

/-- The arguments after the run. -/
theorem args_of {r : PUnit × MemSt nD τ sig (Elt F)} (h : Pipeline.RDat.FramePost (cfgs 0) (rdat m P) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨(Pipeline.RDat.FramePost.arr_in h c 0 rfl).trans ((A_eq m P c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   (Pipeline.RDat.FramePost.arr_in h c 4 rfl).trans ((A_eq m P c 4).trans (V_main_arg7 m c)),
   ((h c).2 main_arg8 (Pipeline.mem_restRefs_of main_arg8 (by decide) (by decide))).trans (V_main_arg8 m c),
   (Pipeline.RDat.FramePost.arr_in h c 6 rfl).trans ((A_eq m P c 6).trans (V_main_arg9 m c)),
   (Pipeline.RDat.FramePost.arr_in h c 7 rfl).trans ((A_eq m P c 7).trans (V_main_arg10 m c)),
   (Pipeline.RDat.FramePost.arr_in h c 8 rfl).trans ((A_eq m P c 8).trans (V_main_arg11 m c))⟩

end Cert.Kernel.Hand

end
-- ==== Proof.Blocks.lean ====
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The rows of one half of the activations' scratch that a convolution block reads for one tap. -/
def rowsAt (X : S2x1088x128.Idx → Elt F .f32) (half row : ℕ) (h : ∀ a, (![half, row, 0] : Fin 3 → Nat) a + S1x72x128.size a ≤ S2x1088x128.size a) : Vec F S1x72x128 .f32 :=
  fun x => X ((Rect.unit (s := S2x1088x128) ![half, row, 0] S1x72x128.size h).toLoadRect.idx x)

/-- One row of one half of a chunk's parameters. -/
def parAt (X : S1x16x256.Idx → Elt F .f32) (row col : ℕ) (h : ∀ a, (![0, row, col] : Fin 3 → Nat) a + S1x1x128.size a ≤ S1x16x256.size a) : Vec F S1x1x128 .f32 :=
  fun x => X ((Rect.unit (s := S1x16x256) ![0, row, col] S1x1x128.size h).toLoadRect.idx x)

/-- One tap: the rows times the weight of each channel. -/
def tap (P : Vec F S1x72x128 .f32) (w : Vec F S1x1x128 .f32) : FVec F S72x128 .f32 :=
  mulf (shapeCast S72x128 P shapeCasts_S1x72x128_S72x128) (broadcastTo S72x128 (shapeCast S1x128 w shapeCasts_S1x1x128_S1x128) broadcasts_S1x128_S72x128)

/-- The three taps of one column offset, added. -/
def col3 (P0 : Vec F S1x72x128 .f32) (w0 : Vec F S1x1x128 .f32) (P1 : Vec F S1x72x128 .f32) (w1 : Vec F S1x1x128 .f32) (P2 : Vec F S1x72x128 .f32) (w2 : Vec F S1x1x128 .f32) :
    FVec F S72x128 .f32 :=
  addf (addf (tap P0 w0) (tap P1 w1)) (tap P2 w2)

/-- The column of the grid each row of a block lies in. -/
def colIx : IVec S72x128 32 := k0_pay27 (36#32) k0_pay24 k0_pay25 k0_pay26 0#1

/-- The nine taps and the bias, the left and right columns masked at the grid's edges. -/
def hcv (L M R : FVec F S72x128 .f32) (bias : Vec F S1x1x128 .f32) : FVec F S72x128 .f32 :=
  addf (addf (addf (select (cmpi .eq colIx (broadcast S72x128 0#32)) (broadcast S72x128 (Scalar.ofBits .f32 0x00000000#32)) L) M)
      (select (cmpi .eq colIx (broadcast S72x128 35#32)) (broadcast S72x128 (Scalar.ofBits .f32 0x00000000#32)) R))
    (broadcastTo S72x128 (shapeCast S1x128 bias shapeCasts_S1x1x128_S1x128) broadcasts_S1x128_S72x128)

/-- The first half times the SiLU of the second. -/
def hgv (a b : FVec F S72x128 .f32) : FVec F S72x128 .f32 := mulf a (mulf b (logistic b))

/-- The running row maxima of one block's lanes. -/
def amv (v : Vec F S72x128 .f32) (hg : FVec F S72x128 .f32) : FVec F S72x128 .f32 :=
  shapeCast S72x128 (maximumf v (absf hg)) shapeCasts_S72x128_S72x128

/-- One chunk's codes of a row tile. -/
def codesv (inv : FVec F S256x1 .f32) (v : Vec F S1x256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf (shapeCast S256x128 v shapeCasts_S1x256x128_S256x128) (broadcastTo S256x128 inv broadcasts_S256x1_S256x128)))) bitsLt_fp8e4m3_f32

/-- One half of an upward tile of 256 rows. -/
def upv256 (off : ℕ) (hs : S256x256.Slices ![0, off] S256x128) (sc : Vec F S1x256x128 .f32) (a : Vec F S1x256x2240 .fp8e4m3) (w : Vec F S1x2240x256 .fp8e4m3) (su bu : Vec F S1x1x128 .f32) :
    FVec F S256x128 .f32 :=
  addf (mulf (mulf (extractStridedSlice S256x128 ![0, off] (matmul dot_S256x2240_S2240x256_S256x256_1_0_0_1_n_n none (shapeCast S256x2240 a shapeCasts_S1x256x2240_S256x2240)
      (shapeCast S2240x256 w shapeCasts_S1x2240x256_S2240x256) (constant S256x256 .f32 0x00000000#32)) hs)
      (shapeCast S256x128 sc shapeCasts_S1x256x128_S256x128)) (broadcastTo S256x128 (shapeCast S1x128 su shapeCasts_S1x1x128_S1x128) broadcasts_S1x128_S256x128))
    (broadcastTo S256x128 (shapeCast S1x128 bu shapeCasts_S1x1x128_S1x128) broadcasts_S1x128_S256x128)

/-- The rows as stored: the SiLU, rounded. -/
def upst256 (h : FVec F S256x128 .f32) : FVec F S1x256x128 .f32 :=
  shapeCast S1x256x128 (extf .f32 (truncf .bf16 (mulf h (logistic h)) bitsLt_bf16_f32) bitsLt_bf16_f32) shapeCasts_S256x128_S1x256x128

/-- One half of an upward tile of 240 rows. -/
def upv240 (off : ℕ) (hs : S240x256.Slices ![0, off] S240x128) (sc : Vec F S1x240x128 .f32) (a : Vec F S1x240x2240 .fp8e4m3) (w : Vec F S1x2240x256 .fp8e4m3) (su bu : Vec F S1x1x128 .f32) :
    FVec F S240x128 .f32 :=
  addf (mulf (mulf (extractStridedSlice S240x128 ![0, off] (matmul dot_S240x2240_S2240x256_S240x256_1_0_0_1_n_n none (shapeCast S240x2240 a shapeCasts_S1x240x2240_S240x2240)
      (shapeCast S2240x256 w shapeCasts_S1x2240x256_S2240x256) (constant S240x256 .f32 0x00000000#32)) hs)
      (shapeCast S240x128 sc shapeCasts_S1x240x128_S240x128)) (broadcastTo S240x128 (shapeCast S1x128 su shapeCasts_S1x1x128_S1x128) broadcasts_S1x128_S240x128))
    (broadcastTo S240x128 (shapeCast S1x128 bu shapeCasts_S1x1x128_S1x128) broadcasts_S1x128_S240x128)

/-- The rows as stored: the SiLU, rounded. -/
def upst240 (h : FVec F S240x128 .f32) : FVec F S1x240x128 .f32 :=
  shapeCast S1x240x128 (extf .f32 (truncf .bf16 (mulf h (logistic h)) bitsLt_bf16_f32) bitsLt_bf16_f32) shapeCasts_S240x128_S1x240x128

/-- 256 columns of `y` of a row tile. -/
def yv256 (off : ℕ) (hs : S1x2240.Slices ![0, off] S1x256) (sc : FVec F S256x1 .f32) (gate : FVec F S1x2240 .f32) (a : Vec F S1x256x5600 .fp8e4m3) (w : Vec F S5600x256 .fp8e4m3)
    (sd : Vec F S1x256 .f32) (r : Vec F S1x256x256 .f32) : FVec F S1x256x256 .bf16 :=
  shapeCast S1x256x256 (truncf .bf16 (addf (shapeCast S256x256 r shapeCasts_S1x256x256_S256x256)
    (mulf (broadcastTo S256x256 (extractStridedSlice S1x256 ![0, off] gate hs) broadcasts_S1x256_S256x256)
      (mulf (mulf (matmul dot_S256x5600_S5600x256_S256x256_1_0_0_1_n_n none (shapeCast S256x5600 a shapeCasts_S1x256x5600_S256x5600) w (constant S256x256 .f32 0x00000000#32))
        (broadcastTo S256x256 sc broadcasts_S256x1_S256x256)) (broadcastTo S256x256 (shapeCast S1x256 sd shapeCasts_S1x256_S1x256) broadcasts_S1x256_S256x256)))) bitsLt_bf16_f32) shapeCasts_S256x256_S1x256x256

/-- 192 columns of `y` of a row tile. -/
def yv192 (off : ℕ) (hs : S1x2240.Slices ![0, off] S1x192) (sc : FVec F S256x1 .f32) (gate : FVec F S1x2240 .f32) (a : Vec F S1x256x5600 .fp8e4m3) (w : Vec F S5600x192 .fp8e4m3)
    (sd : Vec F S1x192 .f32) (r : Vec F S1x256x192 .f32) : FVec F S1x256x192 .bf16 :=
  shapeCast S1x256x192 (truncf .bf16 (addf (shapeCast S256x192 r shapeCasts_S1x256x192_S256x192)
    (mulf (broadcastTo S256x192 (extractStridedSlice S1x192 ![0, off] gate hs) broadcasts_S1x192_S256x192)
      (mulf (mulf (matmul dot_S256x5600_S5600x192_S256x192_1_0_0_1_n_n none (shapeCast S256x5600 a shapeCasts_S1x256x5600_S256x5600) w (constant S256x192 .f32 0x00000000#32))
        (broadcastTo S256x192 sc broadcasts_S256x1_S256x192)) (broadcastTo S256x192 (shapeCast S1x192 sd shapeCasts_S1x192_S1x192) broadcasts_S1x192_S256x192)))) bitsLt_bf16_f32) shapeCasts_S256x192_S1x256x192

/-- Block 0 of the convolution. -/
def hgB0 (X14 : S2x1088x128.Idx → Elt F .f32) (X5 : S1x16x256.Idx → Elt F .f32) : FVec F S72x128 .f32 :=
  hgv (hcv (col3 (rowsAt X14 0 3 inb_S2x1088x128_S1x72x128_0_3_0) (parAt X5 3 0 inb_S1x16x256_S1x1x128_0_3_0) (rowsAt X14 0 39 inb_S2x1088x128_S1x72x128_0_39_0) (parAt X5 6 0 inb_S1x16x256_S1x1x128_0_6_0) (rowsAt X14 0 75 inb_S2x1088x128_S1x72x128_0_75_0) (parAt X5 9 0 inb_S1x16x256_S1x1x128_0_9_0))
      (col3 (rowsAt X14 0 4 inb_S2x1088x128_S1x72x128_0_4_0) (parAt X5 4 0 inb_S1x16x256_S1x1x128_0_4_0) (rowsAt X14 0 40 inb_S2x1088x128_S1x72x128_0_40_0) (parAt X5 7 0 inb_S1x16x256_S1x1x128_0_7_0) (rowsAt X14 0 76 inb_S2x1088x128_S1x72x128_0_76_0) (parAt X5 10 0 inb_S1x16x256_S1x1x128_0_10_0))
      (col3 (rowsAt X14 0 5 inb_S2x1088x128_S1x72x128_0_5_0) (parAt X5 5 0 inb_S1x16x256_S1x1x128_0_5_0) (rowsAt X14 0 41 inb_S2x1088x128_S1x72x128_0_41_0) (parAt X5 8 0 inb_S1x16x256_S1x1x128_0_8_0) (rowsAt X14 0 77 inb_S2x1088x128_S1x72x128_0_77_0) (parAt X5 11 0 inb_S1x16x256_S1x1x128_0_11_0)) (parAt X5 2 0 inb_S1x16x256_S1x1x128_0_2_0))
    (hcv (col3 (rowsAt X14 1 3 inb_S2x1088x128_S1x72x128_1_3_0) (parAt X5 3 128 inb_S1x16x256_S1x1x128_0_3_128) (rowsAt X14 1 39 inb_S2x1088x128_S1x72x128_1_39_0) (parAt X5 6 128 inb_S1x16x256_S1x1x128_0_6_128) (rowsAt X14 1 75 inb_S2x1088x128_S1x72x128_1_75_0) (parAt X5 9 128 inb_S1x16x256_S1x1x128_0_9_128))
      (col3 (rowsAt X14 1 4 inb_S2x1088x128_S1x72x128_1_4_0) (parAt X5 4 128 inb_S1x16x256_S1x1x128_0_4_128) (rowsAt X14 1 40 inb_S2x1088x128_S1x72x128_1_40_0) (parAt X5 7 128 inb_S1x16x256_S1x1x128_0_7_128) (rowsAt X14 1 76 inb_S2x1088x128_S1x72x128_1_76_0) (parAt X5 10 128 inb_S1x16x256_S1x1x128_0_10_128))
      (col3 (rowsAt X14 1 5 inb_S2x1088x128_S1x72x128_1_5_0) (parAt X5 5 128 inb_S1x16x256_S1x1x128_0_5_128) (rowsAt X14 1 41 inb_S2x1088x128_S1x72x128_1_41_0) (parAt X5 8 128 inb_S1x16x256_S1x1x128_0_8_128) (rowsAt X14 1 77 inb_S2x1088x128_S1x72x128_1_77_0) (parAt X5 11 128 inb_S1x16x256_S1x1x128_0_11_128)) (parAt X5 2 128 inb_S1x16x256_S1x1x128_0_2_128))

/-- Block 1 of the convolution. -/
def hgB1 (X14 : S2x1088x128.Idx → Elt F .f32) (X5 : S1x16x256.Idx → Elt F .f32) : FVec F S72x128 .f32 :=
  hgv (hcv (col3 (rowsAt X14 0 75 inb_S2x1088x128_S1x72x128_0_75_0) (parAt X5 3 0 inb_S1x16x256_S1x1x128_0_3_0) (rowsAt X14 0 111 inb_S2x1088x128_S1x72x128_0_111_0) (parAt X5 6 0 inb_S1x16x256_S1x1x128_0_6_0) (rowsAt X14 0 147 inb_S2x1088x128_S1x72x128_0_147_0) (parAt X5 9 0 inb_S1x16x256_S1x1x128_0_9_0))
      (col3 (rowsAt X14 0 76 inb_S2x1088x128_S1x72x128_0_76_0) (parAt X5 4 0 inb_S1x16x256_S1x1x128_0_4_0) (rowsAt X14 0 112 inb_S2x1088x128_S1x72x128_0_112_0) (parAt X5 7 0 inb_S1x16x256_S1x1x128_0_7_0) (rowsAt X14 0 148 inb_S2x1088x128_S1x72x128_0_148_0) (parAt X5 10 0 inb_S1x16x256_S1x1x128_0_10_0))
      (col3 (rowsAt X14 0 77 inb_S2x1088x128_S1x72x128_0_77_0) (parAt X5 5 0 inb_S1x16x256_S1x1x128_0_5_0) (rowsAt X14 0 113 inb_S2x1088x128_S1x72x128_0_113_0) (parAt X5 8 0 inb_S1x16x256_S1x1x128_0_8_0) (rowsAt X14 0 149 inb_S2x1088x128_S1x72x128_0_149_0) (parAt X5 11 0 inb_S1x16x256_S1x1x128_0_11_0)) (parAt X5 2 0 inb_S1x16x256_S1x1x128_0_2_0))
    (hcv (col3 (rowsAt X14 1 75 inb_S2x1088x128_S1x72x128_1_75_0) (parAt X5 3 128 inb_S1x16x256_S1x1x128_0_3_128) (rowsAt X14 1 111 inb_S2x1088x128_S1x72x128_1_111_0) (parAt X5 6 128 inb_S1x16x256_S1x1x128_0_6_128) (rowsAt X14 1 147 inb_S2x1088x128_S1x72x128_1_147_0) (parAt X5 9 128 inb_S1x16x256_S1x1x128_0_9_128))
      (col3 (rowsAt X14 1 76 inb_S2x1088x128_S1x72x128_1_76_0) (parAt X5 4 128 inb_S1x16x256_S1x1x128_0_4_128) (rowsAt X14 1 112 inb_S2x1088x128_S1x72x128_1_112_0) (parAt X5 7 128 inb_S1x16x256_S1x1x128_0_7_128) (rowsAt X14 1 148 inb_S2x1088x128_S1x72x128_1_148_0) (parAt X5 10 128 inb_S1x16x256_S1x1x128_0_10_128))
      (col3 (rowsAt X14 1 77 inb_S2x1088x128_S1x72x128_1_77_0) (parAt X5 5 128 inb_S1x16x256_S1x1x128_0_5_128) (rowsAt X14 1 113 inb_S2x1088x128_S1x72x128_1_113_0) (parAt X5 8 128 inb_S1x16x256_S1x1x128_0_8_128) (rowsAt X14 1 149 inb_S2x1088x128_S1x72x128_1_149_0) (parAt X5 11 128 inb_S1x16x256_S1x1x128_0_11_128)) (parAt X5 2 128 inb_S1x16x256_S1x1x128_0_2_128))

/-- Block 2 of the convolution. -/
def hgB2 (X14 : S2x1088x128.Idx → Elt F .f32) (X5 : S1x16x256.Idx → Elt F .f32) : FVec F S72x128 .f32 :=
  hgv (hcv (col3 (rowsAt X14 0 147 inb_S2x1088x128_S1x72x128_0_147_0) (parAt X5 3 0 inb_S1x16x256_S1x1x128_0_3_0) (rowsAt X14 0 183 inb_S2x1088x128_S1x72x128_0_183_0) (parAt X5 6 0 inb_S1x16x256_S1x1x128_0_6_0) (rowsAt X14 0 219 inb_S2x1088x128_S1x72x128_0_219_0) (parAt X5 9 0 inb_S1x16x256_S1x1x128_0_9_0))
      (col3 (rowsAt X14 0 148 inb_S2x1088x128_S1x72x128_0_148_0) (parAt X5 4 0 inb_S1x16x256_S1x1x128_0_4_0) (rowsAt X14 0 184 inb_S2x1088x128_S1x72x128_0_184_0) (parAt X5 7 0 inb_S1x16x256_S1x1x128_0_7_0) (rowsAt X14 0 220 inb_S2x1088x128_S1x72x128_0_220_0) (parAt X5 10 0 inb_S1x16x256_S1x1x128_0_10_0))
      (col3 (rowsAt X14 0 149 inb_S2x1088x128_S1x72x128_0_149_0) (parAt X5 5 0 inb_S1x16x256_S1x1x128_0_5_0) (rowsAt X14 0 185 inb_S2x1088x128_S1x72x128_0_185_0) (parAt X5 8 0 inb_S1x16x256_S1x1x128_0_8_0) (rowsAt X14 0 221 inb_S2x1088x128_S1x72x128_0_221_0) (parAt X5 11 0 inb_S1x16x256_S1x1x128_0_11_0)) (parAt X5 2 0 inb_S1x16x256_S1x1x128_0_2_0))
    (hcv (col3 (rowsAt X14 1 147 inb_S2x1088x128_S1x72x128_1_147_0) (parAt X5 3 128 inb_S1x16x256_S1x1x128_0_3_128) (rowsAt X14 1 183 inb_S2x1088x128_S1x72x128_1_183_0) (parAt X5 6 128 inb_S1x16x256_S1x1x128_0_6_128) (rowsAt X14 1 219 inb_S2x1088x128_S1x72x128_1_219_0) (parAt X5 9 128 inb_S1x16x256_S1x1x128_0_9_128))
      (col3 (rowsAt X14 1 148 inb_S2x1088x128_S1x72x128_1_148_0) (parAt X5 4 128 inb_S1x16x256_S1x1x128_0_4_128) (rowsAt X14 1 184 inb_S2x1088x128_S1x72x128_1_184_0) (parAt X5 7 128 inb_S1x16x256_S1x1x128_0_7_128) (rowsAt X14 1 220 inb_S2x1088x128_S1x72x128_1_220_0) (parAt X5 10 128 inb_S1x16x256_S1x1x128_0_10_128))
      (col3 (rowsAt X14 1 149 inb_S2x1088x128_S1x72x128_1_149_0) (parAt X5 5 128 inb_S1x16x256_S1x1x128_0_5_128) (rowsAt X14 1 185 inb_S2x1088x128_S1x72x128_1_185_0) (parAt X5 8 128 inb_S1x16x256_S1x1x128_0_8_128) (rowsAt X14 1 221 inb_S2x1088x128_S1x72x128_1_221_0) (parAt X5 11 128 inb_S1x16x256_S1x1x128_0_11_128)) (parAt X5 2 128 inb_S1x16x256_S1x1x128_0_2_128))

/-- Block 3 of the convolution. -/
def hgB3 (X14 : S2x1088x128.Idx → Elt F .f32) (X5 : S1x16x256.Idx → Elt F .f32) : FVec F S72x128 .f32 :=
  hgv (hcv (col3 (rowsAt X14 0 219 inb_S2x1088x128_S1x72x128_0_219_0) (parAt X5 3 0 inb_S1x16x256_S1x1x128_0_3_0) (rowsAt X14 0 255 inb_S2x1088x128_S1x72x128_0_255_0) (parAt X5 6 0 inb_S1x16x256_S1x1x128_0_6_0) (rowsAt X14 0 291 inb_S2x1088x128_S1x72x128_0_291_0) (parAt X5 9 0 inb_S1x16x256_S1x1x128_0_9_0))
      (col3 (rowsAt X14 0 220 inb_S2x1088x128_S1x72x128_0_220_0) (parAt X5 4 0 inb_S1x16x256_S1x1x128_0_4_0) (rowsAt X14 0 256 inb_S2x1088x128_S1x72x128_0_256_0) (parAt X5 7 0 inb_S1x16x256_S1x1x128_0_7_0) (rowsAt X14 0 292 inb_S2x1088x128_S1x72x128_0_292_0) (parAt X5 10 0 inb_S1x16x256_S1x1x128_0_10_0))
      (col3 (rowsAt X14 0 221 inb_S2x1088x128_S1x72x128_0_221_0) (parAt X5 5 0 inb_S1x16x256_S1x1x128_0_5_0) (rowsAt X14 0 257 inb_S2x1088x128_S1x72x128_0_257_0) (parAt X5 8 0 inb_S1x16x256_S1x1x128_0_8_0) (rowsAt X14 0 293 inb_S2x1088x128_S1x72x128_0_293_0) (parAt X5 11 0 inb_S1x16x256_S1x1x128_0_11_0)) (parAt X5 2 0 inb_S1x16x256_S1x1x128_0_2_0))
    (hcv (col3 (rowsAt X14 1 219 inb_S2x1088x128_S1x72x128_1_219_0) (parAt X5 3 128 inb_S1x16x256_S1x1x128_0_3_128) (rowsAt X14 1 255 inb_S2x1088x128_S1x72x128_1_255_0) (parAt X5 6 128 inb_S1x16x256_S1x1x128_0_6_128) (rowsAt X14 1 291 inb_S2x1088x128_S1x72x128_1_291_0) (parAt X5 9 128 inb_S1x16x256_S1x1x128_0_9_128))
      (col3 (rowsAt X14 1 220 inb_S2x1088x128_S1x72x128_1_220_0) (parAt X5 4 128 inb_S1x16x256_S1x1x128_0_4_128) (rowsAt X14 1 256 inb_S2x1088x128_S1x72x128_1_256_0) (parAt X5 7 128 inb_S1x16x256_S1x1x128_0_7_128) (rowsAt X14 1 292 inb_S2x1088x128_S1x72x128_1_292_0) (parAt X5 10 128 inb_S1x16x256_S1x1x128_0_10_128))
      (col3 (rowsAt X14 1 221 inb_S2x1088x128_S1x72x128_1_221_0) (parAt X5 5 128 inb_S1x16x256_S1x1x128_0_5_128) (rowsAt X14 1 257 inb_S2x1088x128_S1x72x128_1_257_0) (parAt X5 8 128 inb_S1x16x256_S1x1x128_0_8_128) (rowsAt X14 1 293 inb_S2x1088x128_S1x72x128_1_293_0) (parAt X5 11 128 inb_S1x16x256_S1x1x128_0_11_128)) (parAt X5 2 128 inb_S1x16x256_S1x1x128_0_2_128))

/-- Block 4 of the convolution. -/
def hgB4 (X14 : S2x1088x128.Idx → Elt F .f32) (X5 : S1x16x256.Idx → Elt F .f32) : FVec F S72x128 .f32 :=
  hgv (hcv (col3 (rowsAt X14 0 291 inb_S2x1088x128_S1x72x128_0_291_0) (parAt X5 3 0 inb_S1x16x256_S1x1x128_0_3_0) (rowsAt X14 0 327 inb_S2x1088x128_S1x72x128_0_327_0) (parAt X5 6 0 inb_S1x16x256_S1x1x128_0_6_0) (rowsAt X14 0 363 inb_S2x1088x128_S1x72x128_0_363_0) (parAt X5 9 0 inb_S1x16x256_S1x1x128_0_9_0))
      (col3 (rowsAt X14 0 292 inb_S2x1088x128_S1x72x128_0_292_0) (parAt X5 4 0 inb_S1x16x256_S1x1x128_0_4_0) (rowsAt X14 0 328 inb_S2x1088x128_S1x72x128_0_328_0) (parAt X5 7 0 inb_S1x16x256_S1x1x128_0_7_0) (rowsAt X14 0 364 inb_S2x1088x128_S1x72x128_0_364_0) (parAt X5 10 0 inb_S1x16x256_S1x1x128_0_10_0))
      (col3 (rowsAt X14 0 293 inb_S2x1088x128_S1x72x128_0_293_0) (parAt X5 5 0 inb_S1x16x256_S1x1x128_0_5_0) (rowsAt X14 0 329 inb_S2x1088x128_S1x72x128_0_329_0) (parAt X5 8 0 inb_S1x16x256_S1x1x128_0_8_0) (rowsAt X14 0 365 inb_S2x1088x128_S1x72x128_0_365_0) (parAt X5 11 0 inb_S1x16x256_S1x1x128_0_11_0)) (parAt X5 2 0 inb_S1x16x256_S1x1x128_0_2_0))
    (hcv (col3 (rowsAt X14 1 291 inb_S2x1088x128_S1x72x128_1_291_0) (parAt X5 3 128 inb_S1x16x256_S1x1x128_0_3_128) (rowsAt X14 1 327 inb_S2x1088x128_S1x72x128_1_327_0) (parAt X5 6 128 inb_S1x16x256_S1x1x128_0_6_128) (rowsAt X14 1 363 inb_S2x1088x128_S1x72x128_1_363_0) (parAt X5 9 128 inb_S1x16x256_S1x1x128_0_9_128))
      (col3 (rowsAt X14 1 292 inb_S2x1088x128_S1x72x128_1_292_0) (parAt X5 4 128 inb_S1x16x256_S1x1x128_0_4_128) (rowsAt X14 1 328 inb_S2x1088x128_S1x72x128_1_328_0) (parAt X5 7 128 inb_S1x16x256_S1x1x128_0_7_128) (rowsAt X14 1 364 inb_S2x1088x128_S1x72x128_1_364_0) (parAt X5 10 128 inb_S1x16x256_S1x1x128_0_10_128))
      (col3 (rowsAt X14 1 293 inb_S2x1088x128_S1x72x128_1_293_0) (parAt X5 5 128 inb_S1x16x256_S1x1x128_0_5_128) (rowsAt X14 1 329 inb_S2x1088x128_S1x72x128_1_329_0) (parAt X5 8 128 inb_S1x16x256_S1x1x128_0_8_128) (rowsAt X14 1 365 inb_S2x1088x128_S1x72x128_1_365_0) (parAt X5 11 128 inb_S1x16x256_S1x1x128_0_11_128)) (parAt X5 2 128 inb_S1x16x256_S1x1x128_0_2_128))

/-- Block 5 of the convolution. -/
def hgB5 (X14 : S2x1088x128.Idx → Elt F .f32) (X5 : S1x16x256.Idx → Elt F .f32) : FVec F S72x128 .f32 :=
  hgv (hcv (col3 (rowsAt X14 0 363 inb_S2x1088x128_S1x72x128_0_363_0) (parAt X5 3 0 inb_S1x16x256_S1x1x128_0_3_0) (rowsAt X14 0 399 inb_S2x1088x128_S1x72x128_0_399_0) (parAt X5 6 0 inb_S1x16x256_S1x1x128_0_6_0) (rowsAt X14 0 435 inb_S2x1088x128_S1x72x128_0_435_0) (parAt X5 9 0 inb_S1x16x256_S1x1x128_0_9_0))
      (col3 (rowsAt X14 0 364 inb_S2x1088x128_S1x72x128_0_364_0) (parAt X5 4 0 inb_S1x16x256_S1x1x128_0_4_0) (rowsAt X14 0 400 inb_S2x1088x128_S1x72x128_0_400_0) (parAt X5 7 0 inb_S1x16x256_S1x1x128_0_7_0) (rowsAt X14 0 436 inb_S2x1088x128_S1x72x128_0_436_0) (parAt X5 10 0 inb_S1x16x256_S1x1x128_0_10_0))
      (col3 (rowsAt X14 0 365 inb_S2x1088x128_S1x72x128_0_365_0) (parAt X5 5 0 inb_S1x16x256_S1x1x128_0_5_0) (rowsAt X14 0 401 inb_S2x1088x128_S1x72x128_0_401_0) (parAt X5 8 0 inb_S1x16x256_S1x1x128_0_8_0) (rowsAt X14 0 437 inb_S2x1088x128_S1x72x128_0_437_0) (parAt X5 11 0 inb_S1x16x256_S1x1x128_0_11_0)) (parAt X5 2 0 inb_S1x16x256_S1x1x128_0_2_0))
    (hcv (col3 (rowsAt X14 1 363 inb_S2x1088x128_S1x72x128_1_363_0) (parAt X5 3 128 inb_S1x16x256_S1x1x128_0_3_128) (rowsAt X14 1 399 inb_S2x1088x128_S1x72x128_1_399_0) (parAt X5 6 128 inb_S1x16x256_S1x1x128_0_6_128) (rowsAt X14 1 435 inb_S2x1088x128_S1x72x128_1_435_0) (parAt X5 9 128 inb_S1x16x256_S1x1x128_0_9_128))
      (col3 (rowsAt X14 1 364 inb_S2x1088x128_S1x72x128_1_364_0) (parAt X5 4 128 inb_S1x16x256_S1x1x128_0_4_128) (rowsAt X14 1 400 inb_S2x1088x128_S1x72x128_1_400_0) (parAt X5 7 128 inb_S1x16x256_S1x1x128_0_7_128) (rowsAt X14 1 436 inb_S2x1088x128_S1x72x128_1_436_0) (parAt X5 10 128 inb_S1x16x256_S1x1x128_0_10_128))
      (col3 (rowsAt X14 1 365 inb_S2x1088x128_S1x72x128_1_365_0) (parAt X5 5 128 inb_S1x16x256_S1x1x128_0_5_128) (rowsAt X14 1 401 inb_S2x1088x128_S1x72x128_1_401_0) (parAt X5 8 128 inb_S1x16x256_S1x1x128_0_8_128) (rowsAt X14 1 437 inb_S2x1088x128_S1x72x128_1_437_0) (parAt X5 11 128 inb_S1x16x256_S1x1x128_0_11_128)) (parAt X5 2 128 inb_S1x16x256_S1x1x128_0_2_128))

/-- Block 6 of the convolution. -/
def hgB6 (X14 : S2x1088x128.Idx → Elt F .f32) (X5 : S1x16x256.Idx → Elt F .f32) : FVec F S72x128 .f32 :=
  hgv (hcv (col3 (rowsAt X14 0 435 inb_S2x1088x128_S1x72x128_0_435_0) (parAt X5 3 0 inb_S1x16x256_S1x1x128_0_3_0) (rowsAt X14 0 471 inb_S2x1088x128_S1x72x128_0_471_0) (parAt X5 6 0 inb_S1x16x256_S1x1x128_0_6_0) (rowsAt X14 0 507 inb_S2x1088x128_S1x72x128_0_507_0) (parAt X5 9 0 inb_S1x16x256_S1x1x128_0_9_0))
      (col3 (rowsAt X14 0 436 inb_S2x1088x128_S1x72x128_0_436_0) (parAt X5 4 0 inb_S1x16x256_S1x1x128_0_4_0) (rowsAt X14 0 472 inb_S2x1088x128_S1x72x128_0_472_0) (parAt X5 7 0 inb_S1x16x256_S1x1x128_0_7_0) (rowsAt X14 0 508 inb_S2x1088x128_S1x72x128_0_508_0) (parAt X5 10 0 inb_S1x16x256_S1x1x128_0_10_0))
      (col3 (rowsAt X14 0 437 inb_S2x1088x128_S1x72x128_0_437_0) (parAt X5 5 0 inb_S1x16x256_S1x1x128_0_5_0) (rowsAt X14 0 473 inb_S2x1088x128_S1x72x128_0_473_0) (parAt X5 8 0 inb_S1x16x256_S1x1x128_0_8_0) (rowsAt X14 0 509 inb_S2x1088x128_S1x72x128_0_509_0) (parAt X5 11 0 inb_S1x16x256_S1x1x128_0_11_0)) (parAt X5 2 0 inb_S1x16x256_S1x1x128_0_2_0))
    (hcv (col3 (rowsAt X14 1 435 inb_S2x1088x128_S1x72x128_1_435_0) (parAt X5 3 128 inb_S1x16x256_S1x1x128_0_3_128) (rowsAt X14 1 471 inb_S2x1088x128_S1x72x128_1_471_0) (parAt X5 6 128 inb_S1x16x256_S1x1x128_0_6_128) (rowsAt X14 1 507 inb_S2x1088x128_S1x72x128_1_507_0) (parAt X5 9 128 inb_S1x16x256_S1x1x128_0_9_128))
      (col3 (rowsAt X14 1 436 inb_S2x1088x128_S1x72x128_1_436_0) (parAt X5 4 128 inb_S1x16x256_S1x1x128_0_4_128) (rowsAt X14 1 472 inb_S2x1088x128_S1x72x128_1_472_0) (parAt X5 7 128 inb_S1x16x256_S1x1x128_0_7_128) (rowsAt X14 1 508 inb_S2x1088x128_S1x72x128_1_508_0) (parAt X5 10 128 inb_S1x16x256_S1x1x128_0_10_128))
      (col3 (rowsAt X14 1 437 inb_S2x1088x128_S1x72x128_1_437_0) (parAt X5 5 128 inb_S1x16x256_S1x1x128_0_5_128) (rowsAt X14 1 473 inb_S2x1088x128_S1x72x128_1_473_0) (parAt X5 8 128 inb_S1x16x256_S1x1x128_0_8_128) (rowsAt X14 1 509 inb_S2x1088x128_S1x72x128_1_509_0) (parAt X5 11 128 inb_S1x16x256_S1x1x128_0_11_128)) (parAt X5 2 128 inb_S1x16x256_S1x1x128_0_2_128))

/-- Block 7 of the convolution. -/
def hgB7 (X14 : S2x1088x128.Idx → Elt F .f32) (X5 : S1x16x256.Idx → Elt F .f32) : FVec F S72x128 .f32 :=
  hgv (hcv (col3 (rowsAt X14 0 507 inb_S2x1088x128_S1x72x128_0_507_0) (parAt X5 3 0 inb_S1x16x256_S1x1x128_0_3_0) (rowsAt X14 0 543 inb_S2x1088x128_S1x72x128_0_543_0) (parAt X5 6 0 inb_S1x16x256_S1x1x128_0_6_0) (rowsAt X14 0 579 inb_S2x1088x128_S1x72x128_0_579_0) (parAt X5 9 0 inb_S1x16x256_S1x1x128_0_9_0))
      (col3 (rowsAt X14 0 508 inb_S2x1088x128_S1x72x128_0_508_0) (parAt X5 4 0 inb_S1x16x256_S1x1x128_0_4_0) (rowsAt X14 0 544 inb_S2x1088x128_S1x72x128_0_544_0) (parAt X5 7 0 inb_S1x16x256_S1x1x128_0_7_0) (rowsAt X14 0 580 inb_S2x1088x128_S1x72x128_0_580_0) (parAt X5 10 0 inb_S1x16x256_S1x1x128_0_10_0))
      (col3 (rowsAt X14 0 509 inb_S2x1088x128_S1x72x128_0_509_0) (parAt X5 5 0 inb_S1x16x256_S1x1x128_0_5_0) (rowsAt X14 0 545 inb_S2x1088x128_S1x72x128_0_545_0) (parAt X5 8 0 inb_S1x16x256_S1x1x128_0_8_0) (rowsAt X14 0 581 inb_S2x1088x128_S1x72x128_0_581_0) (parAt X5 11 0 inb_S1x16x256_S1x1x128_0_11_0)) (parAt X5 2 0 inb_S1x16x256_S1x1x128_0_2_0))
    (hcv (col3 (rowsAt X14 1 507 inb_S2x1088x128_S1x72x128_1_507_0) (parAt X5 3 128 inb_S1x16x256_S1x1x128_0_3_128) (rowsAt X14 1 543 inb_S2x1088x128_S1x72x128_1_543_0) (parAt X5 6 128 inb_S1x16x256_S1x1x128_0_6_128) (rowsAt X14 1 579 inb_S2x1088x128_S1x72x128_1_579_0) (parAt X5 9 128 inb_S1x16x256_S1x1x128_0_9_128))
      (col3 (rowsAt X14 1 508 inb_S2x1088x128_S1x72x128_1_508_0) (parAt X5 4 128 inb_S1x16x256_S1x1x128_0_4_128) (rowsAt X14 1 544 inb_S2x1088x128_S1x72x128_1_544_0) (parAt X5 7 128 inb_S1x16x256_S1x1x128_0_7_128) (rowsAt X14 1 580 inb_S2x1088x128_S1x72x128_1_580_0) (parAt X5 10 128 inb_S1x16x256_S1x1x128_0_10_128))
      (col3 (rowsAt X14 1 509 inb_S2x1088x128_S1x72x128_1_509_0) (parAt X5 5 128 inb_S1x16x256_S1x1x128_0_5_128) (rowsAt X14 1 545 inb_S2x1088x128_S1x72x128_1_545_0) (parAt X5 8 128 inb_S1x16x256_S1x1x128_0_8_128) (rowsAt X14 1 581 inb_S2x1088x128_S1x72x128_1_581_0) (parAt X5 11 128 inb_S1x16x256_S1x1x128_0_11_128)) (parAt X5 2 128 inb_S1x16x256_S1x1x128_0_2_128))

/-- Block 8 of the convolution. -/
def hgB8 (X14 : S2x1088x128.Idx → Elt F .f32) (X5 : S1x16x256.Idx → Elt F .f32) : FVec F S72x128 .f32 :=
  hgv (hcv (col3 (rowsAt X14 0 579 inb_S2x1088x128_S1x72x128_0_579_0) (parAt X5 3 0 inb_S1x16x256_S1x1x128_0_3_0) (rowsAt X14 0 615 inb_S2x1088x128_S1x72x128_0_615_0) (parAt X5 6 0 inb_S1x16x256_S1x1x128_0_6_0) (rowsAt X14 0 651 inb_S2x1088x128_S1x72x128_0_651_0) (parAt X5 9 0 inb_S1x16x256_S1x1x128_0_9_0))
      (col3 (rowsAt X14 0 580 inb_S2x1088x128_S1x72x128_0_580_0) (parAt X5 4 0 inb_S1x16x256_S1x1x128_0_4_0) (rowsAt X14 0 616 inb_S2x1088x128_S1x72x128_0_616_0) (parAt X5 7 0 inb_S1x16x256_S1x1x128_0_7_0) (rowsAt X14 0 652 inb_S2x1088x128_S1x72x128_0_652_0) (parAt X5 10 0 inb_S1x16x256_S1x1x128_0_10_0))
      (col3 (rowsAt X14 0 581 inb_S2x1088x128_S1x72x128_0_581_0) (parAt X5 5 0 inb_S1x16x256_S1x1x128_0_5_0) (rowsAt X14 0 617 inb_S2x1088x128_S1x72x128_0_617_0) (parAt X5 8 0 inb_S1x16x256_S1x1x128_0_8_0) (rowsAt X14 0 653 inb_S2x1088x128_S1x72x128_0_653_0) (parAt X5 11 0 inb_S1x16x256_S1x1x128_0_11_0)) (parAt X5 2 0 inb_S1x16x256_S1x1x128_0_2_0))
    (hcv (col3 (rowsAt X14 1 579 inb_S2x1088x128_S1x72x128_1_579_0) (parAt X5 3 128 inb_S1x16x256_S1x1x128_0_3_128) (rowsAt X14 1 615 inb_S2x1088x128_S1x72x128_1_615_0) (parAt X5 6 128 inb_S1x16x256_S1x1x128_0_6_128) (rowsAt X14 1 651 inb_S2x1088x128_S1x72x128_1_651_0) (parAt X5 9 128 inb_S1x16x256_S1x1x128_0_9_128))
      (col3 (rowsAt X14 1 580 inb_S2x1088x128_S1x72x128_1_580_0) (parAt X5 4 128 inb_S1x16x256_S1x1x128_0_4_128) (rowsAt X14 1 616 inb_S2x1088x128_S1x72x128_1_616_0) (parAt X5 7 128 inb_S1x16x256_S1x1x128_0_7_128) (rowsAt X14 1 652 inb_S2x1088x128_S1x72x128_1_652_0) (parAt X5 10 128 inb_S1x16x256_S1x1x128_0_10_128))
      (col3 (rowsAt X14 1 581 inb_S2x1088x128_S1x72x128_1_581_0) (parAt X5 5 128 inb_S1x16x256_S1x1x128_0_5_128) (rowsAt X14 1 617 inb_S2x1088x128_S1x72x128_1_617_0) (parAt X5 8 128 inb_S1x16x256_S1x1x128_0_8_128) (rowsAt X14 1 653 inb_S2x1088x128_S1x72x128_1_653_0) (parAt X5 11 128 inb_S1x16x256_S1x1x128_0_11_128)) (parAt X5 2 128 inb_S1x16x256_S1x1x128_0_2_128))

/-- Block 9 of the convolution. -/
def hgB9 (X14 : S2x1088x128.Idx → Elt F .f32) (X5 : S1x16x256.Idx → Elt F .f32) : FVec F S72x128 .f32 :=
  hgv (hcv (col3 (rowsAt X14 0 651 inb_S2x1088x128_S1x72x128_0_651_0) (parAt X5 3 0 inb_S1x16x256_S1x1x128_0_3_0) (rowsAt X14 0 687 inb_S2x1088x128_S1x72x128_0_687_0) (parAt X5 6 0 inb_S1x16x256_S1x1x128_0_6_0) (rowsAt X14 0 723 inb_S2x1088x128_S1x72x128_0_723_0) (parAt X5 9 0 inb_S1x16x256_S1x1x128_0_9_0))
      (col3 (rowsAt X14 0 652 inb_S2x1088x128_S1x72x128_0_652_0) (parAt X5 4 0 inb_S1x16x256_S1x1x128_0_4_0) (rowsAt X14 0 688 inb_S2x1088x128_S1x72x128_0_688_0) (parAt X5 7 0 inb_S1x16x256_S1x1x128_0_7_0) (rowsAt X14 0 724 inb_S2x1088x128_S1x72x128_0_724_0) (parAt X5 10 0 inb_S1x16x256_S1x1x128_0_10_0))
      (col3 (rowsAt X14 0 653 inb_S2x1088x128_S1x72x128_0_653_0) (parAt X5 5 0 inb_S1x16x256_S1x1x128_0_5_0) (rowsAt X14 0 689 inb_S2x1088x128_S1x72x128_0_689_0) (parAt X5 8 0 inb_S1x16x256_S1x1x128_0_8_0) (rowsAt X14 0 725 inb_S2x1088x128_S1x72x128_0_725_0) (parAt X5 11 0 inb_S1x16x256_S1x1x128_0_11_0)) (parAt X5 2 0 inb_S1x16x256_S1x1x128_0_2_0))
    (hcv (col3 (rowsAt X14 1 651 inb_S2x1088x128_S1x72x128_1_651_0) (parAt X5 3 128 inb_S1x16x256_S1x1x128_0_3_128) (rowsAt X14 1 687 inb_S2x1088x128_S1x72x128_1_687_0) (parAt X5 6 128 inb_S1x16x256_S1x1x128_0_6_128) (rowsAt X14 1 723 inb_S2x1088x128_S1x72x128_1_723_0) (parAt X5 9 128 inb_S1x16x256_S1x1x128_0_9_128))
      (col3 (rowsAt X14 1 652 inb_S2x1088x128_S1x72x128_1_652_0) (parAt X5 4 128 inb_S1x16x256_S1x1x128_0_4_128) (rowsAt X14 1 688 inb_S2x1088x128_S1x72x128_1_688_0) (parAt X5 7 128 inb_S1x16x256_S1x1x128_0_7_128) (rowsAt X14 1 724 inb_S2x1088x128_S1x72x128_1_724_0) (parAt X5 10 128 inb_S1x16x256_S1x1x128_0_10_128))
      (col3 (rowsAt X14 1 653 inb_S2x1088x128_S1x72x128_1_653_0) (parAt X5 5 128 inb_S1x16x256_S1x1x128_0_5_128) (rowsAt X14 1 689 inb_S2x1088x128_S1x72x128_1_689_0) (parAt X5 8 128 inb_S1x16x256_S1x1x128_0_8_128) (rowsAt X14 1 725 inb_S2x1088x128_S1x72x128_1_725_0) (parAt X5 11 128 inb_S1x16x256_S1x1x128_0_11_128)) (parAt X5 2 128 inb_S1x16x256_S1x1x128_0_2_128))

/-- Block 10 of the convolution. -/
def hgB10 (X14 : S2x1088x128.Idx → Elt F .f32) (X5 : S1x16x256.Idx → Elt F .f32) : FVec F S72x128 .f32 :=
  hgv (hcv (col3 (rowsAt X14 0 723 inb_S2x1088x128_S1x72x128_0_723_0) (parAt X5 3 0 inb_S1x16x256_S1x1x128_0_3_0) (rowsAt X14 0 759 inb_S2x1088x128_S1x72x128_0_759_0) (parAt X5 6 0 inb_S1x16x256_S1x1x128_0_6_0) (rowsAt X14 0 795 inb_S2x1088x128_S1x72x128_0_795_0) (parAt X5 9 0 inb_S1x16x256_S1x1x128_0_9_0))
      (col3 (rowsAt X14 0 724 inb_S2x1088x128_S1x72x128_0_724_0) (parAt X5 4 0 inb_S1x16x256_S1x1x128_0_4_0) (rowsAt X14 0 760 inb_S2x1088x128_S1x72x128_0_760_0) (parAt X5 7 0 inb_S1x16x256_S1x1x128_0_7_0) (rowsAt X14 0 796 inb_S2x1088x128_S1x72x128_0_796_0) (parAt X5 10 0 inb_S1x16x256_S1x1x128_0_10_0))
      (col3 (rowsAt X14 0 725 inb_S2x1088x128_S1x72x128_0_725_0) (parAt X5 5 0 inb_S1x16x256_S1x1x128_0_5_0) (rowsAt X14 0 761 inb_S2x1088x128_S1x72x128_0_761_0) (parAt X5 8 0 inb_S1x16x256_S1x1x128_0_8_0) (rowsAt X14 0 797 inb_S2x1088x128_S1x72x128_0_797_0) (parAt X5 11 0 inb_S1x16x256_S1x1x128_0_11_0)) (parAt X5 2 0 inb_S1x16x256_S1x1x128_0_2_0))
    (hcv (col3 (rowsAt X14 1 723 inb_S2x1088x128_S1x72x128_1_723_0) (parAt X5 3 128 inb_S1x16x256_S1x1x128_0_3_128) (rowsAt X14 1 759 inb_S2x1088x128_S1x72x128_1_759_0) (parAt X5 6 128 inb_S1x16x256_S1x1x128_0_6_128) (rowsAt X14 1 795 inb_S2x1088x128_S1x72x128_1_795_0) (parAt X5 9 128 inb_S1x16x256_S1x1x128_0_9_128))
      (col3 (rowsAt X14 1 724 inb_S2x1088x128_S1x72x128_1_724_0) (parAt X5 4 128 inb_S1x16x256_S1x1x128_0_4_128) (rowsAt X14 1 760 inb_S2x1088x128_S1x72x128_1_760_0) (parAt X5 7 128 inb_S1x16x256_S1x1x128_0_7_128) (rowsAt X14 1 796 inb_S2x1088x128_S1x72x128_1_796_0) (parAt X5 10 128 inb_S1x16x256_S1x1x128_0_10_128))
      (col3 (rowsAt X14 1 725 inb_S2x1088x128_S1x72x128_1_725_0) (parAt X5 5 128 inb_S1x16x256_S1x1x128_0_5_128) (rowsAt X14 1 761 inb_S2x1088x128_S1x72x128_1_761_0) (parAt X5 8 128 inb_S1x16x256_S1x1x128_0_8_128) (rowsAt X14 1 797 inb_S2x1088x128_S1x72x128_1_797_0) (parAt X5 11 128 inb_S1x16x256_S1x1x128_0_11_128)) (parAt X5 2 128 inb_S1x16x256_S1x1x128_0_2_128))

/-- Block 11 of the convolution. -/
def hgB11 (X14 : S2x1088x128.Idx → Elt F .f32) (X5 : S1x16x256.Idx → Elt F .f32) : FVec F S72x128 .f32 :=
  hgv (hcv (col3 (rowsAt X14 0 795 inb_S2x1088x128_S1x72x128_0_795_0) (parAt X5 3 0 inb_S1x16x256_S1x1x128_0_3_0) (rowsAt X14 0 831 inb_S2x1088x128_S1x72x128_0_831_0) (parAt X5 6 0 inb_S1x16x256_S1x1x128_0_6_0) (rowsAt X14 0 867 inb_S2x1088x128_S1x72x128_0_867_0) (parAt X5 9 0 inb_S1x16x256_S1x1x128_0_9_0))
      (col3 (rowsAt X14 0 796 inb_S2x1088x128_S1x72x128_0_796_0) (parAt X5 4 0 inb_S1x16x256_S1x1x128_0_4_0) (rowsAt X14 0 832 inb_S2x1088x128_S1x72x128_0_832_0) (parAt X5 7 0 inb_S1x16x256_S1x1x128_0_7_0) (rowsAt X14 0 868 inb_S2x1088x128_S1x72x128_0_868_0) (parAt X5 10 0 inb_S1x16x256_S1x1x128_0_10_0))
      (col3 (rowsAt X14 0 797 inb_S2x1088x128_S1x72x128_0_797_0) (parAt X5 5 0 inb_S1x16x256_S1x1x128_0_5_0) (rowsAt X14 0 833 inb_S2x1088x128_S1x72x128_0_833_0) (parAt X5 8 0 inb_S1x16x256_S1x1x128_0_8_0) (rowsAt X14 0 869 inb_S2x1088x128_S1x72x128_0_869_0) (parAt X5 11 0 inb_S1x16x256_S1x1x128_0_11_0)) (parAt X5 2 0 inb_S1x16x256_S1x1x128_0_2_0))
    (hcv (col3 (rowsAt X14 1 795 inb_S2x1088x128_S1x72x128_1_795_0) (parAt X5 3 128 inb_S1x16x256_S1x1x128_0_3_128) (rowsAt X14 1 831 inb_S2x1088x128_S1x72x128_1_831_0) (parAt X5 6 128 inb_S1x16x256_S1x1x128_0_6_128) (rowsAt X14 1 867 inb_S2x1088x128_S1x72x128_1_867_0) (parAt X5 9 128 inb_S1x16x256_S1x1x128_0_9_128))
      (col3 (rowsAt X14 1 796 inb_S2x1088x128_S1x72x128_1_796_0) (parAt X5 4 128 inb_S1x16x256_S1x1x128_0_4_128) (rowsAt X14 1 832 inb_S2x1088x128_S1x72x128_1_832_0) (parAt X5 7 128 inb_S1x16x256_S1x1x128_0_7_128) (rowsAt X14 1 868 inb_S2x1088x128_S1x72x128_1_868_0) (parAt X5 10 128 inb_S1x16x256_S1x1x128_0_10_128))
      (col3 (rowsAt X14 1 797 inb_S2x1088x128_S1x72x128_1_797_0) (parAt X5 5 128 inb_S1x16x256_S1x1x128_0_5_128) (rowsAt X14 1 833 inb_S2x1088x128_S1x72x128_1_833_0) (parAt X5 8 128 inb_S1x16x256_S1x1x128_0_8_128) (rowsAt X14 1 869 inb_S2x1088x128_S1x72x128_1_869_0) (parAt X5 11 128 inb_S1x16x256_S1x1x128_0_11_128)) (parAt X5 2 128 inb_S1x16x256_S1x1x128_0_2_128))

/-- Block 12 of the convolution. -/
def hgB12 (X14 : S2x1088x128.Idx → Elt F .f32) (X5 : S1x16x256.Idx → Elt F .f32) : FVec F S72x128 .f32 :=
  hgv (hcv (col3 (rowsAt X14 0 867 inb_S2x1088x128_S1x72x128_0_867_0) (parAt X5 3 0 inb_S1x16x256_S1x1x128_0_3_0) (rowsAt X14 0 903 inb_S2x1088x128_S1x72x128_0_903_0) (parAt X5 6 0 inb_S1x16x256_S1x1x128_0_6_0) (rowsAt X14 0 939 inb_S2x1088x128_S1x72x128_0_939_0) (parAt X5 9 0 inb_S1x16x256_S1x1x128_0_9_0))
      (col3 (rowsAt X14 0 868 inb_S2x1088x128_S1x72x128_0_868_0) (parAt X5 4 0 inb_S1x16x256_S1x1x128_0_4_0) (rowsAt X14 0 904 inb_S2x1088x128_S1x72x128_0_904_0) (parAt X5 7 0 inb_S1x16x256_S1x1x128_0_7_0) (rowsAt X14 0 940 inb_S2x1088x128_S1x72x128_0_940_0) (parAt X5 10 0 inb_S1x16x256_S1x1x128_0_10_0))
      (col3 (rowsAt X14 0 869 inb_S2x1088x128_S1x72x128_0_869_0) (parAt X5 5 0 inb_S1x16x256_S1x1x128_0_5_0) (rowsAt X14 0 905 inb_S2x1088x128_S1x72x128_0_905_0) (parAt X5 8 0 inb_S1x16x256_S1x1x128_0_8_0) (rowsAt X14 0 941 inb_S2x1088x128_S1x72x128_0_941_0) (parAt X5 11 0 inb_S1x16x256_S1x1x128_0_11_0)) (parAt X5 2 0 inb_S1x16x256_S1x1x128_0_2_0))
    (hcv (col3 (rowsAt X14 1 867 inb_S2x1088x128_S1x72x128_1_867_0) (parAt X5 3 128 inb_S1x16x256_S1x1x128_0_3_128) (rowsAt X14 1 903 inb_S2x1088x128_S1x72x128_1_903_0) (parAt X5 6 128 inb_S1x16x256_S1x1x128_0_6_128) (rowsAt X14 1 939 inb_S2x1088x128_S1x72x128_1_939_0) (parAt X5 9 128 inb_S1x16x256_S1x1x128_0_9_128))
      (col3 (rowsAt X14 1 868 inb_S2x1088x128_S1x72x128_1_868_0) (parAt X5 4 128 inb_S1x16x256_S1x1x128_0_4_128) (rowsAt X14 1 904 inb_S2x1088x128_S1x72x128_1_904_0) (parAt X5 7 128 inb_S1x16x256_S1x1x128_0_7_128) (rowsAt X14 1 940 inb_S2x1088x128_S1x72x128_1_940_0) (parAt X5 10 128 inb_S1x16x256_S1x1x128_0_10_128))
      (col3 (rowsAt X14 1 869 inb_S2x1088x128_S1x72x128_1_869_0) (parAt X5 5 128 inb_S1x16x256_S1x1x128_0_5_128) (rowsAt X14 1 905 inb_S2x1088x128_S1x72x128_1_905_0) (parAt X5 8 128 inb_S1x16x256_S1x1x128_0_8_128) (rowsAt X14 1 941 inb_S2x1088x128_S1x72x128_1_941_0) (parAt X5 11 128 inb_S1x16x256_S1x1x128_0_11_128)) (parAt X5 2 128 inb_S1x16x256_S1x1x128_0_2_128))

/-- Block 13 of the convolution. -/
def hgB13 (X14 : S2x1088x128.Idx → Elt F .f32) (X5 : S1x16x256.Idx → Elt F .f32) : FVec F S72x128 .f32 :=
  hgv (hcv (col3 (rowsAt X14 0 939 inb_S2x1088x128_S1x72x128_0_939_0) (parAt X5 3 0 inb_S1x16x256_S1x1x128_0_3_0) (rowsAt X14 0 975 inb_S2x1088x128_S1x72x128_0_975_0) (parAt X5 6 0 inb_S1x16x256_S1x1x128_0_6_0) (rowsAt X14 0 1011 inb_S2x1088x128_S1x72x128_0_1011_0) (parAt X5 9 0 inb_S1x16x256_S1x1x128_0_9_0))
      (col3 (rowsAt X14 0 940 inb_S2x1088x128_S1x72x128_0_940_0) (parAt X5 4 0 inb_S1x16x256_S1x1x128_0_4_0) (rowsAt X14 0 976 inb_S2x1088x128_S1x72x128_0_976_0) (parAt X5 7 0 inb_S1x16x256_S1x1x128_0_7_0) (rowsAt X14 0 1012 inb_S2x1088x128_S1x72x128_0_1012_0) (parAt X5 10 0 inb_S1x16x256_S1x1x128_0_10_0))
      (col3 (rowsAt X14 0 941 inb_S2x1088x128_S1x72x128_0_941_0) (parAt X5 5 0 inb_S1x16x256_S1x1x128_0_5_0) (rowsAt X14 0 977 inb_S2x1088x128_S1x72x128_0_977_0) (parAt X5 8 0 inb_S1x16x256_S1x1x128_0_8_0) (rowsAt X14 0 1013 inb_S2x1088x128_S1x72x128_0_1013_0) (parAt X5 11 0 inb_S1x16x256_S1x1x128_0_11_0)) (parAt X5 2 0 inb_S1x16x256_S1x1x128_0_2_0))
    (hcv (col3 (rowsAt X14 1 939 inb_S2x1088x128_S1x72x128_1_939_0) (parAt X5 3 128 inb_S1x16x256_S1x1x128_0_3_128) (rowsAt X14 1 975 inb_S2x1088x128_S1x72x128_1_975_0) (parAt X5 6 128 inb_S1x16x256_S1x1x128_0_6_128) (rowsAt X14 1 1011 inb_S2x1088x128_S1x72x128_1_1011_0) (parAt X5 9 128 inb_S1x16x256_S1x1x128_0_9_128))
      (col3 (rowsAt X14 1 940 inb_S2x1088x128_S1x72x128_1_940_0) (parAt X5 4 128 inb_S1x16x256_S1x1x128_0_4_128) (rowsAt X14 1 976 inb_S2x1088x128_S1x72x128_1_976_0) (parAt X5 7 128 inb_S1x16x256_S1x1x128_0_7_128) (rowsAt X14 1 1012 inb_S2x1088x128_S1x72x128_1_1012_0) (parAt X5 10 128 inb_S1x16x256_S1x1x128_0_10_128))
      (col3 (rowsAt X14 1 941 inb_S2x1088x128_S1x72x128_1_941_0) (parAt X5 5 128 inb_S1x16x256_S1x1x128_0_5_128) (rowsAt X14 1 977 inb_S2x1088x128_S1x72x128_1_977_0) (parAt X5 8 128 inb_S1x16x256_S1x1x128_0_8_128) (rowsAt X14 1 1013 inb_S2x1088x128_S1x72x128_1_1013_0) (parAt X5 11 128 inb_S1x16x256_S1x1x128_0_11_128)) (parAt X5 2 128 inb_S1x16x256_S1x1x128_0_2_128))

/-- The stores of one point's activations, over all rows of both halves. -/
def upL (X2 : S1x1008x2240.Idx → Elt F .fp8e4m3) (X3 : S1x1008x128.Idx → Elt F .f32) (X4 : S1x2240x256.Idx → Elt F .fp8e4m3) (X5 : S1x16x256.Idx → Elt F .f32) : Pcs (F := F) S2x1088x128 .f32 :=
  [⟨Rect.unit (s := S2x1088x128) ![1, 808, 0] S1x240x128.size inb_S2x1088x128_S1x240x128_1_808_0, (upst240 (upv240 128 slices_S240x256_o0_128_S240x128 (fun x => X3 ((Rect.unit (s := S1x1008x128) ![0, 768, 0] S1x240x128.size inb_S1x1008x128_S1x240x128_0_768_0).toLoadRect.idx x))
        (fun x => X2 ((Rect.unit (s := S1x1008x2240) ![0, 768, 0] S1x240x2240.size inb_S1x1008x2240_S1x240x2240_0_768_0).toLoadRect.idx x))
        (fun x => X4 ((Rect.unit (s := S1x2240x256) ![0, 0, 0] S1x2240x256.size inb_S1x2240x256_S1x2240x256_0_0_0).toLoadRect.idx x))
        (parAt X5 0 128 inb_S1x16x256_S1x1x128_0_0_128) (parAt X5 1 128 inb_S1x16x256_S1x1x128_0_1_128)))⟩,
    ⟨Rect.unit (s := S2x1088x128) ![0, 808, 0] S1x240x128.size inb_S2x1088x128_S1x240x128_0_808_0, (upst240 (upv240 0 slices_S240x256_o0_0_S240x128 (fun x => X3 ((Rect.unit (s := S1x1008x128) ![0, 768, 0] S1x240x128.size inb_S1x1008x128_S1x240x128_0_768_0).toLoadRect.idx x))
        (fun x => X2 ((Rect.unit (s := S1x1008x2240) ![0, 768, 0] S1x240x2240.size inb_S1x1008x2240_S1x240x2240_0_768_0).toLoadRect.idx x))
        (fun x => X4 ((Rect.unit (s := S1x2240x256) ![0, 0, 0] S1x2240x256.size inb_S1x2240x256_S1x2240x256_0_0_0).toLoadRect.idx x))
        (parAt X5 0 0 inb_S1x16x256_S1x1x128_0_0_0) (parAt X5 1 0 inb_S1x16x256_S1x1x128_0_1_0)))⟩,
    ⟨Rect.unit (s := S2x1088x128) ![1, 552, 0] S1x256x128.size inb_S2x1088x128_S1x256x128_1_552_0, (upst256 (upv256 128 slices_S256x256_o0_128_S256x128 (fun x => X3 ((Rect.unit (s := S1x1008x128) ![0, 512, 0] S1x256x128.size inb_S1x1008x128_S1x256x128_0_512_0).toLoadRect.idx x))
        (fun x => X2 ((Rect.unit (s := S1x1008x2240) ![0, 512, 0] S1x256x2240.size inb_S1x1008x2240_S1x256x2240_0_512_0).toLoadRect.idx x))
        (fun x => X4 ((Rect.unit (s := S1x2240x256) ![0, 0, 0] S1x2240x256.size inb_S1x2240x256_S1x2240x256_0_0_0).toLoadRect.idx x))
        (parAt X5 0 128 inb_S1x16x256_S1x1x128_0_0_128) (parAt X5 1 128 inb_S1x16x256_S1x1x128_0_1_128)))⟩,
    ⟨Rect.unit (s := S2x1088x128) ![0, 552, 0] S1x256x128.size inb_S2x1088x128_S1x256x128_0_552_0, (upst256 (upv256 0 slices_S256x256_o0_0_S256x128 (fun x => X3 ((Rect.unit (s := S1x1008x128) ![0, 512, 0] S1x256x128.size inb_S1x1008x128_S1x256x128_0_512_0).toLoadRect.idx x))
        (fun x => X2 ((Rect.unit (s := S1x1008x2240) ![0, 512, 0] S1x256x2240.size inb_S1x1008x2240_S1x256x2240_0_512_0).toLoadRect.idx x))
        (fun x => X4 ((Rect.unit (s := S1x2240x256) ![0, 0, 0] S1x2240x256.size inb_S1x2240x256_S1x2240x256_0_0_0).toLoadRect.idx x))
        (parAt X5 0 0 inb_S1x16x256_S1x1x128_0_0_0) (parAt X5 1 0 inb_S1x16x256_S1x1x128_0_1_0)))⟩,
    ⟨Rect.unit (s := S2x1088x128) ![1, 296, 0] S1x256x128.size inb_S2x1088x128_S1x256x128_1_296_0, (upst256 (upv256 128 slices_S256x256_o0_128_S256x128 (fun x => X3 ((Rect.unit (s := S1x1008x128) ![0, 256, 0] S1x256x128.size inb_S1x1008x128_S1x256x128_0_256_0).toLoadRect.idx x))
        (fun x => X2 ((Rect.unit (s := S1x1008x2240) ![0, 256, 0] S1x256x2240.size inb_S1x1008x2240_S1x256x2240_0_256_0).toLoadRect.idx x))
        (fun x => X4 ((Rect.unit (s := S1x2240x256) ![0, 0, 0] S1x2240x256.size inb_S1x2240x256_S1x2240x256_0_0_0).toLoadRect.idx x))
        (parAt X5 0 128 inb_S1x16x256_S1x1x128_0_0_128) (parAt X5 1 128 inb_S1x16x256_S1x1x128_0_1_128)))⟩,
    ⟨Rect.unit (s := S2x1088x128) ![0, 296, 0] S1x256x128.size inb_S2x1088x128_S1x256x128_0_296_0, (upst256 (upv256 0 slices_S256x256_o0_0_S256x128 (fun x => X3 ((Rect.unit (s := S1x1008x128) ![0, 256, 0] S1x256x128.size inb_S1x1008x128_S1x256x128_0_256_0).toLoadRect.idx x))
        (fun x => X2 ((Rect.unit (s := S1x1008x2240) ![0, 256, 0] S1x256x2240.size inb_S1x1008x2240_S1x256x2240_0_256_0).toLoadRect.idx x))
        (fun x => X4 ((Rect.unit (s := S1x2240x256) ![0, 0, 0] S1x2240x256.size inb_S1x2240x256_S1x2240x256_0_0_0).toLoadRect.idx x))
        (parAt X5 0 0 inb_S1x16x256_S1x1x128_0_0_0) (parAt X5 1 0 inb_S1x16x256_S1x1x128_0_1_0)))⟩,
    ⟨Rect.unit (s := S2x1088x128) ![1, 40, 0] S1x256x128.size inb_S2x1088x128_S1x256x128_1_40_0, (upst256 (upv256 128 slices_S256x256_o0_128_S256x128 (fun x => X3 ((Rect.unit (s := S1x1008x128) ![0, 0, 0] S1x256x128.size inb_S1x1008x128_S1x256x128_0_0_0).toLoadRect.idx x))
        (fun x => X2 ((Rect.unit (s := S1x1008x2240) ![0, 0, 0] S1x256x2240.size inb_S1x1008x2240_S1x256x2240_0_0_0).toLoadRect.idx x))
        (fun x => X4 ((Rect.unit (s := S1x2240x256) ![0, 0, 0] S1x2240x256.size inb_S1x2240x256_S1x2240x256_0_0_0).toLoadRect.idx x))
        (parAt X5 0 128 inb_S1x16x256_S1x1x128_0_0_128) (parAt X5 1 128 inb_S1x16x256_S1x1x128_0_1_128)))⟩,
    ⟨Rect.unit (s := S2x1088x128) ![0, 40, 0] S1x256x128.size inb_S2x1088x128_S1x256x128_0_40_0, (upst256 (upv256 0 slices_S256x256_o0_0_S256x128 (fun x => X3 ((Rect.unit (s := S1x1008x128) ![0, 0, 0] S1x256x128.size inb_S1x1008x128_S1x256x128_0_0_0).toLoadRect.idx x))
        (fun x => X2 ((Rect.unit (s := S1x1008x2240) ![0, 0, 0] S1x256x2240.size inb_S1x1008x2240_S1x256x2240_0_0_0).toLoadRect.idx x))
        (fun x => X4 ((Rect.unit (s := S1x2240x256) ![0, 0, 0] S1x2240x256.size inb_S1x2240x256_S1x2240x256_0_0_0).toLoadRect.idx x))
        (parAt X5 0 0 inb_S1x16x256_S1x1x128_0_0_0) (parAt X5 1 0 inb_S1x16x256_S1x1x128_0_1_0)))⟩]

/-- The stores of one point's gated activations. -/
def hgL (i : grid0.Coords) (h2 : k0_cond2 i = 1#1) (X14 : S2x1088x128.Idx → Elt F .f32) (X5 : S1x16x256.Idx → Elt F .f32) : Pcs (F := F) S44x1024x128 .f32 :=
  [⟨Rect.unit (s := S44x1024x128) (k0_off14 i) S1x72x128.size (k0_off14_inb i h2), shapeCast S1x72x128 (hgB13 X14 X5) shapeCasts_S72x128_S1x72x128⟩,
    ⟨Rect.unit (s := S44x1024x128) (k0_off13 i) S1x72x128.size (k0_off13_inb i h2), shapeCast S1x72x128 (hgB12 X14 X5) shapeCasts_S72x128_S1x72x128⟩,
    ⟨Rect.unit (s := S44x1024x128) (k0_off12 i) S1x72x128.size (k0_off12_inb i h2), shapeCast S1x72x128 (hgB11 X14 X5) shapeCasts_S72x128_S1x72x128⟩,
    ⟨Rect.unit (s := S44x1024x128) (k0_off11 i) S1x72x128.size (k0_off11_inb i h2), shapeCast S1x72x128 (hgB10 X14 X5) shapeCasts_S72x128_S1x72x128⟩,
    ⟨Rect.unit (s := S44x1024x128) (k0_off10 i) S1x72x128.size (k0_off10_inb i h2), shapeCast S1x72x128 (hgB9 X14 X5) shapeCasts_S72x128_S1x72x128⟩,
    ⟨Rect.unit (s := S44x1024x128) (k0_off9 i) S1x72x128.size (k0_off9_inb i h2), shapeCast S1x72x128 (hgB8 X14 X5) shapeCasts_S72x128_S1x72x128⟩,
    ⟨Rect.unit (s := S44x1024x128) (k0_off8 i) S1x72x128.size (k0_off8_inb i h2), shapeCast S1x72x128 (hgB7 X14 X5) shapeCasts_S72x128_S1x72x128⟩,
    ⟨Rect.unit (s := S44x1024x128) (k0_off7 i) S1x72x128.size (k0_off7_inb i h2), shapeCast S1x72x128 (hgB6 X14 X5) shapeCasts_S72x128_S1x72x128⟩,
    ⟨Rect.unit (s := S44x1024x128) (k0_off6 i) S1x72x128.size (k0_off6_inb i h2), shapeCast S1x72x128 (hgB5 X14 X5) shapeCasts_S72x128_S1x72x128⟩,
    ⟨Rect.unit (s := S44x1024x128) (k0_off5 i) S1x72x128.size (k0_off5_inb i h2), shapeCast S1x72x128 (hgB4 X14 X5) shapeCasts_S72x128_S1x72x128⟩,
    ⟨Rect.unit (s := S44x1024x128) (k0_off4 i) S1x72x128.size (k0_off4_inb i h2), shapeCast S1x72x128 (hgB3 X14 X5) shapeCasts_S72x128_S1x72x128⟩,
    ⟨Rect.unit (s := S44x1024x128) (k0_off3 i) S1x72x128.size (k0_off3_inb i h2), shapeCast S1x72x128 (hgB2 X14 X5) shapeCasts_S72x128_S1x72x128⟩,
    ⟨Rect.unit (s := S44x1024x128) (k0_off2 i) S1x72x128.size (k0_off2_inb i h2), shapeCast S1x72x128 (hgB1 X14 X5) shapeCasts_S72x128_S1x72x128⟩,
    ⟨Rect.unit (s := S44x1024x128) (k0_off1 i) S1x72x128.size (k0_off1_inb i h2), shapeCast S1x72x128 (hgB0 X14 X5) shapeCasts_S72x128_S1x72x128⟩]

/-- The stores of one point's running maxima. -/
def amL (X14 : S2x1088x128.Idx → Elt F .f32) (X5 : S1x16x256.Idx → Elt F .f32) (X16 : S1024x128.Idx → Elt F .f32) : Pcs (F := F) S1024x128 .f32 :=
  [⟨Rect.unit (s := S1024x128) ![936, 0] S72x128.size inb_S1024x128_S72x128_936_0, amv (fun x => X16 ((Rect.unit (s := S1024x128) ![936, 0] S72x128.size inb_S1024x128_S72x128_936_0).toLoadRect.idx x)) (hgB13 X14 X5)⟩,
    ⟨Rect.unit (s := S1024x128) ![864, 0] S72x128.size inb_S1024x128_S72x128_864_0, amv (fun x => X16 ((Rect.unit (s := S1024x128) ![864, 0] S72x128.size inb_S1024x128_S72x128_864_0).toLoadRect.idx x)) (hgB12 X14 X5)⟩,
    ⟨Rect.unit (s := S1024x128) ![792, 0] S72x128.size inb_S1024x128_S72x128_792_0, amv (fun x => X16 ((Rect.unit (s := S1024x128) ![792, 0] S72x128.size inb_S1024x128_S72x128_792_0).toLoadRect.idx x)) (hgB11 X14 X5)⟩,
    ⟨Rect.unit (s := S1024x128) ![720, 0] S72x128.size inb_S1024x128_S72x128_720_0, amv (fun x => X16 ((Rect.unit (s := S1024x128) ![720, 0] S72x128.size inb_S1024x128_S72x128_720_0).toLoadRect.idx x)) (hgB10 X14 X5)⟩,
    ⟨Rect.unit (s := S1024x128) ![648, 0] S72x128.size inb_S1024x128_S72x128_648_0, amv (fun x => X16 ((Rect.unit (s := S1024x128) ![648, 0] S72x128.size inb_S1024x128_S72x128_648_0).toLoadRect.idx x)) (hgB9 X14 X5)⟩,
    ⟨Rect.unit (s := S1024x128) ![576, 0] S72x128.size inb_S1024x128_S72x128_576_0, amv (fun x => X16 ((Rect.unit (s := S1024x128) ![576, 0] S72x128.size inb_S1024x128_S72x128_576_0).toLoadRect.idx x)) (hgB8 X14 X5)⟩,
    ⟨Rect.unit (s := S1024x128) ![504, 0] S72x128.size inb_S1024x128_S72x128_504_0, amv (fun x => X16 ((Rect.unit (s := S1024x128) ![504, 0] S72x128.size inb_S1024x128_S72x128_504_0).toLoadRect.idx x)) (hgB7 X14 X5)⟩,
    ⟨Rect.unit (s := S1024x128) ![432, 0] S72x128.size inb_S1024x128_S72x128_432_0, amv (fun x => X16 ((Rect.unit (s := S1024x128) ![432, 0] S72x128.size inb_S1024x128_S72x128_432_0).toLoadRect.idx x)) (hgB6 X14 X5)⟩,
    ⟨Rect.unit (s := S1024x128) ![360, 0] S72x128.size inb_S1024x128_S72x128_360_0, amv (fun x => X16 ((Rect.unit (s := S1024x128) ![360, 0] S72x128.size inb_S1024x128_S72x128_360_0).toLoadRect.idx x)) (hgB5 X14 X5)⟩,
    ⟨Rect.unit (s := S1024x128) ![288, 0] S72x128.size inb_S1024x128_S72x128_288_0, amv (fun x => X16 ((Rect.unit (s := S1024x128) ![288, 0] S72x128.size inb_S1024x128_S72x128_288_0).toLoadRect.idx x)) (hgB4 X14 X5)⟩,
    ⟨Rect.unit (s := S1024x128) ![216, 0] S72x128.size inb_S1024x128_S72x128_216_0, amv (fun x => X16 ((Rect.unit (s := S1024x128) ![216, 0] S72x128.size inb_S1024x128_S72x128_216_0).toLoadRect.idx x)) (hgB3 X14 X5)⟩,
    ⟨Rect.unit (s := S1024x128) ![144, 0] S72x128.size inb_S1024x128_S72x128_144_0, amv (fun x => X16 ((Rect.unit (s := S1024x128) ![144, 0] S72x128.size inb_S1024x128_S72x128_144_0).toLoadRect.idx x)) (hgB2 X14 X5)⟩,
    ⟨Rect.unit (s := S1024x128) ![72, 0] S72x128.size inb_S1024x128_S72x128_72_0, amv (fun x => X16 ((Rect.unit (s := S1024x128) ![72, 0] S72x128.size inb_S1024x128_S72x128_72_0).toLoadRect.idx x)) (hgB1 X14 X5)⟩,
    ⟨Rect.unit (s := S1024x128) ![0, 0] S72x128.size inb_S1024x128_S72x128_0_0, amv (fun x => X16 ((Rect.unit (s := S1024x128) ![0, 0] S72x128.size inb_S1024x128_S72x128_0_0).toLoadRect.idx x)) (hgB0 X14 X5)⟩]

/-- The maxima of a row tile, as loaded. -/
def amAt (i : grid0.Coords) (h3 : k0_cond3 i = 1#1) (X16 : S1024x128.Idx → Elt F .f32) : Vec F S256x128 .f32 :=
  fun x => X16 ((Rect.unit (s := S1024x128) (k0_off15 i) S256x128.size (k0_off15_inb i h3)).toLoadRect.idx x)

/-- The stores of one row tile's codes. -/
def cdL (i : grid0.Coords) (h3 : k0_cond3 i = 1#1) (X15 : S44x1024x128.Idx → Elt F .f32) (X16 : S1024x128.Idx → Elt F .f32) : Pcs (F := F) S1x256x5600 .fp8e4m3 :=
  [⟨Rect.unit (s := S1x256x5600) ![0, 0, 5504] S1x256x96.size inb_S1x256x5600_S1x256x96_0_0_5504, shapeCast S1x256x96 (extractStridedSlice S256x96 ![0, 0] (codesv (k0_pay259 (amAt i h3 X16)) (fun x => X15 ((Rect.unit (s := S44x1024x128) (k0_off59 i) S1x256x128.size (k0_off59_inb i h3)).toLoadRect.idx x))) slices_S256x128_o0_0_S256x96) shapeCasts_S256x96_S1x256x96⟩,
    ⟨Rect.unit (s := S1x256x5600) ![0, 0, 5376] S1x256x128.size inb_S1x256x5600_S1x256x128_0_0_5376, shapeCast S1x256x128 (codesv (k0_pay259 (amAt i h3 X16)) (fun x => X15 ((Rect.unit (s := S44x1024x128) (k0_off58 i) S1x256x128.size (k0_off58_inb i h3)).toLoadRect.idx x))) shapeCasts_S256x128_S1x256x128⟩,
    ⟨Rect.unit (s := S1x256x5600) ![0, 0, 5248] S1x256x128.size inb_S1x256x5600_S1x256x128_0_0_5248, shapeCast S1x256x128 (codesv (k0_pay259 (amAt i h3 X16)) (fun x => X15 ((Rect.unit (s := S44x1024x128) (k0_off57 i) S1x256x128.size (k0_off57_inb i h3)).toLoadRect.idx x))) shapeCasts_S256x128_S1x256x128⟩,
    ⟨Rect.unit (s := S1x256x5600) ![0, 0, 5120] S1x256x128.size inb_S1x256x5600_S1x256x128_0_0_5120, shapeCast S1x256x128 (codesv (k0_pay259 (amAt i h3 X16)) (fun x => X15 ((Rect.unit (s := S44x1024x128) (k0_off56 i) S1x256x128.size (k0_off56_inb i h3)).toLoadRect.idx x))) shapeCasts_S256x128_S1x256x128⟩,
    ⟨Rect.unit (s := S1x256x5600) ![0, 0, 4992] S1x256x128.size inb_S1x256x5600_S1x256x128_0_0_4992, shapeCast S1x256x128 (codesv (k0_pay259 (amAt i h3 X16)) (fun x => X15 ((Rect.unit (s := S44x1024x128) (k0_off55 i) S1x256x128.size (k0_off55_inb i h3)).toLoadRect.idx x))) shapeCasts_S256x128_S1x256x128⟩,
    ⟨Rect.unit (s := S1x256x5600) ![0, 0, 4864] S1x256x128.size inb_S1x256x5600_S1x256x128_0_0_4864, shapeCast S1x256x128 (codesv (k0_pay259 (amAt i h3 X16)) (fun x => X15 ((Rect.unit (s := S44x1024x128) (k0_off54 i) S1x256x128.size (k0_off54_inb i h3)).toLoadRect.idx x))) shapeCasts_S256x128_S1x256x128⟩,
    ⟨Rect.unit (s := S1x256x5600) ![0, 0, 4736] S1x256x128.size inb_S1x256x5600_S1x256x128_0_0_4736, shapeCast S1x256x128 (codesv (k0_pay259 (amAt i h3 X16)) (fun x => X15 ((Rect.unit (s := S44x1024x128) (k0_off53 i) S1x256x128.size (k0_off53_inb i h3)).toLoadRect.idx x))) shapeCasts_S256x128_S1x256x128⟩,
    ⟨Rect.unit (s := S1x256x5600) ![0, 0, 4608] S1x256x128.size inb_S1x256x5600_S1x256x128_0_0_4608, shapeCast S1x256x128 (codesv (k0_pay259 (amAt i h3 X16)) (fun x => X15 ((Rect.unit (s := S44x1024x128) (k0_off52 i) S1x256x128.size (k0_off52_inb i h3)).toLoadRect.idx x))) shapeCasts_S256x128_S1x256x128⟩,
    ⟨Rect.unit (s := S1x256x5600) ![0, 0, 4480] S1x256x128.size inb_S1x256x5600_S1x256x128_0_0_4480, shapeCast S1x256x128 (codesv (k0_pay259 (amAt i h3 X16)) (fun x => X15 ((Rect.unit (s := S44x1024x128) (k0_off51 i) S1x256x128.size (k0_off51_inb i h3)).toLoadRect.idx x))) shapeCasts_S256x128_S1x256x128⟩,
    ⟨Rect.unit (s := S1x256x5600) ![0, 0, 4352] S1x256x128.size inb_S1x256x5600_S1x256x128_0_0_4352, shapeCast S1x256x128 (codesv (k0_pay259 (amAt i h3 X16)) (fun x => X15 ((Rect.unit (s := S44x1024x128) (k0_off50 i) S1x256x128.size (k0_off50_inb i h3)).toLoadRect.idx x))) shapeCasts_S256x128_S1x256x128⟩,
    ⟨Rect.unit (s := S1x256x5600) ![0, 0, 4224] S1x256x128.size inb_S1x256x5600_S1x256x128_0_0_4224, shapeCast S1x256x128 (codesv (k0_pay259 (amAt i h3 X16)) (fun x => X15 ((Rect.unit (s := S44x1024x128) (k0_off49 i) S1x256x128.size (k0_off49_inb i h3)).toLoadRect.idx x))) shapeCasts_S256x128_S1x256x128⟩,
    ⟨Rect.unit (s := S1x256x5600) ![0, 0, 4096] S1x256x128.size inb_S1x256x5600_S1x256x128_0_0_4096, shapeCast S1x256x128 (codesv (k0_pay259 (amAt i h3 X16)) (fun x => X15 ((Rect.unit (s := S44x1024x128) (k0_off48 i) S1x256x128.size (k0_off48_inb i h3)).toLoadRect.idx x))) shapeCasts_S256x128_S1x256x128⟩,
    ⟨Rect.unit (s := S1x256x5600) ![0, 0, 3968] S1x256x128.size inb_S1x256x5600_S1x256x128_0_0_3968, shapeCast S1x256x128 (codesv (k0_pay259 (amAt i h3 X16)) (fun x => X15 ((Rect.unit (s := S44x1024x128) (k0_off47 i) S1x256x128.size (k0_off47_inb i h3)).toLoadRect.idx x))) shapeCasts_S256x128_S1x256x128⟩,
    ⟨Rect.unit (s := S1x256x5600) ![0, 0, 3840] S1x256x128.size inb_S1x256x5600_S1x256x128_0_0_3840, shapeCast S1x256x128 (codesv (k0_pay259 (amAt i h3 X16)) (fun x => X15 ((Rect.unit (s := S44x1024x128) (k0_off46 i) S1x256x128.size (k0_off46_inb i h3)).toLoadRect.idx x))) shapeCasts_S256x128_S1x256x128⟩,
    ⟨Rect.unit (s := S1x256x5600) ![0, 0, 3712] S1x256x128.size inb_S1x256x5600_S1x256x128_0_0_3712, shapeCast S1x256x128 (codesv (k0_pay259 (amAt i h3 X16)) (fun x => X15 ((Rect.unit (s := S44x1024x128) (k0_off45 i) S1x256x128.size (k0_off45_inb i h3)).toLoadRect.idx x))) shapeCasts_S256x128_S1x256x128⟩,
    ⟨Rect.unit (s := S1x256x5600) ![0, 0, 3584] S1x256x128.size inb_S1x256x5600_S1x256x128_0_0_3584, shapeCast S1x256x128 (codesv (k0_pay259 (amAt i h3 X16)) (fun x => X15 ((Rect.unit (s := S44x1024x128) (k0_off44 i) S1x256x128.size (k0_off44_inb i h3)).toLoadRect.idx x))) shapeCasts_S256x128_S1x256x128⟩,
    ⟨Rect.unit (s := S1x256x5600) ![0, 0, 3456] S1x256x128.size inb_S1x256x5600_S1x256x128_0_0_3456, shapeCast S1x256x128 (codesv (k0_pay259 (amAt i h3 X16)) (fun x => X15 ((Rect.unit (s := S44x1024x128) (k0_off43 i) S1x256x128.size (k0_off43_inb i h3)).toLoadRect.idx x))) shapeCasts_S256x128_S1x256x128⟩,
    ⟨Rect.unit (s := S1x256x5600) ![0, 0, 3328] S1x256x128.size inb_S1x256x5600_S1x256x128_0_0_3328, shapeCast S1x256x128 (codesv (k0_pay259 (amAt i h3 X16)) (fun x => X15 ((Rect.unit (s := S44x1024x128) (k0_off42 i) S1x256x128.size (k0_off42_inb i h3)).toLoadRect.idx x))) shapeCasts_S256x128_S1x256x128⟩,
    ⟨Rect.unit (s := S1x256x5600) ![0, 0, 3200] S1x256x128.size inb_S1x256x5600_S1x256x128_0_0_3200, shapeCast S1x256x128 (codesv (k0_pay259 (amAt i h3 X16)) (fun x => X15 ((Rect.unit (s := S44x1024x128) (k0_off41 i) S1x256x128.size (k0_off41_inb i h3)).toLoadRect.idx x))) shapeCasts_S256x128_S1x256x128⟩,
    ⟨Rect.unit (s := S1x256x5600) ![0, 0, 3072] S1x256x128.size inb_S1x256x5600_S1x256x128_0_0_3072, shapeCast S1x256x128 (codesv (k0_pay259 (amAt i h3 X16)) (fun x => X15 ((Rect.unit (s := S44x1024x128) (k0_off40 i) S1x256x128.size (k0_off40_inb i h3)).toLoadRect.idx x))) shapeCasts_S256x128_S1x256x128⟩,
    ⟨Rect.unit (s := S1x256x5600) ![0, 0, 2944] S1x256x128.size inb_S1x256x5600_S1x256x128_0_0_2944, shapeCast S1x256x128 (codesv (k0_pay259 (amAt i h3 X16)) (fun x => X15 ((Rect.unit (s := S44x1024x128) (k0_off39 i) S1x256x128.size (k0_off39_inb i h3)).toLoadRect.idx x))) shapeCasts_S256x128_S1x256x128⟩,
    ⟨Rect.unit (s := S1x256x5600) ![0, 0, 2816] S1x256x128.size inb_S1x256x5600_S1x256x128_0_0_2816, shapeCast S1x256x128 (codesv (k0_pay259 (amAt i h3 X16)) (fun x => X15 ((Rect.unit (s := S44x1024x128) (k0_off38 i) S1x256x128.size (k0_off38_inb i h3)).toLoadRect.idx x))) shapeCasts_S256x128_S1x256x128⟩,
    ⟨Rect.unit (s := S1x256x5600) ![0, 0, 2688] S1x256x128.size inb_S1x256x5600_S1x256x128_0_0_2688, shapeCast S1x256x128 (codesv (k0_pay259 (amAt i h3 X16)) (fun x => X15 ((Rect.unit (s := S44x1024x128) (k0_off37 i) S1x256x128.size (k0_off37_inb i h3)).toLoadRect.idx x))) shapeCasts_S256x128_S1x256x128⟩,
    ⟨Rect.unit (s := S1x256x5600) ![0, 0, 2560] S1x256x128.size inb_S1x256x5600_S1x256x128_0_0_2560, shapeCast S1x256x128 (codesv (k0_pay259 (amAt i h3 X16)) (fun x => X15 ((Rect.unit (s := S44x1024x128) (k0_off36 i) S1x256x128.size (k0_off36_inb i h3)).toLoadRect.idx x))) shapeCasts_S256x128_S1x256x128⟩,
    ⟨Rect.unit (s := S1x256x5600) ![0, 0, 2432] S1x256x128.size inb_S1x256x5600_S1x256x128_0_0_2432, shapeCast S1x256x128 (codesv (k0_pay259 (amAt i h3 X16)) (fun x => X15 ((Rect.unit (s := S44x1024x128) (k0_off35 i) S1x256x128.size (k0_off35_inb i h3)).toLoadRect.idx x))) shapeCasts_S256x128_S1x256x128⟩,
    ⟨Rect.unit (s := S1x256x5600) ![0, 0, 2304] S1x256x128.size inb_S1x256x5600_S1x256x128_0_0_2304, shapeCast S1x256x128 (codesv (k0_pay259 (amAt i h3 X16)) (fun x => X15 ((Rect.unit (s := S44x1024x128) (k0_off34 i) S1x256x128.size (k0_off34_inb i h3)).toLoadRect.idx x))) shapeCasts_S256x128_S1x256x128⟩,
    ⟨Rect.unit (s := S1x256x5600) ![0, 0, 2176] S1x256x128.size inb_S1x256x5600_S1x256x128_0_0_2176, shapeCast S1x256x128 (codesv (k0_pay259 (amAt i h3 X16)) (fun x => X15 ((Rect.unit (s := S44x1024x128) (k0_off33 i) S1x256x128.size (k0_off33_inb i h3)).toLoadRect.idx x))) shapeCasts_S256x128_S1x256x128⟩,
    ⟨Rect.unit (s := S1x256x5600) ![0, 0, 2048] S1x256x128.size inb_S1x256x5600_S1x256x128_0_0_2048, shapeCast S1x256x128 (codesv (k0_pay259 (amAt i h3 X16)) (fun x => X15 ((Rect.unit (s := S44x1024x128) (k0_off32 i) S1x256x128.size (k0_off32_inb i h3)).toLoadRect.idx x))) shapeCasts_S256x128_S1x256x128⟩,
    ⟨Rect.unit (s := S1x256x5600) ![0, 0, 1920] S1x256x128.size inb_S1x256x5600_S1x256x128_0_0_1920, shapeCast S1x256x128 (codesv (k0_pay259 (amAt i h3 X16)) (fun x => X15 ((Rect.unit (s := S44x1024x128) (k0_off31 i) S1x256x128.size (k0_off31_inb i h3)).toLoadRect.idx x))) shapeCasts_S256x128_S1x256x128⟩,
    ⟨Rect.unit (s := S1x256x5600) ![0, 0, 1792] S1x256x128.size inb_S1x256x5600_S1x256x128_0_0_1792, shapeCast S1x256x128 (codesv (k0_pay259 (amAt i h3 X16)) (fun x => X15 ((Rect.unit (s := S44x1024x128) (k0_off30 i) S1x256x128.size (k0_off30_inb i h3)).toLoadRect.idx x))) shapeCasts_S256x128_S1x256x128⟩,
    ⟨Rect.unit (s := S1x256x5600) ![0, 0, 1664] S1x256x128.size inb_S1x256x5600_S1x256x128_0_0_1664, shapeCast S1x256x128 (codesv (k0_pay259 (amAt i h3 X16)) (fun x => X15 ((Rect.unit (s := S44x1024x128) (k0_off29 i) S1x256x128.size (k0_off29_inb i h3)).toLoadRect.idx x))) shapeCasts_S256x128_S1x256x128⟩,
    ⟨Rect.unit (s := S1x256x5600) ![0, 0, 1536] S1x256x128.size inb_S1x256x5600_S1x256x128_0_0_1536, shapeCast S1x256x128 (codesv (k0_pay259 (amAt i h3 X16)) (fun x => X15 ((Rect.unit (s := S44x1024x128) (k0_off28 i) S1x256x128.size (k0_off28_inb i h3)).toLoadRect.idx x))) shapeCasts_S256x128_S1x256x128⟩,
    ⟨Rect.unit (s := S1x256x5600) ![0, 0, 1408] S1x256x128.size inb_S1x256x5600_S1x256x128_0_0_1408, shapeCast S1x256x128 (codesv (k0_pay259 (amAt i h3 X16)) (fun x => X15 ((Rect.unit (s := S44x1024x128) (k0_off27 i) S1x256x128.size (k0_off27_inb i h3)).toLoadRect.idx x))) shapeCasts_S256x128_S1x256x128⟩,
    ⟨Rect.unit (s := S1x256x5600) ![0, 0, 1280] S1x256x128.size inb_S1x256x5600_S1x256x128_0_0_1280, shapeCast S1x256x128 (codesv (k0_pay259 (amAt i h3 X16)) (fun x => X15 ((Rect.unit (s := S44x1024x128) (k0_off26 i) S1x256x128.size (k0_off26_inb i h3)).toLoadRect.idx x))) shapeCasts_S256x128_S1x256x128⟩,
    ⟨Rect.unit (s := S1x256x5600) ![0, 0, 1152] S1x256x128.size inb_S1x256x5600_S1x256x128_0_0_1152, shapeCast S1x256x128 (codesv (k0_pay259 (amAt i h3 X16)) (fun x => X15 ((Rect.unit (s := S44x1024x128) (k0_off25 i) S1x256x128.size (k0_off25_inb i h3)).toLoadRect.idx x))) shapeCasts_S256x128_S1x256x128⟩,
    ⟨Rect.unit (s := S1x256x5600) ![0, 0, 1024] S1x256x128.size inb_S1x256x5600_S1x256x128_0_0_1024, shapeCast S1x256x128 (codesv (k0_pay259 (amAt i h3 X16)) (fun x => X15 ((Rect.unit (s := S44x1024x128) (k0_off24 i) S1x256x128.size (k0_off24_inb i h3)).toLoadRect.idx x))) shapeCasts_S256x128_S1x256x128⟩,
    ⟨Rect.unit (s := S1x256x5600) ![0, 0, 896] S1x256x128.size inb_S1x256x5600_S1x256x128_0_0_896, shapeCast S1x256x128 (codesv (k0_pay259 (amAt i h3 X16)) (fun x => X15 ((Rect.unit (s := S44x1024x128) (k0_off23 i) S1x256x128.size (k0_off23_inb i h3)).toLoadRect.idx x))) shapeCasts_S256x128_S1x256x128⟩,
    ⟨Rect.unit (s := S1x256x5600) ![0, 0, 768] S1x256x128.size inb_S1x256x5600_S1x256x128_0_0_768, shapeCast S1x256x128 (codesv (k0_pay259 (amAt i h3 X16)) (fun x => X15 ((Rect.unit (s := S44x1024x128) (k0_off22 i) S1x256x128.size (k0_off22_inb i h3)).toLoadRect.idx x))) shapeCasts_S256x128_S1x256x128⟩,
    ⟨Rect.unit (s := S1x256x5600) ![0, 0, 640] S1x256x128.size inb_S1x256x5600_S1x256x128_0_0_640, shapeCast S1x256x128 (codesv (k0_pay259 (amAt i h3 X16)) (fun x => X15 ((Rect.unit (s := S44x1024x128) (k0_off21 i) S1x256x128.size (k0_off21_inb i h3)).toLoadRect.idx x))) shapeCasts_S256x128_S1x256x128⟩,
    ⟨Rect.unit (s := S1x256x5600) ![0, 0, 512] S1x256x128.size inb_S1x256x5600_S1x256x128_0_0_512, shapeCast S1x256x128 (codesv (k0_pay259 (amAt i h3 X16)) (fun x => X15 ((Rect.unit (s := S44x1024x128) (k0_off20 i) S1x256x128.size (k0_off20_inb i h3)).toLoadRect.idx x))) shapeCasts_S256x128_S1x256x128⟩,
    ⟨Rect.unit (s := S1x256x5600) ![0, 0, 384] S1x256x128.size inb_S1x256x5600_S1x256x128_0_0_384, shapeCast S1x256x128 (codesv (k0_pay259 (amAt i h3 X16)) (fun x => X15 ((Rect.unit (s := S44x1024x128) (k0_off19 i) S1x256x128.size (k0_off19_inb i h3)).toLoadRect.idx x))) shapeCasts_S256x128_S1x256x128⟩,
    ⟨Rect.unit (s := S1x256x5600) ![0, 0, 256] S1x256x128.size inb_S1x256x5600_S1x256x128_0_0_256, shapeCast S1x256x128 (codesv (k0_pay259 (amAt i h3 X16)) (fun x => X15 ((Rect.unit (s := S44x1024x128) (k0_off18 i) S1x256x128.size (k0_off18_inb i h3)).toLoadRect.idx x))) shapeCasts_S256x128_S1x256x128⟩,
    ⟨Rect.unit (s := S1x256x5600) ![0, 0, 128] S1x256x128.size inb_S1x256x5600_S1x256x128_0_0_128, shapeCast S1x256x128 (codesv (k0_pay259 (amAt i h3 X16)) (fun x => X15 ((Rect.unit (s := S44x1024x128) (k0_off17 i) S1x256x128.size (k0_off17_inb i h3)).toLoadRect.idx x))) shapeCasts_S256x128_S1x256x128⟩,
    ⟨Rect.unit (s := S1x256x5600) ![0, 0, 0] S1x256x128.size inb_S1x256x5600_S1x256x128_0_0_0, shapeCast S1x256x128 (codesv (k0_pay259 (amAt i h3 X16)) (fun x => X15 ((Rect.unit (s := S44x1024x128) (k0_off16 i) S1x256x128.size (k0_off16_inb i h3)).toLoadRect.idx x))) shapeCasts_S256x128_S1x256x128⟩]

/-- The stores of one row tile's `y`. -/
def yL (i : grid0.Coords) (h3 : k0_cond3 i = 1#1) (X6 : S5600x2240.Idx → Elt F .fp8e4m3) (X7 : S1x2240.Idx → Elt F .f32) (X8 : S1x6x2240.Idx → Elt F .f32) (X9 : S6x2240.Idx → Elt F .f32)
    (X10 : S1x256x2240.Idx → Elt F .f32) (X11 : S1x256x5600.Idx → Elt F .fp8e4m3) (X16 : S1024x128.Idx → Elt F .f32) : Pcs (F := F) S1x256x2240 .bf16 :=
  [⟨Rect.unit (s := S1x256x2240) ![0, 0, 2048] S1x256x192.size inb_S1x256x2240_S1x256x192_0_0_2048, yv192 2048 slices_S1x2240_o0_2048_S1x192 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 2048] S5600x192.size inb_S5600x2240_S5600x192_0_2048).toLoadRect.idx x))
      (fun x => X7 ((Rect.unit (s := S1x2240) ![0, 2048] S1x192.size inb_S1x2240_S1x192_0_2048).toLoadRect.idx x))
      (fun x => X10 ((Rect.unit (s := S1x256x2240) ![0, 0, 2048] S1x256x192.size inb_S1x256x2240_S1x256x192_0_0_2048).toLoadRect.idx x))⟩,
    ⟨Rect.unit (s := S1x256x2240) ![0, 0, 1792] S1x256x256.size inb_S1x256x2240_S1x256x256_0_0_1792, yv256 1792 slices_S1x2240_o0_1792_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 1792] S5600x256.size inb_S5600x2240_S5600x256_0_1792).toLoadRect.idx x))
      (fun x => X7 ((Rect.unit (s := S1x2240) ![0, 1792] S1x256.size inb_S1x2240_S1x256_0_1792).toLoadRect.idx x))
      (fun x => X10 ((Rect.unit (s := S1x256x2240) ![0, 0, 1792] S1x256x256.size inb_S1x256x2240_S1x256x256_0_0_1792).toLoadRect.idx x))⟩,
    ⟨Rect.unit (s := S1x256x2240) ![0, 0, 1536] S1x256x256.size inb_S1x256x2240_S1x256x256_0_0_1536, yv256 1536 slices_S1x2240_o0_1536_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 1536] S5600x256.size inb_S5600x2240_S5600x256_0_1536).toLoadRect.idx x))
      (fun x => X7 ((Rect.unit (s := S1x2240) ![0, 1536] S1x256.size inb_S1x2240_S1x256_0_1536).toLoadRect.idx x))
      (fun x => X10 ((Rect.unit (s := S1x256x2240) ![0, 0, 1536] S1x256x256.size inb_S1x256x2240_S1x256x256_0_0_1536).toLoadRect.idx x))⟩,
    ⟨Rect.unit (s := S1x256x2240) ![0, 0, 1280] S1x256x256.size inb_S1x256x2240_S1x256x256_0_0_1280, yv256 1280 slices_S1x2240_o0_1280_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 1280] S5600x256.size inb_S5600x2240_S5600x256_0_1280).toLoadRect.idx x))
      (fun x => X7 ((Rect.unit (s := S1x2240) ![0, 1280] S1x256.size inb_S1x2240_S1x256_0_1280).toLoadRect.idx x))
      (fun x => X10 ((Rect.unit (s := S1x256x2240) ![0, 0, 1280] S1x256x256.size inb_S1x256x2240_S1x256x256_0_0_1280).toLoadRect.idx x))⟩,
    ⟨Rect.unit (s := S1x256x2240) ![0, 0, 1024] S1x256x256.size inb_S1x256x2240_S1x256x256_0_0_1024, yv256 1024 slices_S1x2240_o0_1024_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 1024] S5600x256.size inb_S5600x2240_S5600x256_0_1024).toLoadRect.idx x))
      (fun x => X7 ((Rect.unit (s := S1x2240) ![0, 1024] S1x256.size inb_S1x2240_S1x256_0_1024).toLoadRect.idx x))
      (fun x => X10 ((Rect.unit (s := S1x256x2240) ![0, 0, 1024] S1x256x256.size inb_S1x256x2240_S1x256x256_0_0_1024).toLoadRect.idx x))⟩,
    ⟨Rect.unit (s := S1x256x2240) ![0, 0, 768] S1x256x256.size inb_S1x256x2240_S1x256x256_0_0_768, yv256 768 slices_S1x2240_o0_768_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 768] S5600x256.size inb_S5600x2240_S5600x256_0_768).toLoadRect.idx x))
      (fun x => X7 ((Rect.unit (s := S1x2240) ![0, 768] S1x256.size inb_S1x2240_S1x256_0_768).toLoadRect.idx x))
      (fun x => X10 ((Rect.unit (s := S1x256x2240) ![0, 0, 768] S1x256x256.size inb_S1x256x2240_S1x256x256_0_0_768).toLoadRect.idx x))⟩,
    ⟨Rect.unit (s := S1x256x2240) ![0, 0, 512] S1x256x256.size inb_S1x256x2240_S1x256x256_0_0_512, yv256 512 slices_S1x2240_o0_512_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 512] S5600x256.size inb_S5600x2240_S5600x256_0_512).toLoadRect.idx x))
      (fun x => X7 ((Rect.unit (s := S1x2240) ![0, 512] S1x256.size inb_S1x2240_S1x256_0_512).toLoadRect.idx x))
      (fun x => X10 ((Rect.unit (s := S1x256x2240) ![0, 0, 512] S1x256x256.size inb_S1x256x2240_S1x256x256_0_0_512).toLoadRect.idx x))⟩,
    ⟨Rect.unit (s := S1x256x2240) ![0, 0, 256] S1x256x256.size inb_S1x256x2240_S1x256x256_0_0_256, yv256 256 slices_S1x2240_o0_256_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 256] S5600x256.size inb_S5600x2240_S5600x256_0_256).toLoadRect.idx x))
      (fun x => X7 ((Rect.unit (s := S1x2240) ![0, 256] S1x256.size inb_S1x2240_S1x256_0_256).toLoadRect.idx x))
      (fun x => X10 ((Rect.unit (s := S1x256x2240) ![0, 0, 256] S1x256x256.size inb_S1x256x2240_S1x256x256_0_0_256).toLoadRect.idx x))⟩,
    ⟨Rect.unit (s := S1x256x2240) ![0, 0, 0] S1x256x256.size inb_S1x256x2240_S1x256x256_0_0_0, yv256 0 slices_S1x2240_o0_0_S1x256 (k0_pay258 (amAt i h3 X16))
      (k0_pay321 (fun x => X8 ((Rect.unit (s := S1x6x2240) ![0, 5, 0] S1x1x2240.size inb_S1x6x2240_S1x1x2240_0_5_0).toLoadRect.idx x)) (fun x => X9 ((Rect.unit (s := S6x2240) ![5, 0] S1x2240.size inb_S6x2240_S1x2240_5_0).toLoadRect.idx x)))
      (fun x => X11 ((Rect.unit (s := S1x256x5600) ![0, 0, 0] S1x256x5600.size inb_S1x256x5600_S1x256x5600_0_0_0).toLoadRect.idx x))
      (fun x => X6 ((Rect.unit (s := S5600x2240) ![0, 0] S5600x256.size inb_S5600x2240_S5600x256_0_0).toLoadRect.idx x))
      (fun x => X7 ((Rect.unit (s := S1x2240) ![0, 0] S1x256.size inb_S1x2240_S1x256_0_0).toLoadRect.idx x))
      (fun x => X10 ((Rect.unit (s := S1x256x2240) ![0, 0, 0] S1x256x256.size inb_S1x256x2240_S1x256x256_0_0_0).toLoadRect.idx x))⟩]

set_option maxHeartbeats 4000000 in
theorem upRun_hs (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) :
    (upRun c i h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.1 = arg14.view.writes (Elt F) (if hc : upRun.sl.v2 i = 1#1 then arg14.view.writes (Elt F) f14 [⟨Rect.unit (s := S2x1088x128) ![0, 0, 0] S2x1088x128.size inb_S2x1088x128_S2x1088x128_0_0_0, k0_pay2⟩] else f14)
      (upL (arg2.view.read (Elt F) f2) (arg3.view.read (Elt F) f3) (arg4.view.read (Elt F) f4) (arg5.view.read (Elt F) f5)) := rfl

theorem upRun_zero (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) :
    (upRun c i h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.1 = (if hc : upRun.sl.v2 i = 1#1 then arg16.view.writes (Elt F) f16 [⟨Rect.unit (s := S1024x128) ![0, 0] S1024x128.size inb_S1024x128_S1024x128_0_0, k0_pay1⟩] else f16) := rfl

theorem upRun_hg (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) (g14 : Bf (F := F) c arg14) :
    (upRun c i h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.1 g14 = hgL i h2 (arg14.view.read (Elt F) g14) (arg5.view.read (Elt F) f5) := rfl

theorem upRun_am (c : Dev nD) (i : grid0.Coords) (h2 : k0_cond2 i = 1#1) (h3 : ¬ k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f2 : Bf (F := F) c arg2) (f3 : Bf (F := F) c arg3) (f4 : Bf (F := F) c arg4) (f5 : Bf (F := F) c arg5)
    (f14 : Bf (F := F) c arg14) (f15 : Bf (F := F) c arg15) (f16 : Bf (F := F) c arg16) (g14 : Bf (F := F) c arg14) (g16 : Bf (F := F) c arg16) :
    (upRun c i h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f14 f15 f16).1.2.2.2 g14 g16 = amL (arg14.view.read (Elt F) g14) (arg5.view.read (Elt F) f5) (arg16.view.read (Elt F) g16) := rfl

theorem dnRun_cd (c : Dev nD) (i : grid0.Coords) (h1 : ¬ (Scalar.cmpi .ne (Scalar.extui (Scalar.cmpi .eq (BitVec.ofNat 32 (i 1).val) (0#32)) : BitVec 32) (0#32)) = 1#1)
    (h2 : ¬ k0_cond2 i = 1#1) (h3 : k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16) :
    (dnRun c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.1 = cdL i h3 (arg15.view.read (Elt F) f15) (arg16.view.read (Elt F) f16) := rfl

theorem dnRun_sc (c : Dev nD) (i : grid0.Coords) (h1 : ¬ (Scalar.cmpi .ne (Scalar.extui (Scalar.cmpi .eq (BitVec.ofNat 32 (i 1).val) (0#32)) : BitVec 32) (0#32)) = 1#1)
    (h2 : ¬ k0_cond2 i = 1#1) (h3 : k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16) :
    (dnRun c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.1 = [⟨Rect.unit (s := S1x1x256) ![0, 0, 0] S1x1x256.size inb_S1x1x256_S1x1x256_0_0_0, k0_pay260 (amAt i h3 (arg16.view.read (Elt F) f16))⟩] := rfl

set_option maxHeartbeats 4000000 in
theorem dnRun_y (c : Dev nD) (i : grid0.Coords) (h1 : ¬ (Scalar.cmpi .ne (Scalar.extui (Scalar.cmpi .eq (BitVec.ofNat 32 (i 1).val) (0#32)) : BitVec 32) (0#32)) = 1#1)
    (h2 : ¬ k0_cond2 i = 1#1) (h3 : k0_cond3 i = 1#1)
    (arg2 : Memref sig .tc .vmem S1x1008x2240 .fp8e4m3) (harg2 : arg2.IsWhole) (arg3 : Memref sig .tc .vmem S1x1008x128 .f32) (harg3 : arg3.IsWhole) (arg4 : Memref sig .tc .vmem S1x2240x256 .fp8e4m3) (harg4 : arg4.IsWhole) (arg5 : Memref sig .tc .vmem S1x16x256 .f32) (harg5 : arg5.IsWhole) (arg6 : Memref sig .tc .vmem S5600x2240 .fp8e4m3) (harg6 : arg6.IsWhole) (arg7 : Memref sig .tc .vmem S1x2240 .f32) (harg7 : arg7.IsWhole) (arg8 : Memref sig .tc .vmem S1x6x2240 .f32) (harg8 : arg8.IsWhole) (arg9 : Memref sig .tc .vmem S6x2240 .f32) (harg9 : arg9.IsWhole) (arg10 : Memref sig .tc .vmem S1x256x2240 .f32) (harg10 : arg10.IsWhole) (arg11 : Memref sig .tc .vmem S1x256x5600 .fp8e4m3) (harg11 : arg11.IsWhole) (arg12 : Memref sig .tc .vmem S1x1x256 .f32) (harg12 : arg12.IsWhole) (arg13 : Memref sig .tc .vmem S1x256x2240 .bf16) (harg13 : arg13.IsWhole) (arg14 : Memref sig .tc .vmem S2x1088x128 .f32) (harg14 : arg14.IsWhole) (arg15 : Memref sig .tc .vmem S44x1024x128 .f32) (harg15 : arg15.IsWhole) (arg16 : Memref sig .tc .vmem S1024x128 .f32) (harg16 : arg16.IsWhole)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f15 : Bf (F := F) c arg15) (f16 : Bf (F := F) c arg16) (g11 : Bf (F := F) c arg11) :
    (dnRun c i h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f9 f10 f11 f12 f13 f15 f16).1.2.2 g11 = yL i h3 (arg6.view.read (Elt F) f6) (arg7.view.read (Elt F) f7) (arg8.view.read (Elt F) f8) (arg9.view.read (Elt F) f9) (arg10.view.read (Elt F) f10) (arg11.view.read (Elt F) g11) (arg16.view.read (Elt F) f16) := rfl

end Cert.KernelIdeal.Hand
end
-- ==== Proof.Spec.lean ====
module

public import Idealize.ShloMosaic.Lib.Pointwise

@[expose] public section

noncomputable section

namespace Cert.FFN

open Idealize.ShloMosaic

/-! Arrays read at natural-number coordinates: outside the array the value is zero. -/

def at1 {n0 : ℕ} (X : (⟨1, ![n0]⟩ : Shape).Idx → EReal) (a : ℕ) : EReal := if h : a < n0 then X (ix1 ⟨a, h⟩) else 0
def at2 {n0 n1 : ℕ} (X : (⟨2, ![n0, n1]⟩ : Shape).Idx → EReal) (a b : ℕ) : EReal := if h : a < n0 ∧ b < n1 then X (ix2 ⟨a, h.1⟩ ⟨b, h.2⟩) else 0
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at1_ix {n0 : ℕ} (X : (⟨1, ![n0]⟩ : Shape).Idx → EReal) (a : Fin n0) : X (ix1 a) = at1 X a.val := by unfold at1; rw [dif_pos a.isLt]
theorem at2_ix {n0 n1 : ℕ} (X : (⟨2, ![n0, n1]⟩ : Shape).Idx → EReal) (a : Fin n0) (b : Fin n1) : X (ix2 a b) = at2 X a.val b.val := by
  unfold at2; rw [dif_pos ⟨a.isLt, b.isLt⟩]
theorem at3_ix {n0 n1 n2 : ℕ} (X : (⟨3, ![n0, n1, n2]⟩ : Shape).Idx → EReal) (a : Fin n0) (b : Fin n1) (c : Fin n2) : X (ix3 a b c) = at3 X a.val b.val c.val := by
  unfold at3; rw [dif_pos ⟨a.isLt, b.isLt, c.isLt⟩]

theorem at2_idx {n0 n1 : ℕ} (X : (⟨2, ![n0, n1]⟩ : Shape).Idx → EReal) (y : (⟨2, ![n0, n1]⟩ : Shape).Idx) : X y = at2 X (y 0).val (y 1).val := by
  rw [← at2_ix X (y 0) (y 1), ix2_eta]
theorem at3_idx {n0 n1 n2 : ℕ} (X : (⟨3, ![n0, n1, n2]⟩ : Shape).Idx → EReal) (y : (⟨3, ![n0, n1, n2]⟩ : Shape).Idx) : X y = at3 X (y 0).val (y 1).val (y 2).val := by
  rw [← at3_ix X (y 0) (y 1) (y 2), ix3_eta]

/-- The twelve arrays of the feed-forward half. -/
structure Inp where
  codes : (⟨3, ![8, 1008, 2240]⟩ : Shape).Idx → EReal
  scales : (⟨2, ![8, 1008]⟩ : Shape).Idx → EReal
  wup : (⟨2, ![2240, 11200]⟩ : Shape).Idx → EReal
  sup : (⟨1, ![11200]⟩ : Shape).Idx → EReal
  bup : (⟨1, ![11200]⟩ : Shape).Idx → EReal
  dww : (⟨3, ![3, 3, 11200]⟩ : Shape).Idx → EReal
  dwb : (⟨1, ![11200]⟩ : Shape).Idx → EReal
  wdn : (⟨2, ![5600, 2240]⟩ : Shape).Idx → EReal
  sdn : (⟨1, ![2240]⟩ : Shape).Idx → EReal
  t6 : (⟨3, ![8, 6, 2240]⟩ : Shape).Idx → EReal
  table : (⟨2, ![6, 2240]⟩ : Shape).Idx → EReal
  r2 : (⟨3, ![8, 1008, 2240]⟩ : Shape).Idx → EReal

/-- `v · logistic v`. -/
def silu (v : EReal) : EReal := v * Ideal.logistic v

theorem silu_zero : silu 0 = 0 := zero_mul _

/-- A channel of the expanded activations at a token. -/
def HS (D : Inp) (b ch q : ℕ) : EReal :=
  silu ((∑ k : Fin 2240, at3 D.codes b q k.val * at2 D.wup k.val ch) * at2 D.scales b q * at1 D.sup ch + at1 D.bup ch)

/-- The tokens of a channel between forty rows of zeros before and after. -/
def padded (h : ℕ → EReal) (n : ℕ) : EReal := if 40 ≤ n ∧ n < 1048 then h (n - 40) else 0

/-- The depthwise convolution of the padded tokens, from parameter rows: the bias is row 2, the weights are rows 3 to 11. -/
def conv (p w : ℕ → EReal) (q : ℕ) : EReal :=
  ((if q % 36 = 0 then 0 else p (q + 3) * w 3 + p (q + 39) * w 6 + p (q + 75) * w 9)
    + (p (q + 4) * w 4 + p (q + 40) * w 7 + p (q + 76) * w 10)
    + (if q % 36 = 35 then 0 else p (q + 5) * w 5 + p (q + 41) * w 8 + p (q + 77) * w 11)) + w 2

/-- The parameter rows of a channel: the two rows of the projection, the bias and the nine weights of the convolution. -/
def prow (D : Inp) (ch n : ℕ) : EReal :=
  if n = 0 then at1 D.sup ch else if n = 1 then at1 D.bup ch else if n = 2 then at1 D.dwb ch else at3 D.dww ((n - 3) / 3) ((n - 3) % 3) ch

def CONV (D : Inp) (b ch q : ℕ) : EReal := conv (padded (HS D b ch)) (prow D ch) q

/-- The gated activations. -/
def HG (D : Inp) (b f q : ℕ) : EReal := CONV D b f q * silu (CONV D b (5600 + f) q)

def absE (v : EReal) : EReal := max v (-v)

/-- A token's largest magnitude. -/
def RM (D : Inp) (b q : ℕ) : EReal := Finset.univ.sup fun f : Fin 5600 => absE (HG D b f.val q)

/-- The largest finite code. -/
def c448 : EReal := Ideal.ofBits FTy.f32 1138753536#32
def cm448 : EReal := Ideal.ofBits FTy.f32 3286237184#32

theorem c448_eq : c448 = ((448 : ℝ) : EReal) := by simp [c448, Ideal.ofBits, Ideal.ieee, -EReal.coe_mul]; norm_num

theorem bot_eq : Ideal.ofBits FTy.f32 4286578688#32 = ⊥ := by simp [Ideal.ofBits, Ideal.ieee]

/-- The scale from the largest magnitude. -/
def scl (a : EReal) : EReal := if a = 0 then 1 else Ideal.div a c448

def clipE (v : EReal) : EReal := min c448 (max cm448 v)

theorem scl_ne_zero (a : EReal) : scl a ≠ 0 := by
  unfold scl
  split
  · exact one_ne_zero
  · rw [c448_eq, Ideal.div_coe (by norm_num)]
    refine mul_ne_zero ‹_› ?_
    have : ((1 / 448 : ℝ) : EReal) ≠ ((0 : ℝ) : EReal) := by
      rw [Ne, EReal.coe_eq_coe_iff]; norm_num
    simpa using this

/-- Dividing by the scale is multiplying by its inverse. -/
theorem mul_inv_scl (v a : EReal) : v * Ideal.div 1 (scl a) = Ideal.div v (scl a) := by
  simp [Ideal.div, scl_ne_zero]

def SC (D : Inp) (b q : ℕ) : EReal := scl (RM D b q)

def CODE (D : Inp) (b q f : ℕ) : EReal := clipE (Ideal.div (HG D b f q) (SC D b q))

def Y (D : Inp) (b q n : ℕ) : EReal :=
  at3 D.r2 b q n + (at3 D.t6 b 5 n + at2 D.table 5 n) * ((∑ f : Fin 5600, CODE D b q f.val * at2 D.wdn f.val n) * SC D b q * at1 D.sdn n)

end Cert.FFN
end
-- ==== Proof.Eval.lean ====
module

public import proofs.«01_k».proof.Proof.Blocks
public import proofs.«01_k».proof.Proof.Spec

@[expose] public section

set_option maxRecDepth 16384

noncomputable section

namespace Cert.KernelIdeal.Hand

open Cert.KernelIdeal Cert.KernelIdeal.Gen Cert.FFN
open Idealize.ShloMosaic Idealize.ShloMosaic.TcCoe Idealize.ShloMosaic.Tactic

/-! The block functions over the extended reals, at an index. -/

theorem colIx_at (r : Fin 72) (l : Fin 128) : colIx (ix2 r l) = BitVec.ofNat 32 (r.val % 36) := by
  pointwise [colIx, k0_pay24, k0_pay25, k0_pay26, k0_pay27]
  revert r
  decide +kernel

theorem rowsAt_at (X : S2x1088x128.Idx → EReal) (half row : ℕ) (h) (u : Fin 1) (r : Fin 72) (l : Fin 128) :
    rowsAt (F := Ideal) X half row h (ix3 u r l) = at3 X half (row + r.val) l.val := by
  obtain rfl : u = 0 := Subsingleton.elim _ _
  pointwise [rowsAt]
  exact at3_ix X _ _ _

theorem parAt_at (X : S1x16x256.Idx → EReal) (row col : ℕ) (h) (u v : Fin 1) (l : Fin 128) :
    parAt (F := Ideal) X row col h (ix3 u v l) = at3 X 0 row (col + l.val) := by
  obtain rfl : u = 0 := Subsingleton.elim _ _
  obtain rfl : v = 0 := Subsingleton.elim _ _
  pointwise [parAt]
  exact at3_ix X _ _ _

theorem tap_at (P : Vec Ideal S1x72x128 .f32) (w : Vec Ideal S1x1x128 .f32) (r : Fin 72) (l : Fin 128) :
    tap P w (ix2 r l) = P (ix3 0 r l) * w (ix3 0 0 l) := by
  pointwise [tap]

theorem col3_at (P0 P1 P2 : Vec Ideal S1x72x128 .f32) (w0 w1 w2 : Vec Ideal S1x1x128 .f32) (r : Fin 72) (l : Fin 128) :
    col3 P0 w0 P1 w1 P2 w2 (ix2 r l) = P0 (ix3 0 r l) * w0 (ix3 0 0 l) + P1 (ix3 0 r l) * w1 (ix3 0 0 l) + P2 (ix3 0 r l) * w2 (ix3 0 0 l) := by
  rw [← tap_at, ← tap_at, ← tap_at]
  pointwise [col3]

theorem eq_iff_at (n k : ℕ) (hn : n < 36) (hk : k < 36) : IntOp.cmpi CmpIPredicate.eq (BitVec.ofNat 32 n) (BitVec.ofNat 32 k) = if n = k then 1#1 else 0#1 := by
  have h : (BitVec.ofNat 32 n = BitVec.ofNat 32 k) ↔ n = k := by
    constructor
    · intro h
      have := congrArg BitVec.toNat h
      simp only [BitVec.toNat_ofNat] at this
      omega
    · rintro rfl; rfl
  by_cases hh : n = k
  · subst hh; simp [IntOp.cmpi]
  · have h2 : ¬ BitVec.ofNat 32 n = BitVec.ofNat 32 k := fun x => hh (h.1 x)
    rw [if_neg hh]
    show BitVec.ofBool (BitVec.ofNat 32 n == BitVec.ofNat 32 k) = 0#1
    rw [beq_eq_false_iff_ne.2 h2]; rfl

/-- A convolution block of 72 rows from row `b` of the grid, at an index. -/
def cv (X14 : S2x1088x128.Idx → EReal) (X5 : S1x16x256.Idx → EReal) (half col l q : ℕ) : EReal :=
  conv (fun n => at3 X14 half n l) (fun n => at3 X5 0 n (col + l)) q

theorem hcv_at (X14 : S2x1088x128.Idx → EReal) (X5 : S1x16x256.Idx → EReal) (half col b : ℕ) (hb : b % 36 = 0) (r : Fin 72) (l : Fin 128)
    (h3 h39 h75 h4 h40 h76 h5 h41 h77 w3 w6 w9 w4 w7 w10 w5 w8 w11 w2) :
    hcv (F := Ideal) (col3 (rowsAt X14 half (b + 3) h3) (parAt X5 3 col w3) (rowsAt X14 half (b + 39) h39) (parAt X5 6 col w6) (rowsAt X14 half (b + 75) h75) (parAt X5 9 col w9))
      (col3 (rowsAt X14 half (b + 4) h4) (parAt X5 4 col w4) (rowsAt X14 half (b + 40) h40) (parAt X5 7 col w7) (rowsAt X14 half (b + 76) h76) (parAt X5 10 col w10))
      (col3 (rowsAt X14 half (b + 5) h5) (parAt X5 5 col w5) (rowsAt X14 half (b + 41) h41) (parAt X5 8 col w8) (rowsAt X14 half (b + 77) h77) (parAt X5 11 col w11)) (parAt X5 2 col w2)
      (ix2 r l) = cv X14 X5 half col l.val (b + r.val) := by
  pointwise [hcv]
  rw [colIx_at, eq_iff_at _ 0 (by omega) (by omega), eq_iff_at _ 35 (by omega) (by omega), col3_at, col3_at, col3_at]
  simp only [rowsAt_at, parAt_at]
  have e0 : ((b + r.val) % 36 = 0) = (r.val % 36 = 0) := by rw [Nat.add_mod, hb, Nat.zero_add, Nat.mod_mod]
  have e35 : ((b + r.val) % 36 = 35) = (r.val % 36 = 35) := by rw [Nat.add_mod, hb, Nat.zero_add, Nat.mod_mod]
  unfold cv conv
  simp only [e0, e35, Nat.add_right_comm b r.val]
  congr 2
  · congr 1
    by_cases h : r.val % 36 = 0
    · simp only [h, if_true]; rfl
    · simp only [h, if_false]; rfl
  · by_cases h : r.val % 36 = 35
    · simp only [h, if_true]; rfl
    · simp only [h, if_false]; rfl

theorem hgv_at (a b : FVec Ideal S72x128 .f32) (r : Fin 72) (l : Fin 128) : hgv a b (ix2 r l) = a (ix2 r l) * silu (b (ix2 r l)) := by
  pointwise [hgv]
  rfl

/-- The gated activations a chunk computes from its scratch and its parameters. -/
def hgk (X14 : S2x1088x128.Idx → EReal) (X5 : S1x16x256.Idx → EReal) (l q : ℕ) : EReal :=
  cv X14 X5 0 0 l q * silu (cv X14 X5 1 128 l q)

theorem hgv_block {a b : FVec Ideal S72x128 .f32} {r : Fin 72} {l : Fin 128} {x y : EReal} (ha : a (ix2 r l) = x) (hb : b (ix2 r l) = y) :
    hgv a b (ix2 r l) = x * silu y := by rw [hgv_at, ha, hb]

theorem hgB0_at (X14 : S2x1088x128.Idx → EReal) (X5 : S1x16x256.Idx → EReal) (r : Fin 72) (l : Fin 128) : hgB0 (F := Ideal) X14 X5 (ix2 r l) = hgk X14 X5 l.val (0 + r.val) :=
  hgv_block (hcv_at X14 X5 0 0 0 (by norm_num) r l _ _ _ _ _ _ _ _ _ _ _ _ _ _ _ _ _ _ _) (hcv_at X14 X5 1 128 0 (by norm_num) r l _ _ _ _ _ _ _ _ _ _ _ _ _ _ _ _ _ _ _)
theorem hgB1_at (X14 : S2x1088x128.Idx → EReal) (X5 : S1x16x256.Idx → EReal) (r : Fin 72) (l : Fin 128) : hgB1 (F := Ideal) X14 X5 (ix2 r l) = hgk X14 X5 l.val (72 + r.val) :=
  hgv_block (hcv_at X14 X5 0 0 72 (by norm_num) r l _ _ _ _ _ _ _ _ _ _ _ _ _ _ _ _ _ _ _) (hcv_at X14 X5 1 128 72 (by norm_num) r l _ _ _ _ _ _ _ _ _ _ _ _ _ _ _ _ _ _ _)
theorem hgB2_at (X14 : S2x1088x128.Idx → EReal) (X5 : S1x16x256.Idx → EReal) (r : Fin 72) (l : Fin 128) : hgB2 (F := Ideal) X14 X5 (ix2 r l) = hgk X14 X5 l.val (144 + r.val) :=
  hgv_block (hcv_at X14 X5 0 0 144 (by norm_num) r l _ _ _ _ _ _ _ _ _ _ _ _ _ _ _ _ _ _ _) (hcv_at X14 X5 1 128 144 (by norm_num) r l _ _ _ _ _ _ _ _ _ _ _ _ _ _ _ _ _ _ _)
theorem hgB3_at (X14 : S2x1088x128.Idx → EReal) (X5 : S1x16x256.Idx → EReal) (r : Fin 72) (l : Fin 128) : hgB3 (F := Ideal) X14 X5 (ix2 r l) = hgk X14 X5 l.val (216 + r.val) :=
  hgv_block (hcv_at X14 X5 0 0 216 (by norm_num) r l _ _ _ _ _ _ _ _ _ _ _ _ _ _ _ _ _ _ _) (hcv_at X14 X5 1 128 216 (by norm_num) r l _ _ _ _ _ _ _ _ _ _ _ _ _ _ _ _ _ _ _)
theorem hgB4_at (X14 : S2x1088x128.Idx → EReal) (X5 : S1x16x256.Idx → EReal) (r : Fin 72) (l : Fin 128) : hgB4 (F := Ideal) X14 X5 (ix2 r l) = hgk X14 X5 l.val (288 + r.val) :=
  hgv_block (hcv_at X14 X5 0 0 288 (by norm_num) r l _ _ _ _ _ _ _ _ _ _ _ _ _ _ _ _ _ _ _) (hcv_at X14 X5 1 128 288 (by norm_num) r l _ _ _ _ _ _ _ _ _ _ _ _ _ _ _ _ _ _ _)
theorem hgB5_at (X14 : S2x1088x128.Idx → EReal) (X5 : S1x16x256.Idx → EReal) (r : Fin 72) (l : Fin 128) : hgB5 (F := Ideal) X14 X5 (ix2 r l) = hgk X14 X5 l.val (360 + r.val) :=
  hgv_block (hcv_at X14 X5 0 0 360 (by norm_num) r l _ _ _ _ _ _ _ _ _ _ _ _ _ _ _ _ _ _ _) (hcv_at X14 X5 1 128 360 (by norm_num) r l _ _ _ _ _ _ _ _ _ _ _ _ _ _ _ _ _ _ _)
theorem hgB6_at (X14 : S2x1088x128.Idx → EReal) (X5 : S1x16x256.Idx → EReal) (r : Fin 72) (l : Fin 128) : hgB6 (F := Ideal) X14 X5 (ix2 r l) = hgk X14 X5 l.val (432 + r.val) :=
  hgv_block (hcv_at X14 X5 0 0 432 (by norm_num) r l _ _ _ _ _ _ _ _ _ _ _ _ _ _ _ _ _ _ _) (hcv_at X14 X5 1 128 432 (by norm_num) r l _ _ _ _ _ _ _ _ _ _ _ _ _ _ _ _ _ _ _)
theorem hgB7_at (X14 : S2x1088x128.Idx → EReal) (X5 : S1x16x256.Idx → EReal) (r : Fin 72) (l : Fin 128) : hgB7 (F := Ideal) X14 X5 (ix2 r l) = hgk X14 X5 l.val (504 + r.val) :=
  hgv_block (hcv_at X14 X5 0 0 504 (by norm_num) r l _ _ _ _ _ _ _ _ _ _ _ _ _ _ _ _ _ _ _) (hcv_at X14 X5 1 128 504 (by norm_num) r l _ _ _ _ _ _ _ _ _ _ _ _ _ _ _ _ _ _ _)
theorem hgB8_at (X14 : S2x1088x128.Idx → EReal) (X5 : S1x16x256.Idx → EReal) (r : Fin 72) (l : Fin 128) : hgB8 (F := Ideal) X14 X5 (ix2 r l) = hgk X14 X5 l.val (576 + r.val) :=
  hgv_block (hcv_at X14 X5 0 0 576 (by norm_num) r l _ _ _ _ _ _ _ _ _ _ _ _ _ _ _ _ _ _ _) (hcv_at X14 X5 1 128 576 (by norm_num) r l _ _ _ _ _ _ _ _ _ _ _ _ _ _ _ _ _ _ _)
theorem hgB9_at (X14 : S2x1088x128.Idx → EReal) (X5 : S1x16x256.Idx → EReal) (r : Fin 72) (l : Fin 128) : hgB9 (F := Ideal) X14 X5 (ix2 r l) = hgk X14 X5 l.val (648 + r.val) :=
  hgv_block (hcv_at X14 X5 0 0 648 (by norm_num) r l _ _ _ _ _ _ _ _ _ _ _ _ _ _ _ _ _ _ _) (hcv_at X14 X5 1 128 648 (by norm_num) r l _ _ _ _ _ _ _ _ _ _ _ _ _ _ _ _ _ _ _)
theorem hgB10_at (X14 : S2x1088x128.Idx → EReal) (X5 : S1x16x256.Idx → EReal) (r : Fin 72) (l : Fin 128) : hgB10 (F := Ideal) X14 X5 (ix2 r l) = hgk X14 X5 l.val (720 + r.val) :=
  hgv_block (hcv_at X14 X5 0 0 720 (by norm_num) r l _ _ _ _ _ _ _ _ _ _ _ _ _ _ _ _ _ _ _) (hcv_at X14 X5 1 128 720 (by norm_num) r l _ _ _ _ _ _ _ _ _ _ _ _ _ _ _ _ _ _ _)
theorem hgB11_at (X14 : S2x1088x128.Idx → EReal) (X5 : S1x16x256.Idx → EReal) (r : Fin 72) (l : Fin 128) : hgB11 (F := Ideal) X14 X5 (ix2 r l) = hgk X14 X5 l.val (792 + r.val) :=
  hgv_block (hcv_at X14 X5 0 0 792 (by norm_num) r l _ _ _ _ _ _ _ _ _ _ _ _ _ _ _ _ _ _ _) (hcv_at X14 X5 1 128 792 (by norm_num) r l _ _ _ _ _ _ _ _ _ _ _ _ _ _ _ _ _ _ _)
theorem hgB12_at (X14 : S2x1088x128.Idx → EReal) (X5 : S1x16x256.Idx → EReal) (r : Fin 72) (l : Fin 128) : hgB12 (F := Ideal) X14 X5 (ix2 r l) = hgk X14 X5 l.val (864 + r.val) :=
  hgv_block (hcv_at X14 X5 0 0 864 (by norm_num) r l _ _ _ _ _ _ _ _ _ _ _ _ _ _ _ _ _ _ _) (hcv_at X14 X5 1 128 864 (by norm_num) r l _ _ _ _ _ _ _ _ _ _ _ _ _ _ _ _ _ _ _)
theorem hgB13_at (X14 : S2x1088x128.Idx → EReal) (X5 : S1x16x256.Idx → EReal) (r : Fin 72) (l : Fin 128) : hgB13 (F := Ideal) X14 X5 (ix2 r l) = hgk X14 X5 l.val (936 + r.val) :=
  hgv_block (hcv_at X14 X5 0 0 936 (by norm_num) r l _ _ _ _ _ _ _ _ _ _ _ _ _ _ _ _ _ _ _) (hcv_at X14 X5 1 128 936 (by norm_num) r l _ _ _ _ _ _ _ _ _ _ _ _ _ _ _ _ _ _ _)

theorem amv_at (v : Vec Ideal S72x128 .f32) (hg : FVec Ideal S72x128 .f32) (r : Fin 72) (l : Fin 128) : amv v hg (ix2 r l) = max (v (ix2 r l)) (absE (hg (ix2 r l))) := by
  pointwise [amv]
  rfl

theorem codesv_at (inv : FVec Ideal S256x1 .f32) (v : Vec Ideal S1x256x128 .f32) (r : Fin 256) (l : Fin 128) :
    codesv inv v (ix2 r l) = clipE (v (ix3 0 r l) * inv (ix2 r 0)) := by
  pointwise [codesv]
  rfl

/-- What an upward tile stores at a row and a lane. -/
def upk (X2 : S1x1008x2240.Idx → EReal) (X3 : S1x1008x128.Idx → EReal) (X4 : S1x2240x256.Idx → EReal) (X5 : S1x16x256.Idx → EReal) (off l q : ℕ) : EReal :=
  silu ((∑ k : Fin 2240, at3 X2 0 q k.val * at3 X4 0 k.val (off + l)) * at3 X3 0 q l * at3 X5 0 0 (off + l) + at3 X5 0 1 (off + l))

theorem up256_at (X2 : S1x1008x2240.Idx → EReal) (X3 : S1x1008x128.Idx → EReal) (X4 : S1x2240x256.Idx → EReal) (X5 : S1x16x256.Idx → EReal) (off r0 : ℕ)
    (hs : S256x256.Slices ![0, off] S256x128) (h3) (h2) (h4) (p0) (p1) (u : Fin 1) (r : Fin 256) (l : Fin 128) :
    upst256 (F := Ideal) (upv256 off hs (fun x => X3 ((Rect.unit (s := S1x1008x128) ![0, r0, 0] S1x256x128.size h3).toLoadRect.idx x))
        (fun x => X2 ((Rect.unit (s := S1x1008x2240) ![0, r0, 0] S1x256x2240.size h2).toLoadRect.idx x))
        (fun x => X4 ((Rect.unit (s := S1x2240x256) ![0, 0, 0] S1x2240x256.size h4).toLoadRect.idx x))
        (parAt X5 0 off p0) (parAt X5 1 off p1)) (ix3 u r l) = upk X2 X3 X4 X5 off l.val (r0 + r.val) := by
  obtain rfl : u = 0 := Subsingleton.elim _ _
  pointwise [upst256, upv256]
  simp only [parAt_at]
  unfold upk silu
  pointwise
  simp only [at3_ix X2, at3_ix X3, at3_ix X4]
  rfl

theorem up240_at (X2 : S1x1008x2240.Idx → EReal) (X3 : S1x1008x128.Idx → EReal) (X4 : S1x2240x256.Idx → EReal) (X5 : S1x16x256.Idx → EReal) (off r0 : ℕ)
    (hs : S240x256.Slices ![0, off] S240x128) (h3) (h2) (h4) (p0) (p1) (u : Fin 1) (r : Fin 240) (l : Fin 128) :
    upst240 (F := Ideal) (upv240 off hs (fun x => X3 ((Rect.unit (s := S1x1008x128) ![0, r0, 0] S1x240x128.size h3).toLoadRect.idx x))
        (fun x => X2 ((Rect.unit (s := S1x1008x2240) ![0, r0, 0] S1x240x2240.size h2).toLoadRect.idx x))
        (fun x => X4 ((Rect.unit (s := S1x2240x256) ![0, 0, 0] S1x2240x256.size h4).toLoadRect.idx x))
        (parAt X5 0 off p0) (parAt X5 1 off p1)) (ix3 u r l) = upk X2 X3 X4 X5 off l.val (r0 + r.val) := by
  obtain rfl : u = 0 := Subsingleton.elim _ _
  pointwise [upst240, upv240]
  simp only [parAt_at]
  unfold upk silu
  pointwise
  simp only [at3_ix X2, at3_ix X3, at3_ix X4]
  rfl

/-- The scale of a row from its lanes' maxima. -/
theorem scale_at (v : Vec Ideal S256x128 .f32) (r : Fin 256) : k0_pay258 (F := Ideal) v (ix2 r 0) = scl (Finset.fold max ⊥ (fun x => v (ix2 r x)) Finset.univ) := by
  pointwise [k0_pay258]
  rw [bot_eq]
  rfl

theorem inv_at (v : Vec Ideal S256x128 .f32) (r : Fin 256) : k0_pay259 (F := Ideal) v (ix2 r 0) = Ideal.div 1 (k0_pay258 v (ix2 r 0)) := by
  pointwise [k0_pay259]

theorem scaleRow_at (v : Vec Ideal S256x128 .f32) (u w : Fin 1) (r : Fin 256) : k0_pay260 (F := Ideal) v (ix3 u w r) = k0_pay258 v (ix2 r 0) := by
  obtain rfl : u = 0 := Subsingleton.elim _ _
  obtain rfl : w = 0 := Subsingleton.elim _ _
  unfold k0_pay260
  pointwise

/-- What a row tile stores of `y`, from a token's scale and codes. -/
def yk (sc : ℕ → EReal) (X6 : S5600x2240.Idx → EReal) (X7 : S1x2240.Idx → EReal) (X8 : S1x6x2240.Idx → EReal) (X9 : S6x2240.Idx → EReal)
    (X10 : S1x256x2240.Idx → EReal) (X11 : S1x256x5600.Idx → EReal) (r n : ℕ) : EReal :=
  at3 X10 0 r n + (at3 X8 0 5 n + at2 X9 5 n) * ((∑ f : Fin 5600, at3 X11 0 r f.val * at2 X6 f.val n) * sc r * at2 X7 0 n)

theorem yv256_at (off : ℕ) (hs : S1x2240.Slices ![0, off] S1x256) (sc : FVec Ideal S256x1 .f32) (X6 : S5600x2240.Idx → EReal) (X7 : S1x2240.Idx → EReal)
    (X8 : S1x6x2240.Idx → EReal) (X9 : S6x2240.Idx → EReal) (X10 : S1x256x2240.Idx → EReal) (X11 : S1x256x5600.Idx → EReal) (h8 h9 h11 h6 h7 h10)
    (u : Fin 1) (r : Fin 256) (l : Fin 256) :
    yv256 (F := Ideal) off hs sc
      (k0_pay321 (fun x => X8 ((Rect.unit (s := S1x6x2240) ![0, 5, 0] S1x1x2240.size h8).toLoadRect.idx x)) (fun x => X9 ((Rect.unit (s := S6x2240) ![5, 0] S1x2240.size h9).toLoadRect.idx x)))
      (fun x => X11 ((Rect.unit (s := S1x256x5600) ![0, 0, 0] S1x256x5600.size h11).toLoadRect.idx x))
      (fun x => X6 ((Rect.unit (s := S5600x2240) ![0, off] S5600x256.size h6).toLoadRect.idx x))
      (fun x => X7 ((Rect.unit (s := S1x2240) ![0, off] S1x256.size h7).toLoadRect.idx x))
      (fun x => X10 ((Rect.unit (s := S1x256x2240) ![0, 0, off] S1x256x256.size h10).toLoadRect.idx x)) (ix3 u r l)
      = yk (fun n => at2 sc n 0) X6 X7 X8 X9 X10 X11 r.val (off + l.val) := by
  obtain rfl : u = 0 := Subsingleton.elim _ _
  pointwise [yv256, k0_pay321]
  unfold yk
  simp only [at2_ix sc, at2_ix X6, at2_ix X7, at3_ix X8, at2_ix X9, at3_ix X10, at3_ix X11]
  simp only [Nat.zero_add, Nat.add_zero, Fin.val_zero]
  rfl

theorem yv192_at (off : ℕ) (hs : S1x2240.Slices ![0, off] S1x192) (sc : FVec Ideal S256x1 .f32) (X6 : S5600x2240.Idx → EReal) (X7 : S1x2240.Idx → EReal)
    (X8 : S1x6x2240.Idx → EReal) (X9 : S6x2240.Idx → EReal) (X10 : S1x256x2240.Idx → EReal) (X11 : S1x256x5600.Idx → EReal) (h8 h9 h11 h6 h7 h10)
    (u : Fin 1) (r : Fin 256) (l : Fin 192) :
    yv192 (F := Ideal) off hs sc
      (k0_pay321 (fun x => X8 ((Rect.unit (s := S1x6x2240) ![0, 5, 0] S1x1x2240.size h8).toLoadRect.idx x)) (fun x => X9 ((Rect.unit (s := S6x2240) ![5, 0] S1x2240.size h9).toLoadRect.idx x)))
      (fun x => X11 ((Rect.unit (s := S1x256x5600) ![0, 0, 0] S1x256x5600.size h11).toLoadRect.idx x))
      (fun x => X6 ((Rect.unit (s := S5600x2240) ![0, off] S5600x192.size h6).toLoadRect.idx x))
      (fun x => X7 ((Rect.unit (s := S1x2240) ![0, off] S1x192.size h7).toLoadRect.idx x))
      (fun x => X10 ((Rect.unit (s := S1x256x2240) ![0, 0, off] S1x256x192.size h10).toLoadRect.idx x)) (ix3 u r l)
      = yk (fun n => at2 sc n 0) X6 X7 X8 X9 X10 X11 r.val (off + l.val) := by
  obtain rfl : u = 0 := Subsingleton.elim _ _
  pointwise [yv192, k0_pay321]
  unfold yk
  simp only [at2_ix sc, at2_ix X6, at2_ix X7, at3_ix X8, at2_ix X9, at3_ix X10, at3_ix X11]
  simp only [Nat.zero_add, Nat.add_zero, Fin.val_zero]
  rfl

end Cert.KernelIdeal.Hand
end
-- ==== Proof.Lists.lean ====
module

public import proofs.«01_k».proof.Proof.Eval

@[expose] public section

set_option maxRecDepth 16384

noncomputable section

namespace Cert.KernelIdeal.Hand

open Cert.KernelIdeal Cert.KernelIdeal.Gen Cert.FFN
open Idealize.ShloMosaic Idealize.ShloMosaic.TcCoe Idealize.ShloMosaic.Tactic

/-! ## Stores of blocks, read at coordinates -/

section Gen
variable {n0 n1 n2 a0 a1 a2 b0 b1 b2 : ℕ}

theorem mem2 {r : Rect ⟨2, ![n0, n1]⟩} (y : (⟨2, ![n0, n1]⟩ : Shape).Idx) (a0 a1 b0 b1 : ℕ)
    (e : r.off = ![a0, a1]) (e' : r.size = ![b0, b1]) (e1 : ∀ a, r.stride a = 1)
    (h : a0 ≤ (y 0).val ∧ (y 0).val < a0 + b0 ∧ a1 ≤ (y 1).val ∧ (y 1).val < a1 + b1) :
    y ∈ r.set := by
  rw [LoadRect.mem_set]
  intro a
  rw [e, e', e1]
  match a with
  | 0 => exact ⟨(y 0).val - a0, show _ < b0 by omega, show (y 0).val = a0 + 1 * _ by omega⟩
  | 1 => exact ⟨(y 1).val - a1, show _ < b1 by omega, show (y 1).val = a1 + 1 * _ by omega⟩

theorem mem3 {r : Rect ⟨3, ![n0, n1, n2]⟩} (y : (⟨3, ![n0, n1, n2]⟩ : Shape).Idx) (a0 a1 a2 b0 b1 b2 : ℕ)
    (e : r.off = ![a0, a1, a2]) (e' : r.size = ![b0, b1, b2]) (e1 : ∀ a, r.stride a = 1)
    (h : a0 ≤ (y 0).val ∧ (y 0).val < a0 + b0 ∧ a1 ≤ (y 1).val ∧ (y 1).val < a1 + b1 ∧ a2 ≤ (y 2).val ∧ (y 2).val < a2 + b2) :
    y ∈ r.set := by
  rw [LoadRect.mem_set]
  intro a
  rw [e, e', e1]
  match a with
  | 0 => exact ⟨(y 0).val - a0, show _ < b0 by omega, show (y 0).val = a0 + 1 * _ by omega⟩
  | 1 => exact ⟨(y 1).val - a1, show _ < b1 by omega, show (y 1).val = a1 + 1 * _ by omega⟩
  | 2 => exact ⟨(y 2).val - a2, show _ < b2 by omega, show (y 2).val = a2 + 1 * _ by omega⟩

theorem nmem3 {off size : Fin 3 → ℕ} {inb} (y : (⟨3, ![n0, n1, n2]⟩ : Shape).Idx) (a0 a1 a2 b0 b1 b2 : ℕ)
    (e : off = ![a0, a1, a2]) (e' : size = ![b0, b1, b2])
    (h : (y 0).val < a0 ∨ a0 + b0 ≤ (y 0).val ∨ (y 1).val < a1 ∨ a1 + b1 ≤ (y 1).val) :
    y ∉ (Rect.unit (s := ⟨3, ![n0, n1, n2]⟩) off size inb).set := by
  subst e e'
  rw [Rect.mem_set_unit]
  intro H
  have H0 : a0 ≤ (y 0).val ∧ (y 0).val < a0 + b0 := H 0
  have H1 : a1 ≤ (y 1).val ∧ (y 1).val < a1 + b1 := H 1
  omega

theorem piece2 (G : ℕ → ℕ → EReal) {off : Fin 2 → ℕ} (e : off = ![a0, a1]) (inb : ∀ a, off a + ![b0, b1] a ≤ ![n0, n1] a)
    (w : (⟨2, ![b0, b1]⟩ : Shape).Idx → EReal)
    (h : ∀ (r : Fin b0) (l : Fin b1), w (ix2 r l) = G (a0 + r.val) (a1 + l.val)) (x) :
    w x = (fun y : (⟨2, ![n0, n1]⟩ : Shape).Idx => G (y 0).val (y 1).val) ((Rect.unit (s := ⟨2, ![n0, n1]⟩) off ![b0, b1] inb).emb x) := by
  subst e
  obtain ⟨r, l, rfl⟩ : ∃ (r : Fin b0) (l : Fin b1), x = ix2 r l := ⟨x 0, x 1, (ix2_eta x).symm⟩
  rw [h]
  simp only [Rect.emb_apply, Rect.stride_unit, Nat.one_mul]
  rfl

theorem piece3 (G : ℕ → ℕ → ℕ → EReal) {off : Fin 3 → ℕ} (e : off = ![a0, a1, a2]) (inb : ∀ a, off a + ![b0, b1, b2] a ≤ ![n0, n1, n2] a)
    (w : (⟨3, ![b0, b1, b2]⟩ : Shape).Idx → EReal)
    (h : ∀ (u : Fin b0) (r : Fin b1) (l : Fin b2), w (ix3 u r l) = G (a0 + u.val) (a1 + r.val) (a2 + l.val)) (x) :
    w x = (fun y : (⟨3, ![n0, n1, n2]⟩ : Shape).Idx => G (y 0).val (y 1).val (y 2).val) ((Rect.unit (s := ⟨3, ![n0, n1, n2]⟩) off ![b0, b1, b2] inb).emb x) := by
  subst e
  obtain ⟨u, r, l, rfl⟩ : ∃ (u : Fin b0) (r : Fin b1) (l : Fin b2), x = ix3 u r l := ⟨x 0, x 1, x 2, (ix3_eta x).symm⟩
  rw [h]
  simp only [Rect.emb_apply, Rect.stride_unit, Nat.one_mul]
  rfl

end Gen

/-! ## The offsets that depend on the point -/

theorem chunkOff : ∀ j : Fin 48, (Scalar.indexCast (BitVec.ofNat 32 j.val)).toNat = j.val := by decide +kernel
theorem tileOff : ∀ j : Fin 48, 44 ≤ j.val → (Scalar.indexCast (Scalar.muli (Scalar.subi (BitVec.ofNat 32 j.val) 44#32) 256#32)).toNat = 256 * (j.val - 44) := by decide +kernel

theorem off1_eq (i : grid0.Coords) : k0_off1 i = ![(i 1).val, 0, 0] := congrArg (fun n => ![n, 0, 0]) (chunkOff (i 1))
theorem off2_eq (i : grid0.Coords) : k0_off2 i = ![(i 1).val, 72, 0] := congrArg (fun n => ![n, 72, 0]) (chunkOff (i 1))
theorem off3_eq (i : grid0.Coords) : k0_off3 i = ![(i 1).val, 144, 0] := congrArg (fun n => ![n, 144, 0]) (chunkOff (i 1))
theorem off4_eq (i : grid0.Coords) : k0_off4 i = ![(i 1).val, 216, 0] := congrArg (fun n => ![n, 216, 0]) (chunkOff (i 1))
theorem off5_eq (i : grid0.Coords) : k0_off5 i = ![(i 1).val, 288, 0] := congrArg (fun n => ![n, 288, 0]) (chunkOff (i 1))
theorem off6_eq (i : grid0.Coords) : k0_off6 i = ![(i 1).val, 360, 0] := congrArg (fun n => ![n, 360, 0]) (chunkOff (i 1))
theorem off7_eq (i : grid0.Coords) : k0_off7 i = ![(i 1).val, 432, 0] := congrArg (fun n => ![n, 432, 0]) (chunkOff (i 1))
theorem off8_eq (i : grid0.Coords) : k0_off8 i = ![(i 1).val, 504, 0] := congrArg (fun n => ![n, 504, 0]) (chunkOff (i 1))
theorem off9_eq (i : grid0.Coords) : k0_off9 i = ![(i 1).val, 576, 0] := congrArg (fun n => ![n, 576, 0]) (chunkOff (i 1))
theorem off10_eq (i : grid0.Coords) : k0_off10 i = ![(i 1).val, 648, 0] := congrArg (fun n => ![n, 648, 0]) (chunkOff (i 1))
theorem off11_eq (i : grid0.Coords) : k0_off11 i = ![(i 1).val, 720, 0] := congrArg (fun n => ![n, 720, 0]) (chunkOff (i 1))
theorem off12_eq (i : grid0.Coords) : k0_off12 i = ![(i 1).val, 792, 0] := congrArg (fun n => ![n, 792, 0]) (chunkOff (i 1))
theorem off13_eq (i : grid0.Coords) : k0_off13 i = ![(i 1).val, 864, 0] := congrArg (fun n => ![n, 864, 0]) (chunkOff (i 1))
theorem off14_eq (i : grid0.Coords) : k0_off14 i = ![(i 1).val, 936, 0] := congrArg (fun n => ![n, 936, 0]) (chunkOff (i 1))
theorem off15_eq (i : grid0.Coords) (h : 44 ≤ (i 1).val) : k0_off15 i = ![256 * ((i 1).val - 44), 0] := congrArg (fun n => ![n, 0]) (tileOff (i 1) h)
theorem off16_eq (i : grid0.Coords) (h : 44 ≤ (i 1).val) : k0_off16 i = ![0, 256 * ((i 1).val - 44), 0] := congrArg (fun n => ![0, n, 0]) (tileOff (i 1) h)
theorem off17_eq (i : grid0.Coords) (h : 44 ≤ (i 1).val) : k0_off17 i = ![1, 256 * ((i 1).val - 44), 0] := congrArg (fun n => ![1, n, 0]) (tileOff (i 1) h)
theorem off18_eq (i : grid0.Coords) (h : 44 ≤ (i 1).val) : k0_off18 i = ![2, 256 * ((i 1).val - 44), 0] := congrArg (fun n => ![2, n, 0]) (tileOff (i 1) h)
theorem off19_eq (i : grid0.Coords) (h : 44 ≤ (i 1).val) : k0_off19 i = ![3, 256 * ((i 1).val - 44), 0] := congrArg (fun n => ![3, n, 0]) (tileOff (i 1) h)
theorem off20_eq (i : grid0.Coords) (h : 44 ≤ (i 1).val) : k0_off20 i = ![4, 256 * ((i 1).val - 44), 0] := congrArg (fun n => ![4, n, 0]) (tileOff (i 1) h)
theorem off21_eq (i : grid0.Coords) (h : 44 ≤ (i 1).val) : k0_off21 i = ![5, 256 * ((i 1).val - 44), 0] := congrArg (fun n => ![5, n, 0]) (tileOff (i 1) h)
theorem off22_eq (i : grid0.Coords) (h : 44 ≤ (i 1).val) : k0_off22 i = ![6, 256 * ((i 1).val - 44), 0] := congrArg (fun n => ![6, n, 0]) (tileOff (i 1) h)
theorem off23_eq (i : grid0.Coords) (h : 44 ≤ (i 1).val) : k0_off23 i = ![7, 256 * ((i 1).val - 44), 0] := congrArg (fun n => ![7, n, 0]) (tileOff (i 1) h)
theorem off24_eq (i : grid0.Coords) (h : 44 ≤ (i 1).val) : k0_off24 i = ![8, 256 * ((i 1).val - 44), 0] := congrArg (fun n => ![8, n, 0]) (tileOff (i 1) h)
theorem off25_eq (i : grid0.Coords) (h : 44 ≤ (i 1).val) : k0_off25 i = ![9, 256 * ((i 1).val - 44), 0] := congrArg (fun n => ![9, n, 0]) (tileOff (i 1) h)
theorem off26_eq (i : grid0.Coords) (h : 44 ≤ (i 1).val) : k0_off26 i = ![10, 256 * ((i 1).val - 44), 0] := congrArg (fun n => ![10, n, 0]) (tileOff (i 1) h)
theorem off27_eq (i : grid0.Coords) (h : 44 ≤ (i 1).val) : k0_off27 i = ![11, 256 * ((i 1).val - 44), 0] := congrArg (fun n => ![11, n, 0]) (tileOff (i 1) h)
theorem off28_eq (i : grid0.Coords) (h : 44 ≤ (i 1).val) : k0_off28 i = ![12, 256 * ((i 1).val - 44), 0] := congrArg (fun n => ![12, n, 0]) (tileOff (i 1) h)
theorem off29_eq (i : grid0.Coords) (h : 44 ≤ (i 1).val) : k0_off29 i = ![13, 256 * ((i 1).val - 44), 0] := congrArg (fun n => ![13, n, 0]) (tileOff (i 1) h)
theorem off30_eq (i : grid0.Coords) (h : 44 ≤ (i 1).val) : k0_off30 i = ![14, 256 * ((i 1).val - 44), 0] := congrArg (fun n => ![14, n, 0]) (tileOff (i 1) h)
theorem off31_eq (i : grid0.Coords) (h : 44 ≤ (i 1).val) : k0_off31 i = ![15, 256 * ((i 1).val - 44), 0] := congrArg (fun n => ![15, n, 0]) (tileOff (i 1) h)
theorem off32_eq (i : grid0.Coords) (h : 44 ≤ (i 1).val) : k0_off32 i = ![16, 256 * ((i 1).val - 44), 0] := congrArg (fun n => ![16, n, 0]) (tileOff (i 1) h)
theorem off33_eq (i : grid0.Coords) (h : 44 ≤ (i 1).val) : k0_off33 i = ![17, 256 * ((i 1).val - 44), 0] := congrArg (fun n => ![17, n, 0]) (tileOff (i 1) h)
theorem off34_eq (i : grid0.Coords) (h : 44 ≤ (i 1).val) : k0_off34 i = ![18, 256 * ((i 1).val - 44), 0] := congrArg (fun n => ![18, n, 0]) (tileOff (i 1) h)
theorem off35_eq (i : grid0.Coords) (h : 44 ≤ (i 1).val) : k0_off35 i = ![19, 256 * ((i 1).val - 44), 0] := congrArg (fun n => ![19, n, 0]) (tileOff (i 1) h)
theorem off36_eq (i : grid0.Coords) (h : 44 ≤ (i 1).val) : k0_off36 i = ![20, 256 * ((i 1).val - 44), 0] := congrArg (fun n => ![20, n, 0]) (tileOff (i 1) h)
theorem off37_eq (i : grid0.Coords) (h : 44 ≤ (i 1).val) : k0_off37 i = ![21, 256 * ((i 1).val - 44), 0] := congrArg (fun n => ![21, n, 0]) (tileOff (i 1) h)
theorem off38_eq (i : grid0.Coords) (h : 44 ≤ (i 1).val) : k0_off38 i = ![22, 256 * ((i 1).val - 44), 0] := congrArg (fun n => ![22, n, 0]) (tileOff (i 1) h)
theorem off39_eq (i : grid0.Coords) (h : 44 ≤ (i 1).val) : k0_off39 i = ![23, 256 * ((i 1).val - 44), 0] := congrArg (fun n => ![23, n, 0]) (tileOff (i 1) h)
theorem off40_eq (i : grid0.Coords) (h : 44 ≤ (i 1).val) : k0_off40 i = ![24, 256 * ((i 1).val - 44), 0] := congrArg (fun n => ![24, n, 0]) (tileOff (i 1) h)
theorem off41_eq (i : grid0.Coords) (h : 44 ≤ (i 1).val) : k0_off41 i = ![25, 256 * ((i 1).val - 44), 0] := congrArg (fun n => ![25, n, 0]) (tileOff (i 1) h)
theorem off42_eq (i : grid0.Coords) (h : 44 ≤ (i 1).val) : k0_off42 i = ![26, 256 * ((i 1).val - 44), 0] := congrArg (fun n => ![26, n, 0]) (tileOff (i 1) h)
theorem off43_eq (i : grid0.Coords) (h : 44 ≤ (i 1).val) : k0_off43 i = ![27, 256 * ((i 1).val - 44), 0] := congrArg (fun n => ![27, n, 0]) (tileOff (i 1) h)
theorem off44_eq (i : grid0.Coords) (h : 44 ≤ (i 1).val) : k0_off44 i = ![28, 256 * ((i 1).val - 44), 0] := congrArg (fun n => ![28, n, 0]) (tileOff (i 1) h)
theorem off45_eq (i : grid0.Coords) (h : 44 ≤ (i 1).val) : k0_off45 i = ![29, 256 * ((i 1).val - 44), 0] := congrArg (fun n => ![29, n, 0]) (tileOff (i 1) h)
theorem off46_eq (i : grid0.Coords) (h : 44 ≤ (i 1).val) : k0_off46 i = ![30, 256 * ((i 1).val - 44), 0] := congrArg (fun n => ![30, n, 0]) (tileOff (i 1) h)
theorem off47_eq (i : grid0.Coords) (h : 44 ≤ (i 1).val) : k0_off47 i = ![31, 256 * ((i 1).val - 44), 0] := congrArg (fun n => ![31, n, 0]) (tileOff (i 1) h)
theorem off48_eq (i : grid0.Coords) (h : 44 ≤ (i 1).val) : k0_off48 i = ![32, 256 * ((i 1).val - 44), 0] := congrArg (fun n => ![32, n, 0]) (tileOff (i 1) h)
theorem off49_eq (i : grid0.Coords) (h : 44 ≤ (i 1).val) : k0_off49 i = ![33, 256 * ((i 1).val - 44), 0] := congrArg (fun n => ![33, n, 0]) (tileOff (i 1) h)
theorem off50_eq (i : grid0.Coords) (h : 44 ≤ (i 1).val) : k0_off50 i = ![34, 256 * ((i 1).val - 44), 0] := congrArg (fun n => ![34, n, 0]) (tileOff (i 1) h)
theorem off51_eq (i : grid0.Coords) (h : 44 ≤ (i 1).val) : k0_off51 i = ![35, 256 * ((i 1).val - 44), 0] := congrArg (fun n => ![35, n, 0]) (tileOff (i 1) h)
theorem off52_eq (i : grid0.Coords) (h : 44 ≤ (i 1).val) : k0_off52 i = ![36, 256 * ((i 1).val - 44), 0] := congrArg (fun n => ![36, n, 0]) (tileOff (i 1) h)
theorem off53_eq (i : grid0.Coords) (h : 44 ≤ (i 1).val) : k0_off53 i = ![37, 256 * ((i 1).val - 44), 0] := congrArg (fun n => ![37, n, 0]) (tileOff (i 1) h)
theorem off54_eq (i : grid0.Coords) (h : 44 ≤ (i 1).val) : k0_off54 i = ![38, 256 * ((i 1).val - 44), 0] := congrArg (fun n => ![38, n, 0]) (tileOff (i 1) h)
theorem off55_eq (i : grid0.Coords) (h : 44 ≤ (i 1).val) : k0_off55 i = ![39, 256 * ((i 1).val - 44), 0] := congrArg (fun n => ![39, n, 0]) (tileOff (i 1) h)
theorem off56_eq (i : grid0.Coords) (h : 44 ≤ (i 1).val) : k0_off56 i = ![40, 256 * ((i 1).val - 44), 0] := congrArg (fun n => ![40, n, 0]) (tileOff (i 1) h)
theorem off57_eq (i : grid0.Coords) (h : 44 ≤ (i 1).val) : k0_off57 i = ![41, 256 * ((i 1).val - 44), 0] := congrArg (fun n => ![41, n, 0]) (tileOff (i 1) h)
theorem off58_eq (i : grid0.Coords) (h : 44 ≤ (i 1).val) : k0_off58 i = ![42, 256 * ((i 1).val - 44), 0] := congrArg (fun n => ![42, n, 0]) (tileOff (i 1) h)
theorem off59_eq (i : grid0.Coords) (h : 44 ≤ (i 1).val) : k0_off59 i = ![43, 256 * ((i 1).val - 44), 0] := congrArg (fun n => ![43, n, 0]) (tileOff (i 1) h)

/-! ## The stores of an upward point -/

theorem upk_congr (X2 : S1x1008x2240.Idx → EReal) (X3 : S1x1008x128.Idx → EReal) (X4 : S1x2240x256.Idx → EReal) (X5 : S1x16x256.Idx → EReal) {o o' l l' q q' : ℕ} (ho : o = o') (hl : l = l') (hq : q = q') : upk X2 X3 X4 X5 o l q = upk X2 X3 X4 X5 o' l' q' := by
  rw [ho, hl, hq]

theorem upL_pieces (X2 : S1x1008x2240.Idx → EReal) (X3 : S1x1008x128.Idx → EReal) (X4 : S1x2240x256.Idx → EReal) (X5 : S1x16x256.Idx → EReal) : ∀ p ∈ upL (F := Ideal) X2 X3 X4 X5, ∀ x, p.2 x = (fun y : S2x1088x128.Idx => upk X2 X3 X4 X5 (128 * (y 0).val) (y 2).val ((y 1).val - 40)) (p.1.emb x) := by
  unfold upL
  simp only [List.forall_mem_cons]
  refine ⟨?_, ?_, ?_, ?_, ?_, ?_, ?_, ?_, fun p hp => absurd hp List.not_mem_nil⟩
  · refine piece3 (b0 := 1) (b1 := 240) (b2 := 128) (a0 := 1) (a1 := 808) (a2 := 0) (fun a b c => upk X2 X3 X4 X5 (128 * a) c (b - 40)) rfl _ _ fun u r l => ?_
    refine (up240_at X2 X3 X4 X5 128 768 _ _ _ _ _ _ u r l).trans ?_
    have hu := u.isLt
    exact upk_congr _ _ _ _ (by omega) (by omega) (by omega)
  · refine piece3 (b0 := 1) (b1 := 240) (b2 := 128) (a0 := 0) (a1 := 808) (a2 := 0) (fun a b c => upk X2 X3 X4 X5 (128 * a) c (b - 40)) rfl _ _ fun u r l => ?_
    refine (up240_at X2 X3 X4 X5 0 768 _ _ _ _ _ _ u r l).trans ?_
    have hu := u.isLt
    exact upk_congr _ _ _ _ (by omega) (by omega) (by omega)
  · refine piece3 (b0 := 1) (b1 := 256) (b2 := 128) (a0 := 1) (a1 := 552) (a2 := 0) (fun a b c => upk X2 X3 X4 X5 (128 * a) c (b - 40)) rfl _ _ fun u r l => ?_
    refine (up256_at X2 X3 X4 X5 128 512 _ _ _ _ _ _ u r l).trans ?_
    have hu := u.isLt
    exact upk_congr _ _ _ _ (by omega) (by omega) (by omega)
  · refine piece3 (b0 := 1) (b1 := 256) (b2 := 128) (a0 := 0) (a1 := 552) (a2 := 0) (fun a b c => upk X2 X3 X4 X5 (128 * a) c (b - 40)) rfl _ _ fun u r l => ?_
    refine (up256_at X2 X3 X4 X5 0 512 _ _ _ _ _ _ u r l).trans ?_
    have hu := u.isLt
    exact upk_congr _ _ _ _ (by omega) (by omega) (by omega)
  · refine piece3 (b0 := 1) (b1 := 256) (b2 := 128) (a0 := 1) (a1 := 296) (a2 := 0) (fun a b c => upk X2 X3 X4 X5 (128 * a) c (b - 40)) rfl _ _ fun u r l => ?_
    refine (up256_at X2 X3 X4 X5 128 256 _ _ _ _ _ _ u r l).trans ?_
    have hu := u.isLt
    exact upk_congr _ _ _ _ (by omega) (by omega) (by omega)
  · refine piece3 (b0 := 1) (b1 := 256) (b2 := 128) (a0 := 0) (a1 := 296) (a2 := 0) (fun a b c => upk X2 X3 X4 X5 (128 * a) c (b - 40)) rfl _ _ fun u r l => ?_
    refine (up256_at X2 X3 X4 X5 0 256 _ _ _ _ _ _ u r l).trans ?_
    have hu := u.isLt
    exact upk_congr _ _ _ _ (by omega) (by omega) (by omega)
  · refine piece3 (b0 := 1) (b1 := 256) (b2 := 128) (a0 := 1) (a1 := 40) (a2 := 0) (fun a b c => upk X2 X3 X4 X5 (128 * a) c (b - 40)) rfl _ _ fun u r l => ?_
    refine (up256_at X2 X3 X4 X5 128 0 _ _ _ _ _ _ u r l).trans ?_
    have hu := u.isLt
    exact upk_congr _ _ _ _ (by omega) (by omega) (by omega)
  · refine piece3 (b0 := 1) (b1 := 256) (b2 := 128) (a0 := 0) (a1 := 40) (a2 := 0) (fun a b c => upk X2 X3 X4 X5 (128 * a) c (b - 40)) rfl _ _ fun u r l => ?_
    refine (up256_at X2 X3 X4 X5 0 0 _ _ _ _ _ _ u r l).trans ?_
    have hu := u.isLt
    exact upk_congr _ _ _ _ (by omega) (by omega) (by omega)

theorem upL_read (X2 : S1x1008x2240.Idx → EReal) (X3 : S1x1008x128.Idx → EReal) (X4 : S1x2240x256.Idx → EReal) (X5 : S1x16x256.Idx → EReal) {κ} {sp} (v : View sig κ sp S2x1088x128 .f32) (f) (y : S2x1088x128.Idx) (h : 40 ≤ (y 1).val ∧ (y 1).val < 1048) :
    v.read (Elt Ideal) (v.writes (Elt Ideal) f (upL X2 X3 X4 X5)) y = upk X2 X3 X4 X5 (128 * (y 0).val) (y 2).val ((y 1).val - 40) := by
  refine View.read_writes_apply_of_pieces (Val := Elt Ideal) (v := v) (f := f) (fun y : S2x1088x128.Idx => upk X2 X3 X4 X5 (128 * (y 0).val) (y 2).val ((y 1).val - 40)) (upL (F := Ideal) X2 X3 X4 X5) (upL_pieces X2 X3 X4 X5) y ?_
  have h0 : (y 0).val < 2 := (y 0).isLt
  have h2 : (y 2).val < 128 := (y 2).isLt
  rcases (by omega : (808 ≤ (y 1).val ∧ (y 1).val < 1048 ∧ (y 0).val = 1) ∨ (808 ≤ (y 1).val ∧ (y 1).val < 1048 ∧ (y 0).val = 0) ∨ (552 ≤ (y 1).val ∧ (y 1).val < 808 ∧ (y 0).val = 1) ∨ (552 ≤ (y 1).val ∧ (y 1).val < 808 ∧ (y 0).val = 0) ∨ (296 ≤ (y 1).val ∧ (y 1).val < 552 ∧ (y 0).val = 1) ∨ (296 ≤ (y 1).val ∧ (y 1).val < 552 ∧ (y 0).val = 0) ∨ (40 ≤ (y 1).val ∧ (y 1).val < 296 ∧ (y 0).val = 1) ∨ (40 ≤ (y 1).val ∧ (y 1).val < 296 ∧ (y 0).val = 0)) with hh | hh | hh | hh | hh | hh | hh | hh
  · refine ⟨_, .head _, ?_⟩; exact mem3 y 1 808 0 1 240 128 rfl rfl (fun _ => rfl) (by omega)
  · refine ⟨_, .tail _ (.head _), ?_⟩; exact mem3 y 0 808 0 1 240 128 rfl rfl (fun _ => rfl) (by omega)
  · refine ⟨_, .tail _ (.tail _ (.head _)), ?_⟩; exact mem3 y 1 552 0 1 256 128 rfl rfl (fun _ => rfl) (by omega)
  · refine ⟨_, .tail _ (.tail _ (.tail _ (.head _))), ?_⟩; exact mem3 y 0 552 0 1 256 128 rfl rfl (fun _ => rfl) (by omega)
  · refine ⟨_, .tail _ (.tail _ (.tail _ (.tail _ (.head _)))), ?_⟩; exact mem3 y 1 296 0 1 256 128 rfl rfl (fun _ => rfl) (by omega)
  · refine ⟨_, .tail _ (.tail _ (.tail _ (.tail _ (.tail _ (.head _))))), ?_⟩; exact mem3 y 0 296 0 1 256 128 rfl rfl (fun _ => rfl) (by omega)
  · refine ⟨_, .tail _ (.tail _ (.tail _ (.tail _ (.tail _ (.tail _ (.head _)))))), ?_⟩; exact mem3 y 1 40 0 1 256 128 rfl rfl (fun _ => rfl) (by omega)
  · refine ⟨_, .tail _ (.tail _ (.tail _ (.tail _ (.tail _ (.tail _ (.tail _ (.head _))))))), ?_⟩; exact mem3 y 0 40 0 1 256 128 rfl rfl (fun _ => rfl) (by omega)

theorem upL_keep (X2 : S1x1008x2240.Idx → EReal) (X3 : S1x1008x128.Idx → EReal) (X4 : S1x2240x256.Idx → EReal) (X5 : S1x16x256.Idx → EReal) {κ} {sp} (v : View sig κ sp S2x1088x128 .f32) (f) (y : S2x1088x128.Idx) (h : (y 1).val < 40 ∨ 1048 ≤ (y 1).val) :
    v.read (Elt Ideal) (v.writes (Elt Ideal) f (upL X2 X3 X4 X5)) y = v.read (Elt Ideal) f y := by
  refine View.read_writes_apply_of_forall_not_mem (v := v) (f := f) y _ ?_
  unfold upL
  simp only [List.forall_mem_cons]
  exact ⟨nmem3 y 1 808 0 1 240 128 rfl rfl (by omega), nmem3 y 0 808 0 1 240 128 rfl rfl (by omega), nmem3 y 1 552 0 1 256 128 rfl rfl (by omega), nmem3 y 0 552 0 1 256 128 rfl rfl (by omega), nmem3 y 1 296 0 1 256 128 rfl rfl (by omega), nmem3 y 0 296 0 1 256 128 rfl rfl (by omega), nmem3 y 1 40 0 1 256 128 rfl rfl (by omega), nmem3 y 0 40 0 1 256 128 rfl rfl (by omega), fun p hp => absurd hp List.not_mem_nil⟩

theorem cast_at (B : FVec Ideal S72x128 .f32) (u : Fin 1) (r : Fin 72) (l : Fin 128) : shapeCast S1x72x128 B shapeCasts_S72x128_S1x72x128 (ix3 u r l) = B (ix2 r l) := by
  obtain rfl : u = 0 := Subsingleton.elim _ _
  pointwise

theorem hgk_congr (X14 : S2x1088x128.Idx → EReal) (X5 : S1x16x256.Idx → EReal) {l l' q q' : ℕ} (hl : l = l') (hq : q = q') : hgk X14 X5 l q = hgk X14 X5 l' q' := by
  rw [hl, hq]

theorem hgL_pieces (i : grid0.Coords) (h2 : k0_cond2 i = 1#1) (X14 : S2x1088x128.Idx → EReal) (X5 : S1x16x256.Idx → EReal) :
    ∀ p ∈ hgL (F := Ideal) i h2 X14 X5, ∀ x, p.2 x = (fun y : S44x1024x128.Idx => hgk X14 X5 (y 2).val (y 1).val) (p.1.emb x) := by
  unfold hgL
  simp only [List.forall_mem_cons]
  refine ⟨?_, ?_, ?_, ?_, ?_, ?_, ?_, ?_, ?_, ?_, ?_, ?_, ?_, ?_, fun p hp => absurd hp List.not_mem_nil⟩
  · refine piece3 (b0 := 1) (b1 := 72) (b2 := 128) (fun a b c => hgk X14 X5 c b) (off14_eq i) _ _ fun u r l => ?_
    refine (cast_at _ u r l).trans ((hgB13_at X14 X5 r l).trans ?_)
    exact hgk_congr _ _ (by omega) (by omega)
  · refine piece3 (b0 := 1) (b1 := 72) (b2 := 128) (fun a b c => hgk X14 X5 c b) (off13_eq i) _ _ fun u r l => ?_
    refine (cast_at _ u r l).trans ((hgB12_at X14 X5 r l).trans ?_)
    exact hgk_congr _ _ (by omega) (by omega)
  · refine piece3 (b0 := 1) (b1 := 72) (b2 := 128) (fun a b c => hgk X14 X5 c b) (off12_eq i) _ _ fun u r l => ?_
    refine (cast_at _ u r l).trans ((hgB11_at X14 X5 r l).trans ?_)
    exact hgk_congr _ _ (by omega) (by omega)
  · refine piece3 (b0 := 1) (b1 := 72) (b2 := 128) (fun a b c => hgk X14 X5 c b) (off11_eq i) _ _ fun u r l => ?_
    refine (cast_at _ u r l).trans ((hgB10_at X14 X5 r l).trans ?_)
    exact hgk_congr _ _ (by omega) (by omega)
  · refine piece3 (b0 := 1) (b1 := 72) (b2 := 128) (fun a b c => hgk X14 X5 c b) (off10_eq i) _ _ fun u r l => ?_
    refine (cast_at _ u r l).trans ((hgB9_at X14 X5 r l).trans ?_)
    exact hgk_congr _ _ (by omega) (by omega)
  · refine piece3 (b0 := 1) (b1 := 72) (b2 := 128) (fun a b c => hgk X14 X5 c b) (off9_eq i) _ _ fun u r l => ?_
    refine (cast_at _ u r l).trans ((hgB8_at X14 X5 r l).trans ?_)
    exact hgk_congr _ _ (by omega) (by omega)
  · refine piece3 (b0 := 1) (b1 := 72) (b2 := 128) (fun a b c => hgk X14 X5 c b) (off8_eq i) _ _ fun u r l => ?_
    refine (cast_at _ u r l).trans ((hgB7_at X14 X5 r l).trans ?_)
    exact hgk_congr _ _ (by omega) (by omega)
  · refine piece3 (b0 := 1) (b1 := 72) (b2 := 128) (fun a b c => hgk X14 X5 c b) (off7_eq i) _ _ fun u r l => ?_
    refine (cast_at _ u r l).trans ((hgB6_at X14 X5 r l).trans ?_)
    exact hgk_congr _ _ (by omega) (by omega)
  · refine piece3 (b0 := 1) (b1 := 72) (b2 := 128) (fun a b c => hgk X14 X5 c b) (off6_eq i) _ _ fun u r l => ?_
    refine (cast_at _ u r l).trans ((hgB5_at X14 X5 r l).trans ?_)
    exact hgk_congr _ _ (by omega) (by omega)
  · refine piece3 (b0 := 1) (b1 := 72) (b2 := 128) (fun a b c => hgk X14 X5 c b) (off5_eq i) _ _ fun u r l => ?_
    refine (cast_at _ u r l).trans ((hgB4_at X14 X5 r l).trans ?_)
    exact hgk_congr _ _ (by omega) (by omega)
  · refine piece3 (b0 := 1) (b1 := 72) (b2 := 128) (fun a b c => hgk X14 X5 c b) (off4_eq i) _ _ fun u r l => ?_
    refine (cast_at _ u r l).trans ((hgB3_at X14 X5 r l).trans ?_)
    exact hgk_congr _ _ (by omega) (by omega)
  · refine piece3 (b0 := 1) (b1 := 72) (b2 := 128) (fun a b c => hgk X14 X5 c b) (off3_eq i) _ _ fun u r l => ?_
    refine (cast_at _ u r l).trans ((hgB2_at X14 X5 r l).trans ?_)
    exact hgk_congr _ _ (by omega) (by omega)
  · refine piece3 (b0 := 1) (b1 := 72) (b2 := 128) (fun a b c => hgk X14 X5 c b) (off2_eq i) _ _ fun u r l => ?_
    refine (cast_at _ u r l).trans ((hgB1_at X14 X5 r l).trans ?_)
    exact hgk_congr _ _ (by omega) (by omega)
  · refine piece3 (b0 := 1) (b1 := 72) (b2 := 128) (fun a b c => hgk X14 X5 c b) (off1_eq i) _ _ fun u r l => ?_
    refine (cast_at _ u r l).trans ((hgB0_at X14 X5 r l).trans ?_)
    exact hgk_congr _ _ (by omega) (by omega)

theorem hgL_read (i : grid0.Coords) (h2 : k0_cond2 i = 1#1) (X14 : S2x1088x128.Idx → EReal) (X5 : S1x16x256.Idx → EReal) {κ} {sp} (v : View sig κ sp S44x1024x128 .f32) (f) (y : S44x1024x128.Idx)
    (h0 : (y 0).val = (i 1).val) (h1 : (y 1).val < 1008) :
    v.read (Elt Ideal) (v.writes (Elt Ideal) f (hgL i h2 X14 X5)) y = hgk X14 X5 (y 2).val (y 1).val := by
  refine View.read_writes_apply_of_pieces (Val := Elt Ideal) (v := v) (f := f) (fun y : S44x1024x128.Idx => hgk X14 X5 (y 2).val (y 1).val) (hgL (F := Ideal) i h2 X14 X5) (hgL_pieces i h2 X14 X5) y ?_
  have h2' : (y 2).val < 128 := (y 2).isLt
  rcases (by omega : (936 ≤ (y 1).val ∧ (y 1).val < 1008) ∨ (864 ≤ (y 1).val ∧ (y 1).val < 936) ∨ (792 ≤ (y 1).val ∧ (y 1).val < 864) ∨ (720 ≤ (y 1).val ∧ (y 1).val < 792) ∨ (648 ≤ (y 1).val ∧ (y 1).val < 720) ∨ (576 ≤ (y 1).val ∧ (y 1).val < 648) ∨ (504 ≤ (y 1).val ∧ (y 1).val < 576) ∨ (432 ≤ (y 1).val ∧ (y 1).val < 504) ∨ (360 ≤ (y 1).val ∧ (y 1).val < 432) ∨ (288 ≤ (y 1).val ∧ (y 1).val < 360) ∨ (216 ≤ (y 1).val ∧ (y 1).val < 288) ∨ (144 ≤ (y 1).val ∧ (y 1).val < 216) ∨ (72 ≤ (y 1).val ∧ (y 1).val < 144) ∨ (0 ≤ (y 1).val ∧ (y 1).val < 72)) with hh | hh | hh | hh | hh | hh | hh | hh | hh | hh | hh | hh | hh | hh
  · refine ⟨_, .head _, ?_⟩; exact mem3 y (i 1).val 936 0 1 72 128 (off14_eq i) rfl (fun _ => rfl) (by omega)
  · refine ⟨_, .tail _ (.head _), ?_⟩; exact mem3 y (i 1).val 864 0 1 72 128 (off13_eq i) rfl (fun _ => rfl) (by omega)
  · refine ⟨_, .tail _ (.tail _ (.head _)), ?_⟩; exact mem3 y (i 1).val 792 0 1 72 128 (off12_eq i) rfl (fun _ => rfl) (by omega)
  · refine ⟨_, .tail _ (.tail _ (.tail _ (.head _))), ?_⟩; exact mem3 y (i 1).val 720 0 1 72 128 (off11_eq i) rfl (fun _ => rfl) (by omega)
  · refine ⟨_, .tail _ (.tail _ (.tail _ (.tail _ (.head _)))), ?_⟩; exact mem3 y (i 1).val 648 0 1 72 128 (off10_eq i) rfl (fun _ => rfl) (by omega)
  · refine ⟨_, .tail _ (.tail _ (.tail _ (.tail _ (.tail _ (.head _))))), ?_⟩; exact mem3 y (i 1).val 576 0 1 72 128 (off9_eq i) rfl (fun _ => rfl) (by omega)
  · refine ⟨_, .tail _ (.tail _ (.tail _ (.tail _ (.tail _ (.tail _ (.head _)))))), ?_⟩; exact mem3 y (i 1).val 504 0 1 72 128 (off8_eq i) rfl (fun _ => rfl) (by omega)
  · refine ⟨_, .tail _ (.tail _ (.tail _ (.tail _ (.tail _ (.tail _ (.tail _ (.head _))))))), ?_⟩; exact mem3 y (i 1).val 432 0 1 72 128 (off7_eq i) rfl (fun _ => rfl) (by omega)
  · refine ⟨_, .tail _ (.tail _ (.tail _ (.tail _ (.tail _ (.tail _ (.tail _ (.tail _ (.head _)))))))), ?_⟩; exact mem3 y (i 1).val 360 0 1 72 128 (off6_eq i) rfl (fun _ => rfl) (by omega)
  · refine ⟨_, .tail _ (.tail _ (.tail _ (.tail _ (.tail _ (.tail _ (.tail _ (.tail _ (.tail _ (.head _))))))))), ?_⟩; exact mem3 y (i 1).val 288 0 1 72 128 (off5_eq i) rfl (fun _ => rfl) (by omega)
  · refine ⟨_, .tail _ (.tail _ (.tail _ (.tail _ (.tail _ (.tail _ (.tail _ (.tail _ (.tail _ (.tail _ (.head _)))))))))), ?_⟩; exact mem3 y (i 1).val 216 0 1 72 128 (off4_eq i) rfl (fun _ => rfl) (by omega)
  · refine ⟨_, .tail _ (.tail _ (.tail _ (.tail _ (.tail _ (.tail _ (.tail _ (.tail _ (.tail _ (.tail _ (.tail _ (.head _))))))))))), ?_⟩; exact mem3 y (i 1).val 144 0 1 72 128 (off3_eq i) rfl (fun _ => rfl) (by omega)
  · refine ⟨_, .tail _ (.tail _ (.tail _ (.tail _ (.tail _ (.tail _ (.tail _ (.tail _ (.tail _ (.tail _ (.tail _ (.tail _ (.head _)))))))))))), ?_⟩; exact mem3 y (i 1).val 72 0 1 72 128 (off2_eq i) rfl (fun _ => rfl) (by omega)
  · refine ⟨_, .tail _ (.tail _ (.tail _ (.tail _ (.tail _ (.tail _ (.tail _ (.tail _ (.tail _ (.tail _ (.tail _ (.tail _ (.tail _ (.head _))))))))))))), ?_⟩; exact mem3 y (i 1).val 0 0 1 72 128 (off1_eq i) rfl (fun _ => rfl) (by omega)

theorem hgL_keep (i : grid0.Coords) (h2 : k0_cond2 i = 1#1) (X14 : S2x1088x128.Idx → EReal) (X5 : S1x16x256.Idx → EReal) {κ} {sp} (v : View sig κ sp S44x1024x128 .f32) (f) (y : S44x1024x128.Idx)
    (h0 : (y 0).val ≠ (i 1).val) :
    v.read (Elt Ideal) (v.writes (Elt Ideal) f (hgL i h2 X14 X5)) y = v.read (Elt Ideal) f y := by
  refine View.read_writes_apply_of_forall_not_mem (v := v) (f := f) y _ ?_
  unfold hgL
  simp only [List.forall_mem_cons]
  exact ⟨nmem3 y (i 1).val 936 0 1 72 128 (off14_eq i) rfl (by omega), nmem3 y (i 1).val 864 0 1 72 128 (off13_eq i) rfl (by omega), nmem3 y (i 1).val 792 0 1 72 128 (off12_eq i) rfl (by omega), nmem3 y (i 1).val 720 0 1 72 128 (off11_eq i) rfl (by omega), nmem3 y (i 1).val 648 0 1 72 128 (off10_eq i) rfl (by omega), nmem3 y (i 1).val 576 0 1 72 128 (off9_eq i) rfl (by omega), nmem3 y (i 1).val 504 0 1 72 128 (off8_eq i) rfl (by omega), nmem3 y (i 1).val 432 0 1 72 128 (off7_eq i) rfl (by omega), nmem3 y (i 1).val 360 0 1 72 128 (off6_eq i) rfl (by omega), nmem3 y (i 1).val 288 0 1 72 128 (off5_eq i) rfl (by omega), nmem3 y (i 1).val 216 0 1 72 128 (off4_eq i) rfl (by omega), nmem3 y (i 1).val 144 0 1 72 128 (off3_eq i) rfl (by omega), nmem3 y (i 1).val 72 0 1 72 128 (off2_eq i) rfl (by omega), nmem3 y (i 1).val 0 0 1 72 128 (off1_eq i) rfl (by omega), fun p hp => absurd hp List.not_mem_nil⟩

theorem am_piece (X14 : S2x1088x128.Idx → EReal) (X5 : S1x16x256.Idx → EReal) (X16 : S1024x128.Idx → EReal) (b : ℕ) (inb) (B : FVec Ideal S72x128 .f32)
    (hB : ∀ r l, B (ix2 r l) = hgk X14 X5 l.val (b + r.val)) (r : Fin 72) (l : Fin 128) :
    amv (F := Ideal) (fun x => X16 ((Rect.unit (s := S1024x128) ![b, 0] S72x128.size inb).toLoadRect.idx x)) B (ix2 r l)
      = max (at2 X16 (b + r.val) (0 + l.val)) (absE (hgk X14 X5 (0 + l.val) (b + r.val))) := by
  rw [amv_at, hB, Nat.zero_add]
  pointwise
  rw [at2_ix X16]

theorem amL_pieces (X14 : S2x1088x128.Idx → EReal) (X5 : S1x16x256.Idx → EReal) (X16 : S1024x128.Idx → EReal) :
    ∀ p ∈ amL (F := Ideal) X14 X5 X16, ∀ x, p.2 x = (fun y : S1024x128.Idx => max (at2 X16 (y 0).val (y 1).val) (absE (hgk X14 X5 (y 1).val (y 0).val))) (p.1.emb x) := by
  unfold amL
  simp only [List.forall_mem_cons]
  refine ⟨?_, ?_, ?_, ?_, ?_, ?_, ?_, ?_, ?_, ?_, ?_, ?_, ?_, ?_, fun p hp => absurd hp List.not_mem_nil⟩
  · exact piece2 (b0 := 72) (b1 := 128) (a0 := 936) (a1 := 0) (fun a b => max (at2 X16 a b) (absE (hgk X14 X5 b a))) rfl _ _ fun r l => am_piece X14 X5 X16 936 _ _ (fun r l => hgB13_at X14 X5 r l) r l
  · exact piece2 (b0 := 72) (b1 := 128) (a0 := 864) (a1 := 0) (fun a b => max (at2 X16 a b) (absE (hgk X14 X5 b a))) rfl _ _ fun r l => am_piece X14 X5 X16 864 _ _ (fun r l => hgB12_at X14 X5 r l) r l
  · exact piece2 (b0 := 72) (b1 := 128) (a0 := 792) (a1 := 0) (fun a b => max (at2 X16 a b) (absE (hgk X14 X5 b a))) rfl _ _ fun r l => am_piece X14 X5 X16 792 _ _ (fun r l => hgB11_at X14 X5 r l) r l
  · exact piece2 (b0 := 72) (b1 := 128) (a0 := 720) (a1 := 0) (fun a b => max (at2 X16 a b) (absE (hgk X14 X5 b a))) rfl _ _ fun r l => am_piece X14 X5 X16 720 _ _ (fun r l => hgB10_at X14 X5 r l) r l
  · exact piece2 (b0 := 72) (b1 := 128) (a0 := 648) (a1 := 0) (fun a b => max (at2 X16 a b) (absE (hgk X14 X5 b a))) rfl _ _ fun r l => am_piece X14 X5 X16 648 _ _ (fun r l => hgB9_at X14 X5 r l) r l
  · exact piece2 (b0 := 72) (b1 := 128) (a0 := 576) (a1 := 0) (fun a b => max (at2 X16 a b) (absE (hgk X14 X5 b a))) rfl _ _ fun r l => am_piece X14 X5 X16 576 _ _ (fun r l => hgB8_at X14 X5 r l) r l
  · exact piece2 (b0 := 72) (b1 := 128) (a0 := 504) (a1 := 0) (fun a b => max (at2 X16 a b) (absE (hgk X14 X5 b a))) rfl _ _ fun r l => am_piece X14 X5 X16 504 _ _ (fun r l => hgB7_at X14 X5 r l) r l
  · exact piece2 (b0 := 72) (b1 := 128) (a0 := 432) (a1 := 0) (fun a b => max (at2 X16 a b) (absE (hgk X14 X5 b a))) rfl _ _ fun r l => am_piece X14 X5 X16 432 _ _ (fun r l => hgB6_at X14 X5 r l) r l
  · exact piece2 (b0 := 72) (b1 := 128) (a0 := 360) (a1 := 0) (fun a b => max (at2 X16 a b) (absE (hgk X14 X5 b a))) rfl _ _ fun r l => am_piece X14 X5 X16 360 _ _ (fun r l => hgB5_at X14 X5 r l) r l
  · exact piece2 (b0 := 72) (b1 := 128) (a0 := 288) (a1 := 0) (fun a b => max (at2 X16 a b) (absE (hgk X14 X5 b a))) rfl _ _ fun r l => am_piece X14 X5 X16 288 _ _ (fun r l => hgB4_at X14 X5 r l) r l
  · exact piece2 (b0 := 72) (b1 := 128) (a0 := 216) (a1 := 0) (fun a b => max (at2 X16 a b) (absE (hgk X14 X5 b a))) rfl _ _ fun r l => am_piece X14 X5 X16 216 _ _ (fun r l => hgB3_at X14 X5 r l) r l
  · exact piece2 (b0 := 72) (b1 := 128) (a0 := 144) (a1 := 0) (fun a b => max (at2 X16 a b) (absE (hgk X14 X5 b a))) rfl _ _ fun r l => am_piece X14 X5 X16 144 _ _ (fun r l => hgB2_at X14 X5 r l) r l
  · exact piece2 (b0 := 72) (b1 := 128) (a0 := 72) (a1 := 0) (fun a b => max (at2 X16 a b) (absE (hgk X14 X5 b a))) rfl _ _ fun r l => am_piece X14 X5 X16 72 _ _ (fun r l => hgB1_at X14 X5 r l) r l
  · exact piece2 (b0 := 72) (b1 := 128) (a0 := 0) (a1 := 0) (fun a b => max (at2 X16 a b) (absE (hgk X14 X5 b a))) rfl _ _ fun r l => am_piece X14 X5 X16 0 _ _ (fun r l => hgB0_at X14 X5 r l) r l

theorem amL_read (X14 : S2x1088x128.Idx → EReal) (X5 : S1x16x256.Idx → EReal) (X16 : S1024x128.Idx → EReal) {κ} {sp} (v : View sig κ sp S1024x128 .f32) (f) (y : S1024x128.Idx)
    (h1 : (y 0).val < 1008) :
    v.read (Elt Ideal) (v.writes (Elt Ideal) f (amL X14 X5 X16)) y = max (at2 X16 (y 0).val (y 1).val) (absE (hgk X14 X5 (y 1).val (y 0).val)) := by
  refine View.read_writes_apply_of_pieces (Val := Elt Ideal) (v := v) (f := f) (fun y : S1024x128.Idx => max (at2 X16 (y 0).val (y 1).val) (absE (hgk X14 X5 (y 1).val (y 0).val))) (amL (F := Ideal) X14 X5 X16) (amL_pieces X14 X5 X16) y ?_
  have h2' : (y 1).val < 128 := (y 1).isLt
  rcases (by omega : (936 ≤ (y 0).val ∧ (y 0).val < 1008) ∨ (864 ≤ (y 0).val ∧ (y 0).val < 936) ∨ (792 ≤ (y 0).val ∧ (y 0).val < 864) ∨ (720 ≤ (y 0).val ∧ (y 0).val < 792) ∨ (648 ≤ (y 0).val ∧ (y 0).val < 720) ∨ (576 ≤ (y 0).val ∧ (y 0).val < 648) ∨ (504 ≤ (y 0).val ∧ (y 0).val < 576) ∨ (432 ≤ (y 0).val ∧ (y 0).val < 504) ∨ (360 ≤ (y 0).val ∧ (y 0).val < 432) ∨ (288 ≤ (y 0).val ∧ (y 0).val < 360) ∨ (216 ≤ (y 0).val ∧ (y 0).val < 288) ∨ (144 ≤ (y 0).val ∧ (y 0).val < 216) ∨ (72 ≤ (y 0).val ∧ (y 0).val < 144) ∨ (0 ≤ (y 0).val ∧ (y 0).val < 72)) with hh | hh | hh | hh | hh | hh | hh | hh | hh | hh | hh | hh | hh | hh
  · refine ⟨_, .head _, ?_⟩; exact mem2 y 936 0 72 128 rfl rfl (fun _ => rfl) (by omega)
  · refine ⟨_, .tail _ (.head _), ?_⟩; exact mem2 y 864 0 72 128 rfl rfl (fun _ => rfl) (by omega)
  · refine ⟨_, .tail _ (.tail _ (.head _)), ?_⟩; exact mem2 y 792 0 72 128 rfl rfl (fun _ => rfl) (by omega)
  · refine ⟨_, .tail _ (.tail _ (.tail _ (.head _))), ?_⟩; exact mem2 y 720 0 72 128 rfl rfl (fun _ => rfl) (by omega)
  · refine ⟨_, .tail _ (.tail _ (.tail _ (.tail _ (.head _)))), ?_⟩; exact mem2 y 648 0 72 128 rfl rfl (fun _ => rfl) (by omega)
  · refine ⟨_, .tail _ (.tail _ (.tail _ (.tail _ (.tail _ (.head _))))), ?_⟩; exact mem2 y 576 0 72 128 rfl rfl (fun _ => rfl) (by omega)
  · refine ⟨_, .tail _ (.tail _ (.tail _ (.tail _ (.tail _ (.tail _ (.head _)))))), ?_⟩; exact mem2 y 504 0 72 128 rfl rfl (fun _ => rfl) (by omega)
  · refine ⟨_, .tail _ (.tail _ (.tail _ (.tail _ (.tail _ (.tail _ (.tail _ (.head _))))))), ?_⟩; exact mem2 y 432 0 72 128 rfl rfl (fun _ => rfl) (by omega)
  · refine ⟨_, .tail _ (.tail _ (.tail _ (.tail _ (.tail _ (.tail _ (.tail _ (.tail _ (.head _)))))))), ?_⟩; exact mem2 y 360 0 72 128 rfl rfl (fun _ => rfl) (by omega)
  · refine ⟨_, .tail _ (.tail _ (.tail _ (.tail _ (.tail _ (.tail _ (.tail _ (.tail _ (.tail _ (.head _))))))))), ?_⟩; exact mem2 y 288 0 72 128 rfl rfl (fun _ => rfl) (by omega)
  · refine ⟨_, .tail _ (.tail _ (.tail _ (.tail _ (.tail _ (.tail _ (.tail _ (.tail _ (.tail _ (.tail _ (.head _)))))))))), ?_⟩; exact mem2 y 216 0 72 128 rfl rfl (fun _ => rfl) (by omega)
  · refine ⟨_, .tail _ (.tail _ (.tail _ (.tail _ (.tail _ (.tail _ (.tail _ (.tail _ (.tail _ (.tail _ (.tail _ (.head _))))))))))), ?_⟩; exact mem2 y 144 0 72 128 rfl rfl (fun _ => rfl) (by omega)
  · refine ⟨_, .tail _ (.tail _ (.tail _ (.tail _ (.tail _ (.tail _ (.tail _ (.tail _ (.tail _ (.tail _ (.tail _ (.tail _ (.head _)))))))))))), ?_⟩; exact mem2 y 72 0 72 128 rfl rfl (fun _ => rfl) (by omega)
  · refine ⟨_, .tail _ (.tail _ (.tail _ (.tail _ (.tail _ (.tail _ (.tail _ (.tail _ (.tail _ (.tail _ (.tail _ (.tail _ (.tail _ (.head _))))))))))))), ?_⟩; exact mem2 y 0 0 72 128 rfl rfl (fun _ => rfl) (by omega)

/-! ## The stores of a downward point -/

/-- The inverse scale of a row of the tile. -/
def invk (i : grid0.Coords) (h3 : k0_cond3 i = 1#1) (X16 : S1024x128.Idx → EReal) (r : ℕ) : EReal := Ideal.div 1 (at2 (k0_pay258 (F := Ideal) (amAt i h3 X16)) r 0)

/-- A code of a row of the tile. -/
def codek (i : grid0.Coords) (h3 : k0_cond3 i = 1#1) (X15 : S44x1024x128.Idx → EReal) (X16 : S1024x128.Idx → EReal) (r f : ℕ) : EReal :=
  clipE (at3 X15 (f / 128) (256 * ((i 1).val - 44) + r) (f % 128) * invk i h3 X16 r)

theorem code_at (i : grid0.Coords) (h3 : k0_cond3 i = 1#1) (X15 : S44x1024x128.Idx → EReal) (X16 : S1024x128.Idx → EReal) {ch : ℕ} {off : Fin 3 → ℕ} (e : off = ![ch, 256 * ((i 1).val - 44), 0]) (inb)
    (r : Fin 256) (l : Fin 128) :
    codesv (F := Ideal) (k0_pay259 (amAt i h3 X16)) (fun x => X15 ((Rect.unit (s := S44x1024x128) off S1x256x128.size inb).toLoadRect.idx x)) (ix2 r l) = codek i h3 X15 X16 r.val (128 * ch + l.val) := by
  subst e
  rw [codesv_at, inv_at]
  unfold codek invk
  have hl := l.isLt
  rw [(by omega : (128 * ch + l.val) / 128 = ch), (by omega : (128 * ch + l.val) % 128 = l.val), at2_ix (k0_pay258 (F := Ideal) (amAt i h3 X16))]
  pointwise
  rw [at3_ix X15]

theorem code128_at (i : grid0.Coords) (h3 : k0_cond3 i = 1#1) (X15 : S44x1024x128.Idx → EReal) (X16 : S1024x128.Idx → EReal) (C : FVec Ideal S256x128 .fp8e4m3) (ch : ℕ)
    (hC : ∀ r l, C (ix2 r l) = codek i h3 X15 X16 r.val (128 * ch + l.val)) (u : Fin 1) (r : Fin 256) (l : Fin 128) :
    shapeCast S1x256x128 C shapeCasts_S256x128_S1x256x128 (ix3 u r l) = codek i h3 X15 X16 (0 + r.val) (128 * ch + l.val) := by
  obtain rfl : u = 0 := Subsingleton.elim _ _
  rw [Nat.zero_add, ← hC]
  pointwise

theorem code96_at (i : grid0.Coords) (h3 : k0_cond3 i = 1#1) (X15 : S44x1024x128.Idx → EReal) (X16 : S1024x128.Idx → EReal) (C : FVec Ideal S256x128 .fp8e4m3) (ch : ℕ)
    (hC : ∀ r l, C (ix2 r l) = codek i h3 X15 X16 r.val (128 * ch + l.val)) (u : Fin 1) (r : Fin 256) (l : Fin 96) :
    shapeCast S1x256x96 (extractStridedSlice S256x96 ![0, 0] C slices_S256x128_o0_0_S256x96) shapeCasts_S256x96_S1x256x96 (ix3 u r l) = codek i h3 X15 X16 (0 + r.val) (128 * ch + l.val) := by
  obtain rfl : u = 0 := Subsingleton.elim _ _
  rw [Nat.zero_add]
  refine Eq.trans ?_ (hC r ⟨l.val, by omega⟩)
  pointwise

set_option maxHeartbeats 2000000 in
theorem cdL_pieces (i : grid0.Coords) (h3 : k0_cond3 i = 1#1) (h : 44 ≤ (i 1).val) (X15 : S44x1024x128.Idx → EReal) (X16 : S1024x128.Idx → EReal) :
    ∀ p ∈ cdL (F := Ideal) i h3 X15 X16, ∀ x, p.2 x = (fun y : S1x256x5600.Idx => codek i h3 X15 X16 (y 1).val (y 2).val) (p.1.emb x) := by
  unfold cdL
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · exact piece3 (b0 := 1) (b1 := 256) (b2 := 96) (a0 := 0) (a1 := 0) (a2 := 5504) (fun a b n => codek i h3 X15 X16 b n) rfl _ _ fun u r l => code96_at i h3 X15 X16 _ 43 (fun r l => code_at i h3 X15 X16 (off59_eq i h) _ r l) u r l
  · exact piece3 (b0 := 1) (b1 := 256) (b2 := 128) (a0 := 0) (a1 := 0) (a2 := 5376) (fun a b n => codek i h3 X15 X16 b n) rfl _ _ fun u r l => code128_at i h3 X15 X16 _ 42 (fun r l => code_at i h3 X15 X16 (off58_eq i h) _ r l) u r l
  · exact piece3 (b0 := 1) (b1 := 256) (b2 := 128) (a0 := 0) (a1 := 0) (a2 := 5248) (fun a b n => codek i h3 X15 X16 b n) rfl _ _ fun u r l => code128_at i h3 X15 X16 _ 41 (fun r l => code_at i h3 X15 X16 (off57_eq i h) _ r l) u r l
  · exact piece3 (b0 := 1) (b1 := 256) (b2 := 128) (a0 := 0) (a1 := 0) (a2 := 5120) (fun a b n => codek i h3 X15 X16 b n) rfl _ _ fun u r l => code128_at i h3 X15 X16 _ 40 (fun r l => code_at i h3 X15 X16 (off56_eq i h) _ r l) u r l
  · exact piece3 (b0 := 1) (b1 := 256) (b2 := 128) (a0 := 0) (a1 := 0) (a2 := 4992) (fun a b n => codek i h3 X15 X16 b n) rfl _ _ fun u r l => code128_at i h3 X15 X16 _ 39 (fun r l => code_at i h3 X15 X16 (off55_eq i h) _ r l) u r l
  · exact piece3 (b0 := 1) (b1 := 256) (b2 := 128) (a0 := 0) (a1 := 0) (a2 := 4864) (fun a b n => codek i h3 X15 X16 b n) rfl _ _ fun u r l => code128_at i h3 X15 X16 _ 38 (fun r l => code_at i h3 X15 X16 (off54_eq i h) _ r l) u r l
  · exact piece3 (b0 := 1) (b1 := 256) (b2 := 128) (a0 := 0) (a1 := 0) (a2 := 4736) (fun a b n => codek i h3 X15 X16 b n) rfl _ _ fun u r l => code128_at i h3 X15 X16 _ 37 (fun r l => code_at i h3 X15 X16 (off53_eq i h) _ r l) u r l
  · exact piece3 (b0 := 1) (b1 := 256) (b2 := 128) (a0 := 0) (a1 := 0) (a2 := 4608) (fun a b n => codek i h3 X15 X16 b n) rfl _ _ fun u r l => code128_at i h3 X15 X16 _ 36 (fun r l => code_at i h3 X15 X16 (off52_eq i h) _ r l) u r l
  · exact piece3 (b0 := 1) (b1 := 256) (b2 := 128) (a0 := 0) (a1 := 0) (a2 := 4480) (fun a b n => codek i h3 X15 X16 b n) rfl _ _ fun u r l => code128_at i h3 X15 X16 _ 35 (fun r l => code_at i h3 X15 X16 (off51_eq i h) _ r l) u r l
  · exact piece3 (b0 := 1) (b1 := 256) (b2 := 128) (a0 := 0) (a1 := 0) (a2 := 4352) (fun a b n => codek i h3 X15 X16 b n) rfl _ _ fun u r l => code128_at i h3 X15 X16 _ 34 (fun r l => code_at i h3 X15 X16 (off50_eq i h) _ r l) u r l
  · exact piece3 (b0 := 1) (b1 := 256) (b2 := 128) (a0 := 0) (a1 := 0) (a2 := 4224) (fun a b n => codek i h3 X15 X16 b n) rfl _ _ fun u r l => code128_at i h3 X15 X16 _ 33 (fun r l => code_at i h3 X15 X16 (off49_eq i h) _ r l) u r l
  · exact piece3 (b0 := 1) (b1 := 256) (b2 := 128) (a0 := 0) (a1 := 0) (a2 := 4096) (fun a b n => codek i h3 X15 X16 b n) rfl _ _ fun u r l => code128_at i h3 X15 X16 _ 32 (fun r l => code_at i h3 X15 X16 (off48_eq i h) _ r l) u r l
  · exact piece3 (b0 := 1) (b1 := 256) (b2 := 128) (a0 := 0) (a1 := 0) (a2 := 3968) (fun a b n => codek i h3 X15 X16 b n) rfl _ _ fun u r l => code128_at i h3 X15 X16 _ 31 (fun r l => code_at i h3 X15 X16 (off47_eq i h) _ r l) u r l
  · exact piece3 (b0 := 1) (b1 := 256) (b2 := 128) (a0 := 0) (a1 := 0) (a2 := 3840) (fun a b n => codek i h3 X15 X16 b n) rfl _ _ fun u r l => code128_at i h3 X15 X16 _ 30 (fun r l => code_at i h3 X15 X16 (off46_eq i h) _ r l) u r l
  · exact piece3 (b0 := 1) (b1 := 256) (b2 := 128) (a0 := 0) (a1 := 0) (a2 := 3712) (fun a b n => codek i h3 X15 X16 b n) rfl _ _ fun u r l => code128_at i h3 X15 X16 _ 29 (fun r l => code_at i h3 X15 X16 (off45_eq i h) _ r l) u r l
  · exact piece3 (b0 := 1) (b1 := 256) (b2 := 128) (a0 := 0) (a1 := 0) (a2 := 3584) (fun a b n => codek i h3 X15 X16 b n) rfl _ _ fun u r l => code128_at i h3 X15 X16 _ 28 (fun r l => code_at i h3 X15 X16 (off44_eq i h) _ r l) u r l
  · exact piece3 (b0 := 1) (b1 := 256) (b2 := 128) (a0 := 0) (a1 := 0) (a2 := 3456) (fun a b n => codek i h3 X15 X16 b n) rfl _ _ fun u r l => code128_at i h3 X15 X16 _ 27 (fun r l => code_at i h3 X15 X16 (off43_eq i h) _ r l) u r l
  · exact piece3 (b0 := 1) (b1 := 256) (b2 := 128) (a0 := 0) (a1 := 0) (a2 := 3328) (fun a b n => codek i h3 X15 X16 b n) rfl _ _ fun u r l => code128_at i h3 X15 X16 _ 26 (fun r l => code_at i h3 X15 X16 (off42_eq i h) _ r l) u r l
  · exact piece3 (b0 := 1) (b1 := 256) (b2 := 128) (a0 := 0) (a1 := 0) (a2 := 3200) (fun a b n => codek i h3 X15 X16 b n) rfl _ _ fun u r l => code128_at i h3 X15 X16 _ 25 (fun r l => code_at i h3 X15 X16 (off41_eq i h) _ r l) u r l
  · exact piece3 (b0 := 1) (b1 := 256) (b2 := 128) (a0 := 0) (a1 := 0) (a2 := 3072) (fun a b n => codek i h3 X15 X16 b n) rfl _ _ fun u r l => code128_at i h3 X15 X16 _ 24 (fun r l => code_at i h3 X15 X16 (off40_eq i h) _ r l) u r l
  · exact piece3 (b0 := 1) (b1 := 256) (b2 := 128) (a0 := 0) (a1 := 0) (a2 := 2944) (fun a b n => codek i h3 X15 X16 b n) rfl _ _ fun u r l => code128_at i h3 X15 X16 _ 23 (fun r l => code_at i h3 X15 X16 (off39_eq i h) _ r l) u r l
  · exact piece3 (b0 := 1) (b1 := 256) (b2 := 128) (a0 := 0) (a1 := 0) (a2 := 2816) (fun a b n => codek i h3 X15 X16 b n) rfl _ _ fun u r l => code128_at i h3 X15 X16 _ 22 (fun r l => code_at i h3 X15 X16 (off38_eq i h) _ r l) u r l
  · exact piece3 (b0 := 1) (b1 := 256) (b2 := 128) (a0 := 0) (a1 := 0) (a2 := 2688) (fun a b n => codek i h3 X15 X16 b n) rfl _ _ fun u r l => code128_at i h3 X15 X16 _ 21 (fun r l => code_at i h3 X15 X16 (off37_eq i h) _ r l) u r l
  · exact piece3 (b0 := 1) (b1 := 256) (b2 := 128) (a0 := 0) (a1 := 0) (a2 := 2560) (fun a b n => codek i h3 X15 X16 b n) rfl _ _ fun u r l => code128_at i h3 X15 X16 _ 20 (fun r l => code_at i h3 X15 X16 (off36_eq i h) _ r l) u r l
  · exact piece3 (b0 := 1) (b1 := 256) (b2 := 128) (a0 := 0) (a1 := 0) (a2 := 2432) (fun a b n => codek i h3 X15 X16 b n) rfl _ _ fun u r l => code128_at i h3 X15 X16 _ 19 (fun r l => code_at i h3 X15 X16 (off35_eq i h) _ r l) u r l
  · exact piece3 (b0 := 1) (b1 := 256) (b2 := 128) (a0 := 0) (a1 := 0) (a2 := 2304) (fun a b n => codek i h3 X15 X16 b n) rfl _ _ fun u r l => code128_at i h3 X15 X16 _ 18 (fun r l => code_at i h3 X15 X16 (off34_eq i h) _ r l) u r l
  · exact piece3 (b0 := 1) (b1 := 256) (b2 := 128) (a0 := 0) (a1 := 0) (a2 := 2176) (fun a b n => codek i h3 X15 X16 b n) rfl _ _ fun u r l => code128_at i h3 X15 X16 _ 17 (fun r l => code_at i h3 X15 X16 (off33_eq i h) _ r l) u r l
  · exact piece3 (b0 := 1) (b1 := 256) (b2 := 128) (a0 := 0) (a1 := 0) (a2 := 2048) (fun a b n => codek i h3 X15 X16 b n) rfl _ _ fun u r l => code128_at i h3 X15 X16 _ 16 (fun r l => code_at i h3 X15 X16 (off32_eq i h) _ r l) u r l
  · exact piece3 (b0 := 1) (b1 := 256) (b2 := 128) (a0 := 0) (a1 := 0) (a2 := 1920) (fun a b n => codek i h3 X15 X16 b n) rfl _ _ fun u r l => code128_at i h3 X15 X16 _ 15 (fun r l => code_at i h3 X15 X16 (off31_eq i h) _ r l) u r l
  · exact piece3 (b0 := 1) (b1 := 256) (b2 := 128) (a0 := 0) (a1 := 0) (a2 := 1792) (fun a b n => codek i h3 X15 X16 b n) rfl _ _ fun u r l => code128_at i h3 X15 X16 _ 14 (fun r l => code_at i h3 X15 X16 (off30_eq i h) _ r l) u r l
  · exact piece3 (b0 := 1) (b1 := 256) (b2 := 128) (a0 := 0) (a1 := 0) (a2 := 1664) (fun a b n => codek i h3 X15 X16 b n) rfl _ _ fun u r l => code128_at i h3 X15 X16 _ 13 (fun r l => code_at i h3 X15 X16 (off29_eq i h) _ r l) u r l
  · exact piece3 (b0 := 1) (b1 := 256) (b2 := 128) (a0 := 0) (a1 := 0) (a2 := 1536) (fun a b n => codek i h3 X15 X16 b n) rfl _ _ fun u r l => code128_at i h3 X15 X16 _ 12 (fun r l => code_at i h3 X15 X16 (off28_eq i h) _ r l) u r l
  · exact piece3 (b0 := 1) (b1 := 256) (b2 := 128) (a0 := 0) (a1 := 0) (a2 := 1408) (fun a b n => codek i h3 X15 X16 b n) rfl _ _ fun u r l => code128_at i h3 X15 X16 _ 11 (fun r l => code_at i h3 X15 X16 (off27_eq i h) _ r l) u r l
  · exact piece3 (b0 := 1) (b1 := 256) (b2 := 128) (a0 := 0) (a1 := 0) (a2 := 1280) (fun a b n => codek i h3 X15 X16 b n) rfl _ _ fun u r l => code128_at i h3 X15 X16 _ 10 (fun r l => code_at i h3 X15 X16 (off26_eq i h) _ r l) u r l
  · exact piece3 (b0 := 1) (b1 := 256) (b2 := 128) (a0 := 0) (a1 := 0) (a2 := 1152) (fun a b n => codek i h3 X15 X16 b n) rfl _ _ fun u r l => code128_at i h3 X15 X16 _ 9 (fun r l => code_at i h3 X15 X16 (off25_eq i h) _ r l) u r l
  · exact piece3 (b0 := 1) (b1 := 256) (b2 := 128) (a0 := 0) (a1 := 0) (a2 := 1024) (fun a b n => codek i h3 X15 X16 b n) rfl _ _ fun u r l => code128_at i h3 X15 X16 _ 8 (fun r l => code_at i h3 X15 X16 (off24_eq i h) _ r l) u r l
  · exact piece3 (b0 := 1) (b1 := 256) (b2 := 128) (a0 := 0) (a1 := 0) (a2 := 896) (fun a b n => codek i h3 X15 X16 b n) rfl _ _ fun u r l => code128_at i h3 X15 X16 _ 7 (fun r l => code_at i h3 X15 X16 (off23_eq i h) _ r l) u r l
  · exact piece3 (b0 := 1) (b1 := 256) (b2 := 128) (a0 := 0) (a1 := 0) (a2 := 768) (fun a b n => codek i h3 X15 X16 b n) rfl _ _ fun u r l => code128_at i h3 X15 X16 _ 6 (fun r l => code_at i h3 X15 X16 (off22_eq i h) _ r l) u r l
  · exact piece3 (b0 := 1) (b1 := 256) (b2 := 128) (a0 := 0) (a1 := 0) (a2 := 640) (fun a b n => codek i h3 X15 X16 b n) rfl _ _ fun u r l => code128_at i h3 X15 X16 _ 5 (fun r l => code_at i h3 X15 X16 (off21_eq i h) _ r l) u r l
  · exact piece3 (b0 := 1) (b1 := 256) (b2 := 128) (a0 := 0) (a1 := 0) (a2 := 512) (fun a b n => codek i h3 X15 X16 b n) rfl _ _ fun u r l => code128_at i h3 X15 X16 _ 4 (fun r l => code_at i h3 X15 X16 (off20_eq i h) _ r l) u r l
  · exact piece3 (b0 := 1) (b1 := 256) (b2 := 128) (a0 := 0) (a1 := 0) (a2 := 384) (fun a b n => codek i h3 X15 X16 b n) rfl _ _ fun u r l => code128_at i h3 X15 X16 _ 3 (fun r l => code_at i h3 X15 X16 (off19_eq i h) _ r l) u r l
  · exact piece3 (b0 := 1) (b1 := 256) (b2 := 128) (a0 := 0) (a1 := 0) (a2 := 256) (fun a b n => codek i h3 X15 X16 b n) rfl _ _ fun u r l => code128_at i h3 X15 X16 _ 2 (fun r l => code_at i h3 X15 X16 (off18_eq i h) _ r l) u r l
  · exact piece3 (b0 := 1) (b1 := 256) (b2 := 128) (a0 := 0) (a1 := 0) (a2 := 128) (fun a b n => codek i h3 X15 X16 b n) rfl _ _ fun u r l => code128_at i h3 X15 X16 _ 1 (fun r l => code_at i h3 X15 X16 (off17_eq i h) _ r l) u r l
  · exact piece3 (b0 := 1) (b1 := 256) (b2 := 128) (a0 := 0) (a1 := 0) (a2 := 0) (fun a b n => codek i h3 X15 X16 b n) rfl _ _ fun u r l => code128_at i h3 X15 X16 _ 0 (fun r l => code_at i h3 X15 X16 (off16_eq i h) _ r l) u r l

theorem cdL_read (i : grid0.Coords) (h3 : k0_cond3 i = 1#1) (h : 44 ≤ (i 1).val) (X15 : S44x1024x128.Idx → EReal) (X16 : S1024x128.Idx → EReal) {κ} {sp} (v : View sig κ sp S1x256x5600 .fp8e4m3) (f) (y : S1x256x5600.Idx) :
    v.read (Elt Ideal) (v.writes (Elt Ideal) f (cdL i h3 X15 X16)) y = codek i h3 X15 X16 (y 1).val (y 2).val := by
  refine View.read_writes_apply_of_pieces (Val := Elt Ideal) (v := v) (f := f) (fun y : S1x256x5600.Idx => codek i h3 X15 X16 (y 1).val (y 2).val) (cdL (F := Ideal) i h3 X15 X16) (cdL_pieces i h3 h X15 X16) y ?_
  have h0 : (y 0).val < 1 := (y 0).isLt
  have h1 : (y 1).val < 256 := (y 1).isLt
  have h2 : (y 2).val < 5600 := (y 2).isLt
  rcases (by omega : (5504 ≤ (y 2).val ∧ (y 2).val < 5600) ∨ (5376 ≤ (y 2).val ∧ (y 2).val < 5504) ∨ (5248 ≤ (y 2).val ∧ (y 2).val < 5376) ∨ (5120 ≤ (y 2).val ∧ (y 2).val < 5248) ∨ (4992 ≤ (y 2).val ∧ (y 2).val < 5120) ∨ (4864 ≤ (y 2).val ∧ (y 2).val < 4992) ∨ (4736 ≤ (y 2).val ∧ (y 2).val < 4864) ∨ (4608 ≤ (y 2).val ∧ (y 2).val < 4736) ∨ (4480 ≤ (y 2).val ∧ (y 2).val < 4608) ∨ (4352 ≤ (y 2).val ∧ (y 2).val < 4480) ∨ (4224 ≤ (y 2).val ∧ (y 2).val < 4352) ∨ (4096 ≤ (y 2).val ∧ (y 2).val < 4224) ∨ (3968 ≤ (y 2).val ∧ (y 2).val < 4096) ∨ (3840 ≤ (y 2).val ∧ (y 2).val < 3968) ∨ (3712 ≤ (y 2).val ∧ (y 2).val < 3840) ∨ (3584 ≤ (y 2).val ∧ (y 2).val < 3712) ∨ (3456 ≤ (y 2).val ∧ (y 2).val < 3584) ∨ (3328 ≤ (y 2).val ∧ (y 2).val < 3456) ∨ (3200 ≤ (y 2).val ∧ (y 2).val < 3328) ∨ (3072 ≤ (y 2).val ∧ (y 2).val < 3200) ∨ (2944 ≤ (y 2).val ∧ (y 2).val < 3072) ∨ (2816 ≤ (y 2).val ∧ (y 2).val < 2944) ∨ (2688 ≤ (y 2).val ∧ (y 2).val < 2816) ∨ (2560 ≤ (y 2).val ∧ (y 2).val < 2688) ∨ (2432 ≤ (y 2).val ∧ (y 2).val < 2560) ∨ (2304 ≤ (y 2).val ∧ (y 2).val < 2432) ∨ (2176 ≤ (y 2).val ∧ (y 2).val < 2304) ∨ (2048 ≤ (y 2).val ∧ (y 2).val < 2176) ∨ (1920 ≤ (y 2).val ∧ (y 2).val < 2048) ∨ (1792 ≤ (y 2).val ∧ (y 2).val < 1920) ∨ (1664 ≤ (y 2).val ∧ (y 2).val < 1792) ∨ (1536 ≤ (y 2).val ∧ (y 2).val < 1664) ∨ (1408 ≤ (y 2).val ∧ (y 2).val < 1536) ∨ (1280 ≤ (y 2).val ∧ (y 2).val < 1408) ∨ (1152 ≤ (y 2).val ∧ (y 2).val < 1280) ∨ (1024 ≤ (y 2).val ∧ (y 2).val < 1152) ∨ (896 ≤ (y 2).val ∧ (y 2).val < 1024) ∨ (768 ≤ (y 2).val ∧ (y 2).val < 896) ∨ (640 ≤ (y 2).val ∧ (y 2).val < 768) ∨ (512 ≤ (y 2).val ∧ (y 2).val < 640) ∨ (384 ≤ (y 2).val ∧ (y 2).val < 512) ∨ (256 ≤ (y 2).val ∧ (y 2).val < 384) ∨ (128 ≤ (y 2).val ∧ (y 2).val < 256) ∨ (0 ≤ (y 2).val ∧ (y 2).val < 128)) with hh | hh | hh | hh | hh | hh | hh | hh | hh | hh | hh | hh | hh | hh | hh | hh | hh | hh | hh | hh | hh | hh | hh | hh | hh | hh | hh | hh | hh | hh | hh | hh | hh | hh | hh | hh | hh | hh | hh | hh | hh | hh | hh | hh
  · refine ⟨_, .head _, ?_⟩; exact mem3 y 0 0 5504 1 256 96 rfl rfl (fun _ => rfl) (by omega)
  · refine ⟨_, .tail _ (.head _), ?_⟩; exact mem3 y 0 0 5376 1 256 128 rfl rfl (fun _ => rfl) (by omega)
  · refine ⟨_, .tail _ (.tail _ (.head _)), ?_⟩; exact mem3 y 0 0 5248 1 256 128 rfl rfl (fun _ => rfl) (by omega)
  · refine ⟨_, .tail _ (.tail _ (.tail _ (.head _))), ?_⟩; exact mem3 y 0 0 5120 1 256 128 rfl rfl (fun _ => rfl) (by omega)
  · refine ⟨_, .tail _ (.tail _ (.tail _ (.tail _ (.head _)))), ?_⟩; exact mem3 y 0 0 4992 1 256 128 rfl rfl (fun _ => rfl) (by omega)
  · refine ⟨_, .tail _ (.tail _ (.tail _ (.tail _ (.tail _ (.head _))))), ?_⟩; exact mem3 y 0 0 4864 1 256 128 rfl rfl (fun _ => rfl) (by omega)
  · refine ⟨_, .tail _ (.tail _ (.tail _ (.tail _ (.tail _ (.tail _ (.head _)))))), ?_⟩; exact mem3 y 0 0 4736 1 256 128 rfl rfl (fun _ => rfl) (by omega)
  · refine ⟨_, .tail _ (.tail _ (.tail _ (.tail _ (.tail _ (.tail _ (.tail _ (.head _))))))), ?_⟩; exact mem3 y 0 0 4608 1 256 128 rfl rfl (fun _ => rfl) (by omega)
  · refine ⟨_, .tail _ (.tail _ (.tail _ (.tail _ (.tail _ (.tail _ (.tail _ (.tail _ (.head _)))))))), ?_⟩; exact mem3 y 0 0 4480 1 256 128 rfl rfl (fun _ => rfl) (by omega)
  · refine ⟨_, .tail _ (.tail _ (.tail _ (.tail _ (.tail _ (.tail _ (.tail _ (.tail _ (.tail _ (.head _))))))))), ?_⟩; exact mem3 y 0 0 4352 1 256 128 rfl rfl (fun _ => rfl) (by omega)
  · refine ⟨_, .tail _ (.tail _ (.tail _ (.tail _ (.tail _ (.tail _ (.tail _ (.tail _ (.tail _ (.tail _ (.head _)))))))))), ?_⟩; exact mem3 y 0 0 4224 1 256 128 rfl rfl (fun _ => rfl) (by omega)
  · refine ⟨_, .tail _ (.tail _ (.tail _ (.tail _ (.tail _ (.tail _ (.tail _ (.tail _ (.tail _ (.tail _ (.tail _ (.head _))))))))))), ?_⟩; exact mem3 y 0 0 4096 1 256 128 rfl rfl (fun _ => rfl) (by omega)
  · refine ⟨_, .tail _ (.tail _ (.tail _ (.tail _ (.tail _ (.tail _ (.tail _ (.tail _ (.tail _ (.tail _ (.tail _ (.tail _ (.head _)))))))))))), ?_⟩; exact mem3 y 0 0 3968 1 256 128 rfl rfl (fun _ => rfl) (by omega)
  · refine ⟨_, .tail _ (.tail _ (.tail _ (.tail _ (.tail _ (.tail _ (.tail _ (.tail _ (.tail _ (.tail _ (.tail _ (.tail _ (.tail _ (.head _))))))))))))), ?_⟩; exact mem3 y 0 0 3840 1 256 128 rfl rfl (fun _ => rfl) (by omega)
  · refine ⟨_, .tail _ (.tail _ (.tail _ (.tail _ (.tail _ (.tail _ (.tail _ (.tail _ (.tail _ (.tail _ (.tail _ (.tail _ (.tail _ (.tail _ (.head _)))))))))))))), ?_⟩; exact mem3 y 0 0 3712 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.head _))))))))))))))), ?_⟩; exact mem3 y 0 0 3584 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.head _)))))))))))))))), ?_⟩; exact mem3 y 0 0 3456 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.head _))))))))))))))))), ?_⟩; exact mem3 y 0 0 3328 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), ?_⟩; exact mem3 y 0 0 3200 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), ?_⟩; exact mem3 y 0 0 3072 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), ?_⟩; exact mem3 y 0 0 2944 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), ?_⟩; exact mem3 y 0 0 2816 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), ?_⟩; exact mem3 y 0 0 2688 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), ?_⟩; exact mem3 y 0 0 2560 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), ?_⟩; exact mem3 y 0 0 2432 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), ?_⟩; exact mem3 y 0 0 2304 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), ?_⟩; exact mem3 y 0 0 2176 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), ?_⟩; exact mem3 y 0 0 2048 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), ?_⟩; exact mem3 y 0 0 1920 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), ?_⟩; exact mem3 y 0 0 1792 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), ?_⟩; exact mem3 y 0 0 1664 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), ?_⟩; exact mem3 y 0 0 1536 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), ?_⟩; exact mem3 y 0 0 1408 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), ?_⟩; exact mem3 y 0 0 1280 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), ?_⟩; exact mem3 y 0 0 1152 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), ?_⟩; exact mem3 y 0 0 1024 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), ?_⟩; exact mem3 y 0 0 896 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), ?_⟩; exact mem3 y 0 0 768 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), ?_⟩; exact mem3 y 0 0 640 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), ?_⟩; exact mem3 y 0 0 512 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), ?_⟩; exact mem3 y 0 0 384 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))), ?_⟩; exact mem3 y 0 0 256 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))), ?_⟩; exact mem3 y 0 0 128 1 256 128 rfl rfl (fun _ => rfl) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))), ?_⟩; exact mem3 y 0 0 0 1 256 128 rfl rfl (fun _ => rfl) (by omega)

/-- A row's scale in the tile. -/
def sck (i : grid0.Coords) (h3 : k0_cond3 i = 1#1) (X16 : S1024x128.Idx → EReal) (r : ℕ) : EReal := at2 (k0_pay258 (F := Ideal) (amAt i h3 X16)) r 0

theorem yk_congr (sc : ℕ → EReal) (X6 : S5600x2240.Idx → EReal) (X7 : S1x2240.Idx → EReal) (X8 : S1x6x2240.Idx → EReal) (X9 : S6x2240.Idx → EReal) (X10 : S1x256x2240.Idx → EReal) (X11 : S1x256x5600.Idx → EReal)
    {r r' n n' : ℕ} (hr : r = r') (hn : n = n') : yk sc X6 X7 X8 X9 X10 X11 r n = yk sc X6 X7 X8 X9 X10 X11 r' n' := by
  rw [hr, hn]

theorem yL_pieces (i : grid0.Coords) (h3 : k0_cond3 i = 1#1) (X6 : S5600x2240.Idx → EReal) (X7 : S1x2240.Idx → EReal) (X8 : S1x6x2240.Idx → EReal) (X9 : S6x2240.Idx → EReal) (X10 : S1x256x2240.Idx → EReal) (X11 : S1x256x5600.Idx → EReal) (X16 : S1024x128.Idx → EReal) :
    ∀ p ∈ yL (F := Ideal) i h3 X6 X7 X8 X9 X10 X11 X16, ∀ x, p.2 x = (fun y : S1x256x2240.Idx => yk (sck i h3 X16) X6 X7 X8 X9 X10 X11 (y 1).val (y 2).val) (p.1.emb x) := by
  unfold yL
  simp only [List.forall_mem_cons]
  refine ⟨?_, ?_, ?_, ?_, ?_, ?_, ?_, ?_, ?_, fun p hp => absurd hp List.not_mem_nil⟩
  · exact piece3 (b0 := 1) (b1 := 256) (b2 := 192) (a0 := 0) (a1 := 0) (a2 := 2048) (fun a b n => yk (sck i h3 X16) X6 X7 X8 X9 X10 X11 b n) rfl _ _ fun u r l =>
      (yv192_at 2048 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 1792) (fun a b n => yk (sck i h3 X16) X6 X7 X8 X9 X10 X11 b n) rfl _ _ fun u r l =>
      (yv256_at 1792 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 1536) (fun a b n => yk (sck i h3 X16) X6 X7 X8 X9 X10 X11 b n) rfl _ _ fun u r l =>
      (yv256_at 1536 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 1280) (fun a b n => yk (sck i h3 X16) X6 X7 X8 X9 X10 X11 b n) rfl _ _ fun u r l =>
      (yv256_at 1280 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 1024) (fun a b n => yk (sck i h3 X16) X6 X7 X8 X9 X10 X11 b n) rfl _ _ fun u r l =>
      (yv256_at 1024 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 768) (fun a b n => yk (sck i h3 X16) X6 X7 X8 X9 X10 X11 b n) rfl _ _ fun u r l =>
      (yv256_at 768 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 512) (fun a b n => yk (sck i h3 X16) X6 X7 X8 X9 X10 X11 b n) rfl _ _ fun u r l =>
      (yv256_at 512 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 256) (fun a b n => yk (sck i h3 X16) X6 X7 X8 X9 X10 X11 b n) rfl _ _ fun u r l =>
      (yv256_at 256 _ _ X6 X7 X8 X9 X10 X11 _ _ _ _ _ _ u r l).trans (yk_congr _ _ _ _ _ _ _ (by omega) rfl)
  · exact piece3 (b0 := 1) (b1 := 256) (b2 := 256) (a0 := 0) (a1 := 0) (a2 := 0) (fun a b n => yk (sck i h3 X16) X6 X7 X8 X9 X10 X11 b n) rfl _ _ fun u r l =>
      (yv256_at 0 _ _ X6 X7 X8 X9 X10 X11 _ _ _ _ _ _ u r l).trans (yk_congr _ _ _ _ _ _ _ (by omega) rfl)

theorem yL_read (i : grid0.Coords) (h3 : k0_cond3 i = 1#1) (X6 : S5600x2240.Idx → EReal) (X7 : S1x2240.Idx → EReal) (X8 : S1x6x2240.Idx → EReal) (X9 : S6x2240.Idx → EReal) (X10 : S1x256x2240.Idx → EReal) (X11 : S1x256x5600.Idx → EReal) (X16 : S1024x128.Idx → EReal) {κ} {sp} (v : View sig κ sp S1x256x2240 .bf16) (f) (y : S1x256x2240.Idx) :
    v.read (Elt Ideal) (v.writes (Elt Ideal) f (yL i h3 X6 X7 X8 X9 X10 X11 X16)) y = yk (sck i h3 X16) X6 X7 X8 X9 X10 X11 (y 1).val (y 2).val := by
  refine View.read_writes_apply_of_pieces (Val := Elt Ideal) (v := v) (f := f) (fun y : S1x256x2240.Idx => yk (sck i h3 X16) X6 X7 X8 X9 X10 X11 (y 1).val (y 2).val) (yL (F := Ideal) i h3 X6 X7 X8 X9 X10 X11 X16) (yL_pieces i h3 X6 X7 X8 X9 X10 X11 X16) y ?_
  have h0 : (y 0).val < 1 := (y 0).isLt
  have h1 : (y 1).val < 256 := (y 1).isLt
  have h2 : (y 2).val < 2240 := (y 2).isLt
  rcases (by omega : (2048 ≤ (y 2).val ∧ (y 2).val < 2240) ∨ (1792 ≤ (y 2).val ∧ (y 2).val < 2048) ∨ (1536 ≤ (y 2).val ∧ (y 2).val < 1792) ∨ (1280 ≤ (y 2).val ∧ (y 2).val < 1536) ∨ (1024 ≤ (y 2).val ∧ (y 2).val < 1280) ∨ (768 ≤ (y 2).val ∧ (y 2).val < 1024) ∨ (512 ≤ (y 2).val ∧ (y 2).val < 768) ∨ (256 ≤ (y 2).val ∧ (y 2).val < 512) ∨ (0 ≤ (y 2).val ∧ (y 2).val < 256)) with hh | hh | hh | hh | hh | hh | hh | hh | hh
  · refine ⟨_, .head _, ?_⟩; exact mem3 y 0 0 2048 1 256 192 rfl rfl (fun _ => rfl) (by omega)
  · refine ⟨_, .tail _ (.head _), ?_⟩; exact mem3 y 0 0 1792 1 256 256 rfl rfl (fun _ => rfl) (by omega)
  · refine ⟨_, .tail _ (.tail _ (.head _)), ?_⟩; exact mem3 y 0 0 1536 1 256 256 rfl rfl (fun _ => rfl) (by omega)
  · refine ⟨_, .tail _ (.tail _ (.tail _ (.head _))), ?_⟩; exact mem3 y 0 0 1280 1 256 256 rfl rfl (fun _ => rfl) (by omega)
  · refine ⟨_, .tail _ (.tail _ (.tail _ (.tail _ (.head _)))), ?_⟩; exact mem3 y 0 0 1024 1 256 256 rfl rfl (fun _ => rfl) (by omega)
  · refine ⟨_, .tail _ (.tail _ (.tail _ (.tail _ (.tail _ (.head _))))), ?_⟩; exact mem3 y 0 0 768 1 256 256 rfl rfl (fun _ => rfl) (by omega)
  · refine ⟨_, .tail _ (.tail _ (.tail _ (.tail _ (.tail _ (.tail _ (.head _)))))), ?_⟩; exact mem3 y 0 0 512 1 256 256 rfl rfl (fun _ => rfl) (by omega)
  · refine ⟨_, .tail _ (.tail _ (.tail _ (.tail _ (.tail _ (.tail _ (.tail _ (.head _))))))), ?_⟩; exact mem3 y 0 0 256 1 256 256 rfl rfl (fun _ => rfl) (by omega)
  · refine ⟨_, .tail _ (.tail _ (.tail _ (.tail _ (.tail _ (.tail _ (.tail _ (.tail _ (.head _)))))))), ?_⟩; exact mem3 y 0 0 0 1 256 256 rfl rfl (fun _ => rfl) (by omega)

theorem scL_read (i : grid0.Coords) (h3 : k0_cond3 i = 1#1) (X16 : S1024x128.Idx → EReal) {κ} {sp} (v : View sig κ sp S1x1x256 .f32) (f) (inb) (y : S1x1x256.Idx) :
    v.read (Elt Ideal) (v.writes (Elt Ideal) f [⟨Rect.unit (s := S1x1x256) ![0, 0, 0] S1x1x256.size inb, k0_pay260 (F := Ideal) (amAt i h3 X16)⟩]) y = sck i h3 X16 (y 2).val := by
  refine View.read_writes_apply_of_pieces (Val := Elt Ideal) (v := v) (f := f) (fun y : S1x1x256.Idx => sck i h3 X16 (y 2).val) _ ?_ y ?_
  · simp only [List.forall_mem_cons]
    refine ⟨?_, fun p hp => absurd hp List.not_mem_nil⟩
    refine piece3 (b0 := 1) (b1 := 1) (b2 := 256) (a0 := 0) (a1 := 0) (a2 := 0) (fun a b n => sck i h3 X16 n) rfl _ _ fun u w r => ?_
    rw [scaleRow_at, Nat.zero_add]
    exact at2_ix (k0_pay258 (F := Ideal) (amAt i h3 X16)) r 0
  · have h0 : (y 0).val < 1 := (y 0).isLt
    have h1 : (y 1).val < 1 := (y 1).isLt
    have h2 : (y 2).val < 256 := (y 2).isLt
    refine ⟨_, .head _, ?_⟩; exact mem3 y 0 0 0 1 1 256 rfl rfl (fun _ => rfl) (by omega)

/-- A row's scale: from the largest of its lanes' running maxima. -/
theorem sck_eq (i : grid0.Coords) (h3 : k0_cond3 i = 1#1) (h : 44 ≤ (i 1).val) (X16 : S1024x128.Idx → EReal) (r : ℕ) (hr : r < 256) :
    sck i h3 X16 r = scl (Finset.univ.sup fun l : Fin 128 => at2 X16 (256 * ((i 1).val - 44) + r) l.val) := by
  have e := off15_eq i h
  unfold sck
  rw [show at2 (k0_pay258 (F := Ideal) (amAt i h3 X16)) r 0 = _ from (at2_ix (k0_pay258 (F := Ideal) (amAt i h3 X16)) ⟨r, hr⟩ 0).symm, scale_at]
  congr 1
  refine Finset.sup_congr rfl fun l _ => ?_
  unfold amAt
  generalize k0_off15_inb i h3 = hb
  generalize k0_off15 i = o at e hb
  subst e
  pointwise
  rw [at2_ix X16]

end Cert.KernelIdeal.Hand
end
-- ==== Proof.Host.lean ====
module
public import proofs.«01_k».proof.Proof.Lists
public import proofs.«01_k».proof.Proof.Body
public import Idealize.ShloMosaic.Lib.StableHlo.RunRead
@[expose] public section
set_option maxRecDepth 16384
noncomputable section
namespace Cert.KernelIdeal.Hand
open Cert.KernelIdeal Cert.KernelIdeal.Gen Cert.FFN
open Idealize.ShloMosaic Idealize.ShloMosaic.TcCoe Idealize.ShloMosaic.Tactic
open Idealize.ShloMosaic.Pipeline

/-! What the windows' blocks hold, from the arrays as launched. -/

variable (m : (ℓ : Loc nD τ sig) → Buf (Elt Ideal) ℓ) (c : Dev nD)

/-- The upward weights, by chunks. -/
def wupF (a : FVec Ideal S2240x11200 .fp8e4m3) : FVec Ideal S44x2240x256 .fp8e4m3 :=
  shapeCast S44x2240x256 (transpose S44x2240x2x128 [2, 0, 1, 3] (shapeCast S2240x2x44x128
    (concatenate S2240x2x5632 2 [⟨S2240x2x5600, shapeCast S2240x2x5600 a shapeCasts_S2240x11200_S2240x2x5600⟩,
      ⟨S2240x2x32, bitcastToFloat .fp8e4m3 (broadcastInDim S2240x2x32 ![] bcast_S_S2240x2x32 (constantI S_ 8 0#8))⟩] concatenates_S2240x2x5600_S2240x2x32_S2240x2x5632_d2)
    shapeCasts_S2240x2x5632_S2240x2x44x128) transposes_S2240x2x44x128_S44x2240x2x128_2_0_1_3) shapeCasts_S44x2240x2x128_S44x2240x256

/-- The rows of the chunks' parameters, all channels. -/
def rowsF (s b d : FVec Ideal S11200 .f32) (w : FVec Ideal S3x3x11200 .f32) : FVec Ideal S16x11200 .f32 :=
  concatenate S16x11200 0 [⟨S1x11200, broadcastInDim S1x11200 ![1] bcast_S11200_S1x11200_1 s⟩, ⟨S1x11200, broadcastInDim S1x11200 ![1] bcast_S11200_S1x11200_1 b⟩,
    ⟨S1x11200, broadcastInDim S1x11200 ![1] bcast_S11200_S1x11200_1 d⟩, ⟨S9x11200, shapeCast S9x11200 w shapeCasts_S3x3x11200_S9x11200⟩,
    ⟨S4x11200, broadcastInDim S4x11200 ![] bcast_S_S4x11200 (constant S_ .f32 0x00000000#32)⟩] concatenates_S1x11200_S1x11200_S1x11200_S9x11200_S4x11200_S16x11200_d0

/-- The chunks' parameters. -/
def parF (s b d : FVec Ideal S11200 .f32) (w : FVec Ideal S3x3x11200 .f32) : FVec Ideal S44x16x256 .f32 :=
  shapeCast S44x16x256 (transpose S44x16x2x128 [2, 0, 1, 3] (shapeCast S16x2x44x128
    (pad S16x2x5632 ![0, 0, 0] ![0, 0, 32] ![0, 0, 0] (shapeCast S16x2x5600 (rowsF s b d w) shapeCasts_S16x11200_S16x2x5600) (sitofp .f32 (constantI S_ 32 0#32)) pads_S16x2x5600_S16x2x5632_000_000_0320 h_S_)
    shapeCasts_S16x2x5632_S16x2x44x128) transposes_S16x2x44x128_S44x16x2x128_2_0_1_3) shapeCasts_S44x16x2x128_S44x16x256

theorem V_v1 : V m c main_v1 = (broadcastInDim S8x1008x128 ![0, 1, 2] bcast_S8x1008x1_S8x1008x128_0_1_2
      (broadcastInDim S8x1008x1 ![0, 1] bcast_S8x1008_S8x1008x1_0_1 (m (c, Proc.tc.devRef main_arg1))) : (⟨S8x1008x128, .f32⟩ : BufTy).Contents (Elt Ideal)) := by
  unfold V
  after_reads_simp

theorem V_v20 : V m c main_v20 = (broadcastInDim S1x2240 ![1] bcast_S2240_S1x2240_1 (m (c, Proc.tc.devRef main_arg8)) : (⟨S1x2240, .f32⟩ : BufTy).Contents (Elt Ideal)) := by
  unfold V
  after_reads_simp

theorem V_v8 : V m c main_v8 = wupF (m (c, Proc.tc.devRef main_arg2)) := by
  unfold V
  after_reads_simp
  rfl
theorem V_v19 : V m c main_v19 = parF (m (c, Proc.tc.devRef main_arg3)) (m (c, Proc.tc.devRef main_arg4)) (m (c, Proc.tc.devRef main_arg6)) (m (c, Proc.tc.devRef main_arg5)) := by
  unfold V
  after_reads_simp
  rfl

theorem at3_ext {n0 n1 n2 : ℕ} (A : (⟨3, ![n0, n1, n2]⟩ : Shape).Idx → EReal) (e : (⟨3, ![n0, n1, n2]⟩ : Shape).Idx) (a0 a1 a2 : ℕ) (h0 : (e 0).val = a0) (h1 : (e 1).val = a1)
    (h2 : (e 2).val = a2) : A e = at3 A a0 a1 a2 := by
  subst h0 h1 h2
  exact at3_idx A e

theorem at2_ext {n0 n1 : ℕ} (A : (⟨2, ![n0, n1]⟩ : Shape).Idx → EReal) (e : (⟨2, ![n0, n1]⟩ : Shape).Idx) (a0 a1 : ℕ) (h0 : (e 0).val = a0) (h1 : (e 1).val = a1) :
    A e = at2 A a0 a1 := by
  subst h0 h1
  exact at2_idx A e

theorem at3_pos {n0 n1 n2 : ℕ} (A : (⟨3, ![n0, n1, n2]⟩ : Shape).Idx → EReal) {a b c : ℕ} (ha : a < n0) (hb : b < n1) (hc : c < n2) : at3 A a b c = A (ix3 ⟨a, ha⟩ ⟨b, hb⟩ ⟨c, hc⟩) :=
  dif_pos ⟨ha, hb, hc⟩

theorem at2_pos {n0 n1 : ℕ} (A : (⟨2, ![n0, n1]⟩ : Shape).Idx → EReal) {a b : ℕ} (ha : a < n0) (hb : b < n1) : at2 A a b = A (ix2 ⟨a, ha⟩ ⟨b, hb⟩) :=
  dif_pos ⟨ha, hb⟩

theorem at1_pos {n0 : ℕ} (A : (⟨1, ![n0]⟩ : Shape).Idx → EReal) {a : ℕ} (ha : a < n0) : at1 A a = A (ix1 ⟨a, ha⟩) :=
  dif_pos ha

/-! ## The arrays that the host forms -/

theorem wupF_at (a : S2240x11200.Idx → EReal) (j k h l : ℕ) (hj : j < 44) (hk : k < 2240) (hh : h < 2) (hl : l < 128) (hf : 128 * j + l < 5600) :
    at3 (wupF a) j k (128 * h + l) = at2 a k (5600 * h + (128 * j + l)) := by
  rw [at3_pos _ hj hk (by omega)]
  pointwise [wupF]
  rw [dif_pos (by omega), at2_ix a]
  congr 1
  show (128 * h + l) / 128 * 5600 + (j * 128 + (128 * h + l) % 128) = _
  omega

theorem rowsF_at (D : Inp) (n ch : ℕ) (hn : n < 12) (hc : ch < 11200) : at2 (rowsF D.sup D.bup D.dwb D.dww) n ch = prow D ch n := by
  rw [at2_pos _ (by omega) hc]
  pointwise [rowsF]
  simp only [at1_ix D.sup, at1_ix D.bup, at1_ix D.dwb, at3_ix D.dww]
  unfold prow
  by_cases h0 : n = 0
  · rw [dif_pos (show n < 1 by omega), if_pos h0]
  rw [dif_neg (show ¬ n < 1 by omega), if_neg h0]
  by_cases h1 : n = 1
  · rw [dif_pos (show n - 1 < 1 by omega), if_pos h1]
  rw [dif_neg (show ¬ n - 1 < 1 by omega), if_neg h1]
  by_cases h2 : n = 2
  · rw [dif_pos (show n - 1 - 1 < 1 by omega), if_pos h2]
  rw [dif_neg (show ¬ n - 1 - 1 < 1 by omega), if_neg h2, dif_pos (show n - 1 - 1 - 1 < 9 by omega)]
  rfl

theorem parF_at (D : Inp) (j n h l : ℕ) (hj : j < 44) (hn : n < 12) (hh : h < 2) (hl : l < 128) (hf : 128 * j + l < 5600) :
    at3 (parF D.sup D.bup D.dwb D.dww) j n (128 * h + l) = prow D (5600 * h + (128 * j + l)) n := by
  rw [at3_pos _ hj (show n < 16 by omega) (by omega), ← rowsF_at D n _ hn (by omega)]
  pointwise [parF]
  rw [dif_pos (by omega), at2_ix (rowsF D.sup D.bup D.dwb D.dww)]
  congr 1
  show (128 * h + l) / 128 * 5600 + (j * 128 + (128 * h + l) % 128) = _
  omega

theorem parF_zero (D : Inp) (j n h l : ℕ) (hj : j < 44) (hn : n < 12) (hh : h < 2) (hl : l < 128) (hf : ¬ 128 * j + l < 5600) :
    at3 (parF D.sup D.bup D.dwb D.dww) j n (128 * h + l) = 0 := by
  rw [at3_pos _ hj (show n < 16 by omega) (by omega)]
  pointwise [parF]
  rw [dif_neg (by omega)]
  show (((0#32 : BitVec 32).toInt : ℝ) : EReal) = 0
  simp

/-- The arrays as launched. -/
def inp : Inp where
  codes := m (c, Proc.tc.devRef main_arg0)
  scales := m (c, Proc.tc.devRef main_arg1)
  wup := m (c, Proc.tc.devRef main_arg2)
  sup := m (c, Proc.tc.devRef main_arg3)
  bup := m (c, Proc.tc.devRef main_arg4)
  dww := m (c, Proc.tc.devRef main_arg5)
  dwb := m (c, Proc.tc.devRef main_arg6)
  wdn := m (c, Proc.tc.devRef main_arg7)
  sdn := m (c, Proc.tc.devRef main_arg8)
  t6 := m (c, Proc.tc.devRef main_arg9)
  table := m (c, Proc.tc.devRef main_arg10)
  r2 := m (c, Proc.tc.devRef main_arg11)

/-! ## The windows' blocks -/

theorem tr0 : ∀ t : Fin cfg0.N, cc0_transform_0 (grid0.coords t) = ![t.val / 48, 0, 0] := by decide +kernel
theorem tr1 : ∀ t : Fin cfg0.N, cc0_transform_1 (grid0.coords t) = ![t.val / 48, 0, 0] := by decide +kernel
theorem tr2 : ∀ t : Fin cfg0.N, cc0_transform_2 (grid0.coords t) = ![min (t.val % 48) 43, 0, 0] := by decide +kernel
theorem tr3 : ∀ t : Fin cfg0.N, cc0_transform_3 (grid0.coords t) = ![min (t.val % 48) 43, 0, 0] := by decide +kernel
theorem tr4 : ∀ t : Fin cfg0.N, cc0_transform_4 (grid0.coords t) = ![0, 0] := by decide +kernel
theorem tr5 : ∀ t : Fin cfg0.N, cc0_transform_5 (grid0.coords t) = ![0, 0] := by decide +kernel
theorem tr6 : ∀ t : Fin cfg0.N, cc0_transform_6 (grid0.coords t) = ![t.val / 48, 0, 0] := by decide +kernel
theorem tr7 : ∀ t : Fin cfg0.N, cc0_transform_7 (grid0.coords t) = ![0, 0] := by decide +kernel
theorem tr8 : ∀ t : Fin cfg0.N, cc0_transform_8 (grid0.coords t) = ![t.val / 48, t.val % 48 - 44, 0] := by decide +kernel
theorem tr9 : ∀ t : Fin cfg0.N, cc0_transform_9 (grid0.coords t) = ![t.val / 48, t.val % 48 - 44, 0] := by decide +kernel
theorem tr10 : ∀ t : Fin cfg0.N, cc0_transform_10 (grid0.coords t) = ![t.val / 48, 0, t.val % 48 - 44] := by decide +kernel
theorem tr11 : ∀ t : Fin cfg0.N, cc0_transform_11 (grid0.coords t) = ![t.val / 48, t.val % 48 - 44, 0] := by decide +kernel

theorem iblk0_at (t : Fin cfg0.N) (q k : ℕ) (hq : q < 1008) (hk : k < 2240) :
    at3 (n0 := 1) (n1 := 1008) (n2 := 2240) (iblk m c 0 t) 0 q k = at3 (inp m c).codes (t.val / 48) q k := by
  rw [at3_pos _ (by omega) hq hk]
  have e := tr0 t
  refine (congrFun (V_main_arg0 m c) _).trans (at3_ext (inp m c).codes _ _ _ _ ?_ ?_ ?_)
  · exact ((cfg0.win 0).rect_emb_val t _ 0).trans (by show cc0_transform_0 (grid0.coords t) 0 * 1 + 0 = _; rw [e]; simp)
  · exact ((cfg0.win 0).rect_emb_val t _ 1).trans (by show cc0_transform_0 (grid0.coords t) 1 * 1008 + q = _; rw [e]; simp)
  · exact ((cfg0.win 0).rect_emb_val t _ 2).trans (by show cc0_transform_0 (grid0.coords t) 2 * 2240 + k = _; rw [e]; simp)

theorem iblk1_at (t : Fin cfg0.N) (q l : ℕ) (hq : q < 1008) (hl : l < 128) :
    at3 (n0 := 1) (n1 := 1008) (n2 := 128) (iblk m c 1 t) 0 q l = at2 (inp m c).scales (t.val / 48) q := by
  have ht : t.val < 384 := t.isLt
  rw [at3_pos _ (by omega) hq hl]
  have e := tr1 t
  refine (congrFun (V_v1 m c) _).trans ((at3_ext (n0 := 8) (n1 := 1008) (n2 := 128) _ _ (t.val / 48) q l ?_ ?_ ?_).trans ?_)
  · exact ((cfg0.win 1).rect_emb_val t _ 0).trans (by show cc0_transform_1 (grid0.coords t) 0 * 1 + 0 = _; rw [e]; simp)
  · exact ((cfg0.win 1).rect_emb_val t _ 1).trans (by show cc0_transform_1 (grid0.coords t) 1 * 1008 + q = _; rw [e]; simp)
  · exact ((cfg0.win 1).rect_emb_val t _ 2).trans (by show cc0_transform_1 (grid0.coords t) 2 * 128 + l = _; rw [e]; simp)
  · rw [at3_pos _ (show t.val / 48 < 8 by omega) hq hl, at2_pos _ (show t.val / 48 < 8 by omega) hq]
    pointwise []
    rfl

theorem iblk2_at (t : Fin cfg0.N) (h0 : t.val % 48 < 44) (k h l : ℕ) (hk : k < 2240) (hh : h < 2) (hl : l < 128)
    (hf : 128 * (t.val % 48) + l < 5600) :
    at3 (n0 := 1) (n1 := 2240) (n2 := 256) (iblk m c 2 t) 0 k (128 * h + l) = at2 (inp m c).wup k (5600 * h + (128 * (t.val % 48) + l)) := by
  rw [at3_pos _ (by omega) hk (by omega)]
  have e := tr2 t
  rw [min_eq_left (by omega)] at e
  refine (congrFun (V_v8 m c) _).trans ((at3_ext (n0 := 44) (n1 := 2240) (n2 := 256) _ _ (t.val % 48) k (128 * h + l) ?_ ?_ ?_).trans
    (wupF_at _ _ _ _ _ h0 hk hh hl hf))
  · exact ((cfg0.win 2).rect_emb_val t _ 0).trans (by show cc0_transform_2 (grid0.coords t) 0 * 1 + 0 = _; rw [e]; simp)
  · exact ((cfg0.win 2).rect_emb_val t _ 1).trans (by show cc0_transform_2 (grid0.coords t) 1 * 2240 + k = _; rw [e]; simp)
  · exact ((cfg0.win 2).rect_emb_val t _ 2).trans (by show cc0_transform_2 (grid0.coords t) 2 * 256 + (128 * h + l) = _; rw [e]; simp)

theorem iblk3_par (t : Fin cfg0.N) (h0 : t.val % 48 < 44) (n k : ℕ) (hn : n < 12) (hk : k < 256) :
    at3 (n0 := 1) (n1 := 16) (n2 := 256) (iblk m c 3 t) 0 n k
      = at3 (parF (inp m c).sup (inp m c).bup (inp m c).dwb (inp m c).dww) (t.val % 48) n k := by
  rw [at3_pos _ (by omega) (show n < 16 by omega) hk]
  have e := tr3 t
  rw [min_eq_left (by omega)] at e
  refine (congrFun (V_v19 m c) _).trans (at3_ext (n0 := 44) (n1 := 16) (n2 := 256) _ _ (t.val % 48) n k ?_ ?_ ?_)
  · exact ((cfg0.win 3).rect_emb_val t _ 0).trans (by show cc0_transform_3 (grid0.coords t) 0 * 1 + 0 = _; rw [e]; simp)
  · exact ((cfg0.win 3).rect_emb_val t _ 1).trans (by show cc0_transform_3 (grid0.coords t) 1 * 16 + n = _; rw [e]; simp)
  · exact ((cfg0.win 3).rect_emb_val t _ 2).trans (by show cc0_transform_3 (grid0.coords t) 2 * 256 + k = _; rw [e]; simp)

theorem iblk3_at (t : Fin cfg0.N) (h0 : t.val % 48 < 44) (n h l : ℕ) (hn : n < 12) (hh : h < 2) (hl : l < 128)
    (hf : 128 * (t.val % 48) + l < 5600) :
    at3 (n0 := 1) (n1 := 16) (n2 := 256) (iblk m c 3 t) 0 n (128 * h + l) = prow (inp m c) (5600 * h + (128 * (t.val % 48) + l)) n :=
  (iblk3_par m c t h0 n _ hn (by omega)).trans (parF_at (inp m c) _ _ _ _ h0 hn hh hl hf)

theorem iblk3_zero (t : Fin cfg0.N) (h0 : t.val % 48 < 44) (n h l : ℕ) (hn : n < 12) (hh : h < 2) (hl : l < 128)
    (hf : ¬ 128 * (t.val % 48) + l < 5600) :
    at3 (n0 := 1) (n1 := 16) (n2 := 256) (iblk m c 3 t) 0 n (128 * h + l) = 0 :=
  (iblk3_par m c t h0 n _ hn (by omega)).trans (parF_zero (inp m c) _ _ _ _ h0 hn hh hl hf)

theorem iblk4_at (t : Fin cfg0.N) (f n : ℕ) (hf : f < 5600) (hn : n < 2240) :
    at2 (n0 := 5600) (n1 := 2240) (iblk m c 4 t) f n = at2 (inp m c).wdn f n := by
  rw [at2_pos _ hf hn]
  have e := tr4 t
  refine (congrFun (V_main_arg7 m c) _).trans (at2_ext (inp m c).wdn _ _ _ ?_ ?_)
  · exact ((cfg0.win 4).rect_emb_val t _ 0).trans (by show cc0_transform_4 (grid0.coords t) 0 * 5600 + f = _; rw [e]; simp)
  · exact ((cfg0.win 4).rect_emb_val t _ 1).trans (by show cc0_transform_4 (grid0.coords t) 1 * 2240 + n = _; rw [e]; simp)

theorem iblk5_at (t : Fin cfg0.N) (n : ℕ) (hn : n < 2240) :
    at2 (n0 := 1) (n1 := 2240) (iblk m c 5 t) 0 n = at1 (inp m c).sdn n := by
  rw [at2_pos _ (by omega) hn]
  have e := tr5 t
  refine (congrFun (V_v20 m c) _).trans ((at2_ext (n0 := 1) (n1 := 2240) _ _ 0 n ?_ ?_).trans ?_)
  · exact ((cfg0.win 5).rect_emb_val t _ 0).trans (by show cc0_transform_5 (grid0.coords t) 0 * 1 + 0 = _; rw [e]; simp)
  · exact ((cfg0.win 5).rect_emb_val t _ 1).trans (by show cc0_transform_5 (grid0.coords t) 1 * 2240 + n = _; rw [e]; simp)
  · rw [at2_pos _ (by omega) hn, at1_pos _ hn]
    pointwise []
    rfl

theorem iblk6_at (t : Fin cfg0.N) (r n : ℕ) (hr : r < 6) (hn : n < 2240) :
    at3 (n0 := 1) (n1 := 6) (n2 := 2240) (iblk m c 6 t) 0 r n = at3 (inp m c).t6 (t.val / 48) r n := by
  rw [at3_pos _ (by omega) hr hn]
  have e := tr6 t
  refine (congrFun (V_main_arg9 m c) _).trans (at3_ext (inp m c).t6 _ _ _ _ ?_ ?_ ?_)
  · exact ((cfg0.win 6).rect_emb_val t _ 0).trans (by show cc0_transform_6 (grid0.coords t) 0 * 1 + 0 = _; rw [e]; simp)
  · exact ((cfg0.win 6).rect_emb_val t _ 1).trans (by show cc0_transform_6 (grid0.coords t) 1 * 6 + r = _; rw [e]; simp)
  · exact ((cfg0.win 6).rect_emb_val t _ 2).trans (by show cc0_transform_6 (grid0.coords t) 2 * 2240 + n = _; rw [e]; simp)

theorem iblk7_at (t : Fin cfg0.N) (r n : ℕ) (hr : r < 6) (hn : n < 2240) :
    at2 (n0 := 6) (n1 := 2240) (iblk m c 7 t) r n = at2 (inp m c).table r n := by
  rw [at2_pos _ hr hn]
  have e := tr7 t
  refine (congrFun (V_main_arg10 m c) _).trans (at2_ext (inp m c).table _ _ _ ?_ ?_)
  · exact ((cfg0.win 7).rect_emb_val t _ 0).trans (by show cc0_transform_7 (grid0.coords t) 0 * 6 + r = _; rw [e]; simp)
  · exact ((cfg0.win 7).rect_emb_val t _ 1).trans (by show cc0_transform_7 (grid0.coords t) 1 * 2240 + n = _; rw [e]; simp)

/-- How many rows of a block of 256 rows lie in the array of 1008. -/
theorem cut8 : ∀ t : Fin cfg0.N, (cfg0.win 8).xsize (grid0.coords t) = ![1, min 256 (1008 - 256 * (t.val % 48 - 44)), 2240] := by decide +kernel
theorem cut9 : ∀ t : Fin cfg0.N, (cfg0.win 9).xsize (grid0.coords t) = ![1, min 256 (1008 - 256 * (t.val % 48 - 44)), 5600] := by decide +kernel
theorem cut10 : ∀ t : Fin cfg0.N, (cfg0.win 10).xsize (grid0.coords t) = ![1, 1, min 256 (1008 - 256 * (t.val % 48 - 44))] := by decide +kernel
theorem cut11 : ∀ t : Fin cfg0.N, (cfg0.win 11).xsize (grid0.coords t) = ![1, min 256 (1008 - 256 * (t.val % 48 - 44)), 2240] := by decide +kernel

/-- The block of the residual, where it lies in the array. -/
theorem fill8_at (t : Fin cfg0.N) (d : (cfg0.win 8).block.Idx → EReal) (r n : ℕ) (hr : r < 256) (hn : n < 2240)
    (h : 256 * (t.val % 48 - 44) + r < 1008) :
    at3 (n0 := 1) (n1 := 256) (n2 := 2240) ((cfg0.win 8).fill (grid0.coords t) d (iblk m c 8 t)) 0 r n
      = at3 (inp m c).r2 (t.val / 48) (256 * (t.val % 48 - 44) + r) n := by
  rw [at3_pos _ (by omega) hr hn]
  have e := tr8 t
  unfold Window.fill
  rw [dif_pos]
  · refine (congrFun (V_main_arg11 m c) _).trans (at3_ext (inp m c).r2 _ _ _ _ ?_ ?_ ?_)
    · exact ((cfg0.win 8).rect_emb_val t _ 0).trans (by show cc0_transform_8 (grid0.coords t) 0 * 1 + 0 = _; rw [e]; simp)
    · exact ((cfg0.win 8).rect_emb_val t _ 1).trans (by show cc0_transform_8 (grid0.coords t) 1 * 256 + r = _; rw [e]; simp [mul_comm])
    · exact ((cfg0.win 8).rect_emb_val t _ 2).trans (by show cc0_transform_8 (grid0.coords t) 2 * 2240 + n = _; rw [e]; simp)
  · rw [Window.moved_iff]
    have hc := cut8 t
    intro a
    rw [hc]
    fin_cases a
    · show 0 < 1
      omega
    · show r < min 256 _
      omega
    · show n < 2240
      omega

end Cert.KernelIdeal.Hand
end
-- ==== Proof.State.lean ====
module

public import proofs.«01_k».proof.Proof.Spec

@[expose] public section

noncomputable section

namespace Cert.FFN

open Idealize.ShloMosaic

/-! The gated activations by chunks of 128 lanes, and the running row maxima of the chunks. -/

/-- Lane `l` of chunk `ch`; the lanes past the last channel are zero. -/
def HGp (D : Inp) (b ch l r : ℕ) : EReal := if 128 * ch + l < 5600 then HG D b (128 * ch + l) r else 0

/-- The largest magnitude of lane `l` over the first chunks. -/
def AMr (D : Inp) (b r l : ℕ) : ℕ → EReal
  | 0 => 0
  | n + 1 => max (AMr D b r l n) (absE (HGp D b n l r))

theorem conv_congr {p p' w w' : ℕ → EReal} {q : ℕ} (hq : q < 1008) (hp : ∀ n, n < 1088 → p n = p' n) (hw : ∀ n, n < 12 → w n = w' n) :
    conv p w q = conv p' w' q := by
  unfold conv
  simp only [hp (q + 3) (by omega), hp (q + 39) (by omega), hp (q + 75) (by omega), hp (q + 4) (by omega), hp (q + 40) (by omega), hp (q + 76) (by omega),
    hp (q + 5) (by omega), hp (q + 41) (by omega), hp (q + 77) (by omega), hw 2 (by omega), hw 3 (by omega), hw 4 (by omega), hw 5 (by omega), hw 6 (by omega),
    hw 7 (by omega), hw 8 (by omega), hw 9 (by omega), hw 10 (by omega), hw 11 (by omega)]

theorem conv_zero {p w : ℕ → EReal} {q : ℕ} (hw : ∀ n, n < 12 → w n = 0) : conv p w q = 0 := by
  unfold conv
  simp [hw 2 (by omega), hw 3 (by omega), hw 4 (by omega), hw 5 (by omega), hw 6 (by omega),
    hw 7 (by omega), hw 8 (by omega), hw 9 (by omega), hw 10 (by omega), hw 11 (by omega)]

theorem absE_nonneg (v : EReal) : 0 ≤ absE v := by
  unfold absE
  rcases le_total 0 v with h | h
  · exact le_max_of_le_left h
  · exact le_max_of_le_right (EReal.neg_nonneg.2 h)

theorem absE_zero : absE 0 = 0 := by simp [absE]

theorem AMr_zero (D : Inp) (b r l : ℕ) : AMr D b r l 0 = 0 := rfl
theorem AMr_succ (D : Inp) (b r l n : ℕ) : AMr D b r l (n + 1) = max (AMr D b r l n) (absE (HGp D b n l r)) := rfl

theorem le_usup {n : ℕ} (g : ℕ → EReal) (f : ℕ) (hf : f < n) : g f ≤ Finset.univ.sup fun f : Fin n => g f.val :=
  Finset.le_sup (f := fun f : Fin n => g f.val) (Finset.mem_univ ⟨f, hf⟩)

theorem usup_le {n : ℕ} (g : ℕ → EReal) (M : EReal) (h : ∀ f, f < n → g f ≤ M) : (Finset.univ.sup fun f : Fin n => g f.val) ≤ M :=
  Finset.sup_le fun f _ => h f.val f.isLt

theorem RM_ge (D : Inp) (b q f : ℕ) (hf : f < 5600) : absE (HG D b f q) ≤ RM D b q :=
  le_usup (fun f => absE (HG D b f q)) f hf

theorem RM_nonneg (D : Inp) (b q : ℕ) : 0 ≤ RM D b q :=
  le_trans (absE_nonneg _) (RM_ge D b q 0 (by omega))

theorem AMr_le (D : Inp) (b r l n : ℕ) : AMr D b r l n ≤ RM D b r := by
  have h0 := RM_nonneg D b r
  have h1 := RM_ge D b r
  generalize RM D b r = M at h0 h1 ⊢
  induction n with
  | zero => rw [AMr_zero]; exact h0
  | succ n ih =>
    rw [AMr_succ]
    refine max_le ih ?_
    unfold HGp
    split
    · exact h1 _ ‹_›
    · rw [absE_zero]
      exact h0

theorem le_AMr (D : Inp) (b r l : ℕ) {k n : ℕ} (h : k < n) : absE (HGp D b k l r) ≤ AMr D b r l n := by
  induction n with
  | zero => omega
  | succ n ih =>
    rw [AMr_succ]
    rcases (by omega : k < n ∨ k = n) with h | rfl
    · exact le_max_of_le_left (ih h)
    · exact le_max_right _ _

/-- The largest over the lanes is the row's largest magnitude. -/
theorem sup_AMr (D : Inp) (b r : ℕ) : (Finset.univ.sup fun l : Fin 128 => AMr D b r l.val 44) = RM D b r := by
  refine le_antisymm (usup_le (fun l => AMr D b r l 44) _ fun l _ => AMr_le D b r l 44) (usup_le (fun f => absE (HG D b f r)) _ fun f hf => ?_)
  have h := le_AMr D b r (f % 128) (show f / 128 < 44 by omega)
  unfold HGp at h
  rw [if_pos (by omega), show 128 * (f / 128) + f % 128 = f by omega] at h
  exact h.trans (le_usup (fun l => AMr D b r l 44) (f % 128) (by omega))

end Cert.FFN
end
-- ==== Proof.Steps.lean ====
module

public import proofs.«01_k».proof.Proof.Host
public import proofs.«01_k».proof.Proof.State

@[expose] public section

set_option maxRecDepth 16384

noncomputable section

namespace Cert.KernelIdeal.Hand

open Cert.KernelIdeal Cert.KernelIdeal.Gen Cert.FFN
open Idealize.ShloMosaic Idealize.ShloMosaic.TcCoe Idealize.ShloMosaic.Tactic
open Idealize.ShloMosaic.Pipeline

/-! What each point of the grid leaves in the scratch and in the outputs' blocks. -/

variable (m : (ℓ : Loc nD τ sig) → Buf (Elt Ideal) ℓ) (c : Dev nD)

/-- What the scratch holds before point `n`: the rows around the activations are zero, the chunks so far hold the gated activations, and
    the running maxima are those of the chunks so far. -/
def J (n : ℕ) (X14 : S2x1088x128.Idx → EReal) (X15 : S44x1024x128.Idx → EReal) (X16 : S1024x128.Idx → EReal) : Prop :=
  (n % 48 ≠ 0 → ∀ h r l, h < 2 → r < 1088 → l < 128 → (r < 40 ∨ 1048 ≤ r) → at3 X14 h r l = 0)
  ∧ (∀ ch r l, ch < 44 → ch < n % 48 → r < 1008 → l < 128 → at3 X15 ch r l = HGp (inp m c) (n / 48) ch l r)
  ∧ (n % 48 ≠ 0 → ∀ r l, r < 1008 → l < 128 → at2 X16 r l = AMr (inp m c) (n / 48) r l (min (n % 48) 44))

theorem zero14 {κ} {sp} (v : View sig κ sp S2x1088x128 .f32) (f) (inb) (y : S2x1088x128.Idx) :
    v.read (Elt Ideal) (v.writes (Elt Ideal) f [⟨Rect.unit (s := S2x1088x128) ![0, 0, 0] S2x1088x128.size inb, k0_pay2 (F := Ideal)⟩]) y = 0 := by
  refine View.read_writes_apply_of_pieces (Val := Elt Ideal) (v := v) (f := f) (fun y : S2x1088x128.Idx => (0 : EReal)) _ ?_ y ?_
  · simp only [List.forall_mem_cons]
    refine ⟨?_, fun p hp => absurd hp List.not_mem_nil⟩
    refine piece3 (n0 := 2) (n1 := 1088) (n2 := 128) (b0 := 2) (b1 := 1088) (b2 := 128) (a0 := 0) (a1 := 0) (a2 := 0) (fun a b n => 0) rfl inb _ fun u w r => ?_
    pointwise [k0_pay2]
  · have h0 : (y 0).val < 2 := (y 0).isLt
    have h1 : (y 1).val < 1088 := (y 1).isLt
    have h2 : (y 2).val < 128 := (y 2).isLt
    refine ⟨_, .head _, ?_⟩
    exact mem3 y 0 0 0 2 1088 128 rfl rfl (fun _ => rfl) (by omega)

theorem zero16 {κ} {sp} (v : View sig κ sp S1024x128 .f32) (f) (inb) (y : S1024x128.Idx) :
    v.read (Elt Ideal) (v.writes (Elt Ideal) f [⟨Rect.unit (s := S1024x128) ![0, 0] S1024x128.size inb, k0_pay1 (F := Ideal)⟩]) y = 0 := by
  refine View.read_writes_apply_of_pieces (Val := Elt Ideal) (v := v) (f := f) (fun y : S1024x128.Idx => (0 : EReal)) _ ?_ y ?_
  · simp only [List.forall_mem_cons]
    refine ⟨?_, fun p hp => absurd hp List.not_mem_nil⟩
    refine piece2 (n0 := 1024) (n1 := 128) (b0 := 1024) (b1 := 128) (a0 := 0) (a1 := 0) (fun a b => 0) rfl inb _ fun w r => ?_
    pointwise [k0_pay1]
  · have h0 : (y 0).val < 1024 := (y 0).isLt
    have h1 : (y 1).val < 128 := (y 1).isLt
    refine ⟨_, .head _, ?_⟩
    exact mem2 y 0 0 1024 128 rfl rfl (fun _ => rfl) (by omega)

/-- One half of a chunk's channel, with its rows of zeros. -/
theorem upk_HS (t : Fin cfg0.N) (h0 : t.val % 48 < 44) (h l q : ℕ) (hh : h < 2) (hl : l < 128) (hq : q < 1008) (hf : 128 * (t.val % 48) + l < 5600) :
    upk (iblk m c 0 t) (iblk m c 1 t) (iblk m c 2 t) (iblk m c 3 t) (128 * h) l q = HS (inp m c) (t.val / 48) (5600 * h + (128 * (t.val % 48) + l)) q := by
  unfold upk HS
  rw [iblk1_at m c t q l hq hl, iblk3_at m c t h0 0 h l (by omega) hh hl hf, iblk3_at m c t h0 1 h l (by omega) hh hl hf]
  simp only [fun k : Fin 2240 => iblk0_at m c t q k.val hq k.isLt, fun k : Fin 2240 => iblk2_at m c t h0 k.val h l k.isLt hh hl hf]
  rfl

/-- The gated activations of the chunk that a point of the first half forms. -/
theorem hgk_HGp (t : Fin cfg0.N) (h0 : t.val % 48 < 44) (X14 : S2x1088x128.Idx → EReal)
    (hz : ∀ h r l, h < 2 → r < 1088 → l < 128 → (r < 40 ∨ 1048 ≤ r) → at3 X14 h r l = 0)
    (hu : ∀ h r l, h < 2 → l < 128 → 40 ≤ r ∧ r < 1048 → at3 X14 h r l = upk (iblk m c 0 t) (iblk m c 1 t) (iblk m c 2 t) (iblk m c 3 t) (128 * h) l (r - 40))
    (l q : ℕ) (hl : l < 128) (hq : q < 1008) :
    hgk X14 (iblk m c 3 t) l q = HGp (inp m c) (t.val / 48) (t.val % 48) l q := by
  unfold HGp hgk
  split
  · rename_i hf
    have key : ∀ h, h < 2 → cv X14 (iblk m c 3 t) h (128 * h) l q = CONV (inp m c) (t.val / 48) (5600 * h + (128 * (t.val % 48) + l)) q := by
      intro h hh
      refine conv_congr hq (fun n hn => ?_) fun n hn => iblk3_at m c t h0 n h l hn hh hl hf
      unfold padded
      split
      · rename_i hr
        rw [hu h n l hh hl hr, upk_HS m c t h0 h l _ hh hl (by omega) hf]
      · exact hz h n l hh hn hl (by omega)
    have k0 := key 0 (by omega)
    have k1 := key 1 (by omega)
    rw [show 5600 * 0 + (128 * (t.val % 48) + l) = 128 * (t.val % 48) + l by omega] at k0
    unfold HG
    exact congrArg₂ (fun a b => a * silu b) k0 k1
  · rename_i hf
    have key : cv X14 (iblk m c 3 t) 0 0 l q = 0 :=
      conv_zero fun n hn => iblk3_zero m c t h0 n 0 l hn (by omega) hl hf
    rw [key, zero_mul]

theorem up_step (t : Fin cfg0.N) (h2 : k0_cond2 (grid0.coords t) = 1#1) {κ14 κ15 κ16} {s14 s15 s16} (v14 : View sig κ14 s14 S2x1088x128 .f32)
    (v15 : View sig κ15 s15 S44x1024x128 .f32) (v16 : View sig κ16 s16 S1024x128 .f32) (f14) (f15) (f16) (X2 : S1x1008x2240.Idx → EReal) (X3 : S1x1008x128.Idx → EReal)
    (X4 : S1x2240x256.Idx → EReal) (X5 : S1x16x256.Idx → EReal) (e2 : X2 = iblk m c 0 t) (e3 : X3 = iblk m c 1 t) (e4 : X4 = iblk m c 2 t) (e5 : X5 = iblk m c 3 t)
    (hJ : J m c t.val (v14.read (Elt Ideal) f14) (v15.read (Elt Ideal) f15) (v16.read (Elt Ideal) f16)) (inb14) (inb16) (g14) (g16)
    (eg14 : g14 = v14.writes (Elt Ideal) (if hc : upRun.sl.v2 (grid0.coords t) = 1#1 then v14.writes (Elt Ideal) f14
      [⟨Rect.unit (s := S2x1088x128) ![0, 0, 0] S2x1088x128.size inb14, k0_pay2 (F := Ideal)⟩] else f14) (upL X2 X3 X4 X5))
    (eg16 : g16 = if hc : upRun.sl.v2 (grid0.coords t) = 1#1 then v16.writes (Elt Ideal) f16
      [⟨Rect.unit (s := S1024x128) ![0, 0] S1024x128.size inb16, k0_pay1 (F := Ideal)⟩] else f16) :
    J m c (t.val + 1) (v14.read (Elt Ideal) g14)
      (v15.read (Elt Ideal) (v15.writes (Elt Ideal) f15 (hgL (grid0.coords t) h2 (v14.read (Elt Ideal) g14) X5)))
      (v16.read (Elt Ideal) (v16.writes (Elt Ideal) g16 (amL (v14.read (Elt Ideal) g14) X5 (v16.read (Elt Ideal) g16)))) := by
  have hj : t.val % 48 < 44 := by rw [← coords_1]; exact (cond2_iff _).1 h2
  have hfirst : upRun.sl.v2 (grid0.coords t) = 1#1 ↔ t.val % 48 = 0 := by rw [← coords_1]; exact first_iff _
  have en : (t.val + 1) % 48 = t.val % 48 + 1 := by omega
  have eb : (t.val + 1) / 48 = t.val / 48 := by omega
  obtain ⟨J1, J2, J3⟩ := hJ
  have hz : ∀ h r l, h < 2 → r < 1088 → l < 128 → (r < 40 ∨ 1048 ≤ r) → at3 (n0 := 2) (n1 := 1088) (n2 := 128) (v14.read (Elt Ideal) g14) h r l = 0 := by
    intro h r l hh hr hl ho
    by_cases hc : t.val % 48 = 0
    · rw [at3_pos _ hh hr hl, eg14]
      refine (upL_keep X2 X3 X4 X5 v14 _ _ ho).trans ?_
      rw [dif_pos (hfirst.2 hc)]
      exact zero14 _ _ _ _
    · rw [← J1 hc h r l hh hr hl ho, at3_pos _ hh hr hl, at3_pos _ hh hr hl, eg14]
      refine (upL_keep X2 X3 X4 X5 v14 _ _ ho).trans ?_
      rw [dif_neg (fun h => hc (hfirst.1 h))]
  have hu : ∀ h r l, h < 2 → l < 128 → 40 ≤ r ∧ r < 1048 → at3 (n0 := 2) (n1 := 1088) (n2 := 128) (v14.read (Elt Ideal) g14) h r l
      = upk (iblk m c 0 t) (iblk m c 1 t) (iblk m c 2 t) (iblk m c 3 t) (128 * h) l (r - 40) := by
    intro h r l hh hl hr
    rw [at3_pos _ hh (by omega) hl, eg14, ← e2, ← e3, ← e4, ← e5]
    exact upL_read X2 X3 X4 X5 v14 _ (ix3 ⟨h, hh⟩ ⟨r, by omega⟩ ⟨l, hl⟩) hr
  have hg := hgk_HGp m c t hj (v14.read (Elt Ideal) g14) hz hu
  rw [← e5] at hg
  refine ⟨fun _ => hz, ?_, ?_⟩
  · intro ch r l hc hcn hr hl
    rw [eb, at3_pos _ hc (by omega) hl]
    by_cases h : ch = t.val % 48
    · refine (hgL_read (grid0.coords t) h2 _ X5 v15 f15 (ix3 ⟨ch, hc⟩ ⟨r, by omega⟩ ⟨l, hl⟩) (by rw [coords_1]; exact h) hr).trans ?_
      exact (hg l r hl hr).trans (by rw [h])
    · refine (hgL_keep (grid0.coords t) h2 _ X5 v15 f15 (ix3 ⟨ch, hc⟩ ⟨r, by omega⟩ ⟨l, hl⟩) (by rw [coords_1]; exact h)).trans ?_
      rw [← J2 ch r l hc (by omega) hr hl, at3_pos _ hc (by omega) hl]
  · intro _ r l hr hl
    rw [eb, en, min_eq_left (by omega), at2_pos _ (by omega) hl]
    refine (amL_read _ X5 _ v16 g16 (ix2 ⟨r, by omega⟩ ⟨l, hl⟩) hr).trans ?_
    refine congrArg₂ max ?_ (congrArg absE (hg l r hl hr))
    show at2 (n0 := 1024) (n1 := 128) (v16.read (Elt Ideal) g16) r l = _
    by_cases hc : t.val % 48 = 0
    · rw [at2_pos _ (by omega) hl, eg16, dif_pos (hfirst.2 hc), hc]
      exact zero16 _ _ _ _
    · rw [eg16, dif_neg (fun h => hc (hfirst.1 h)), J3 hc r l hr hl, min_eq_left (by omega)]

/-! ## The second half -/

/-- A tile's codes, where its rows lie in the array. -/
def R9 (t : ℕ) (X : S1x256x5600.Idx → EReal) : Prop :=
  ∀ r f, r < 256 → f < 5600 → 256 * (t % 48 - 44) + r < 1008 → at3 X 0 r f = CODE (inp m c) (t / 48) (256 * (t % 48 - 44) + r) f
def R10 (t : ℕ) (X : S1x1x256.Idx → EReal) : Prop :=
  ∀ r, r < 256 → 256 * (t % 48 - 44) + r < 1008 → at3 X 0 0 r = SC (inp m c) (t / 48) (256 * (t % 48 - 44) + r)
def R11 (t : ℕ) (X : S1x256x2240.Idx → EReal) : Prop :=
  ∀ r n, r < 256 → n < 2240 → 256 * (t % 48 - 44) + r < 1008 → at3 X 0 r n = Y (inp m c) (t / 48) (256 * (t % 48 - 44) + r) n

theorem dn_step (t : Fin cfg0.N) (h3 : k0_cond3 (grid0.coords t) = 1#1) {κ11 κ12 κ13} {s11 s12 s13} (v11 : View sig κ11 s11 S1x256x5600 .fp8e4m3)
    (v12 : View sig κ12 s12 S1x1x256 .f32) (v13 : View sig κ13 s13 S1x256x2240 .bf16) (f11) (f12) (f13)
    (X14 : S2x1088x128.Idx → EReal) (X15 : S44x1024x128.Idx → EReal) (X16 : S1024x128.Idx → EReal) (d : S1x256x2240.Idx → EReal)
    (X6 : S5600x2240.Idx → EReal) (X7 : S1x2240.Idx → EReal) (X8 : S1x6x2240.Idx → EReal) (X9 : S6x2240.Idx → EReal) (X10 : S1x256x2240.Idx → EReal)
    (e6 : X6 = iblk m c 4 t) (e7 : X7 = iblk m c 5 t) (e8 : X8 = iblk m c 6 t) (e9 : X9 = iblk m c 7 t)
    (e10 : X10 = (cfg0.win 8).fill (grid0.coords t) d (iblk m c 8 t)) (hJ : J m c t.val X14 X15 X16) (inb12) (g11)
    (eg11 : g11 = v11.writes (Elt Ideal) f11 (cdL (grid0.coords t) h3 X15 X16)) :
    J m c (t.val + 1) X14 X15 X16 ∧ R9 m c t.val (v11.read (Elt Ideal) g11)
      ∧ R10 m c t.val (v12.read (Elt Ideal) (v12.writes (Elt Ideal) f12 [⟨Rect.unit (s := S1x1x256) ![0, 0, 0] S1x1x256.size inb12, k0_pay260 (F := Ideal) (amAt (grid0.coords t) h3 X16)⟩]))
      ∧ R11 m c t.val (v13.read (Elt Ideal) (v13.writes (Elt Ideal) f13 (yL (grid0.coords t) h3 X6 X7 X8 X9 X10 (v11.read (Elt Ideal) g11) X16))) := by
  have hj : 44 ≤ t.val % 48 := by rw [← coords_1]; exact (cond3_iff _).1 h3
  have hj' : 44 ≤ ((grid0.coords t) 1).val := by rw [coords_1]; exact hj
  obtain ⟨J1, J2, J3⟩ := hJ
  have hsc : ∀ r, r < 256 → 256 * (t.val % 48 - 44) + r < 1008 → sck (grid0.coords t) h3 X16 r = SC (inp m c) (t.val / 48) (256 * (t.val % 48 - 44) + r) := by
    intro r hr h
    rw [sck_eq (grid0.coords t) h3 hj' X16 r hr, coords_1]
    unfold SC
    rw [← sup_AMr]
    refine congrArg scl (Finset.sup_congr rfl fun l _ => ?_)
    rw [J3 (by omega) _ _ h l.isLt, min_eq_right hj]
  have h9 : R9 m c t.val (v11.read (Elt Ideal) g11) := by
    intro r f hr hf h
    rw [at3_pos _ (by omega) hr hf, eg11]
    refine (cdL_read (grid0.coords t) h3 hj' X15 X16 v11 f11 (ix3 ⟨0, by omega⟩ ⟨r, hr⟩ ⟨f, hf⟩)).trans ?_
    show codek (grid0.coords t) h3 X15 X16 r f = _
    unfold codek CODE
    rw [coords_1, J2 (f / 128) _ (f % 128) (by omega) (by omega) h (by omega), show invk (grid0.coords t) h3 X16 r = Ideal.div 1 (sck (grid0.coords t) h3 X16 r) from rfl, hsc r hr h]
    unfold HGp SC
    rw [if_pos (by omega), show 128 * (f / 128) + f % 128 = f by omega, mul_inv_scl]
  refine ⟨⟨?_, ?_, ?_⟩, h9, ?_, ?_⟩
  · intro hn
    exact J1 (by omega)
  · intro ch r l hc hcn hr hl
    rw [show (t.val + 1) / 48 = t.val / 48 by omega]
    exact J2 ch r l hc (by omega) hr hl
  · intro hn r l hr hl
    rw [show (t.val + 1) / 48 = t.val / 48 by omega, min_eq_right (by omega), J3 (by omega) r l hr hl, min_eq_right hj]
  · intro r hr h
    rw [at3_pos _ (by omega) (by omega) hr]
    exact (scL_read (grid0.coords t) h3 X16 v12 f12 _ (ix3 ⟨0, by omega⟩ ⟨0, by omega⟩ ⟨r, hr⟩)).trans (hsc r hr h)
  · intro r n hr hn h
    rw [at3_pos _ (by omega) hr hn]
    refine (yL_read (grid0.coords t) h3 X6 X7 X8 X9 X10 (v11.read (Elt Ideal) g11) X16 v13 f13 (ix3 ⟨0, by omega⟩ ⟨r, hr⟩ ⟨n, hn⟩)).trans ?_
    show yk (sck (grid0.coords t) h3 X16) X6 X7 X8 X9 X10 (v11.read (Elt Ideal) g11) r n = _
    unfold yk Y
    rw [hsc r hr h, e6, e7, e8, e9, e10, fill8_at m c t d r n hr hn h, iblk6_at m c t 5 n (by omega) hn, iblk7_at m c t 5 n (by omega) hn, iblk5_at m c t n hn]
    simp only [fun f : Fin 5600 => h9 r f.val hr f.isLt h, fun f : Fin 5600 => iblk4_at m c t f.val n f.isLt hn]

/-- The plan of the values. -/
def plan : Plan (F := Ideal) m where
  J c n X14 X15 X16 := J m c n X14 X15 X16
  R9 c t X := R9 m c t.val X
  R10 c t X := R10 m c t.val X
  R11 c t X := R11 m c t.val X
  init c X14 X15 X16 := ⟨fun h => absurd rfl h, fun ch r l hc h => absurd h (Nat.not_lt_zero _), fun h => absurd rfl h⟩
  up := by
    intro c t h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16
      f2 f3 f4 f5 f14 f15 f16 e2 e3 e4 e5 hJ g14 g16 eg14 eg16
    rw [upRun_hg, upRun_am]
    rw [upRun_hs] at eg14
    rw [upRun_zero] at eg16
    exact up_step m c t h2 arg14.view arg15.view arg16.view f14 f15 f16 _ _ _ _ e2 e3 e4 e5 hJ _ _ g14 g16 eg14 eg16
  dn := by
    intro c t h1 h2 h3 arg2 harg2 arg3 harg3 arg4 harg4 arg5 harg5 arg6 harg6 arg7 harg7 arg8 harg8 arg9 harg9 arg10 harg10 arg11 harg11 arg12 harg12 arg13 harg13 arg14 harg14 arg15 harg15 arg16 harg16
      f6 f7 f8 f9 f10 f11 f12 f13 f15 f16 X14 d e6 e7 e8 e9 e10 hJ g11 eg11
    rw [dnRun_sc, dnRun_y]
    rw [dnRun_cd] at eg11
    exact dn_step m c t h3 arg11.view arg12.view arg13.view f11 f12 f13 X14 _ _ d _ _ _ _ _ e6 e7 e8 e9 e10 hJ _ g11 eg11

end Cert.KernelIdeal.Hand
end
-- ==== Proof.Outputs.lean ====
module

public import proofs.«01_k».proof.Proof.Steps

@[expose] public section

set_option maxRecDepth 16384

noncomputable section

namespace Cert.KernelIdeal.Hand

open Cert.KernelIdeal Cert.KernelIdeal.Gen Cert.FFN
open Idealize.ShloMosaic Idealize.ShloMosaic.TcCoe Idealize.ShloMosaic.Tactic
open Idealize.SL.Sem
open Idealize.ShloMosaic.Pipeline

/-! What the three result arrays hold after the run. -/

variable (m : (ℓ : Loc nD τ sig) → Buf (Elt Ideal) ℓ) (ρ : Dev nD → PrngReg) (c : Dev nD)

/-- The codes, the scales and the output. -/
def outC : S8x1008x5600.Idx → EReal := fun y => CODE (inp m c) (y 0).val (y 1).val (y 2).val
def outS : S8x1x1008.Idx → EReal := fun y => SC (inp m c) (y 0).val (y 2).val
def outY : S8x1008x2240.Idx → EReal := fun y => Y (inp m c) (y 0).val (y 1).val (y 2).val

theorem lt_of_xsize {sig : RefSig} {G : Grid} (w : Window sig G) (i : G.Coords) (v : Fin w.shape.rank → ℕ) (hc : w.xsize i = v) (j : (w.xblock i).Idx) (a) : (j a).val < v a :=
  hc ▸ (j a).isLt

variable [∀ e, Nonempty (Elt Ideal e)]

theorem flush9_ge : ∀ t : Fin cfg0.N, (cfg0.win 9).flush t = true → 44 ≤ t.val % 48 := by decide +kernel
theorem flush9_of : ∀ t : Fin cfg0.N, 44 ≤ t.val % 48 → (cfg0.win 9).flush t = true := by decide +kernel

theorem cols9 (t : Fin cfg0.N) (j : ((cfg0.win 9).xblock (grid0.coords t)).Idx) : (j 2).val < 5600 :=
  lt_of_xsize _ _ _ (cut9 t) j 2

theorem cover9 (i : S8x1008x5600.Idx) : ∃ t : Fin cfg0.N, (cfg0.win 9).flush t = true ∧ i ∈ ((cfg0.win 9).blk t).view.set := by
  have i0 : (i 0).val < 8 := (i 0).isLt
  have i1 : (i 1).val < 1008 := (i 1).isLt
  have i2 : (i 2).val < 5600 := (i 2).isLt
  have ht : 48 * (i 0).val + 44 + (i 1).val / 256 < 384 := by omega
  refine ⟨⟨_, ht⟩, flush9_of _ (by show 44 ≤ (48 * (i 0).val + 44 + (i 1).val / 256) % 48; omega), ?_⟩
  refine ((cfg0.win 9).emb_mem_blk_iff ⟨_, ht⟩ i rfl).2 ?_
  have e := tr9 ⟨_, ht⟩
  have hc := cut9 ⟨_, ht⟩
  intro a
  rw [hc]
  show cc0_transform_9 (grid0.coords ⟨_, ht⟩) a * _ ≤ _ ∧ _ < cc0_transform_9 (grid0.coords ⟨_, ht⟩) a * _ + _
  rw [e]
  fin_cases a
  · show (48 * (i 0).val + 44 + (i 1).val / 256) / 48 * 1 ≤ (i 0).val ∧ (i 0).val < (48 * (i 0).val + 44 + (i 1).val / 256) / 48 * 1 + 1
    omega
  · show ((48 * (i 0).val + 44 + (i 1).val / 256) % 48 - 44) * 256 ≤ (i 1).val ∧ (i 1).val < ((48 * (i 0).val + 44 + (i 1).val / 256) % 48 - 44) * 256 + min 256 (1008 - 256 * ((48 * (i 0).val + 44 + (i 1).val / 256) % 48 - 44))
    omega
  · show 0 * 5600 ≤ (i 2).val ∧ (i 2).val < 0 * 5600 + 5600
    omega

theorem cut9_eq (G : ℕ → ℕ → ℕ → EReal) (t : Fin cfg0.N) (X : S1x256x5600.Idx → EReal) (hX : ∀ r f, r < 256 → f < 5600 → 256 * (t.val % 48 - 44) + r < 1008 → at3 X 0 r f = G (t.val / 48) (256 * (t.val % 48 - 44) + r) f) :
    (cfg0.win 9).cut (α := EReal) (grid0.coords t) X = ((cfg0.win 9).blk t).view.read (Elt Ideal) (fun y : S8x1008x5600.Idx => G (y 0).val (y 1).val (y 2).val) := by
  funext j
  have e := tr9 t
  have hc := cut9 t
  have k0 : (((cfg0.win 9).blk t).view.emb j 0).val = t.val / 48 :=
    ((cfg0.win 9).rect_emb_val t j 0).trans (by
      have j0 : (j 0).val < 1 := (j 0).isLt.trans_eq (congrFun hc 0)
      show cc0_transform_9 (grid0.coords t) 0 * 1 + _ = _; rw [e]; show t.val / 48 * 1 + (j 0).val = _; omega)
  have j0 : (j 0).val < 1 := (j 0).isLt.trans_eq (congrFun hc 0)
  have j1 : (j 1).val < min 256 (1008 - 256 * (t.val % 48 - 44)) := (j 1).isLt.trans_eq (congrFun hc 1)
  have j2 : (j 2).val < 5600 := cols9 t j
  refine (at3_ext (n0 := 1) (n1 := 256) (n2 := 5600) X _ 0 (j 1).val (j 2).val (by show (j 0).val = 0; omega) rfl rfl).trans ((hX (j 1).val (j 2).val (by omega) j2 (by omega)).trans ?_)
  have k1 : (((cfg0.win 9).blk t).view.emb j 1).val = 256 * (t.val % 48 - 44) + (j 1).val :=
    ((cfg0.win 9).rect_emb_val t j 1).trans (by show cc0_transform_9 (grid0.coords t) 1 * 256 + _ = _; rw [e]; show (t.val % 48 - 44) * 256 + _ = _; omega)
  have k2 : (((cfg0.win 9).blk t).view.emb j 2).val = (j 2).val :=
    ((cfg0.win 9).rect_emb_val t j 2).trans (by show cc0_transform_9 (grid0.coords t) 2 * 5600 + _ = _; rw [e]; show 0 * 5600 + _ = _; omega)
  show _ = G (((cfg0.win 9).blk t).view.emb j 0).val (((cfg0.win 9).blk t).view.emb j 1).val (((cfg0.win 9).blk t).view.emb j 2).val
  rw [k0, k1, k2]

theorem final9 {r : PUnit × MemSt nD τ sig (Elt Ideal)} (h : RDat.FramePost (cfgs 0) (rdat m (plan m)) (V m) r) :
    r.2.mem ((c : Thread nD τ).loc main_v21_0) = outC m c := by
  obtain ⟨after, hL, hA⟩ := RDat.FramePost.exists_exact h c
  have hf := Dat.arrAt_eq_of_cover (cfg := cfg0) ((rdat m (plan m) c).withAfter after) 9 (outC m c) (fun t hf => ?_) cover9
  · exact (hA 9).trans hf
  have h1 := Dat.toRRel_leaves (dats m (plan m) c) (fgt := marks) (Rl := Rl m (plan m) c) (by decide) (hL 9 t hf)
  have h2 : R9 m c t.val (after 9 t) := h1 (flush9_ge t hf)
  exact cut9_eq (CODE (inp m c)) t (after 9 t) h2

theorem flush10_ge : ∀ t : Fin cfg0.N, (cfg0.win 10).flush t = true → 44 ≤ t.val % 48 := by decide +kernel
theorem flush10_of : ∀ t : Fin cfg0.N, 44 ≤ t.val % 48 → (cfg0.win 10).flush t = true := by decide +kernel

theorem cols10 (t : Fin cfg0.N) (j : ((cfg0.win 10).xblock (grid0.coords t)).Idx) : (j 2).val < min 256 (1008 - 256 * (t.val % 48 - 44)) :=
  lt_of_xsize _ _ _ (cut10 t) j 2

theorem cover10 (i : S8x1x1008.Idx) : ∃ t : Fin cfg0.N, (cfg0.win 10).flush t = true ∧ i ∈ ((cfg0.win 10).blk t).view.set := by
  have i0 : (i 0).val < 8 := (i 0).isLt
  have i1 : (i 1).val < 1 := (i 1).isLt
  have i2 : (i 2).val < 1008 := (i 2).isLt
  have ht : 48 * (i 0).val + 44 + (i 2).val / 256 < 384 := by omega
  refine ⟨⟨_, ht⟩, flush10_of _ (by show 44 ≤ (48 * (i 0).val + 44 + (i 2).val / 256) % 48; omega), ?_⟩
  refine ((cfg0.win 10).emb_mem_blk_iff ⟨_, ht⟩ i rfl).2 ?_
  have e := tr10 ⟨_, ht⟩
  have hc := cut10 ⟨_, ht⟩
  intro a
  rw [hc]
  show cc0_transform_10 (grid0.coords ⟨_, ht⟩) a * _ ≤ _ ∧ _ < cc0_transform_10 (grid0.coords ⟨_, ht⟩) a * _ + _
  rw [e]
  fin_cases a
  · show (48 * (i 0).val + 44 + (i 2).val / 256) / 48 * 1 ≤ (i 0).val ∧ (i 0).val < (48 * (i 0).val + 44 + (i 2).val / 256) / 48 * 1 + 1
    omega
  · show 0 * 1 ≤ (i 1).val ∧ (i 1).val < 0 * 1 + 1
    omega
  · show ((48 * (i 0).val + 44 + (i 2).val / 256) % 48 - 44) * 256 ≤ (i 2).val ∧ (i 2).val < ((48 * (i 0).val + 44 + (i 2).val / 256) % 48 - 44) * 256 + min 256 (1008 - 256 * ((48 * (i 0).val + 44 + (i 2).val / 256) % 48 - 44))
    omega

theorem cut10_eq (G : ℕ → ℕ → EReal) (t : Fin cfg0.N) (X : S1x1x256.Idx → EReal) (hX : ∀ r, r < 256 → 256 * (t.val % 48 - 44) + r < 1008 → at3 X 0 0 r = G (t.val / 48) (256 * (t.val % 48 - 44) + r)) :
    (cfg0.win 10).cut (α := EReal) (grid0.coords t) X = ((cfg0.win 10).blk t).view.read (Elt Ideal) (fun y : S8x1x1008.Idx => G (y 0).val (y 2).val) := by
  funext j
  have e := tr10 t
  have hc := cut10 t
  have k0 : (((cfg0.win 10).blk t).view.emb j 0).val = t.val / 48 :=
    ((cfg0.win 10).rect_emb_val t j 0).trans (by
      have j0 : (j 0).val < 1 := (j 0).isLt.trans_eq (congrFun hc 0)
      show cc0_transform_10 (grid0.coords t) 0 * 1 + _ = _; rw [e]; show t.val / 48 * 1 + (j 0).val = _; omega)
  have j0 : (j 0).val < 1 := (j 0).isLt.trans_eq (congrFun hc 0)
  have j1 : (j 1).val < 1 := (j 1).isLt.trans_eq (congrFun hc 1)
  have j2 : (j 2).val < min 256 (1008 - 256 * (t.val % 48 - 44)) := (j 2).isLt.trans_eq (congrFun hc 2)
  refine (at3_ext (n0 := 1) (n1 := 1) (n2 := 256) X _ 0 0 (j 2).val (by show (j 0).val = 0; omega) (by show (j 1).val = 0; omega) rfl).trans ((hX (j 2).val (by omega) (by omega)).trans ?_)
  have k2 : (((cfg0.win 10).blk t).view.emb j 2).val = 256 * (t.val % 48 - 44) + (j 2).val :=
    ((cfg0.win 10).rect_emb_val t j 2).trans (by show cc0_transform_10 (grid0.coords t) 2 * 256 + _ = _; rw [e]; show (t.val % 48 - 44) * 256 + _ = _; omega)
  show _ = G (((cfg0.win 10).blk t).view.emb j 0).val (((cfg0.win 10).blk t).view.emb j 2).val
  rw [k0, k2]

theorem final10 {r : PUnit × MemSt nD τ sig (Elt Ideal)} (h : RDat.FramePost (cfgs 0) (rdat m (plan m)) (V m) r) :
    r.2.mem ((c : Thread nD τ).loc main_v21_1) = outS m c := by
  obtain ⟨after, hL, hA⟩ := RDat.FramePost.exists_exact h c
  have hf := Dat.arrAt_eq_of_cover (cfg := cfg0) ((rdat m (plan m) c).withAfter after) 10 (outS m c) (fun t hf => ?_) cover10
  · exact (hA 10).trans hf
  have h1 := Dat.toRRel_leaves (dats m (plan m) c) (fgt := marks) (Rl := Rl m (plan m) c) (by decide) (hL 10 t hf)
  have h2 : R10 m c t.val (after 10 t) := h1 (flush10_ge t hf)
  exact cut10_eq (SC (inp m c)) t (after 10 t) h2

theorem flush11_ge : ∀ t : Fin cfg0.N, (cfg0.win 11).flush t = true → 44 ≤ t.val % 48 := by decide +kernel
theorem flush11_of : ∀ t : Fin cfg0.N, 44 ≤ t.val % 48 → (cfg0.win 11).flush t = true := by decide +kernel

theorem cols11 (t : Fin cfg0.N) (j : ((cfg0.win 11).xblock (grid0.coords t)).Idx) : (j 2).val < 2240 :=
  lt_of_xsize _ _ _ (cut11 t) j 2

theorem cover11 (i : S8x1008x2240.Idx) : ∃ t : Fin cfg0.N, (cfg0.win 11).flush t = true ∧ i ∈ ((cfg0.win 11).blk t).view.set := by
  have i0 : (i 0).val < 8 := (i 0).isLt
  have i1 : (i 1).val < 1008 := (i 1).isLt
  have i2 : (i 2).val < 2240 := (i 2).isLt
  have ht : 48 * (i 0).val + 44 + (i 1).val / 256 < 384 := by omega
  refine ⟨⟨_, ht⟩, flush11_of _ (by show 44 ≤ (48 * (i 0).val + 44 + (i 1).val / 256) % 48; omega), ?_⟩
  refine ((cfg0.win 11).emb_mem_blk_iff ⟨_, ht⟩ i rfl).2 ?_
  have e := tr11 ⟨_, ht⟩
  have hc := cut11 ⟨_, ht⟩
  intro a
  rw [hc]
  show cc0_transform_11 (grid0.coords ⟨_, ht⟩) a * _ ≤ _ ∧ _ < cc0_transform_11 (grid0.coords ⟨_, ht⟩) a * _ + _
  rw [e]
  fin_cases a
  · show (48 * (i 0).val + 44 + (i 1).val / 256) / 48 * 1 ≤ (i 0).val ∧ (i 0).val < (48 * (i 0).val + 44 + (i 1).val / 256) / 48 * 1 + 1
    omega
  · show ((48 * (i 0).val + 44 + (i 1).val / 256) % 48 - 44) * 256 ≤ (i 1).val ∧ (i 1).val < ((48 * (i 0).val + 44 + (i 1).val / 256) % 48 - 44) * 256 + min 256 (1008 - 256 * ((48 * (i 0).val + 44 + (i 1).val / 256) % 48 - 44))
    omega
  · show 0 * 2240 ≤ (i 2).val ∧ (i 2).val < 0 * 2240 + 2240
    omega

theorem cut11_eq (G : ℕ → ℕ → ℕ → EReal) (t : Fin cfg0.N) (X : S1x256x2240.Idx → EReal) (hX : ∀ r f, r < 256 → f < 2240 → 256 * (t.val % 48 - 44) + r < 1008 → at3 X 0 r f = G (t.val / 48) (256 * (t.val % 48 - 44) + r) f) :
    (cfg0.win 11).cut (α := EReal) (grid0.coords t) X = ((cfg0.win 11).blk t).view.read (Elt Ideal) (fun y : S8x1008x2240.Idx => G (y 0).val (y 1).val (y 2).val) := by
  funext j
  have e := tr11 t
  have hc := cut11 t
  have k0 : (((cfg0.win 11).blk t).view.emb j 0).val = t.val / 48 :=
    ((cfg0.win 11).rect_emb_val t j 0).trans (by
      have j0 : (j 0).val < 1 := (j 0).isLt.trans_eq (congrFun hc 0)
      show cc0_transform_11 (grid0.coords t) 0 * 1 + _ = _; rw [e]; show t.val / 48 * 1 + (j 0).val = _; omega)
  have j0 : (j 0).val < 1 := (j 0).isLt.trans_eq (congrFun hc 0)
  have j1 : (j 1).val < min 256 (1008 - 256 * (t.val % 48 - 44)) := (j 1).isLt.trans_eq (congrFun hc 1)
  have j2 : (j 2).val < 2240 := cols11 t j
  refine (at3_ext (n0 := 1) (n1 := 256) (n2 := 2240) X _ 0 (j 1).val (j 2).val (by show (j 0).val = 0; omega) rfl rfl).trans ((hX (j 1).val (j 2).val (by omega) j2 (by omega)).trans ?_)
  have k1 : (((cfg0.win 11).blk t).view.emb j 1).val = 256 * (t.val % 48 - 44) + (j 1).val :=
    ((cfg0.win 11).rect_emb_val t j 1).trans (by show cc0_transform_11 (grid0.coords t) 1 * 256 + _ = _; rw [e]; show (t.val % 48 - 44) * 256 + _ = _; omega)
  have k2 : (((cfg0.win 11).blk t).view.emb j 2).val = (j 2).val :=
    ((cfg0.win 11).rect_emb_val t j 2).trans (by show cc0_transform_11 (grid0.coords t) 2 * 2240 + _ = _; rw [e]; show 0 * 2240 + _ = _; omega)
  show _ = G (((cfg0.win 11).blk t).view.emb j 0).val (((cfg0.win 11).blk t).view.emb j 1).val (((cfg0.win 11).blk t).view.emb j 2).val
  rw [k0, k1, k2]

theorem final11 {r : PUnit × MemSt nD τ sig (Elt Ideal)} (h : RDat.FramePost (cfgs 0) (rdat m (plan m)) (V m) r) :
    r.2.mem ((c : Thread nD τ).loc main_v21_2) = outY m c := by
  obtain ⟨after, hL, hA⟩ := RDat.FramePost.exists_exact h c
  have hf := Dat.arrAt_eq_of_cover (cfg := cfg0) ((rdat m (plan m) c).withAfter after) 11 (outY m c) (fun t hf => ?_) cover11
  · exact (hA 11).trans hf
  have h1 := Dat.toRRel_leaves (dats m (plan m) c) (fgt := marks) (Rl := Rl m (plan m) c) (by decide) (hL 11 t hf)
  have h2 : R11 m c t.val (after 11 t) := h1 (flush11_ge t hf)
  exact cut11_eq (Y (inp m c)) t (after 11 t) h2

end Cert.KernelIdeal.Hand
end
-- ==== Proof.Nine.lean ====
module

public import proofs.«01_k».proof.Proof.Spec

@[expose] public section

noncomputable section

namespace Cert.FFN

open Idealize.ShloMosaic

/-! The depthwise convolution written as nine shifted products of the image padded on all four sides. -/

/-- The image of 28 by 36 tokens with one ring of zeros. -/
def pad2 (h : ℕ → EReal) (r c : ℕ) : EReal :=
  if c < 1 then 0 else if c - 1 < 36 then (if r < 1 then 0 else if r - 1 < 28 then h ((r - 1) * 36 + (c - 1)) else 0) else 0

theorem pad2_in (h : ℕ → EReal) (q dh dw : ℕ) (hq : q < 1008) (hh : dh < 3) (hw : dw < 3) (h0 : ¬ (dw = 0 ∧ q % 36 = 0)) (h2 : ¬ (dw = 2 ∧ q % 36 = 35)) :
    pad2 h (dh + q / 36) (dw + q % 36) = padded h (q + (36 * dh + dw + 3)) := by
  unfold pad2 padded
  rw [if_neg (by omega), if_pos (by omega)]
  by_cases a : dh + q / 36 < 1
  · rw [if_pos a, if_neg (by omega)]
  · rw [if_neg a]
    by_cases b : dh + q / 36 - 1 < 28
    · rw [if_pos b, if_pos (by omega)]
      congr 1
      omega
    · rw [if_neg b, if_neg (by omega)]

theorem pad2_left (h : ℕ → EReal) (r q : ℕ) (hq : q % 36 = 0) : pad2 h r (q % 36) = 0 := by
  unfold pad2
  rw [if_pos (by omega)]

theorem pad2_right (h : ℕ → EReal) (r q : ℕ) (hq : q % 36 = 35) : pad2 h r (2 + q % 36) = 0 := by
  unfold pad2
  rw [if_neg (by omega), if_neg (by omega)]

def nine (h w : ℕ → EReal) (q : ℕ) : EReal :=
  pad2 h (q / 36) (q % 36) * w 3 + pad2 h (q / 36) (1 + q % 36) * w 4 + pad2 h (q / 36) (2 + q % 36) * w 5
    + pad2 h (1 + q / 36) (q % 36) * w 6 + pad2 h (1 + q / 36) (1 + q % 36) * w 7 + pad2 h (1 + q / 36) (2 + q % 36) * w 8
    + pad2 h (2 + q / 36) (q % 36) * w 9 + pad2 h (2 + q / 36) (1 + q % 36) * w 10 + pad2 h (2 + q / 36) (2 + q % 36) * w 11 + w 2

theorem sum9 (a b c d e f g h i j : EReal) : a + b + c + d + e + f + g + h + i + j = ((a + d + g) + (b + e + h) + (c + f + i)) + j := by
  ac_rfl

theorem nine_eq (h w : ℕ → EReal) (q : ℕ) (hq : q < 1008) : nine h w q = conv (padded h) w q := by
  unfold nine conv
  rw [sum9]
  congr 1
  congr 1
  · congr 1
    · split
      · rename_i a
        rw [pad2_left h _ q a, pad2_left h _ q a, pad2_left h _ q a]
        simp
      · rename_i a
        have k := fun dh hh => pad2_in h q dh 0 hq hh (by omega) (by omega) (by omega)
        simp only [Nat.zero_add] at k
        rw [k 1 (by omega), k 2 (by omega), ← k 0 (by omega), Nat.zero_add]
    · have k := fun dh hh => pad2_in h q dh 1 hq hh (by omega) (by omega) (by omega)
      rw [k 1 (by omega), k 2 (by omega), ← k 0 (by omega), Nat.zero_add]
  · split
    · rename_i a
      rw [pad2_right h _ q a, pad2_right h _ q a, pad2_right h _ q a]
      simp
    · rename_i a
      have k := fun dh hh => pad2_in h q dh 2 hq hh (by omega) (by omega) (by omega)
      rw [k 1 (by omega), k 2 (by omega), ← k 0 (by omega), Nat.zero_add]

end Cert.FFN
end
-- ==== Proof.RefVals.lean ====
module

public import proofs.«01_k».proof.Proof.Nine
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Cert.FFN
open Idealize.ShloMosaic Idealize.ShloMosaic.TcCoe Idealize.ShloMosaic.Tactic

/-! The reference's values, at an index. -/

variable (D : Inp)

/-- The padded image of the expanded activations. -/
def img : Vec Ideal S8x30x38x11200 .f32 := k0_pay2 (F := Ideal) D.codes D.scales D.wup D.sup D.bup

theorem img_at (b : Fin 8) (r : Fin 30) (cc : Fin 38) (ch : Fin 11200) : img D (ix4 b r cc ch) = pad2 (HS D b.val ch.val) r.val cc.val := by
  unfold img
  pointwise [k0_pay2]
  unfold pad2 HS silu
  simp only [at3_ix, at2_ix, at1_ix]
  split
  · rfl
  split
  · split
    · rfl
    split
    · rfl
    · rfl
  · rfl

theorem pay3_at (b : Fin 8) (r : Fin 28) (cc : Fin 36) (ch : Fin 11200) :
    k0_pay3 (F := Ideal) D.codes D.scales D.wup D.sup D.bup D.dww (ix4 b r cc ch)
      = pad2 (HS D b.val ch.val) r.val cc.val * prow D ch.val 3 + pad2 (HS D b.val ch.val) r.val (1 + cc.val) * prow D ch.val 4 := by
  unfold k0_pay3
  generalize e : k0_pay2 (F := Ideal) D.codes D.scales D.wup D.sup D.bup = z
  pointwise []
  replace e : img D = z := e
  subst e
  simp only [img_at, at3_ix D.dww]
  rfl

theorem pay4_at (b : Fin 8) (r : Fin 28) (cc : Fin 36) (ch : Fin 11200) :
    k0_pay4 (F := Ideal) D.codes D.scales D.wup D.sup D.bup (ix4 b r cc ch) = pad2 (HS D b.val ch.val) r.val (2 + cc.val) := by
  unfold k0_pay4
  generalize e : k0_pay2 (F := Ideal) D.codes D.scales D.wup D.sup D.bup = z
  pointwise []
  replace e : img D = z := e
  subst e
  simp only [img_at]

theorem pay5_at (ch : Fin 11200) : k0_pay5 (F := Ideal) D.dww (ix3 0 0 ch) = prow D ch.val 5 := by
  pointwise [k0_pay5]
  rw [at3_ix D.dww]
  rfl

/-- The gated activations as the reference computes them. -/
def gated : Vec Ideal S8x1008x5600 .f32 :=
  k0_pay6 (F := Ideal) D.dww D.dwb (img D) (k0_pay3 (F := Ideal) D.codes D.scales D.wup D.sup D.bup D.dww) (k0_pay4 (F := Ideal) D.codes D.scales D.wup D.sup D.bup)
    (k0_pay5 (F := Ideal) D.dww)

theorem conv_eq (b ch q : ℕ) (hq : q < 1008) : nine (HS D b ch) (prow D ch) q = CONV D b ch q := nine_eq _ _ _ hq

/-- The sum of the nine products and the bias, from the first two products, the image of the third and the rest of the image. -/
def taps (v15 : S3x3x11200.Idx → EReal) (v16 : S11200.Idx → EReal) (v25 : S8x30x38x11200.Idx → EReal) (v40 v41 : S8x28x36x11200.Idx → EReal) (v42 : S1x1x11200.Idx → EReal)
    (b : Fin 8) (q : Fin 1008) (ch : Fin 11200) : EReal :=
  v40 (ix4 b ⟨q.val / 36, by omega⟩ ⟨q.val % 36, by omega⟩ ch)
    + v41 (ix4 b ⟨q.val / 36, by omega⟩ ⟨q.val % 36, by omega⟩ ch) * v42 (ix3 0 0 ch)
    + v25 (ix4 b ⟨1 + q.val / 36, by omega⟩ ⟨q.val % 36, by omega⟩ ch) * v15 (ix3 1 0 ch)
    + v25 (ix4 b ⟨1 + q.val / 36, by omega⟩ ⟨1 + q.val % 36, by omega⟩ ch) * v15 (ix3 1 1 ch)
    + v25 (ix4 b ⟨1 + q.val / 36, by omega⟩ ⟨2 + q.val % 36, by omega⟩ ch) * v15 (ix3 1 2 ch)
    + v25 (ix4 b ⟨2 + q.val / 36, by omega⟩ ⟨q.val % 36, by omega⟩ ch) * v15 (ix3 2 0 ch)
    + v25 (ix4 b ⟨2 + q.val / 36, by omega⟩ ⟨1 + q.val % 36, by omega⟩ ch) * v15 (ix3 2 1 ch)
    + v25 (ix4 b ⟨2 + q.val / 36, by omega⟩ ⟨2 + q.val % 36, by omega⟩ ch) * v15 (ix3 2 2 ch)
    + v16 (ix1 ch)

theorem gated_of (v15 : S3x3x11200.Idx → EReal) (v16 : S11200.Idx → EReal) (v25 : S8x30x38x11200.Idx → EReal) (v40 v41 : S8x28x36x11200.Idx → EReal) (v42 : S1x1x11200.Idx → EReal)
    (b : Fin 8) (q : Fin 1008) (f : Fin 5600) :
    k0_pay6 (F := Ideal) v15 v16 v25 v40 v41 v42 (ix3 b q f)
      = taps v15 v16 v25 v40 v41 v42 b q ⟨f.val, by omega⟩ * silu (taps v15 v16 v25 v40 v41 v42 b q ⟨5600 + f.val, by omega⟩) := by
  unfold silu taps
  pointwise [k0_pay6]

theorem taps_at (b : Fin 8) (q : Fin 1008) (ch : Fin 11200) :
    taps D.dww D.dwb (img D) (k0_pay3 (F := Ideal) D.codes D.scales D.wup D.sup D.bup D.dww) (k0_pay4 (F := Ideal) D.codes D.scales D.wup D.sup D.bup)
      (k0_pay5 (F := Ideal) D.dww) b q ch = CONV D b.val ch.val q.val := by
  refine Eq.trans ?_ (conv_eq D b.val ch.val q.val q.isLt)
  unfold taps nine
  rw [pay3_at, pay4_at, pay5_at, img_at, img_at, img_at, img_at, img_at, img_at]
  simp only [at3_ix D.dww, at1_ix D.dwb]
  rfl

theorem gated_at (b : Fin 8) (q : Fin 1008) (f : Fin 5600) : gated D (ix3 b q f) = HG D b.val f.val q.val := by
  unfold gated HG
  rw [gated_of, taps_at, taps_at]

/-- The row maxima as the reference computes them. -/
def rowMax : Vec Ideal S8x1008 .f32 :=
  k0_pay7 (F := Ideal) D.dww D.dwb (img D) (k0_pay3 (F := Ideal) D.codes D.scales D.wup D.sup D.bup D.dww) (k0_pay4 (F := Ideal) D.codes D.scales D.wup D.sup D.bup)
    (k0_pay5 (F := Ideal) D.dww)

theorem fold_sup {n : ℕ} (g h : Fin n → EReal) (e : ∀ f, g f = h f) : Finset.fold max ⊥ g Finset.univ = Finset.univ.sup h := by
  obtain rfl : g = h := funext e
  rfl

theorem rowMax_of (z : Vec Ideal S8x1008x5600 .f32) (hz : ∀ (b : Fin 8) (q : Fin 1008) (f : Fin 5600), z (ix3 b q f) = HG D b.val f.val q.val) (b : Fin 8) (q : Fin 1008) :
    multiReduction (F := Ideal) (φ := .f32) .maximumf [2] S8x1008 (absf z) 0xFF800000#32 reduces_S8x1008x5600_S8x1008 (.inl rfl) rfl (ix2 b q) = RM D b.val q.val := by
  pointwise []
  rw [bot_eq]
  unfold RM
  refine fold_sup _ _ fun f => ?_
  exact congrArg absE (hz b q f)

theorem rowMax_at (b : Fin 8) (q : Fin 1008) : rowMax D (ix2 b q) = RM D b.val q.val :=
  rowMax_of D (gated D) (gated_at D) b q

theorem scale_of (z : S8x1008.Idx → EReal) (b : Fin 8) (q : Fin 1008) :
    k0_pay8 (F := Ideal) z (Scalar.ofBits .f32 0x00000000#32) (ix2 b q) = scl (z (ix2 b q)) := by
  pointwise [k0_pay8]
  rfl

theorem scale_at (b : Fin 8) (q : Fin 1008) : k0_pay8 (F := Ideal) (rowMax D) (Scalar.ofBits .f32 0x00000000#32) (ix2 b q) = SC D b.val q.val :=
  (scale_of (rowMax D) b q).trans (congrArg scl (rowMax_at D b q))

/-- The codes as the reference computes them. -/
def codes : Vec Ideal S8x1008x5600 .fp8e4m3 := k0_pay9 (F := Ideal) (gated D) (rowMax D) (Scalar.ofBits .f32 0x00000000#32)

theorem codes_of (z : S8x1008x5600.Idx → EReal) (x : S8x1008.Idx → EReal) (b : Fin 8) (q : Fin 1008) (f : Fin 5600) :
    k0_pay9 (F := Ideal) z x (Scalar.ofBits .f32 0x00000000#32) (ix3 b q f)
      = clipE (Ideal.div (z (ix3 b q f)) (k0_pay8 (F := Ideal) x (Scalar.ofBits .f32 0x00000000#32) (ix2 b q))) := by
  unfold k0_pay9
  generalize k0_pay8 (F := Ideal) x (Scalar.ofBits .f32 0x00000000#32) = s
  pointwise []
  rfl

theorem codes_at (b : Fin 8) (q : Fin 1008) (f : Fin 5600) : codes D (ix3 b q f) = CODE D b.val q.val f.val := by
  unfold codes CODE
  rw [codes_of, gated_at, scale_at]

theorem scales_at (b : Fin 8) (u : Fin 1) (q : Fin 1008) : k0_pay10 (F := Ideal) (rowMax D) (Scalar.ofBits .f32 0x00000000#32) (ix3 b u q) = SC D b.val q.val := by
  obtain rfl : u = 0 := Subsingleton.elim _ _
  unfold k0_pay10
  rw [← scale_at]
  generalize k0_pay8 (F := Ideal) (rowMax D) (Scalar.ofBits .f32 0x00000000#32) = s
  pointwise []

theorem y_of (z : S8x1008x5600.Idx → EReal) (x : S8x1008.Idx → EReal) (w : S5600x2240.Idx → EReal) (sd : S2240.Idx → EReal) (t6 : S8x6x2240.Idx → EReal)
    (tb : S6x2240.Idx → EReal) (r2 : S8x1008x2240.Idx → EReal) (b : Fin 8) (q : Fin 1008) (n : Fin 2240) :
    k0_pay1 (F := Ideal) (k0_pay11 (F := Ideal) z x (Scalar.ofBits .f32 0x00000000#32) w sd t6 tb r2) (ix3 b q n)
      = r2 (ix3 b q n) + (t6 (ix3 b 5 n) + tb (ix2 5 n))
        * ((∑ f : Fin 5600, k0_pay9 (F := Ideal) z x (Scalar.ofBits .f32 0x00000000#32) (ix3 b q f) * w (ix2 f n))
          * k0_pay8 (F := Ideal) x (Scalar.ofBits .f32 0x00000000#32) (ix2 b q) * sd (ix1 n)) := by
  unfold k0_pay11
  generalize k0_pay8 (F := Ideal) x (Scalar.ofBits .f32 0x00000000#32) = s
  generalize k0_pay9 (F := Ideal) z x (Scalar.ofBits .f32 0x00000000#32) = c
  pointwise [k0_pay1]

theorem sum_congr {n : ℕ} (g h : Fin n → EReal) (e : ∀ f, g f = h f) : ∑ f, g f = ∑ f, h f := by
  obtain rfl : g = h := funext e
  rfl

theorem y_at (b : Fin 8) (q : Fin 1008) (n : Fin 2240) :
    k0_pay1 (F := Ideal) (k0_pay11 (F := Ideal) (gated D) (rowMax D) (Scalar.ofBits .f32 0x00000000#32) D.wdn D.sdn D.t6 D.table D.r2) (ix3 b q n) = Y D b.val q.val n.val := by
  rw [y_of, scale_at, at3_ix D.r2, at3_ix D.t6, at2_ix D.table, at1_ix D.sdn]
  unfold Y
  have h := sum_congr (fun f : Fin 5600 => k0_pay9 (F := Ideal) (gated D) (rowMax D) (Scalar.ofBits .f32 0x00000000#32) (ix3 b q f) * D.wdn (ix2 f n))
    (fun f : Fin 5600 => CODE D b.val q.val f.val * at2 D.wdn f.val n.val) fun f => congrArg₂ (· * ·) (codes_at D b q f) (at2_ix D.wdn f n)
  exact congrArg (fun x => at3 D.r2 b.val q.val n.val + (at3 D.t6 b.val 5 n.val + at2 D.table 5 n.val) * (x * SC D b.val q.val * at1 D.sdn n.val)) h

end Cert.ReferenceIdeal.Hand
end
-- ==== Proof.RefOut.lean ====
module

public import proofs.«01_k».proof.Proof.RefVals

@[expose] public section

set_option maxRecDepth 16384

noncomputable section

namespace Cert.ReferenceIdeal.Hand

open Cert.ReferenceIdeal Cert.ReferenceIdeal.Gen Cert.ReferenceIdeal.Value Cert.FFN
open Idealize.ShloMosaic Idealize.ShloMosaic.TcCoe Idealize.ShloMosaic.Tactic

/-! The reference's three result arrays. -/

/-- Equal arguments give equal results. -/
theorem congr12 {T0 T1 T2 T3 T4 T5 T6 T7 T8 T9 T10 T11 R : Type} (f : T0 → T1 → T2 → T3 → T4 → T5 → T6 → T7 → T8 → T9 → T10 → T11 → R)
    {x0 y0 : T0} {x1 y1 : T1} {x2 y2 : T2} {x3 y3 : T3} {x4 y4 : T4} {x5 y5 : T5} {x6 y6 : T6} {x7 y7 : T7} {x8 y8 : T8} {x9 y9 : T9} {x10 y10 : T10} {x11 y11 : T11}
    (h0 : x0 = y0) (h1 : x1 = y1) (h2 : x2 = y2) (h3 : x3 = y3) (h4 : x4 = y4) (h5 : x5 = y5) (h6 : x6 = y6) (h7 : x7 = y7) (h8 : x8 = y8) (h9 : x9 = y9)
    (h10 : x10 = y10) (h11 : x11 = y11) : f x0 x1 x2 x3 x4 x5 x6 x7 x8 x9 x10 x11 = f y0 y1 y2 y3 y4 y5 y6 y7 y8 y9 y10 y11 := by
  subst h0 h1 h2 h3 h4 h5 h6 h7 h8 h9 h10 h11
  rfl

theorem ld_codes (X : Vec Ideal S8x1008x2240 .fp8e4m3) : View.ld X r0_0 = X := View.ld_unit_zero (S := S8x1008x2240) hz0 _ X
theorem ld_scales (X : Vec Ideal S8x1008 .f32) : View.ld X r0_1 = X := View.ld_unit_zero (S := S8x1008) hz1 _ X
theorem ld_wup (X : Vec Ideal S2240x11200 .fp8e4m3) : View.ld X r0_2 = X := View.ld_unit_zero (S := S2240x11200) hz2 _ X
theorem ld_ch (X : Vec Ideal S11200 .f32) : View.ld X r0_3 = X := View.ld_unit_zero (S := S11200) hz3 _ X
theorem ld_dww (X : Vec Ideal S3x3x11200 .f32) : View.ld X r0_4 = X := View.ld_unit_zero (S := S3x3x11200) hz5 _ X

variable (D : Inp)

theorem pay12_eq : k0_pay12 (F := Ideal) D.codes D.scales D.wup D.sup D.bup D.dww D.dwb D.wdn D.sdn D.t6 D.table D.r2 = img D := by
  unfold k0_pay12 img
  rw [ld_codes, ld_scales, ld_wup,
    ld_ch, ld_ch]

theorem pay13_eq : k0_pay13 (F := Ideal) D.codes D.scales D.wup D.sup D.bup D.dww D.dwb D.wdn D.sdn D.t6 D.table D.r2
    = k0_pay3 (F := Ideal) D.codes D.scales D.wup D.sup D.bup D.dww := by
  unfold k0_pay13
  rw [ld_codes, ld_scales, ld_wup,
    ld_ch, ld_ch, ld_dww]

theorem pay14_eq : k0_pay14 (F := Ideal) D.codes D.scales D.wup D.sup D.bup D.dww D.dwb D.wdn D.sdn D.t6 D.table D.r2
    = k0_pay4 (F := Ideal) D.codes D.scales D.wup D.sup D.bup := by
  unfold k0_pay14
  rw [ld_codes, ld_scales, ld_wup,
    ld_ch, ld_ch]

theorem pay15_eq : k0_pay15 (F := Ideal) D.codes D.scales D.wup D.sup D.bup D.dww D.dwb D.wdn D.sdn D.t6 D.table D.r2 = k0_pay5 (F := Ideal) D.dww := by
  unfold k0_pay15
  rw [ld_dww]

theorem pay16_eq : k0_pay16 (F := Ideal) D.codes D.scales D.wup D.sup D.bup D.dww D.dwb D.wdn D.sdn D.t6 D.table D.r2 = gated D := by
  unfold k0_pay16 gated
  rw [pay12_eq, pay13_eq, pay14_eq, pay15_eq, ld_dww, ld_ch]

theorem pay17_eq : k0_pay17 (F := Ideal) D.codes D.scales D.wup D.sup D.bup D.dww D.dwb D.wdn D.sdn D.t6 D.table D.r2 = rowMax D := by
  unfold k0_pay17 rowMax
  rw [pay12_eq, pay13_eq, pay14_eq, pay15_eq, ld_dww, ld_ch]

theorem G12_eq : G12 (F := Ideal) D.codes D.scales D.wup D.sup D.bup D.dww D.dwb D.wdn D.sdn D.t6 D.table D.r2
    = fun y : S8x1008x5600.Idx => CODE D (y 0).val (y 1).val (y 2).val := by
  unfold G12
  rw [pay16_eq, pay17_eq]
  funext y
  exact (congrArg (codes D) (ix3_eta y).symm).trans (codes_at D (y 0) (y 1) (y 2))

theorem G13_eq : G13 (F := Ideal) D.codes D.scales D.wup D.sup D.bup D.dww D.dwb D.wdn D.sdn D.t6 D.table D.r2
    = fun y : S8x1x1008.Idx => SC D (y 0).val (y 2).val := by
  unfold G13
  rw [pay17_eq]
  funext y
  exact (congrArg (k0_pay10 (F := Ideal) (rowMax D) (Scalar.ofBits .f32 0x00000000#32)) (ix3_eta y).symm).trans (scales_at D (y 0) (y 1) (y 2))

theorem G14_eq : G14 (F := Ideal) D.codes D.scales D.wup D.sup D.bup D.dww D.dwb D.wdn D.sdn D.t6 D.table D.r2
    = fun y : S8x1008x2240.Idx => Y D (y 0).val (y 1).val (y 2).val := by
  unfold G14
  rw [pay16_eq, pay17_eq]
  funext y
  exact (congrArg (k0_pay1 (F := Ideal) (k0_pay11 (F := Ideal) (gated D) (rowMax D) (Scalar.ofBits .f32 0x00000000#32) D.wdn D.sdn D.t6 D.table D.r2)) (ix3_eta y).symm).trans
    (y_at D (y 0) (y 1) (y 2))

end Cert.ReferenceIdeal.Hand
end
-- ==== Proof.QRun.lean ====
module

public import proofs.«01_k».proof.Proof.Gen.QkvIdeal.Frame
public import proofs.«01_k».proof.Proof.Gen.QkvIdeal.Skeleton
public import Idealize.ShloMosaic.Lib.Pipeline.Frame
public import Idealize.ShloMosaic.Lib.Tactic

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem name_contents (c : Dev nD) {sp : Space} {S : Shape} {e : EltTy} (M : Memref sig .tc sp S e) (f : Bf (F := F) c M) :
    (M.view.loc (c : Thread nD τ) ↦[M.view.set]{fullShare} f : sProp 𝕄) ⊢ iprop(∃ g, ⌜g = f⌝ ∗ pt c M g) := by
  iintro H; iexists f; isplitr
  · ipureintro; rfl
  iexact H

/-- A list of stores into a memref of shape `S`. -/
abbrev Pcs (S : Shape) (e : EltTy) : Type := List (View.Piece (Elt F) S e)

set_option sl_exec.stopBefore "k0_part3" in
set_option maxHeartbeats 8000000 in
/-- The first point of a batch, run once. The first two components are the stores of codes and of scales, the third what the window of key sums holds
    after the zeroing, the fourth the nine stores of key sums, from the codes' window and that, the fifth the nine stores of queries. -/
def startRun (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) :
    { W : Pcs (F := F) S1x256x2240 .fp8e4m3 × Pcs (F := F) S1x1x256 .f32 × Bf (F := F) c arg13
            × (Bf (F := F) c arg9 → Bf (F := F) c arg13 → Pcs (F := F) S1x1x2304 .f32) × (Bf (F := F) c arg9 → Pcs (F := F) S1x256x2304 .f32) //
      ∀ Q : PUnit → sProp 𝕄,
      iprop(pt c arg2 f2 ∗ pt c arg3 f3 ∗ pt c arg4 f4 ∗ pt c arg5 f5 ∗ pt c arg6 f6 ∗ pt c arg7 f7 ∗ pt c arg8 f8
        ∗ pt c arg9 f9 ∗ pt c arg10 f10 ∗ pt c arg11 f11 ∗ pt c arg12 f12 ∗ pt c arg13 f13
        ∗ (iprop(∃ g9 g13 g12, ⌜g9 = arg9.view.writes (Elt F) f9 W.1⌝ ∗ ⌜g13 = W.2.2.1⌝ ∗ pt c arg2 f2 ∗ pt c arg3 f3 ∗ pt c arg4 f4 ∗ pt c arg5 f5
            ∗ pt c arg6 f6 ∗ pt c arg7 f7 ∗ pt c arg8 f8 ∗ pt c arg9 g9 ∗ pt c arg10 (arg10.view.writes (Elt F) f10 W.2.1) ∗ pt c arg11 (arg11.view.writes (Elt F) f11 (W.2.2.2.2 g9))
            ∗ pt c arg12 g12 ∗ pt c arg13 (arg13.view.writes (Elt F) g13 (W.2.2.2.1 g9 g13))) -∗ Q ⟨⟩))
      ⊢ wp frame (wpE (defs₀ (F := F)) Variants.none c none) Set.univ
          (cc0_qkv_state i arg2 harg2 arg3 harg3 arg4 harg4 arg5 harg5 arg6 harg6 arg7 harg7 arg8 harg8 arg9 harg9 arg10 harg10 arg11 harg11 arg12 harg12 arg13 harg13) Q } := by
  refine ⟨(?_, ?_, ?_, ?_, ?_), fun Q => ?_⟩
  rotate_left 5
  · simp only [cc0_qkv_state_eq_skeleton]; unfold cc0_qkv_state_skel
    iintro ⟨H2, H3, H4, H5, H6, H7, H8, H9, H10, H11, H12, H13, Hk⟩
    sl_exec
    ihave H9' := (name_contents c arg9 _) $$ H9
    icases H9' with ⟨%g9, %hg9, H9⟩
    set_option sl_exec.stopBefore "k0_part4" in sl_exec_parts
    ihave H13' := (name_contents c arg13 _) $$ H13
    icases H13' with ⟨%g13, %hg13, H13⟩
    set_option sl_exec.stopBefore "" in sl_exec_parts
    sl_step
    iapply Hk
    iexists g9, g13, _
    isplitr; · ipureintro; exact hg9
    isplitr; · ipureintro; exact hg13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

set_option sl_exec.stopBefore "k0_part3" in
set_option maxHeartbeats 8000000 in
/-- A later point of a batch, run once: the same components, with no zeroing. -/
def nextRun (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) :
    { W : Pcs (F := F) S1x256x2240 .fp8e4m3 × Pcs (F := F) S1x1x256 .f32 × Bf (F := F) c arg13
            × (Bf (F := F) c arg9 → Bf (F := F) c arg13 → Pcs (F := F) S1x1x2304 .f32) × (Bf (F := F) c arg9 → Pcs (F := F) S1x256x2304 .f32) //
      ∀ Q : PUnit → sProp 𝕄,
      iprop(pt c arg2 f2 ∗ pt c arg3 f3 ∗ pt c arg4 f4 ∗ pt c arg5 f5 ∗ pt c arg6 f6 ∗ pt c arg7 f7 ∗ pt c arg8 f8
        ∗ pt c arg9 f9 ∗ pt c arg10 f10 ∗ pt c arg11 f11 ∗ pt c arg12 f12 ∗ pt c arg13 f13
        ∗ (iprop(∃ g9 g13 g12, ⌜g9 = arg9.view.writes (Elt F) f9 W.1⌝ ∗ ⌜g13 = W.2.2.1⌝ ∗ pt c arg2 f2 ∗ pt c arg3 f3 ∗ pt c arg4 f4 ∗ pt c arg5 f5
            ∗ pt c arg6 f6 ∗ pt c arg7 f7 ∗ pt c arg8 f8 ∗ pt c arg9 g9 ∗ pt c arg10 (arg10.view.writes (Elt F) f10 W.2.1) ∗ pt c arg11 (arg11.view.writes (Elt F) f11 (W.2.2.2.2 g9))
            ∗ pt c arg12 g12 ∗ pt c arg13 (arg13.view.writes (Elt F) g13 (W.2.2.2.1 g9 g13))) -∗ Q ⟨⟩))
      ⊢ wp frame (wpE (defs₀ (F := F)) Variants.none c none) Set.univ
          (cc0_qkv_state i arg2 harg2 arg3 harg3 arg4 harg4 arg5 harg5 arg6 harg6 arg7 harg7 arg8 harg8 arg9 harg9 arg10 harg10 arg11 harg11 arg12 harg12 arg13 harg13) Q } := by
  refine ⟨(?_, ?_, ?_, ?_, ?_), fun Q => ?_⟩
  rotate_left 5
  · simp only [cc0_qkv_state_eq_skeleton]; unfold cc0_qkv_state_skel
    iintro ⟨H2, H3, H4, H5, H6, H7, H8, H9, H10, H11, H12, H13, Hk⟩
    sl_exec
    ihave H9' := (name_contents c arg9 _) $$ H9
    icases H9' with ⟨%g9, %hg9, H9⟩
    set_option sl_exec.stopBefore "k0_part4" in sl_exec_parts
    ihave H13' := (name_contents c arg13 _) $$ H13
    icases H13' with ⟨%g13, %hg13, H13⟩
    set_option sl_exec.stopBefore "" in sl_exec_parts
    sl_step
    iapply Hk
    iexists g9, g13, _
    isplitr; · ipureintro; exact hg9
    isplitr; · ipureintro; exact hg13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.QkvIdeal.Hand
end
-- ==== Proof.QBody.lean ====
module

public import proofs.«01_k».proof.Proof.QRun
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-! ## The grid: 8 batches of 4 points -/

theorem coords_1 : ∀ t : Fin cfg0.N, ((grid0.coords t) 1).val = t.val % 4 := by decide +kernel
theorem coords_0 : ∀ t : Fin cfg0.N, ((grid0.coords t) 0).val = t.val / 4 := by decide +kernel

/-- The condition of the body's conditional: the point is the first of its batch. -/
abbrev first (i : grid0.Coords) : BitVec 1 :=
  Scalar.cmpi .ne (Scalar.extui (Scalar.cmpi .eq (BitVec.ofNat 32 (i 1).val) (0#32)) : BitVec 32) (0#32)

theorem first_iff (i : grid0.Coords) : first i = 1#1 ↔ (i 1).val = 0 := by
  have h : ∀ j : Fin 4, (Scalar.cmpi .ne (Scalar.extui (Scalar.cmpi .eq (BitVec.ofNat 32 j.val) (0#32)) : BitVec 32) (0#32) = 1#1 ↔ j.val = 0) := by
    decide +kernel
  exact h (i 1)

variable (m : (ℓ : Loc nD τ sig) → Buf (Elt F) ℓ) (ρ : Dev nD → PrngReg)

/-! ## What a certificate states of the outputs -/

/-- A property of what the windows of codes, of scales, of queries and of key sums hold after each point, kept by the body. -/
structure Plan where
  R7 : Dev nD → Fin cfg0.N → (S1x256x2240.Idx → Elt F .fp8e4m3) → Prop
  R8 : Dev nD → Fin cfg0.N → (S1x1x256.Idx → Elt F .f32) → Prop
  R9 : Dev nD → Fin cfg0.N → (S1x256x2304.Idx → Elt F .f32) → Prop
  R11 : Dev nD → ℕ → (S1x1x2304.Idx → Elt F .f32) → Prop
  start : ∀ (c : Dev nD) (t : Fin cfg0.N) (h1 : first (grid0.coords t) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13)
    (d : S1x256x2240.Idx → Elt F .bf16),
    arg2.view.read (Elt F) f2 = (cfg0.win 0).fill (grid0.coords t) d (iblk m c 0 t) →
    arg3.view.read (Elt F) f3 = iblk m c 1 t → arg4.view.read (Elt F) f4 = iblk m c 2 t →
    arg5.view.read (Elt F) f5 = iblk m c 3 t → arg6.view.read (Elt F) f6 = iblk m c 4 t →
    ∀ g9 g13, g9 = arg9.view.writes (Elt F) f9 (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 → g13 = (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 →
      R7 c t (arg9.view.read (Elt F) g9)
      ∧ R8 c t (arg10.view.read (Elt F) (arg10.view.writes (Elt F) f10 (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1))
      ∧ R9 c t (arg11.view.read (Elt F) (arg11.view.writes (Elt F) f11 ((startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9)))
      ∧ R11 c t.val (arg13.view.read (Elt F) (arg13.view.writes (Elt F) g13 ((startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13)))
  next : ∀ (c : Dev nD) (t : Fin cfg0.N) (h1 : ¬ first (grid0.coords t) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13)
    (d : S1x256x2240.Idx → Elt F .bf16),
    arg2.view.read (Elt F) f2 = (cfg0.win 0).fill (grid0.coords t) d (iblk m c 0 t) →
    arg3.view.read (Elt F) f3 = iblk m c 1 t → arg4.view.read (Elt F) f4 = iblk m c 2 t →
    arg5.view.read (Elt F) f5 = iblk m c 3 t → arg6.view.read (Elt F) f6 = iblk m c 4 t →
    R11 c (t.val - 1) (arg13.view.read (Elt F) f13) →
    ∀ g9 g13, g9 = arg9.view.writes (Elt F) f9 (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 → g13 = (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 →
      R7 c t (arg9.view.read (Elt F) g9)
      ∧ R8 c t (arg10.view.read (Elt F) (arg10.view.writes (Elt F) f10 (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1))
      ∧ R9 c t (arg11.view.read (Elt F) (arg11.view.writes (Elt F) f11 ((nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9)))
      ∧ R11 c t.val (arg13.view.read (Elt F) (arg13.view.writes (Elt F) g13 ((nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13)))

/-- The plan that says nothing. -/
def Plan.trivial : Plan (F := F) m where
  R7 _ _ _ := True
  R8 _ _ _ := True
  R9 _ _ _ := True
  R11 _ _ _ := True
  start := by intros; exact ⟨True.intro, True.intro, True.intro, True.intro⟩
  next := by intros; exact ⟨True.intro, True.intro, True.intro, True.intro⟩

variable (P : Plan (F := F) m)

/-- The windows that the data hold to a predicate: the clipped inputs and the outputs. -/
def marks : Fin cfg0.W → Bool := fun w => decide (w.val = 0 ∨ 5 ≤ w.val)

/-- The proof data on core `c`: the four whole inputs left as found. -/
def dats (c : Dev nD) : Dat τ (Elt F) Unit ℕ (UR sig nD τ) ℕ cfg0 c where
  A w := V m c (Pipeline.arrRef spec0 w)
  after := fun
    | 0 => fun t => Pipeline.Dat.unnamed (cfg := cfg0) 0 t
    | 1 => fun t => iblk m c 1 t
    | 2 => fun t => iblk m c 2 t
    | 3 => fun t => iblk m c 3 t
    | 4 => fun t => iblk m c 4 t
    | 5 => fun t => Pipeline.Dat.unnamed (cfg := cfg0) 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | 10 => fun t => Pipeline.Dat.unnamed (cfg := cfg0) 10 t
    | 11 => fun t => Pipeline.Dat.unnamed (cfg := cfg0) 11 t
    | ⟨_ + 12, h⟩ => absurd h (Nat.not_lt.2 (Nat.le_add_left _ _))
  Φ _ := Pipeline.ΦA spec0 c
  q _ := fullShare
  owed _ := 0

/-- What the marked windows are held to after point `t`: a clipped input is the array's block on the part moved; the outputs of codes, scales,
    queries and key sums have the plan's properties. -/
def Rl (c : Dev nD) : (w : Fin cfg0.W) → Fin cfg0.N → ((cfg0.win w).block.Idx → Elt F (cfg0.win w).elt) → Prop := fun
  | 0 => fun t X => ∃ d, X = (cfg0.win 0).fill (grid0.coords t) d (iblk m c 0 t)
  | 5 => fun t X => ∃ d, X = (cfg0.win 5).fill (grid0.coords t) d (iblk m c 5 t)
  | 6 => fun t X => ∃ d, X = (cfg0.win 6).fill (grid0.coords t) d (iblk m c 6 t)
  | 7 => fun t X => P.R7 c t X
  | 8 => fun t X => P.R8 c t X
  | 9 => fun t X => P.R9 c t X
  | 11 => fun t X => P.R11 c t.val X
  | ⟨1, _⟩ | ⟨2, _⟩ | ⟨3, _⟩ | ⟨4, _⟩ | ⟨10, _⟩ => fun _ _ => True
  | ⟨_ + 12, h⟩ => absurd h (Nat.not_lt.2 (Nat.le_add_left _ _))

/-- The relational data. -/
abbrev rdat (c : Dev nD) : RDat τ (Elt F) Unit ℕ (UR sig nD τ) ℕ cfg0 c := (dats m c).toRRel marks (Rl m P c)

theorem A_eq (c : Dev nD) (w : Fin cfg0.W) : (dats m c).A w = V m c (Pipeline.arrRef spec0 w) := by dsimp only [dats]

/-! ## The clipped inputs and the accumulated output -/

theorem clip0 (t t' : Fin cfg0.N) (h : (cfg0.win 0).index t = (cfg0.win 0).index t') :
    (cfg0.win 0).clip (cfg0.grid.coords t) = (cfg0.win 0).clip (cfg0.grid.coords t') := by
  have h' : cc0_transform_0 (grid0.coords t) = cc0_transform_0 (grid0.coords t') := h
  show (fun a => Pipeline.Clip.of (cc0_transform_0 (grid0.coords t) a) _ _) = fun a => Pipeline.Clip.of (cc0_transform_0 (grid0.coords t') a) _ _
  rw [h']

theorem finds0 (c : Dev nD) (t : Fin cfg0.N) (X : (cfg0.win 0).block.Idx → Elt F (cfg0.win 0).elt) (h : (rdat m P c).Finds 0 t X) :
    ∃ d, X = (cfg0.win 0).fill (grid0.coords t) d (iblk m c 0 t) := by
  by_cases hf : (cfg0.win 0).fetch t = true
  · exact (RDat.finds_of_fetch _ hf X).1 h
  · rw [Bool.not_eq_true] at hf
    obtain ⟨ht, hix⟩ := (cfg0.win 0).index_eq_of_fetch rfl t hf
    rcases (RDat.finds_of_pos _ hf ht X).1 h with h | h
    · rw [(cfg0.win 0).flush_in rfl] at h; exact absurd h Bool.false_ne_true
    · obtain ⟨d, hd⟩ := Dat.toRRel_leaves (dats m c) (fgt := marks) (Rl := Rl m P c) (by decide) h
      have he : X = (dats m c).fetched 0 ⟨t.val - 1, Nat.lt_of_le_of_lt (Nat.sub_le _ _) t.isLt⟩ d := hd
      rw [(dats m c).fetched_congr 0 hix.symm (clip0 _ _ hix.symm) d] at he
      exact ⟨d, he⟩

theorem clip5 (t t' : Fin cfg0.N) (h : (cfg0.win 5).index t = (cfg0.win 5).index t') :
    (cfg0.win 5).clip (cfg0.grid.coords t) = (cfg0.win 5).clip (cfg0.grid.coords t') := by
  have h' : cc0_transform_5 (grid0.coords t) = cc0_transform_5 (grid0.coords t') := h
  show (fun a => Pipeline.Clip.of (cc0_transform_5 (grid0.coords t) a) _ _) = fun a => Pipeline.Clip.of (cc0_transform_5 (grid0.coords t') a) _ _
  rw [h']

theorem finds5 (c : Dev nD) (t : Fin cfg0.N) (X : (cfg0.win 5).block.Idx → Elt F (cfg0.win 5).elt) (h : (rdat m P c).Finds 5 t X) :
    ∃ d, X = (cfg0.win 5).fill (grid0.coords t) d (iblk m c 5 t) := by
  by_cases hf : (cfg0.win 5).fetch t = true
  · exact (RDat.finds_of_fetch _ hf X).1 h
  · rw [Bool.not_eq_true] at hf
    obtain ⟨ht, hix⟩ := (cfg0.win 5).index_eq_of_fetch rfl t hf
    rcases (RDat.finds_of_pos _ hf ht X).1 h with h | h
    · rw [(cfg0.win 5).flush_in rfl] at h; exact absurd h Bool.false_ne_true
    · obtain ⟨d, hd⟩ := Dat.toRRel_leaves (dats m c) (fgt := marks) (Rl := Rl m P c) (by decide) h
      have he : X = (dats m c).fetched 5 ⟨t.val - 1, Nat.lt_of_le_of_lt (Nat.sub_le _ _) t.isLt⟩ d := hd
      rw [(dats m c).fetched_congr 5 hix.symm (clip5 _ _ hix.symm) d] at he
      exact ⟨d, he⟩

theorem clip6 (t t' : Fin cfg0.N) (h : (cfg0.win 6).index t = (cfg0.win 6).index t') :
    (cfg0.win 6).clip (cfg0.grid.coords t) = (cfg0.win 6).clip (cfg0.grid.coords t') := by
  have h' : cc0_transform_6 (grid0.coords t) = cc0_transform_6 (grid0.coords t') := h
  show (fun a => Pipeline.Clip.of (cc0_transform_6 (grid0.coords t) a) _ _) = fun a => Pipeline.Clip.of (cc0_transform_6 (grid0.coords t') a) _ _
  rw [h']

theorem finds6 (c : Dev nD) (t : Fin cfg0.N) (X : (cfg0.win 6).block.Idx → Elt F (cfg0.win 6).elt) (h : (rdat m P c).Finds 6 t X) :
    ∃ d, X = (cfg0.win 6).fill (grid0.coords t) d (iblk m c 6 t) := by
  by_cases hf : (cfg0.win 6).fetch t = true
  · exact (RDat.finds_of_fetch _ hf X).1 h
  · rw [Bool.not_eq_true] at hf
    obtain ⟨ht, hix⟩ := (cfg0.win 6).index_eq_of_fetch rfl t hf
    rcases (RDat.finds_of_pos _ hf ht X).1 h with h | h
    · rw [(cfg0.win 6).flush_in rfl] at h; exact absurd h Bool.false_ne_true
    · obtain ⟨d, hd⟩ := Dat.toRRel_leaves (dats m c) (fgt := marks) (Rl := Rl m P c) (by decide) h
      have he : X = (dats m c).fetched 6 ⟨t.val - 1, Nat.lt_of_le_of_lt (Nat.sub_le _ _) t.isLt⟩ d := hd
      rw [(dats m c).fetched_congr 6 hix.symm (clip6 _ _ hix.symm) d] at he
      exact ⟨d, he⟩

theorem fetch11 : ∀ t : Fin cfg0.N, (cfg0.win 11).fetch t = false := by decide +kernel
theorem flush11 : ∀ t : Fin cfg0.N, (cfg0.win 11).flush t = true → t.val % 4 = 3 := by decide +kernel

/-- A later point of a batch finds the key sums as the point before left them. -/
theorem finds11 (c : Dev nD) (t : Fin cfg0.N) (hj : ¬ t.val % 4 = 0) (X : (cfg0.win 11).block.Idx → Elt F (cfg0.win 11).elt) (h : (rdat m P c).Finds 11 t X) :
    P.R11 c (t.val - 1) X := by
  rcases (RDat.finds_of_pos _ (fetch11 t) (by omega) X).1 h with h | h
  · have h' := flush11 _ h
    have h'' : (t.val - 1) % 4 = 3 := h'
    omega
  · exact Dat.toRRel_leaves (dats m c) (fgt := marks) (Rl := Rl m P c) (by decide) h

/-! ## The body's triple -/

/-- What the body is called with at point `t`, and what it returns. -/
def bodyPre (c : Dev nD) (t : Fin cfg0.N) : sProp 𝕄 :=
  iprop(Pipeline.ΦA spec0 c ∗ (dats m c).owesAt () t.castSucc
    ∗ (∃ Y, ⌜(rdat m P c).Finds 0 t Y⌝ ∗ owns (c : Thread nD τ) (st0_0 t) fullShare Y) ∗ (∃ d, owns (c : Thread nD τ) (st0_1 t) fullShare ((dats m c).before 1 t d)) ∗ (∃ d, owns (c : Thread nD τ) (st0_2 t) fullShare ((dats m c).before 2 t d)) ∗ (∃ d, owns (c : Thread nD τ) (st0_3 t) fullShare ((dats m c).before 3 t d)) ∗ (∃ d, owns (c : Thread nD τ) (st0_4 t) fullShare ((dats m c).before 4 t d)) ∗ (∃ Y, ⌜(rdat m P c).Finds 5 t Y⌝ ∗ owns (c : Thread nD τ) (st0_5 t) fullShare Y) ∗ (∃ Y, ⌜(rdat m P c).Finds 6 t Y⌝ ∗ owns (c : Thread nD τ) (st0_6 t) fullShare Y) ∗ (∃ Y, ⌜(rdat m P c).Finds 7 t Y⌝ ∗ owns (c : Thread nD τ) (st0_7 t) fullShare Y) ∗ (∃ Y, ⌜(rdat m P c).Finds 8 t Y⌝ ∗ owns (c : Thread nD τ) (st0_8 t) fullShare Y) ∗ (∃ Y, ⌜(rdat m P c).Finds 9 t Y⌝ ∗ owns (c : Thread nD τ) (st0_9 t) fullShare Y) ∗ (∃ Y, ⌜(rdat m P c).Finds 10 t Y⌝ ∗ owns (c : Thread nD τ) (st0_10 t) fullShare Y) ∗ (∃ Y, ⌜(rdat m P c).Finds 11 t Y⌝ ∗ owns (c : Thread nD τ) (st0_11 t) fullShare Y))
def bodyPost (c : Dev nD) (t : Fin cfg0.N) : sProp 𝕄 :=
  iprop(Pipeline.ΦA spec0 c ∗ (dats m c).owesAt () t.succ
    ∗ (∃ X, ⌜Rl m P c 0 t X⌝ ∗ owns (c : Thread nD τ) (st0_0 t) fullShare X) ∗ owns (c : Thread nD τ) (st0_1 t) fullShare ((dats m c).after 1 t) ∗ owns (c : Thread nD τ) (st0_2 t) fullShare ((dats m c).after 2 t) ∗ owns (c : Thread nD τ) (st0_3 t) fullShare ((dats m c).after 3 t) ∗ owns (c : Thread nD τ) (st0_4 t) fullShare ((dats m c).after 4 t) ∗ (∃ X, ⌜Rl m P c 5 t X⌝ ∗ owns (c : Thread nD τ) (st0_5 t) fullShare X) ∗ (∃ X, ⌜Rl m P c 6 t X⌝ ∗ owns (c : Thread nD τ) (st0_6 t) fullShare X) ∗ (∃ X, ⌜Rl m P c 7 t X⌝ ∗ owns (c : Thread nD τ) (st0_7 t) fullShare X) ∗ (∃ X, ⌜Rl m P c 8 t X⌝ ∗ owns (c : Thread nD τ) (st0_8 t) fullShare X) ∗ (∃ X, ⌜Rl m P c 9 t X⌝ ∗ owns (c : Thread nD τ) (st0_9 t) fullShare X) ∗ (∃ X, ⌜Rl m P c 10 t X⌝ ∗ owns (c : Thread nD τ) (st0_10 t) fullShare X) ∗ (∃ X, ⌜Rl m P c 11 t X⌝ ∗ owns (c : Thread nD τ) (st0_11 t) fullShare X))

theorem before_1 (c : Dev nD) (t : Fin cfg0.N) (d) : (dats m c).before 1 t d = iblk m c 1 t :=
  before0_1_of m (dats m c) (A_eq m c 1) (fun _ => rfl) t d
theorem before_2 (c : Dev nD) (t : Fin cfg0.N) (d) : (dats m c).before 2 t d = iblk m c 2 t :=
  before0_2_of m (dats m c) (A_eq m c 2) (fun _ => rfl) t d
theorem before_3 (c : Dev nD) (t : Fin cfg0.N) (d) : (dats m c).before 3 t d = iblk m c 3 t :=
  before0_3_of m (dats m c) (A_eq m c 3) (fun _ => rfl) t d
theorem before_4 (c : Dev nD) (t : Fin cfg0.N) (d) : (dats m c).before 4 t d = iblk m c 4 t :=
  before0_4_of m (dats m c) (A_eq m c 4) (fun _ => rfl) t d

set_option maxHeartbeats 4000000 in
theorem sound_start (c : Dev nD) (t : Fin cfg0.N) (hj : t.val % 4 = 0) :
    bodyPre m P c t ⊢ wp frame (wpE (defs₀ (F := F)) Variants.none c none) Set.univ (bodyAt0 t) (fun _ => bodyPost m P c t) := by
  have h1 : first (grid0.coords t) = 1#1 := (first_iff _).2 (by rw [coords_1]; exact hj)
  unfold bodyPre bodyPost bodyAt0
  rw [show (dats m c).owesAt () t.succ = (dats m c).owesAt () t.castSucc from rfl]
  unfold owns
  iintro ⟨HΦ, HO, ⟨%Y0, %F0, %f0, %e0, H0⟩, ⟨%d1, %f1, %e1, H1⟩, ⟨%d2, %f2, %e2, H2⟩, ⟨%d3, %f3, %e3, H3⟩, ⟨%d4, %f4, %e4, H4⟩, ⟨%Y5, %F5, %f5, %e5, H5⟩, ⟨%Y6, %F6, %f6, %e6, H6⟩, ⟨%Y7, %F7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d0, hd0⟩ := finds0 m P c t Y0 F0
  iapply ((startRun c (grid0.coords t) h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%g7, %g11, %g10, %hg7, %hg11, H0, H1, H2, H3, H4, H5, H6, H7, H8, H9, H10, H11⟩
  have hR := P.start c t h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11 d0
    (e0.trans hd0) (e1.trans (before_1 m c t d1)) (e2.trans (before_2 m c t d2)) (e3.trans (before_3 m c t d3)) (e4.trans (before_4 m c t d4))
    g7 g11 hg7 hg11
  obtain ⟨hR7, hR8, hR9, hR11⟩ := hR
  isplitl [HΦ]; · iexact HΦ
  isplitl [HO]; · iexact HO
  isplitl [H0]
  · iexists Y0; isplitr; · ipureintro; exact finds0 m P c t Y0 F0
    iexists f0; isplitr; · ipureintro; exact e0
    iexact H0
  isplitl [H1]
  · iexists f1; isplitr; · ipureintro; exact e1.trans (before_1 m c t d1)
    iexact H1
  isplitl [H2]
  · iexists f2; isplitr; · ipureintro; exact e2.trans (before_2 m c t d2)
    iexact H2
  isplitl [H3]
  · iexists f3; isplitr; · ipureintro; exact e3.trans (before_3 m c t d3)
    iexact H3
  isplitl [H4]
  · iexists f4; isplitr; · ipureintro; exact e4.trans (before_4 m c t d4)
    iexact H4
  isplitl [H5]
  · iexists Y5; isplitr; · ipureintro; exact finds5 m P c t Y5 F5
    iexists f5; isplitr; · ipureintro; exact e5
    iexact H5
  isplitl [H6]
  · iexists Y6; isplitr; · ipureintro; exact finds6 m P c t Y6 F6
    iexists f6; isplitr; · ipureintro; exact e6
    iexact H6
  isplitl [H7]
  · iexists _; isplitr; · ipureintro; exact hR7
    iexists _; isplitr; swap; · iexact H7
    ipureintro; rfl
  isplitl [H8]
  · iexists _; isplitr; · ipureintro; exact hR8
    iexists _; isplitr; swap; · iexact H8
    ipureintro; rfl
  isplitl [H9]
  · iexists _; isplitr; · ipureintro; exact hR9
    iexists _; isplitr; swap; · iexact H9
    ipureintro; rfl
  isplitl [H10]
  · iexists (st0_10 t).view.read (Elt F) g10; isplitr; · ipureintro; exact True.intro
    iexists g10; isplitr; swap; · iexact H10
    ipureintro; rfl
  iexists _; isplitr; · ipureintro; exact hR11
  iexists _; isplitr; swap; · iexact H11
  ipureintro; rfl

set_option maxHeartbeats 4000000 in
theorem sound_next (c : Dev nD) (t : Fin cfg0.N) (hj : ¬ t.val % 4 = 0) :
    bodyPre m P c t ⊢ wp frame (wpE (defs₀ (F := F)) Variants.none c none) Set.univ (bodyAt0 t) (fun _ => bodyPost m P c t) := by
  have h1 : ¬ first (grid0.coords t) = 1#1 := fun h => by have := (first_iff _).1 h; rw [coords_1] at this; omega
  unfold bodyPre bodyPost bodyAt0
  rw [show (dats m c).owesAt () t.succ = (dats m c).owesAt () t.castSucc from rfl]
  unfold owns
  iintro ⟨HΦ, HO, ⟨%Y0, %F0, %f0, %e0, H0⟩, ⟨%d1, %f1, %e1, H1⟩, ⟨%d2, %f2, %e2, H2⟩, ⟨%d3, %f3, %e3, H3⟩, ⟨%d4, %f4, %e4, H4⟩, ⟨%Y5, %F5, %f5, %e5, H5⟩, ⟨%Y6, %F6, %f6, %e6, H6⟩, ⟨%Y7, %F7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d0, hd0⟩ := finds0 m P c t Y0 F0
  iapply ((nextRun c (grid0.coords t) h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%g7, %g11, %g10, %hg7, %hg11, H0, H1, H2, H3, H4, H5, H6, H7, H8, H9, H10, H11⟩
  have hR := P.next c t h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11 d0
    (e0.trans hd0) (e1.trans (before_1 m c t d1)) (e2.trans (before_2 m c t d2)) (e3.trans (before_3 m c t d3)) (e4.trans (before_4 m c t d4))
    (by rw [e11]; exact finds11 m P c t hj Y11 F11)
    g7 g11 hg7 hg11
  obtain ⟨hR7, hR8, hR9, hR11⟩ := hR
  isplitl [HΦ]; · iexact HΦ
  isplitl [HO]; · iexact HO
  isplitl [H0]
  · iexists Y0; isplitr; · ipureintro; exact finds0 m P c t Y0 F0
    iexists f0; isplitr; · ipureintro; exact e0
    iexact H0
  isplitl [H1]
  · iexists f1; isplitr; · ipureintro; exact e1.trans (before_1 m c t d1)
    iexact H1
  isplitl [H2]
  · iexists f2; isplitr; · ipureintro; exact e2.trans (before_2 m c t d2)
    iexact H2
  isplitl [H3]
  · iexists f3; isplitr; · ipureintro; exact e3.trans (before_3 m c t d3)
    iexact H3
  isplitl [H4]
  · iexists f4; isplitr; · ipureintro; exact e4.trans (before_4 m c t d4)
    iexact H4
  isplitl [H5]
  · iexists Y5; isplitr; · ipureintro; exact finds5 m P c t Y5 F5
    iexists f5; isplitr; · ipureintro; exact e5
    iexact H5
  isplitl [H6]
  · iexists Y6; isplitr; · ipureintro; exact finds6 m P c t Y6 F6
    iexists f6; isplitr; · ipureintro; exact e6
    iexact H6
  isplitl [H7]
  · iexists _; isplitr; · ipureintro; exact hR7
    iexists _; isplitr; swap; · iexact H7
    ipureintro; rfl
  isplitl [H8]
  · iexists _; isplitr; · ipureintro; exact hR8
    iexists _; isplitr; swap; · iexact H8
    ipureintro; rfl
  isplitl [H9]
  · iexists _; isplitr; · ipureintro; exact hR9
    iexists _; isplitr; swap; · iexact H9
    ipureintro; rfl
  isplitl [H10]
  · iexists (st0_10 t).view.read (Elt F) g10; isplitr; · ipureintro; exact True.intro
    iexists g10; isplitr; swap; · iexact H10
    ipureintro; rfl
  iexists _; isplitr; · ipureintro; exact hR11
  iexists _; isplitr; swap; · iexact H11
  ipureintro; rfl

theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre m P c t ⊢ wp frame (wpE (defs₀ (F := F)) Variants.none c none) Set.univ (bodyAt0 t) (fun _ => bodyPost m P c t) := by
  by_cases hj : t.val % 4 = 0
  · exact sound_start m P c t hj
  · exact sound_next m P c t hj

theorem body_obligation (c : Dev nD) :
    Pipeline.BodyObligationRel (dats m c) (defs₀ (F := F)) Variants.none () Set.univ marks (Rl m P c) := fun t => by
  rw [bigSep_W0, bigSep_W0, defs₀_row]
  exact triple_restated (sound_body m P c t) rfl .rfl fun _ => .rfl

/-! ## The launch -/

set_option backward.isDefEq.respectTransparency.types false in
/-- Every weakly fair execution of @main terminates, with every array as the data name it and every semaphore counter at zero. -/
theorem run_main :
    θ_run defs (onTc (τ := τ) (main (F := F))) (s₀ m ρ)
      (fun r => Pipeline.RDat.FramePost (cfgs 0) (rdat m P) (V m) r ∧ r.2.sem = fun _ => 0) :=
  Pipeline.RDat.θ_run_frame_track (Q' := _) cfgs (0 : Fin 1) launch0 defs₀ Variants.none (rdat m P) m ρ main
    (fun c => (body_obligation m P c).toRRel) (fun c => (dats m c).share_full fun _ => rfl)
    (fun _ _ => rfl) (V m) (hmain m Variants.none) (A_eq m) (fun _ => .rfl) (fun _ => .rfl)

/-- The arguments after the run. -/
theorem args_of {r : PUnit × MemSt nD τ sig (Elt F)} (h : Pipeline.RDat.FramePost (cfgs 0) (rdat m P) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c)),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

end Cert.QkvIdeal.Hand

end
-- ==== Proof.QKRun.lean ====
module

public import proofs.«01_k».proof.Proof.Gen.Qkv.Frame
public import proofs.«01_k».proof.Proof.Gen.Qkv.Skeleton
public import Idealize.ShloMosaic.Lib.Pipeline.Frame
public import Idealize.ShloMosaic.Lib.Tactic

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem name_contents (c : Dev nD) {sp : Space} {S : Shape} {e : EltTy} (M : Memref sig .tc sp S e) (f : Bf (F := F) c M) :
    (M.view.loc (c : Thread nD τ) ↦[M.view.set]{fullShare} f : sProp 𝕄) ⊢ iprop(∃ g, ⌜g = f⌝ ∗ pt c M g) := by
  iintro H; iexists f; isplitr
  · ipureintro; rfl
  iexact H

/-- A list of stores into a memref of shape `S`. -/
abbrev Pcs (S : Shape) (e : EltTy) : Type := List (View.Piece (Elt F) S e)

set_option sl_exec.stopBefore "k0_part3" in
set_option maxHeartbeats 8000000 in
/-- The first point of a batch, run once. The first two components are the stores of codes and of scales, the third what the window of key sums holds
    after the zeroing, the fourth the nine stores of key sums, from the codes' window and that, the fifth the nine stores of queries. -/
def startRun (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) :
    { W : Pcs (F := F) S1x256x2240 .fp8e4m3 × Pcs (F := F) S1x1x256 .f32 × Bf (F := F) c arg13
            × (Bf (F := F) c arg9 → Bf (F := F) c arg13 → Pcs (F := F) S1x1x2304 .f32) × (Bf (F := F) c arg9 → Pcs (F := F) S1x256x2304 .f32) //
      ∀ Q : PUnit → sProp 𝕄,
      iprop(pt c arg2 f2 ∗ pt c arg3 f3 ∗ pt c arg4 f4 ∗ pt c arg5 f5 ∗ pt c arg6 f6 ∗ pt c arg7 f7 ∗ pt c arg8 f8
        ∗ pt c arg9 f9 ∗ pt c arg10 f10 ∗ pt c arg11 f11 ∗ pt c arg12 f12 ∗ pt c arg13 f13
        ∗ (iprop(∃ g9 g13 g12, ⌜g9 = arg9.view.writes (Elt F) f9 W.1⌝ ∗ ⌜g13 = W.2.2.1⌝ ∗ pt c arg2 f2 ∗ pt c arg3 f3 ∗ pt c arg4 f4 ∗ pt c arg5 f5
            ∗ pt c arg6 f6 ∗ pt c arg7 f7 ∗ pt c arg8 f8 ∗ pt c arg9 g9 ∗ pt c arg10 (arg10.view.writes (Elt F) f10 W.2.1) ∗ pt c arg11 (arg11.view.writes (Elt F) f11 (W.2.2.2.2 g9))
            ∗ pt c arg12 g12 ∗ pt c arg13 (arg13.view.writes (Elt F) g13 (W.2.2.2.1 g9 g13))) -∗ Q ⟨⟩))
      ⊢ wp frame (wpE (defs₀ (F := F)) Variants.none c none) Set.univ
          (cc0_qkv_state i arg2 harg2 arg3 harg3 arg4 harg4 arg5 harg5 arg6 harg6 arg7 harg7 arg8 harg8 arg9 harg9 arg10 harg10 arg11 harg11 arg12 harg12 arg13 harg13) Q } := by
  refine ⟨(?_, ?_, ?_, ?_, ?_), fun Q => ?_⟩
  rotate_left 5
  · simp only [cc0_qkv_state_eq_skeleton]; unfold cc0_qkv_state_skel
    iintro ⟨H2, H3, H4, H5, H6, H7, H8, H9, H10, H11, H12, H13, Hk⟩
    sl_exec
    ihave H9' := (name_contents c arg9 _) $$ H9
    icases H9' with ⟨%g9, %hg9, H9⟩
    set_option sl_exec.stopBefore "k0_part4" in sl_exec_parts
    ihave H13' := (name_contents c arg13 _) $$ H13
    icases H13' with ⟨%g13, %hg13, H13⟩
    set_option sl_exec.stopBefore "" in sl_exec_parts
    sl_step
    iapply Hk
    iexists g9, g13, _
    isplitr; · ipureintro; exact hg9
    isplitr; · ipureintro; exact hg13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

set_option sl_exec.stopBefore "k0_part3" in
set_option maxHeartbeats 8000000 in
/-- A later point of a batch, run once: the same components, with no zeroing. -/
def nextRun (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) :
    { W : Pcs (F := F) S1x256x2240 .fp8e4m3 × Pcs (F := F) S1x1x256 .f32 × Bf (F := F) c arg13
            × (Bf (F := F) c arg9 → Bf (F := F) c arg13 → Pcs (F := F) S1x1x2304 .f32) × (Bf (F := F) c arg9 → Pcs (F := F) S1x256x2304 .f32) //
      ∀ Q : PUnit → sProp 𝕄,
      iprop(pt c arg2 f2 ∗ pt c arg3 f3 ∗ pt c arg4 f4 ∗ pt c arg5 f5 ∗ pt c arg6 f6 ∗ pt c arg7 f7 ∗ pt c arg8 f8
        ∗ pt c arg9 f9 ∗ pt c arg10 f10 ∗ pt c arg11 f11 ∗ pt c arg12 f12 ∗ pt c arg13 f13
        ∗ (iprop(∃ g9 g13 g12, ⌜g9 = arg9.view.writes (Elt F) f9 W.1⌝ ∗ ⌜g13 = W.2.2.1⌝ ∗ pt c arg2 f2 ∗ pt c arg3 f3 ∗ pt c arg4 f4 ∗ pt c arg5 f5
            ∗ pt c arg6 f6 ∗ pt c arg7 f7 ∗ pt c arg8 f8 ∗ pt c arg9 g9 ∗ pt c arg10 (arg10.view.writes (Elt F) f10 W.2.1) ∗ pt c arg11 (arg11.view.writes (Elt F) f11 (W.2.2.2.2 g9))
            ∗ pt c arg12 g12 ∗ pt c arg13 (arg13.view.writes (Elt F) g13 (W.2.2.2.1 g9 g13))) -∗ Q ⟨⟩))
      ⊢ wp frame (wpE (defs₀ (F := F)) Variants.none c none) Set.univ
          (cc0_qkv_state i arg2 harg2 arg3 harg3 arg4 harg4 arg5 harg5 arg6 harg6 arg7 harg7 arg8 harg8 arg9 harg9 arg10 harg10 arg11 harg11 arg12 harg12 arg13 harg13) Q } := by
  refine ⟨(?_, ?_, ?_, ?_, ?_), fun Q => ?_⟩
  rotate_left 5
  · simp only [cc0_qkv_state_eq_skeleton]; unfold cc0_qkv_state_skel
    iintro ⟨H2, H3, H4, H5, H6, H7, H8, H9, H10, H11, H12, H13, Hk⟩
    sl_exec
    ihave H9' := (name_contents c arg9 _) $$ H9
    icases H9' with ⟨%g9, %hg9, H9⟩
    set_option sl_exec.stopBefore "k0_part4" in sl_exec_parts
    ihave H13' := (name_contents c arg13 _) $$ H13
    icases H13' with ⟨%g13, %hg13, H13⟩
    set_option sl_exec.stopBefore "" in sl_exec_parts
    sl_step
    iapply Hk
    iexists g9, g13, _
    isplitr; · ipureintro; exact hg9
    isplitr; · ipureintro; exact hg13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.Qkv.Hand
end
-- ==== Proof.QKBody.lean ====
module

public import proofs.«01_k».proof.Proof.QKRun
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-! ## The grid: 8 batches of 4 points -/

theorem coords_1 : ∀ t : Fin cfg0.N, ((grid0.coords t) 1).val = t.val % 4 := by decide +kernel
theorem coords_0 : ∀ t : Fin cfg0.N, ((grid0.coords t) 0).val = t.val / 4 := by decide +kernel

/-- The condition of the body's conditional: the point is the first of its batch. -/
abbrev first (i : grid0.Coords) : BitVec 1 :=
  Scalar.cmpi .ne (Scalar.extui (Scalar.cmpi .eq (BitVec.ofNat 32 (i 1).val) (0#32)) : BitVec 32) (0#32)

theorem first_iff (i : grid0.Coords) : first i = 1#1 ↔ (i 1).val = 0 := by
  have h : ∀ j : Fin 4, (Scalar.cmpi .ne (Scalar.extui (Scalar.cmpi .eq (BitVec.ofNat 32 j.val) (0#32)) : BitVec 32) (0#32) = 1#1 ↔ j.val = 0) := by
    decide +kernel
  exact h (i 1)

variable (m : (ℓ : Loc nD τ sig) → Buf (Elt F) ℓ) (ρ : Dev nD → PrngReg)

/-! ## What a certificate states of the outputs -/

/-- A property of what the windows of codes, of scales, of queries and of key sums hold after each point, kept by the body. -/
structure Plan where
  R7 : Dev nD → Fin cfg0.N → (S1x256x2240.Idx → Elt F .fp8e4m3) → Prop
  R8 : Dev nD → Fin cfg0.N → (S1x1x256.Idx → Elt F .f32) → Prop
  R9 : Dev nD → Fin cfg0.N → (S1x256x2304.Idx → Elt F .f32) → Prop
  R11 : Dev nD → ℕ → (S1x1x2304.Idx → Elt F .f32) → Prop
  start : ∀ (c : Dev nD) (t : Fin cfg0.N) (h1 : first (grid0.coords t) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13)
    (d : S1x256x2240.Idx → Elt F .bf16),
    arg2.view.read (Elt F) f2 = (cfg0.win 0).fill (grid0.coords t) d (iblk m c 0 t) →
    arg3.view.read (Elt F) f3 = iblk m c 1 t → arg4.view.read (Elt F) f4 = iblk m c 2 t →
    arg5.view.read (Elt F) f5 = iblk m c 3 t → arg6.view.read (Elt F) f6 = iblk m c 4 t →
    ∀ g9 g13, g9 = arg9.view.writes (Elt F) f9 (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 → g13 = (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 →
      R7 c t (arg9.view.read (Elt F) g9)
      ∧ R8 c t (arg10.view.read (Elt F) (arg10.view.writes (Elt F) f10 (startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1))
      ∧ R9 c t (arg11.view.read (Elt F) (arg11.view.writes (Elt F) f11 ((startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9)))
      ∧ R11 c t.val (arg13.view.read (Elt F) (arg13.view.writes (Elt F) g13 ((startRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13)))
  next : ∀ (c : Dev nD) (t : Fin cfg0.N) (h1 : ¬ first (grid0.coords t) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13)
    (d : S1x256x2240.Idx → Elt F .bf16),
    arg2.view.read (Elt F) f2 = (cfg0.win 0).fill (grid0.coords t) d (iblk m c 0 t) →
    arg3.view.read (Elt F) f3 = iblk m c 1 t → arg4.view.read (Elt F) f4 = iblk m c 2 t →
    arg5.view.read (Elt F) f5 = iblk m c 3 t → arg6.view.read (Elt F) f6 = iblk m c 4 t →
    R11 c (t.val - 1) (arg13.view.read (Elt F) f13) →
    ∀ g9 g13, g9 = arg9.view.writes (Elt F) f9 (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 → g13 = (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 →
      R7 c t (arg9.view.read (Elt F) g9)
      ∧ R8 c t (arg10.view.read (Elt F) (arg10.view.writes (Elt F) f10 (nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1))
      ∧ R9 c t (arg11.view.read (Elt F) (arg11.view.writes (Elt F) f11 ((nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9)))
      ∧ R11 c t.val (arg13.view.read (Elt F) (arg13.view.writes (Elt F) g13 ((nextRun c (grid0.coords t) h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13)))

/-- The plan that says nothing. -/
def Plan.trivial : Plan (F := F) m where
  R7 _ _ _ := True
  R8 _ _ _ := True
  R9 _ _ _ := True
  R11 _ _ _ := True
  start := by intros; exact ⟨True.intro, True.intro, True.intro, True.intro⟩
  next := by intros; exact ⟨True.intro, True.intro, True.intro, True.intro⟩

variable (P : Plan (F := F) m)

/-- The windows that the data hold to a predicate: the clipped inputs and the outputs. -/
def marks : Fin cfg0.W → Bool := fun w => decide (w.val = 0 ∨ 5 ≤ w.val)

/-- The proof data on core `c`: the four whole inputs left as found. -/
def dats (c : Dev nD) : Dat τ (Elt F) Unit ℕ (UR sig nD τ) ℕ cfg0 c where
  A w := V m c (Pipeline.arrRef spec0 w)
  after := fun
    | 0 => fun t => Pipeline.Dat.unnamed (cfg := cfg0) 0 t
    | 1 => fun t => iblk m c 1 t
    | 2 => fun t => iblk m c 2 t
    | 3 => fun t => iblk m c 3 t
    | 4 => fun t => iblk m c 4 t
    | 5 => fun t => Pipeline.Dat.unnamed (cfg := cfg0) 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | 10 => fun t => Pipeline.Dat.unnamed (cfg := cfg0) 10 t
    | 11 => fun t => Pipeline.Dat.unnamed (cfg := cfg0) 11 t
    | ⟨_ + 12, h⟩ => absurd h (Nat.not_lt.2 (Nat.le_add_left _ _))
  Φ _ := Pipeline.ΦA spec0 c
  q _ := fullShare
  owed _ := 0

/-- What the marked windows are held to after point `t`: a clipped input is the array's block on the part moved; the outputs of codes, scales,
    queries and key sums have the plan's properties. -/
def Rl (c : Dev nD) : (w : Fin cfg0.W) → Fin cfg0.N → ((cfg0.win w).block.Idx → Elt F (cfg0.win w).elt) → Prop := fun
  | 0 => fun t X => ∃ d, X = (cfg0.win 0).fill (grid0.coords t) d (iblk m c 0 t)
  | 5 => fun t X => ∃ d, X = (cfg0.win 5).fill (grid0.coords t) d (iblk m c 5 t)
  | 6 => fun t X => ∃ d, X = (cfg0.win 6).fill (grid0.coords t) d (iblk m c 6 t)
  | 7 => fun t X => P.R7 c t X
  | 8 => fun t X => P.R8 c t X
  | 9 => fun t X => P.R9 c t X
  | 11 => fun t X => P.R11 c t.val X
  | ⟨1, _⟩ | ⟨2, _⟩ | ⟨3, _⟩ | ⟨4, _⟩ | ⟨10, _⟩ => fun _ _ => True
  | ⟨_ + 12, h⟩ => absurd h (Nat.not_lt.2 (Nat.le_add_left _ _))

/-- The relational data. -/
abbrev rdat (c : Dev nD) : RDat τ (Elt F) Unit ℕ (UR sig nD τ) ℕ cfg0 c := (dats m c).toRRel marks (Rl m P c)

theorem A_eq (c : Dev nD) (w : Fin cfg0.W) : (dats m c).A w = V m c (Pipeline.arrRef spec0 w) := by dsimp only [dats]

/-! ## The clipped inputs and the accumulated output -/

theorem clip0 (t t' : Fin cfg0.N) (h : (cfg0.win 0).index t = (cfg0.win 0).index t') :
    (cfg0.win 0).clip (cfg0.grid.coords t) = (cfg0.win 0).clip (cfg0.grid.coords t') := by
  have h' : cc0_transform_0 (grid0.coords t) = cc0_transform_0 (grid0.coords t') := h
  show (fun a => Pipeline.Clip.of (cc0_transform_0 (grid0.coords t) a) _ _) = fun a => Pipeline.Clip.of (cc0_transform_0 (grid0.coords t') a) _ _
  rw [h']

theorem finds0 (c : Dev nD) (t : Fin cfg0.N) (X : (cfg0.win 0).block.Idx → Elt F (cfg0.win 0).elt) (h : (rdat m P c).Finds 0 t X) :
    ∃ d, X = (cfg0.win 0).fill (grid0.coords t) d (iblk m c 0 t) := by
  by_cases hf : (cfg0.win 0).fetch t = true
  · exact (RDat.finds_of_fetch _ hf X).1 h
  · rw [Bool.not_eq_true] at hf
    obtain ⟨ht, hix⟩ := (cfg0.win 0).index_eq_of_fetch rfl t hf
    rcases (RDat.finds_of_pos _ hf ht X).1 h with h | h
    · rw [(cfg0.win 0).flush_in rfl] at h; exact absurd h Bool.false_ne_true
    · obtain ⟨d, hd⟩ := Dat.toRRel_leaves (dats m c) (fgt := marks) (Rl := Rl m P c) (by decide) h
      have he : X = (dats m c).fetched 0 ⟨t.val - 1, Nat.lt_of_le_of_lt (Nat.sub_le _ _) t.isLt⟩ d := hd
      rw [(dats m c).fetched_congr 0 hix.symm (clip0 _ _ hix.symm) d] at he
      exact ⟨d, he⟩

theorem clip5 (t t' : Fin cfg0.N) (h : (cfg0.win 5).index t = (cfg0.win 5).index t') :
    (cfg0.win 5).clip (cfg0.grid.coords t) = (cfg0.win 5).clip (cfg0.grid.coords t') := by
  have h' : cc0_transform_5 (grid0.coords t) = cc0_transform_5 (grid0.coords t') := h
  show (fun a => Pipeline.Clip.of (cc0_transform_5 (grid0.coords t) a) _ _) = fun a => Pipeline.Clip.of (cc0_transform_5 (grid0.coords t') a) _ _
  rw [h']

theorem finds5 (c : Dev nD) (t : Fin cfg0.N) (X : (cfg0.win 5).block.Idx → Elt F (cfg0.win 5).elt) (h : (rdat m P c).Finds 5 t X) :
    ∃ d, X = (cfg0.win 5).fill (grid0.coords t) d (iblk m c 5 t) := by
  by_cases hf : (cfg0.win 5).fetch t = true
  · exact (RDat.finds_of_fetch _ hf X).1 h
  · rw [Bool.not_eq_true] at hf
    obtain ⟨ht, hix⟩ := (cfg0.win 5).index_eq_of_fetch rfl t hf
    rcases (RDat.finds_of_pos _ hf ht X).1 h with h | h
    · rw [(cfg0.win 5).flush_in rfl] at h; exact absurd h Bool.false_ne_true
    · obtain ⟨d, hd⟩ := Dat.toRRel_leaves (dats m c) (fgt := marks) (Rl := Rl m P c) (by decide) h
      have he : X = (dats m c).fetched 5 ⟨t.val - 1, Nat.lt_of_le_of_lt (Nat.sub_le _ _) t.isLt⟩ d := hd
      rw [(dats m c).fetched_congr 5 hix.symm (clip5 _ _ hix.symm) d] at he
      exact ⟨d, he⟩

theorem clip6 (t t' : Fin cfg0.N) (h : (cfg0.win 6).index t = (cfg0.win 6).index t') :
    (cfg0.win 6).clip (cfg0.grid.coords t) = (cfg0.win 6).clip (cfg0.grid.coords t') := by
  have h' : cc0_transform_6 (grid0.coords t) = cc0_transform_6 (grid0.coords t') := h
  show (fun a => Pipeline.Clip.of (cc0_transform_6 (grid0.coords t) a) _ _) = fun a => Pipeline.Clip.of (cc0_transform_6 (grid0.coords t') a) _ _
  rw [h']

theorem finds6 (c : Dev nD) (t : Fin cfg0.N) (X : (cfg0.win 6).block.Idx → Elt F (cfg0.win 6).elt) (h : (rdat m P c).Finds 6 t X) :
    ∃ d, X = (cfg0.win 6).fill (grid0.coords t) d (iblk m c 6 t) := by
  by_cases hf : (cfg0.win 6).fetch t = true
  · exact (RDat.finds_of_fetch _ hf X).1 h
  · rw [Bool.not_eq_true] at hf
    obtain ⟨ht, hix⟩ := (cfg0.win 6).index_eq_of_fetch rfl t hf
    rcases (RDat.finds_of_pos _ hf ht X).1 h with h | h
    · rw [(cfg0.win 6).flush_in rfl] at h; exact absurd h Bool.false_ne_true
    · obtain ⟨d, hd⟩ := Dat.toRRel_leaves (dats m c) (fgt := marks) (Rl := Rl m P c) (by decide) h
      have he : X = (dats m c).fetched 6 ⟨t.val - 1, Nat.lt_of_le_of_lt (Nat.sub_le _ _) t.isLt⟩ d := hd
      rw [(dats m c).fetched_congr 6 hix.symm (clip6 _ _ hix.symm) d] at he
      exact ⟨d, he⟩

theorem fetch11 : ∀ t : Fin cfg0.N, (cfg0.win 11).fetch t = false := by decide +kernel
theorem flush11 : ∀ t : Fin cfg0.N, (cfg0.win 11).flush t = true → t.val % 4 = 3 := by decide +kernel

/-- A later point of a batch finds the key sums as the point before left them. -/
theorem finds11 (c : Dev nD) (t : Fin cfg0.N) (hj : ¬ t.val % 4 = 0) (X : (cfg0.win 11).block.Idx → Elt F (cfg0.win 11).elt) (h : (rdat m P c).Finds 11 t X) :
    P.R11 c (t.val - 1) X := by
  rcases (RDat.finds_of_pos _ (fetch11 t) (by omega) X).1 h with h | h
  · have h' := flush11 _ h
    have h'' : (t.val - 1) % 4 = 3 := h'
    omega
  · exact Dat.toRRel_leaves (dats m c) (fgt := marks) (Rl := Rl m P c) (by decide) h

/-! ## The body's triple -/

/-- What the body is called with at point `t`, and what it returns. -/
def bodyPre (c : Dev nD) (t : Fin cfg0.N) : sProp 𝕄 :=
  iprop(Pipeline.ΦA spec0 c ∗ (dats m c).owesAt () t.castSucc
    ∗ (∃ Y, ⌜(rdat m P c).Finds 0 t Y⌝ ∗ owns (c : Thread nD τ) (st0_0 t) fullShare Y) ∗ (∃ d, owns (c : Thread nD τ) (st0_1 t) fullShare ((dats m c).before 1 t d)) ∗ (∃ d, owns (c : Thread nD τ) (st0_2 t) fullShare ((dats m c).before 2 t d)) ∗ (∃ d, owns (c : Thread nD τ) (st0_3 t) fullShare ((dats m c).before 3 t d)) ∗ (∃ d, owns (c : Thread nD τ) (st0_4 t) fullShare ((dats m c).before 4 t d)) ∗ (∃ Y, ⌜(rdat m P c).Finds 5 t Y⌝ ∗ owns (c : Thread nD τ) (st0_5 t) fullShare Y) ∗ (∃ Y, ⌜(rdat m P c).Finds 6 t Y⌝ ∗ owns (c : Thread nD τ) (st0_6 t) fullShare Y) ∗ (∃ Y, ⌜(rdat m P c).Finds 7 t Y⌝ ∗ owns (c : Thread nD τ) (st0_7 t) fullShare Y) ∗ (∃ Y, ⌜(rdat m P c).Finds 8 t Y⌝ ∗ owns (c : Thread nD τ) (st0_8 t) fullShare Y) ∗ (∃ Y, ⌜(rdat m P c).Finds 9 t Y⌝ ∗ owns (c : Thread nD τ) (st0_9 t) fullShare Y) ∗ (∃ Y, ⌜(rdat m P c).Finds 10 t Y⌝ ∗ owns (c : Thread nD τ) (st0_10 t) fullShare Y) ∗ (∃ Y, ⌜(rdat m P c).Finds 11 t Y⌝ ∗ owns (c : Thread nD τ) (st0_11 t) fullShare Y))
def bodyPost (c : Dev nD) (t : Fin cfg0.N) : sProp 𝕄 :=
  iprop(Pipeline.ΦA spec0 c ∗ (dats m c).owesAt () t.succ
    ∗ (∃ X, ⌜Rl m P c 0 t X⌝ ∗ owns (c : Thread nD τ) (st0_0 t) fullShare X) ∗ owns (c : Thread nD τ) (st0_1 t) fullShare ((dats m c).after 1 t) ∗ owns (c : Thread nD τ) (st0_2 t) fullShare ((dats m c).after 2 t) ∗ owns (c : Thread nD τ) (st0_3 t) fullShare ((dats m c).after 3 t) ∗ owns (c : Thread nD τ) (st0_4 t) fullShare ((dats m c).after 4 t) ∗ (∃ X, ⌜Rl m P c 5 t X⌝ ∗ owns (c : Thread nD τ) (st0_5 t) fullShare X) ∗ (∃ X, ⌜Rl m P c 6 t X⌝ ∗ owns (c : Thread nD τ) (st0_6 t) fullShare X) ∗ (∃ X, ⌜Rl m P c 7 t X⌝ ∗ owns (c : Thread nD τ) (st0_7 t) fullShare X) ∗ (∃ X, ⌜Rl m P c 8 t X⌝ ∗ owns (c : Thread nD τ) (st0_8 t) fullShare X) ∗ (∃ X, ⌜Rl m P c 9 t X⌝ ∗ owns (c : Thread nD τ) (st0_9 t) fullShare X) ∗ (∃ X, ⌜Rl m P c 10 t X⌝ ∗ owns (c : Thread nD τ) (st0_10 t) fullShare X) ∗ (∃ X, ⌜Rl m P c 11 t X⌝ ∗ owns (c : Thread nD τ) (st0_11 t) fullShare X))

theorem before_1 (c : Dev nD) (t : Fin cfg0.N) (d) : (dats m c).before 1 t d = iblk m c 1 t :=
  before0_1_of m (dats m c) (A_eq m c 1) (fun _ => rfl) t d
theorem before_2 (c : Dev nD) (t : Fin cfg0.N) (d) : (dats m c).before 2 t d = iblk m c 2 t :=
  before0_2_of m (dats m c) (A_eq m c 2) (fun _ => rfl) t d
theorem before_3 (c : Dev nD) (t : Fin cfg0.N) (d) : (dats m c).before 3 t d = iblk m c 3 t :=
  before0_3_of m (dats m c) (A_eq m c 3) (fun _ => rfl) t d
theorem before_4 (c : Dev nD) (t : Fin cfg0.N) (d) : (dats m c).before 4 t d = iblk m c 4 t :=
  before0_4_of m (dats m c) (A_eq m c 4) (fun _ => rfl) t d

set_option maxHeartbeats 4000000 in
theorem sound_start (c : Dev nD) (t : Fin cfg0.N) (hj : t.val % 4 = 0) :
    bodyPre m P c t ⊢ wp frame (wpE (defs₀ (F := F)) Variants.none c none) Set.univ (bodyAt0 t) (fun _ => bodyPost m P c t) := by
  have h1 : first (grid0.coords t) = 1#1 := (first_iff _).2 (by rw [coords_1]; exact hj)
  unfold bodyPre bodyPost bodyAt0
  rw [show (dats m c).owesAt () t.succ = (dats m c).owesAt () t.castSucc from rfl]
  unfold owns
  iintro ⟨HΦ, HO, ⟨%Y0, %F0, %f0, %e0, H0⟩, ⟨%d1, %f1, %e1, H1⟩, ⟨%d2, %f2, %e2, H2⟩, ⟨%d3, %f3, %e3, H3⟩, ⟨%d4, %f4, %e4, H4⟩, ⟨%Y5, %F5, %f5, %e5, H5⟩, ⟨%Y6, %F6, %f6, %e6, H6⟩, ⟨%Y7, %F7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d0, hd0⟩ := finds0 m P c t Y0 F0
  iapply ((startRun c (grid0.coords t) h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%g7, %g11, %g10, %hg7, %hg11, H0, H1, H2, H3, H4, H5, H6, H7, H8, H9, H10, H11⟩
  have hR := P.start c t h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11 d0
    (e0.trans hd0) (e1.trans (before_1 m c t d1)) (e2.trans (before_2 m c t d2)) (e3.trans (before_3 m c t d3)) (e4.trans (before_4 m c t d4))
    g7 g11 hg7 hg11
  obtain ⟨hR7, hR8, hR9, hR11⟩ := hR
  isplitl [HΦ]; · iexact HΦ
  isplitl [HO]; · iexact HO
  isplitl [H0]
  · iexists Y0; isplitr; · ipureintro; exact finds0 m P c t Y0 F0
    iexists f0; isplitr; · ipureintro; exact e0
    iexact H0
  isplitl [H1]
  · iexists f1; isplitr; · ipureintro; exact e1.trans (before_1 m c t d1)
    iexact H1
  isplitl [H2]
  · iexists f2; isplitr; · ipureintro; exact e2.trans (before_2 m c t d2)
    iexact H2
  isplitl [H3]
  · iexists f3; isplitr; · ipureintro; exact e3.trans (before_3 m c t d3)
    iexact H3
  isplitl [H4]
  · iexists f4; isplitr; · ipureintro; exact e4.trans (before_4 m c t d4)
    iexact H4
  isplitl [H5]
  · iexists Y5; isplitr; · ipureintro; exact finds5 m P c t Y5 F5
    iexists f5; isplitr; · ipureintro; exact e5
    iexact H5
  isplitl [H6]
  · iexists Y6; isplitr; · ipureintro; exact finds6 m P c t Y6 F6
    iexists f6; isplitr; · ipureintro; exact e6
    iexact H6
  isplitl [H7]
  · iexists _; isplitr; · ipureintro; exact hR7
    iexists _; isplitr; swap; · iexact H7
    ipureintro; rfl
  isplitl [H8]
  · iexists _; isplitr; · ipureintro; exact hR8
    iexists _; isplitr; swap; · iexact H8
    ipureintro; rfl
  isplitl [H9]
  · iexists _; isplitr; · ipureintro; exact hR9
    iexists _; isplitr; swap; · iexact H9
    ipureintro; rfl
  isplitl [H10]
  · iexists (st0_10 t).view.read (Elt F) g10; isplitr; · ipureintro; exact True.intro
    iexists g10; isplitr; swap; · iexact H10
    ipureintro; rfl
  iexists _; isplitr; · ipureintro; exact hR11
  iexists _; isplitr; swap; · iexact H11
  ipureintro; rfl

set_option maxHeartbeats 4000000 in
theorem sound_next (c : Dev nD) (t : Fin cfg0.N) (hj : ¬ t.val % 4 = 0) :
    bodyPre m P c t ⊢ wp frame (wpE (defs₀ (F := F)) Variants.none c none) Set.univ (bodyAt0 t) (fun _ => bodyPost m P c t) := by
  have h1 : ¬ first (grid0.coords t) = 1#1 := fun h => by have := (first_iff _).1 h; rw [coords_1] at this; omega
  unfold bodyPre bodyPost bodyAt0
  rw [show (dats m c).owesAt () t.succ = (dats m c).owesAt () t.castSucc from rfl]
  unfold owns
  iintro ⟨HΦ, HO, ⟨%Y0, %F0, %f0, %e0, H0⟩, ⟨%d1, %f1, %e1, H1⟩, ⟨%d2, %f2, %e2, H2⟩, ⟨%d3, %f3, %e3, H3⟩, ⟨%d4, %f4, %e4, H4⟩, ⟨%Y5, %F5, %f5, %e5, H5⟩, ⟨%Y6, %F6, %f6, %e6, H6⟩, ⟨%Y7, %F7, %f7, %e7, H7⟩, ⟨%Y8, %F8, %f8, %e8, H8⟩, ⟨%Y9, %F9, %f9, %e9, H9⟩, ⟨%Y10, %F10, %f10, %e10, H10⟩, ⟨%Y11, %F11, %f11, %e11, H11⟩⟩
  obtain ⟨d0, hd0⟩ := finds0 m P c t Y0 F0
  iapply ((nextRun c (grid0.coords t) h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%g7, %g11, %g10, %hg7, %hg11, H0, H1, H2, H3, H4, H5, H6, H7, H8, H9, H10, H11⟩
  have hR := P.next c t h1 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) f0 f1 f2 f3 f4 f5 f6 f7 f8 f9 f10 f11 d0
    (e0.trans hd0) (e1.trans (before_1 m c t d1)) (e2.trans (before_2 m c t d2)) (e3.trans (before_3 m c t d3)) (e4.trans (before_4 m c t d4))
    (by rw [e11]; exact finds11 m P c t hj Y11 F11)
    g7 g11 hg7 hg11
  obtain ⟨hR7, hR8, hR9, hR11⟩ := hR
  isplitl [HΦ]; · iexact HΦ
  isplitl [HO]; · iexact HO
  isplitl [H0]
  · iexists Y0; isplitr; · ipureintro; exact finds0 m P c t Y0 F0
    iexists f0; isplitr; · ipureintro; exact e0
    iexact H0
  isplitl [H1]
  · iexists f1; isplitr; · ipureintro; exact e1.trans (before_1 m c t d1)
    iexact H1
  isplitl [H2]
  · iexists f2; isplitr; · ipureintro; exact e2.trans (before_2 m c t d2)
    iexact H2
  isplitl [H3]
  · iexists f3; isplitr; · ipureintro; exact e3.trans (before_3 m c t d3)
    iexact H3
  isplitl [H4]
  · iexists f4; isplitr; · ipureintro; exact e4.trans (before_4 m c t d4)
    iexact H4
  isplitl [H5]
  · iexists Y5; isplitr; · ipureintro; exact finds5 m P c t Y5 F5
    iexists f5; isplitr; · ipureintro; exact e5
    iexact H5
  isplitl [H6]
  · iexists Y6; isplitr; · ipureintro; exact finds6 m P c t Y6 F6
    iexists f6; isplitr; · ipureintro; exact e6
    iexact H6
  isplitl [H7]
  · iexists _; isplitr; · ipureintro; exact hR7
    iexists _; isplitr; swap; · iexact H7
    ipureintro; rfl
  isplitl [H8]
  · iexists _; isplitr; · ipureintro; exact hR8
    iexists _; isplitr; swap; · iexact H8
    ipureintro; rfl
  isplitl [H9]
  · iexists _; isplitr; · ipureintro; exact hR9
    iexists _; isplitr; swap; · iexact H9
    ipureintro; rfl
  isplitl [H10]
  · iexists (st0_10 t).view.read (Elt F) g10; isplitr; · ipureintro; exact True.intro
    iexists g10; isplitr; swap; · iexact H10
    ipureintro; rfl
  iexists _; isplitr; · ipureintro; exact hR11
  iexists _; isplitr; swap; · iexact H11
  ipureintro; rfl

theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre m P c t ⊢ wp frame (wpE (defs₀ (F := F)) Variants.none c none) Set.univ (bodyAt0 t) (fun _ => bodyPost m P c t) := by
  by_cases hj : t.val % 4 = 0
  · exact sound_start m P c t hj
  · exact sound_next m P c t hj

theorem body_obligation (c : Dev nD) :
    Pipeline.BodyObligationRel (dats m c) (defs₀ (F := F)) Variants.none () Set.univ marks (Rl m P c) := fun t => by
  rw [bigSep_W0, bigSep_W0, defs₀_row]
  exact triple_restated (sound_body m P c t) rfl .rfl fun _ => .rfl

/-! ## The launch -/

set_option backward.isDefEq.respectTransparency.types false in
/-- Every weakly fair execution of @main terminates, with every array as the data name it and every semaphore counter at zero. -/
theorem run_main :
    θ_run defs (onTc (τ := τ) (main (F := F))) (s₀ m ρ)
      (fun r => Pipeline.RDat.FramePost (cfgs 0) (rdat m P) (V m) r ∧ r.2.sem = fun _ => 0) :=
  Pipeline.RDat.θ_run_frame_track (Q' := _) cfgs (0 : Fin 1) launch0 defs₀ Variants.none (rdat m P) m ρ main
    (fun c => (body_obligation m P c).toRRel) (fun c => (dats m c).share_full fun _ => rfl)
    (fun _ _ => rfl) (V m) (hmain m Variants.none) (A_eq m) (fun _ => .rfl) (fun _ => .rfl)

/-- The arguments after the run. -/
theorem args_of {r : PUnit × MemSt nD τ sig (Elt F)} (h : Pipeline.RDat.FramePost (cfgs 0) (rdat m P) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c)),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

end Cert.Qkv.Hand

end
-- ==== Proof.QSpec.lean ====
module

public import proofs.«01_k».proof.Proof.Spec

@[expose] public section

noncomputable section

namespace Cert.KeySum

open Idealize.ShloMosaic Cert.FFN

/-! The quantised modulated activations, the queries and the sums of the keys, at natural-number coordinates. -/

/-- The arrays that the four results depend on. -/
structure Inp where
  x : (⟨3, ![8, 1008, 2240]⟩ : Shape).Idx → EReal
  t6 : (⟨3, ![8, 6, 2240]⟩ : Shape).Idx → EReal
  table : (⟨2, ![6, 2240]⟩ : Shape).Idx → EReal
  w : (⟨2, ![2240, 6720]⟩ : Shape).Idx → EReal
  s : (⟨1, ![6720]⟩ : Shape).Idx → EReal

/-- The number of channels. -/
def cD : EReal := Ideal.ofBits FTy.f32 0x450C0000#32
/-- The constant under the root. -/
def cEps : EReal := Ideal.ofBits FTy.f32 0x358637BD#32
theorem cD_eq : cD = ((2240 : ℝ) : EReal) := by simp [cD, Ideal.ofBits, Ideal.ieee, -EReal.coe_mul]; norm_num
theorem cEps_pos : 0 < cEps := by
  have h : cEps = ((8796093 * (2 : ℝ) ^ (-43 : ℤ) : ℝ) : EReal) := by
    simp [cEps, Ideal.ofBits, Ideal.ieee, -EReal.coe_mul]
  rw [h]
  exact_mod_cast (by positivity : (0 : ℝ) < 8796093 * (2 : ℝ) ^ (-43 : ℤ))

def mean (x : Fin 2240 → EReal) : EReal := Ideal.div (∑ k, x k) cD
def dev (x : Fin 2240 → EReal) (k : Fin 2240) : EReal := x k - mean x
def sdev (x : Fin 2240 → EReal) : EReal := Ideal.sqrt (Ideal.div (∑ k, dev x k * dev x k) cD + cEps)

theorem mul_self_nonneg' (d : EReal) : 0 ≤ d * d := by
  induction d with
  | bot => simp
  | top => simp
  | coe r => exact_mod_cast mul_self_nonneg r

theorem sqrt_ne_zero {v : EReal} (h : 0 < v) : Ideal.sqrt v ≠ 0 := by
  induction v with
  | bot => simp at h
  | top => exact EReal.top_ne_zero
  | coe r =>
    have hr : 0 < r := by exact_mod_cast h
    show (if r < 0 then (⊥ : EReal) else (Real.sqrt r : EReal)) ≠ 0
    rw [if_neg (not_lt.2 hr.le)]
    exact_mod_cast (Real.sqrt_pos.2 hr).ne'

theorem sdev_ne_zero (x : Fin 2240 → EReal) : sdev x ≠ 0 := by
  refine sqrt_ne_zero (lt_of_lt_of_le cEps_pos (le_add_of_nonneg_left ?_))
  rw [cD_eq, Ideal.div_coe (by norm_num)]
  exact mul_nonneg (Finset.sum_nonneg fun k _ => mul_self_nonneg' _) (by exact_mod_cast (by norm_num : (0 : ℝ) ≤ 1 / 2240))

/-- Dividing by the deviation is multiplying by its inverse. -/
theorem mul_inv_sdev (v : EReal) (x : Fin 2240 → EReal) : v * Ideal.div 1 (sdev x) = Ideal.div v (sdev x) := by
  simp [Ideal.div, sdev_ne_zero]

variable (D : Inp)

/-- A token's channels. -/
def row (b q : ℕ) (k : Fin 2240) : EReal := at3 D.x b q k.val
def shift (b k : ℕ) : EReal := at3 D.t6 b 0 k + at2 D.table 0 k
def scale (b k : ℕ) : EReal := at3 D.t6 b 1 k + at2 D.table 1 k

/-- The modulated activations. -/
def LN (b q : ℕ) (k : Fin 2240) : EReal := Ideal.div (dev (row D b q) k) (sdev (row D b q)) * (1 + scale D b k.val) + shift D b k.val

/-- Their codes' scales. -/
def XS (b q : ℕ) : EReal := scl (Finset.univ.sup fun k : Fin 2240 => absE (LN D b q k))

/-- Their codes. -/
def XC (b q : ℕ) (k : Fin 2240) : EReal := clipE (Ideal.div (LN D b q k) (XS D b q))

/-- The weights of a key channel; sixty-four channels of zeros follow the 2240. -/
def PW (k n : ℕ) : EReal := if n < 2240 then at2 D.w k (2240 + n) else 0
def PS (n : ℕ) : EReal := if n < 2240 then at1 D.s (2240 + n) else 0

/-- A key after the rectifier. -/
def PK (b q n : ℕ) : EReal := max ((∑ k : Fin 2240, XC D b q k * PW D k.val n) * XS D b q * PS D n) 0

theorem PK_pad (b q n : ℕ) (h : ¬ n < 2240) : PK D b q n = 0 := by
  unfold PK PS
  rw [if_neg h, mul_zero, max_self]

/-- The weights of a query channel, likewise. -/
def QW (k n : ℕ) : EReal := if n < 2240 then at2 D.w k n else 0
def QS (n : ℕ) : EReal := if n < 2240 then at1 D.s n else 0

/-- A query after the rectifier; sixteen rows of zeros follow the 1008 tokens. -/
def PQ (b q n : ℕ) : EReal := if q < 1008 then max ((∑ k : Fin 2240, XC D b q k * QW D k.val n) * XS D b q * QS D n) 0 else 0

theorem PQ_pad (b q n : ℕ) (h : ¬ n < 2240) : PQ D b q n = 0 := by
  unfold PQ QS
  rw [if_neg h, mul_zero, max_self, ite_self]

/-- The sum of the keys over all tokens. -/
def KS (b n : ℕ) : EReal := ∑ q ∈ Finset.range 1008, PK D b q n

/-- The codes as an array over natural coordinates. -/
def XCn (b q k : ℕ) : EReal := if h : k < 2240 then XC D b q ⟨k, h⟩ else 0
theorem XCn_val (b q : ℕ) (k : Fin 2240) : XCn D b q k.val = XC D b q k := dif_pos k.isLt

/-! Reading at coordinates. -/

theorem at3_ext {n0 n1 n2 : ℕ} (A : (⟨3, ![n0, n1, n2]⟩ : Shape).Idx → EReal) (e : (⟨3, ![n0, n1, n2]⟩ : Shape).Idx) (a0 a1 a2 : ℕ) (h0 : (e 0).val = a0) (h1 : (e 1).val = a1)
    (h2 : (e 2).val = a2) : A e = at3 A a0 a1 a2 := by
  subst h0 h1 h2
  exact at3_idx A e

theorem at2_ext {n0 n1 : ℕ} (A : (⟨2, ![n0, n1]⟩ : Shape).Idx → EReal) (e : (⟨2, ![n0, n1]⟩ : Shape).Idx) (a0 a1 : ℕ) (h0 : (e 0).val = a0) (h1 : (e 1).val = a1) :
    A e = at2 A a0 a1 := by
  subst h0 h1
  exact at2_idx A e

theorem at3_pos {n0 n1 n2 : ℕ} (A : (⟨3, ![n0, n1, n2]⟩ : Shape).Idx → EReal) {a b c : ℕ} (ha : a < n0) (hb : b < n1) (hc : c < n2) : at3 A a b c = A (ix3 ⟨a, ha⟩ ⟨b, hb⟩ ⟨c, hc⟩) :=
  dif_pos ⟨ha, hb, hc⟩

theorem at2_pos {n0 n1 : ℕ} (A : (⟨2, ![n0, n1]⟩ : Shape).Idx → EReal) {a b : ℕ} (ha : a < n0) (hb : b < n1) : at2 A a b = A (ix2 ⟨a, ha⟩ ⟨b, hb⟩) :=
  dif_pos ⟨ha, hb⟩

theorem at1_pos {n0 : ℕ} (A : (⟨1, ![n0]⟩ : Shape).Idx → EReal) {a : ℕ} (ha : a < n0) : at1 A a = A (ix1 ⟨a, ha⟩) :=
  dif_pos ha

/-! Stores of blocks, read at coordinates. -/

section Gen
variable {n0 n1 n2 a0 a1 a2 b0 b1 b2 : ℕ}

theorem mem3 {r : Rect ⟨3, ![n0, n1, n2]⟩} (y : (⟨3, ![n0, n1, n2]⟩ : Shape).Idx) (a0 a1 a2 b0 b1 b2 : ℕ)
    (e : r.off = ![a0, a1, a2]) (e' : r.size = ![b0, b1, b2]) (e1 : ∀ a, r.stride a = 1)
    (h : a0 ≤ (y 0).val ∧ (y 0).val < a0 + b0 ∧ a1 ≤ (y 1).val ∧ (y 1).val < a1 + b1 ∧ a2 ≤ (y 2).val ∧ (y 2).val < a2 + b2) :
    y ∈ r.set := by
  rw [LoadRect.mem_set]
  intro a
  rw [e, e', e1]
  match a with
  | 0 => exact ⟨(y 0).val - a0, show _ < b0 by omega, show (y 0).val = a0 + 1 * _ by omega⟩
  | 1 => exact ⟨(y 1).val - a1, show _ < b1 by omega, show (y 1).val = a1 + 1 * _ by omega⟩
  | 2 => exact ⟨(y 2).val - a2, show _ < b2 by omega, show (y 2).val = a2 + 1 * _ by omega⟩

theorem piece3 (G : ℕ → ℕ → ℕ → EReal) {off : Fin 3 → ℕ} (e : off = ![a0, a1, a2]) (inb : ∀ a, off a + ![b0, b1, b2] a ≤ ![n0, n1, n2] a)
    (w : (⟨3, ![b0, b1, b2]⟩ : Shape).Idx → EReal)
    (h : ∀ (u : Fin b0) (r : Fin b1) (l : Fin b2), w (ix3 u r l) = G (a0 + u.val) (a1 + r.val) (a2 + l.val)) (x) :
    w x = (fun y : (⟨3, ![n0, n1, n2]⟩ : Shape).Idx => G (y 0).val (y 1).val (y 2).val) ((Rect.unit (s := ⟨3, ![n0, n1, n2]⟩) off ![b0, b1, b2] inb).emb x) := by
  subst e
  obtain ⟨u, r, l, rfl⟩ : ∃ (u : Fin b0) (r : Fin b1) (l : Fin b2), x = ix3 u r l := ⟨x 0, x 1, x 2, (ix3_eta x).symm⟩
  rw [h]
  simp only [Rect.emb_apply, Rect.stride_unit, Nat.one_mul]
  rfl

end Gen

end Cert.KeySum
end
-- ==== Proof.QEval.lean ====
module

public import proofs.«01_k».proof.Proof.QSpec
public import proofs.«01_k».proof.Proof.Gen.QkvIdeal.Skeleton
public import Idealize.ShloMosaic.Lib.Pointwise

@[expose] public section

set_option maxRecDepth 16384

noncomputable section

namespace Cert.QkvIdeal.Hand

open Cert.QkvIdeal Cert.QkvIdeal.Gen Cert.FFN Cert.KeySum
open Idealize.ShloMosaic Idealize.ShloMosaic.TcCoe Idealize.ShloMosaic.Tactic

/-! The body's values over the extended reals, at an index. -/

/-- A block's modulated activations. -/
def lnk (v0 : S1x6x2240.Idx → EReal) (v2 : S6x2240.Idx → EReal) (v8 : S1x256x2240.Idx → EReal) (r : Fin 256) (k : Fin 2240) : EReal :=
  Ideal.div (dev (fun k => v8 (ix3 0 r k)) k) (sdev fun k => v8 (ix3 0 r k)) * (1 + (v0 (ix3 0 1 k) + v2 (ix2 1 k))) + (v0 (ix3 0 0 k) + v2 (ix2 0 k))

theorem ln_at (v0 : S1x6x2240.Idx → EReal) (v2 : S6x2240.Idx → EReal) (v8 : S1x256x2240.Idx → EReal) (r : Fin 256) (k : Fin 2240) :
    k0_pay3 (F := Ideal) v0 v2 v8 (ix2 r k) = lnk v0 v2 v8 r k := by
  unfold lnk
  rw [← mul_inv_sdev]
  pointwise [k0_pay3]
  rfl

theorem row_lt (j : Fin 4) (r : Fin 256) :
    IntOp.cmpi CmpIPredicate.slt (BitVec.ofNat 32 (256 * j.val + r.val)) 1008#32 = if 256 * j.val + r.val < 1008 then 1#1 else 0#1 := by
  revert j r
  decide +kernel

theorem idx_at (i : grid0.Coords) (r : Fin 256) : k0_pay2 i (ix2 r 0) = BitVec.ofNat 32 (256 * (i 1).val + r.val) := by
  pointwise [k0_pay2]
  have h : ∀ (j : Fin 4) (r : Fin 256), BitVec.ofNat 32 j.val * 256#32 + BitVec.ofNat 32 r.val = BitVec.ofNat 32 (256 * j.val + r.val) := by decide +kernel
  exact h (i 1) r

theorem mask_at (i : grid0.Coords) (r : Fin 256) : k0_pay4 i (ix2 r 0) = if 256 * (i 1).val + r.val < 1008 then 1#1 else 0#1 := by
  unfold k0_pay4
  generalize e : k0_pay2 i = z
  pointwise []
  subst e
  rw [idx_at]
  exact row_lt (i 1) r

/-- The constant that fills the rows past the array. -/
abbrev zf : Ideal .f32 := Scalar.ofBits (F := Ideal) .f32 0x00000000#32

theorem masked_at (z : S256x2240.Idx → EReal) (M : IVec S256x1 1) (r : Fin 256) (k : Fin 2240) :
    k0_pay5 (F := Ideal) z zf M (ix2 r k) = if M (ix2 r 0) = 1#1 then z (ix2 r k) else 0 := by
  pointwise [k0_pay5]
  rfl

theorem fold_sup {n : ℕ} (g h : Fin n → EReal) (e : ∀ f, g f = h f) : Finset.fold max ⊥ g Finset.univ = Finset.univ.sup h := by
  obtain rfl : g = h := funext e
  rfl

/-- The largest magnitudes of a block's rows, and the scales from them. -/
def rmaxV (z : Vec Ideal S256x2240 .f32) : Vec Ideal S256 .f32 :=
  multiReduction (F := Ideal) (φ := .f32) .maximumf [1] S256 (absf z) 0xFF800000#32 reduces_S256x2240_S256 (.inl rfl) rfl
def sclV (z : Vec Ideal S256 .f32) : Vec Ideal S256x1 .f32 :=
  select (cmpf (F := Ideal) (φ := .f32) .oeq (shapeCast S256x1 z shapeCasts_S256_S256x1) (broadcast S256x1 (Scalar.ofBits (F := Ideal) .f32 0x00000000#32)))
    (broadcast S256x1 (Scalar.ofBits (F := Ideal) .f32 0x3F800000#32))
    (divf (F := Ideal) (φ := .f32) (shapeCast S256x1 z shapeCasts_S256_S256x1) (broadcast S256x1 (Scalar.ofBits (F := Ideal) .f32 0x43E00000#32)))

theorem rmax_at (z : Vec Ideal S256x2240 .f32) (r : Fin 256) : rmaxV z (ix1 r) = Finset.univ.sup fun k : Fin 2240 => absE (z (ix2 r k)) := by
  pointwise [rmaxV]
  rw [bot_eq]
  exact fold_sup _ _ fun f => rfl

theorem scl_at (z : S256.Idx → EReal) (r : Fin 256) : sclV z (ix2 r 0) = scl (z (ix1 r)) := by
  pointwise [sclV]
  rfl

theorem pay6_split (z M) : k0_pay6 (F := Ideal) z zf M = sclV (rmaxV (k0_pay5 (F := Ideal) z zf M)) := rfl

theorem scale_at (z : S256x2240.Idx → EReal) (M : IVec S256x1 1) (r : Fin 256) :
    k0_pay6 (F := Ideal) z zf M (ix2 r 0) = scl (Finset.univ.sup fun k : Fin 2240 => absE (k0_pay5 (F := Ideal) z zf M (ix2 r k))) := by
  rw [pay6_split, scl_at, rmax_at]

/-- The codes from the masked activations and the scales. -/
def codeV (y : Vec Ideal S256x2240 .f32) (s : Vec Ideal S256x1 .f32) : Vec Ideal S1x256x2240 .fp8e4m3 :=
  shapeCast S1x256x2240 (truncf .fp8e4m3 (minimumf (F := Ideal) (φ := .f32) (broadcast S256x2240 (Scalar.ofBits (F := Ideal) .f32 0x43E00000#32))
    (maximumf (F := Ideal) (φ := .f32) (broadcast S256x2240 (Scalar.ofBits (F := Ideal) .f32 0xC3E00000#32))
      (mulf (F := Ideal) (φ := .f32) y (broadcastTo S256x2240 (divf (F := Ideal) (φ := .f32) (broadcast S256x1 (Scalar.ofBits (F := Ideal) .f32 0x3F800000#32)) s) broadcasts_S256x1_S256x2240)))) bitsLt_fp8e4m3_f32)
    shapeCasts_S256x2240_S1x256x2240

theorem code_of (y : S256x2240.Idx → EReal) (s : S256x1.Idx → EReal) (u : Fin 1) (r : Fin 256) (k : Fin 2240) :
    codeV y s (ix3 u r k) = clipE (y (ix2 r k) * Ideal.div 1 (s (ix2 r 0))) := by
  obtain rfl : u = 0 := Subsingleton.elim _ _
  pointwise [codeV]
  rfl

theorem pay7_split (z M) : k0_pay7 (F := Ideal) z zf M = codeV (k0_pay5 (F := Ideal) z zf M) (k0_pay6 (F := Ideal) z zf M) := rfl

theorem code_at (z : S256x2240.Idx → EReal) (M : IVec S256x1 1) (u : Fin 1) (r : Fin 256) (k : Fin 2240) :
    k0_pay7 (F := Ideal) z zf M (ix3 u r k) = clipE (Ideal.div (k0_pay5 (F := Ideal) z zf M (ix2 r k)) (k0_pay6 (F := Ideal) z zf M (ix2 r 0))) := by
  rw [pay7_split, code_of, scale_at, mul_inv_scl]

def scRowV (s : Vec Ideal S256x1 .f32) : Vec Ideal S1x1x256 .f32 :=
  shapeCast S1x1x256 (extractStridedSlice S1x256 ![0, 0] (transpose S128x256 [1, 0] (broadcastTo S256x128 (shapeCast S256x1 s shapeCasts_S256x1_S256x1) broadcasts_S256x1_S256x128)
    transposes_S256x128_p1_0_S128x256) slices_S128x256_o0_0_S1x256) shapeCasts_S1x256_S1x1x256

theorem scRow_of (s : S256x1.Idx → EReal) (u v : Fin 1) (r : Fin 256) : scRowV s (ix3 u v r) = s (ix2 r 0) := by
  obtain rfl : u = 0 := Subsingleton.elim _ _
  obtain rfl : v = 0 := Subsingleton.elim _ _
  pointwise [scRowV]

theorem scRow_at (z : S256x2240.Idx → EReal) (M : IVec S256x1 1) (u v : Fin 1) (r : Fin 256) :
    k0_pay8 (F := Ideal) z zf M (ix3 u v r) = k0_pay6 (F := Ideal) z zf M (ix2 r 0) :=
  scRow_of (k0_pay6 (F := Ideal) z zf M) u v r

theorem keys_at (v7 : IVec S256x1 32) (s : S256x1.Idx → EReal) (cd : S1x256x2240.Idx → EReal) (w : S2240x256.Idx → EReal) (sc : S1x256.Idx → EReal) (r l : Fin 256) :
    k0_pay15 (F := Ideal) v7 s cd w sc (ix2 r l)
      = if IntOp.cmpi CmpIPredicate.slt (v7 (ix2 r 0)) 1008#32 = 1#1 then max ((∑ k : Fin 2240, cd (ix3 0 r k) * w (ix2 k l)) * s (ix2 r 0) * sc (ix2 0 l)) 0 else 0 := by
  pointwise [k0_pay15]
  rfl

theorem query_at (s : S256x1.Idx → EReal) (cd : S1x256x2240.Idx → EReal) (w : S2240x256.Idx → EReal) (sc : S1x256.Idx → EReal) (u : Fin 1) (r l : Fin 256) :
    k0_pay14 (F := Ideal) s cd w sc (ix3 u r l) = max ((∑ k : Fin 2240, cd (ix3 0 r k) * w (ix2 k l)) * s (ix2 r 0) * sc (ix2 0 l)) 0 := by
  obtain rfl : u = 0 := Subsingleton.elim _ _
  pointwise [k0_pay14]

theorem clipE_zero : clipE 0 = 0 := by
  have h : cm448 = ((-448 : ℝ) : EReal) := by simp [cm448, Ideal.ofBits, Ideal.ieee, -EReal.coe_mul]; norm_num
  unfold clipE
  rw [c448_eq, h, max_eq_right, min_eq_right]
  · exact_mod_cast (by norm_num : (0 : ℝ) ≤ 448)
  · exact_mod_cast (by norm_num : (-448 : ℝ) ≤ 0)

/-- Where nothing is kept the codes are zero. -/
theorem code_zero (z : S256x2240.Idx → EReal) (M : IVec S256x1 1) (u : Fin 1) (r : Fin 256) (k : Fin 2240) (h : k0_pay5 (F := Ideal) z zf M (ix2 r k) = 0) :
    k0_pay7 (F := Ideal) z zf M (ix3 u r k) = 0 := by
  rw [pay7_split, code_of, h, zero_mul]
  exact clipE_zero

/-- A block of key sums: what it held and the block's keys added up. -/
def kvBlk {F : FTy → Type} [FloatOps F] (v7 : IVec S256x1 32) (s : FVec F S256x1 .f32) (cd : Vec F S1x256x2240 .fp8e4m3) (w : Vec F S2240x256 .fp8e4m3) (sc : Vec F S1x256 .f32)
    (old : Vec F S1x1x256 .f32) : FVec F S1x1x256 .f32 := k0_pay18 (k0_pay15 v7 s cd w sc) (k0_pay17 old)

theorem add_of (z : S256x256.Idx → EReal) (old : S1x1x256.Idx → EReal) (u v : Fin 1) (l : Fin 256) :
    k0_pay18 (F := Ideal) z (k0_pay17 (F := Ideal) old) (ix3 u v l) = old (ix3 0 0 l) + ∑ r : Fin 256, z (ix2 r l) := by
  obtain rfl : u = 0 := Subsingleton.elim _ _
  obtain rfl : v = 0 := Subsingleton.elim _ _
  pointwise [k0_pay18, k0_pay17]

theorem kvBlk_at (v7 : IVec S256x1 32) (s : S256x1.Idx → EReal) (cd : S1x256x2240.Idx → EReal) (w : S2240x256.Idx → EReal) (sc : S1x256.Idx → EReal) (old : S1x1x256.Idx → EReal)
    (u v : Fin 1) (l : Fin 256) :
    kvBlk (F := Ideal) v7 s cd w sc old (ix3 u v l) = old (ix3 0 0 l) + ∑ r : Fin 256,
      if IntOp.cmpi CmpIPredicate.slt (v7 (ix2 r 0)) 1008#32 = 1#1 then max ((∑ k : Fin 2240, cd (ix3 0 r k) * w (ix2 k l)) * s (ix2 r 0) * sc (ix2 0 l)) 0 else 0 := by
  unfold kvBlk
  rw [add_of]
  simp only [keys_at]

end Cert.QkvIdeal.Hand
end
-- ==== Proof.QHost.lean ====
module

public import proofs.«01_k».proof.Proof.QEval
public import proofs.«01_k».proof.Proof.Gen.QkvIdeal.Frame
public import Idealize.ShloMosaic.Lib.StableHlo.RunRead

@[expose] public section

set_option maxRecDepth 16384

noncomputable section

namespace Cert.QkvIdeal.Hand

open Cert.QkvIdeal Cert.QkvIdeal.Gen Cert.FFN Cert.KeySum
open Idealize.ShloMosaic Idealize.ShloMosaic.TcCoe Idealize.ShloMosaic.Tactic
open Idealize.ShloMosaic.Pipeline

/-! What the windows' blocks hold, from the arrays as launched. -/

variable (m : (ℓ : Loc nD τ sig) → Buf (Elt Ideal) ℓ) (c : Dev nD)

/-- The weights, each third followed by sixty-four columns of zeros. -/
def wF (a : FVec Ideal S2240x6720 .fp8e4m3) : FVec Ideal S2240x6912 .fp8e4m3 :=
  shapeCast S2240x6912 (concatenate S2240x3x2304 2 [⟨S2240x3x2240, shapeCast S2240x3x2240 a shapeCasts_S2240x6720_S2240x3x2240⟩,
      ⟨S2240x3x64, bitcastToFloat .fp8e4m3 (broadcastInDim S2240x3x64 ![] bcast_S_S2240x3x64 (constantI S_ 8 0#8))⟩] concatenates_S2240x3x2240_S2240x3x64_S2240x3x2304_d2)
    shapeCasts_S2240x3x2304_S2240x6912

/-- The weights' scales, likewise. -/
def sF (a : FVec Ideal S6720 .f32) : FVec Ideal S1x6912 .f32 :=
  shapeCast S1x6912 (pad S3x2304 ![0, 0] ![0, 64] ![0, 0] (shapeCast S3x2240 a shapeCasts_S6720_S3x2240) (sitofp .f32 (constantI S_ 32 0#32)) pads_S3x2240_S3x2304_000_0640 h_S_)
    shapeCasts_S3x2304_S1x6912

theorem V_v17 : V m c main_v17 = wF (m (c, Proc.tc.devRef main_arg3)) := by
  unfold V
  after_reads_simp
  rfl
theorem V_v20 : V m c main_v20 = sF (m (c, Proc.tc.devRef main_arg4)) := by
  unfold V
  after_reads_simp
  rfl

/-- The arrays as launched. -/
def inp : KeySum.Inp where
  x := m (c, Proc.tc.devRef main_arg0)
  t6 := m (c, Proc.tc.devRef main_arg1)
  table := m (c, Proc.tc.devRef main_arg2)
  w := m (c, Proc.tc.devRef main_arg3)
  s := m (c, Proc.tc.devRef main_arg4)

theorem wF_at (D : KeySum.Inp) (k n : ℕ) (hk : k < 2240) (hn : n < 2304) : at2 (wF D.w) k (2304 + n) = PW D k n := by
  rw [at2_pos _ hk (by omega)]
  unfold PW
  pointwise [wF]
  by_cases h : n < 2240
  · rw [dif_pos (by omega), if_pos h, at2_ix D.w]
    congr 1
    show (2304 + n) / 2304 * 2240 + (2304 + n) % 2304 = _
    omega
  · rw [dif_neg (by omega), if_neg h]
    first
      | rfl
      | (show Ideal.e4m3fn 0#8 = 0; simp [Ideal.e4m3fn])

theorem sF_at (D : KeySum.Inp) (n : ℕ) (hn : n < 2304) : at2 (sF D.s) 0 (2304 + n) = PS D n := by
  rw [at2_pos _ (by omega) (by omega)]
  unfold PS
  pointwise [sF]
  by_cases h : n < 2240
  · rw [dif_pos (by omega), if_pos h, at1_ix D.s]
    congr 1
    show (2304 + n) / 2304 * 2240 + (2304 + n) % 2304 = _
    omega
  · rw [dif_neg (by omega), if_neg h]
    show (((0#32 : BitVec 32).toInt : ℝ) : EReal) = 0
    simp

theorem wF_q (D : KeySum.Inp) (k n : ℕ) (hk : k < 2240) (hn : n < 2304) : at2 (wF D.w) k n = QW D k n := by
  rw [at2_pos _ hk (by omega)]
  unfold QW
  pointwise [wF]
  by_cases h : n < 2240
  · rw [dif_pos (by omega), if_pos h, at2_ix D.w]
    congr 1
    show n / 2304 * 2240 + n % 2304 = _
    omega
  · rw [dif_neg (by omega), if_neg h]
    first
      | rfl
      | (show Ideal.e4m3fn 0#8 = 0; simp [Ideal.e4m3fn])

theorem sF_q (D : KeySum.Inp) (n : ℕ) (hn : n < 2304) : at2 (sF D.s) 0 n = QS D n := by
  rw [at2_pos _ (by omega) (by omega)]
  unfold QS
  pointwise [sF]
  by_cases h : n < 2240
  · rw [dif_pos (by omega), if_pos h, at1_ix D.s]
    congr 1
    show n / 2304 * 2240 + n % 2304 = _
    omega
  · rw [dif_neg (by omega), if_neg h]
    show (((0#32 : BitVec 32).toInt : ℝ) : EReal) = 0
    simp

/-! ## The windows' blocks -/

theorem tr0 : ∀ t : Fin cfg0.N, cc0_transform_0 (grid0.coords t) = ![t.val / 4, t.val % 4, 0] := by decide +kernel
theorem tr1 : ∀ t : Fin cfg0.N, cc0_transform_1 (grid0.coords t) = ![t.val / 4, 0, 0] := by decide +kernel
theorem tr2 : ∀ t : Fin cfg0.N, cc0_transform_2 (grid0.coords t) = ![0, 0] := by decide +kernel
theorem tr3 : ∀ t : Fin cfg0.N, cc0_transform_3 (grid0.coords t) = ![0, 0] := by decide +kernel
theorem tr4 : ∀ t : Fin cfg0.N, cc0_transform_4 (grid0.coords t) = ![0, 0] := by decide +kernel
theorem tr7 : ∀ t : Fin cfg0.N, cc0_transform_7 (grid0.coords t) = ![t.val / 4, t.val % 4, 0] := by decide +kernel
theorem tr8 : ∀ t : Fin cfg0.N, cc0_transform_8 (grid0.coords t) = ![t.val / 4, 0, t.val % 4] := by decide +kernel
theorem tr9 : ∀ t : Fin cfg0.N, cc0_transform_9 (grid0.coords t) = ![t.val / 4, t.val % 4, 0] := by decide +kernel
theorem tr11 : ∀ t : Fin cfg0.N, cc0_transform_11 (grid0.coords t) = ![t.val / 4, 0, 0] := by decide +kernel

theorem cut0 : ∀ t : Fin cfg0.N, (cfg0.win 0).xsize (grid0.coords t) = ![1, min 256 (1008 - 256 * (t.val % 4)), 2240] := by decide +kernel
theorem cut7 : ∀ t : Fin cfg0.N, (cfg0.win 7).xsize (grid0.coords t) = ![1, min 256 (1008 - 256 * (t.val % 4)), 2240] := by decide +kernel
theorem cut8 : ∀ t : Fin cfg0.N, (cfg0.win 8).xsize (grid0.coords t) = ![1, 1, min 256 (1008 - 256 * (t.val % 4))] := by decide +kernel
theorem cut9 : ∀ t : Fin cfg0.N, (cfg0.win 9).xsize (grid0.coords t) = ![1, 256, 2304] := by decide +kernel
theorem cut11 : ∀ t : Fin cfg0.N, (cfg0.win 11).xsize (grid0.coords t) = ![1, 1, 2304] := by decide +kernel

theorem iblk1_at (t : Fin cfg0.N) (r n : ℕ) (hr : r < 6) (hn : n < 2240) :
    at3 (n0 := 1) (n1 := 6) (n2 := 2240) (iblk m c 1 t) 0 r n = at3 (inp m c).t6 (t.val / 4) r n := by
  rw [at3_pos _ (by omega) hr hn]
  have e := tr1 t
  refine (congrFun (V_main_arg1 m c) _).trans (at3_ext (inp m c).t6 _ _ _ _ ?_ ?_ ?_)
  · exact ((cfg0.win 1).rect_emb_val t _ 0).trans (by show cc0_transform_1 (grid0.coords t) 0 * 1 + 0 = _; rw [e]; simp)
  · exact ((cfg0.win 1).rect_emb_val t _ 1).trans (by show cc0_transform_1 (grid0.coords t) 1 * 6 + r = _; rw [e]; simp)
  · exact ((cfg0.win 1).rect_emb_val t _ 2).trans (by show cc0_transform_1 (grid0.coords t) 2 * 2240 + n = _; rw [e]; simp)

theorem iblk2_at (t : Fin cfg0.N) (r n : ℕ) (hr : r < 6) (hn : n < 2240) :
    at2 (n0 := 6) (n1 := 2240) (iblk m c 2 t) r n = at2 (inp m c).table r n := by
  rw [at2_pos _ hr hn]
  have e := tr2 t
  refine (congrFun (V_main_arg2 m c) _).trans (at2_ext (inp m c).table _ _ _ ?_ ?_)
  · exact ((cfg0.win 2).rect_emb_val t _ 0).trans (by show cc0_transform_2 (grid0.coords t) 0 * 6 + r = _; rw [e]; simp)
  · exact ((cfg0.win 2).rect_emb_val t _ 1).trans (by show cc0_transform_2 (grid0.coords t) 1 * 2240 + n = _; rw [e]; simp)

theorem iblk3_at (t : Fin cfg0.N) (k n : ℕ) (hk : k < 2240) (hn : n < 2304) :
    at2 (n0 := 2240) (n1 := 6912) (iblk m c 3 t) k (2304 + n) = PW (inp m c) k n := by
  rw [at2_pos _ hk (by omega)]
  have e := tr3 t
  refine (congrFun (V_v17 m c) _).trans ((at2_ext (n0 := 2240) (n1 := 6912) _ _ k (2304 + n) ?_ ?_).trans (wF_at (inp m c) k n hk hn))
  · exact ((cfg0.win 3).rect_emb_val t _ 0).trans (by show cc0_transform_3 (grid0.coords t) 0 * 2240 + k = _; rw [e]; simp)
  · exact ((cfg0.win 3).rect_emb_val t _ 1).trans (by show cc0_transform_3 (grid0.coords t) 1 * 6912 + (2304 + n) = _; rw [e]; simp)

theorem iblk4_at (t : Fin cfg0.N) (n : ℕ) (hn : n < 2304) :
    at2 (n0 := 1) (n1 := 6912) (iblk m c 4 t) 0 (2304 + n) = PS (inp m c) n := by
  rw [at2_pos _ (by omega) (by omega)]
  have e := tr4 t
  refine (congrFun (V_v20 m c) _).trans ((at2_ext (n0 := 1) (n1 := 6912) _ _ 0 (2304 + n) ?_ ?_).trans (sF_at (inp m c) n hn))
  · exact ((cfg0.win 4).rect_emb_val t _ 0).trans (by show cc0_transform_4 (grid0.coords t) 0 * 1 + 0 = _; rw [e]; simp)
  · exact ((cfg0.win 4).rect_emb_val t _ 1).trans (by show cc0_transform_4 (grid0.coords t) 1 * 6912 + (2304 + n) = _; rw [e]; simp)

theorem iblk3_q (t : Fin cfg0.N) (k n : ℕ) (hk : k < 2240) (hn : n < 2304) :
    at2 (n0 := 2240) (n1 := 6912) (iblk m c 3 t) k n = QW (inp m c) k n := by
  rw [at2_pos _ hk (by omega)]
  have e := tr3 t
  refine (congrFun (V_v17 m c) _).trans ((at2_ext (n0 := 2240) (n1 := 6912) _ _ k n ?_ ?_).trans (wF_q (inp m c) k n hk hn))
  · exact ((cfg0.win 3).rect_emb_val t _ 0).trans (by show cc0_transform_3 (grid0.coords t) 0 * 2240 + k = _; rw [e]; simp)
  · exact ((cfg0.win 3).rect_emb_val t _ 1).trans (by show cc0_transform_3 (grid0.coords t) 1 * 6912 + n = _; rw [e]; simp)

theorem iblk4_q (t : Fin cfg0.N) (n : ℕ) (hn : n < 2304) :
    at2 (n0 := 1) (n1 := 6912) (iblk m c 4 t) 0 n = QS (inp m c) n := by
  rw [at2_pos _ (by omega) (by omega)]
  have e := tr4 t
  refine (congrFun (V_v20 m c) _).trans ((at2_ext (n0 := 1) (n1 := 6912) _ _ 0 n ?_ ?_).trans (sF_q (inp m c) n hn))
  · exact ((cfg0.win 4).rect_emb_val t _ 0).trans (by show cc0_transform_4 (grid0.coords t) 0 * 1 + 0 = _; rw [e]; simp)
  · exact ((cfg0.win 4).rect_emb_val t _ 1).trans (by show cc0_transform_4 (grid0.coords t) 1 * 6912 + n = _; rw [e]; simp)

/-- The block of activations, where it lies in the array. -/
theorem fill0_at (t : Fin cfg0.N) (d : (cfg0.win 0).block.Idx → EReal) (r n : ℕ) (hr : r < 256) (hn : n < 2240)
    (h : 256 * (t.val % 4) + r < 1008) :
    at3 (n0 := 1) (n1 := 256) (n2 := 2240) ((cfg0.win 0).fill (grid0.coords t) d (iblk m c 0 t)) 0 r n
      = at3 (inp m c).x (t.val / 4) (256 * (t.val % 4) + r) n := by
  rw [at3_pos _ (by omega) hr hn]
  have e := tr0 t
  unfold Window.fill
  rw [dif_pos]
  · refine (congrFun (V_main_arg0 m c) _).trans (at3_ext (inp m c).x _ _ _ _ ?_ ?_ ?_)
    · exact ((cfg0.win 0).rect_emb_val t _ 0).trans (by show cc0_transform_0 (grid0.coords t) 0 * 1 + 0 = _; rw [e]; simp)
    · exact ((cfg0.win 0).rect_emb_val t _ 1).trans (by show cc0_transform_0 (grid0.coords t) 1 * 256 + r = _; rw [e]; simp [mul_comm])
    · exact ((cfg0.win 0).rect_emb_val t _ 2).trans (by show cc0_transform_0 (grid0.coords t) 2 * 2240 + n = _; rw [e]; simp)
  · rw [Window.moved_iff]
    have hc := cut0 t
    intro a
    rw [hc]
    fin_cases a
    · show 0 < 1
      omega
    · show r < min 256 _
      omega
    · show n < 2240
      omega

end Cert.QkvIdeal.Hand
end
-- ==== Proof.QBlocks.lean ====
module

public import proofs.«01_k».proof.Proof.QBody
public import proofs.«01_k».proof.Proof.QEval

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open Idealize.SL.Sem

variable {F : FTy → Type} [FloatOps F]

/-! The stores of the body's two runs. -/

/-- The block of activations, modulated. -/
def lnB (X2 : S1x256x2240.Idx → Elt F .bf16) (X3 : S1x6x2240.Idx → Elt F .f32) (X4 : S6x2240.Idx → Elt F .f32) : FVec F S256x2240 .f32 :=
  k0_pay3 (fun x => X3 ((Rect.unit (s := S1x6x2240) ![0, 0, 0] S1x6x2240.size inb_S1x6x2240_S1x6x2240_0_0_0).toLoadRect.idx x))
    (fun x => X4 ((Rect.unit (s := S6x2240) ![0, 0] S6x2240.size inb_S6x2240_S6x2240_0_0).toLoadRect.idx x))
    (fun x => X2 ((Rect.unit (s := S1x256x2240) ![0, 0, 0] S1x256x2240.size inb_S1x256x2240_S1x256x2240_0_0_0).toLoadRect.idx x))

/-- The scales of a block's rows. -/
def scB (i : grid0.Coords) (Z : FVec F S256x2240 .f32) : FVec F S256x1 .f32 := k0_pay6 Z (Scalar.ofBits .f32 0x00000000#32) (k0_pay4 i)

/-- The block's codes as the products read them. -/
def cdR (X9 : S1x256x2240.Idx → Elt F .fp8e4m3) : Vec F S1x256x2240 .fp8e4m3 :=
  fun x => X9 ((Rect.unit (s := S1x256x2240) ![0, 0, 0] S1x256x2240.size inb_S1x256x2240_S1x256x2240_0_0_0).toLoadRect.idx x)

/-- 256 columns of the weights. -/
def wR (X5 : S2240x6912.Idx → Elt F .fp8e4m3) (col : ℕ) (h : ∀ a, (![0, col] : Fin 2 → Nat) a + S2240x256.size a ≤ S2240x6912.size a) : Vec F S2240x256 .fp8e4m3 :=
  fun x => X5 ((Rect.unit (s := S2240x6912) ![0, col] S2240x256.size h).toLoadRect.idx x)

/-- 256 of the weights' scales. -/
def sR (X6 : S1x6912.Idx → Elt F .f32) (col : ℕ) (h : ∀ a, (![0, col] : Fin 2 → Nat) a + S1x256.size a ≤ S1x6912.size a) : Vec F S1x256 .f32 :=
  fun x => X6 ((Rect.unit (s := S1x6912) ![0, col] S1x256.size h).toLoadRect.idx x)

/-- 256 of the key sums. -/
def oR (X13 : S1x1x2304.Idx → Elt F .f32) (col : ℕ) (h : ∀ a, (![0, 0, col] : Fin 3 → Nat) a + S1x1x256.size a ≤ S1x1x2304.size a) : Vec F S1x1x256 .f32 :=
  fun x => X13 ((Rect.unit (s := S1x1x2304) ![0, 0, col] S1x1x256.size h).toLoadRect.idx x)

/-- The store of codes. -/
def cdL (i : grid0.Coords) (Z : FVec F S256x2240 .f32) : List (View.Piece (Elt F) S1x256x2240 .fp8e4m3) :=
  [⟨Rect.unit (s := S1x256x2240) ![0, 0, 0] S1x256x2240.size inb_S1x256x2240_S1x256x2240_0_0_0, k0_pay7 Z (Scalar.ofBits .f32 0x00000000#32) (k0_pay4 i)⟩]

/-- The store of scales. -/
def scL (i : grid0.Coords) (Z : FVec F S256x2240 .f32) : List (View.Piece (Elt F) S1x1x256 .f32) :=
  [⟨Rect.unit (s := S1x1x256) ![0, 0, 0] S1x1x256.size inb_S1x1x256_S1x1x256_0_0_0, k0_pay8 Z (Scalar.ofBits .f32 0x00000000#32) (k0_pay4 i)⟩]

/-- The nine stores of key sums. -/
def ksL (i : grid0.Coords) (Z : FVec F S256x2240 .f32) (X5 : S2240x6912.Idx → Elt F .fp8e4m3) (X6 : S1x6912.Idx → Elt F .f32) (X9 : S1x256x2240.Idx → Elt F .fp8e4m3)
    (X13 : S1x1x2304.Idx → Elt F .f32) : List (View.Piece (Elt F) S1x1x2304 .f32) :=
  [⟨Rect.unit (s := S1x1x2304) ![0, 0, 2048] S1x1x256.size inb_S1x1x2304_S1x1x256_0_0_2048, kvBlk (k0_pay2 i) (scB i Z) (cdR X9) (wR X5 4352 inb_S2240x6912_S2240x256_0_4352) (sR X6 4352 inb_S1x6912_S1x256_0_4352) (oR X13 2048 inb_S1x1x2304_S1x1x256_0_0_2048)⟩,
   ⟨Rect.unit (s := S1x1x2304) ![0, 0, 1792] S1x1x256.size inb_S1x1x2304_S1x1x256_0_0_1792, kvBlk (k0_pay2 i) (scB i Z) (cdR X9) (wR X5 4096 inb_S2240x6912_S2240x256_0_4096) (sR X6 4096 inb_S1x6912_S1x256_0_4096) (oR X13 1792 inb_S1x1x2304_S1x1x256_0_0_1792)⟩,
   ⟨Rect.unit (s := S1x1x2304) ![0, 0, 1536] S1x1x256.size inb_S1x1x2304_S1x1x256_0_0_1536, kvBlk (k0_pay2 i) (scB i Z) (cdR X9) (wR X5 3840 inb_S2240x6912_S2240x256_0_3840) (sR X6 3840 inb_S1x6912_S1x256_0_3840) (oR X13 1536 inb_S1x1x2304_S1x1x256_0_0_1536)⟩,
   ⟨Rect.unit (s := S1x1x2304) ![0, 0, 1280] S1x1x256.size inb_S1x1x2304_S1x1x256_0_0_1280, kvBlk (k0_pay2 i) (scB i Z) (cdR X9) (wR X5 3584 inb_S2240x6912_S2240x256_0_3584) (sR X6 3584 inb_S1x6912_S1x256_0_3584) (oR X13 1280 inb_S1x1x2304_S1x1x256_0_0_1280)⟩,
   ⟨Rect.unit (s := S1x1x2304) ![0, 0, 1024] S1x1x256.size inb_S1x1x2304_S1x1x256_0_0_1024, kvBlk (k0_pay2 i) (scB i Z) (cdR X9) (wR X5 3328 inb_S2240x6912_S2240x256_0_3328) (sR X6 3328 inb_S1x6912_S1x256_0_3328) (oR X13 1024 inb_S1x1x2304_S1x1x256_0_0_1024)⟩,
   ⟨Rect.unit (s := S1x1x2304) ![0, 0, 768] S1x1x256.size inb_S1x1x2304_S1x1x256_0_0_768, kvBlk (k0_pay2 i) (scB i Z) (cdR X9) (wR X5 3072 inb_S2240x6912_S2240x256_0_3072) (sR X6 3072 inb_S1x6912_S1x256_0_3072) (oR X13 768 inb_S1x1x2304_S1x1x256_0_0_768)⟩,
   ⟨Rect.unit (s := S1x1x2304) ![0, 0, 512] S1x1x256.size inb_S1x1x2304_S1x1x256_0_0_512, kvBlk (k0_pay2 i) (scB i Z) (cdR X9) (wR X5 2816 inb_S2240x6912_S2240x256_0_2816) (sR X6 2816 inb_S1x6912_S1x256_0_2816) (oR X13 512 inb_S1x1x2304_S1x1x256_0_0_512)⟩,
   ⟨Rect.unit (s := S1x1x2304) ![0, 0, 256] S1x1x256.size inb_S1x1x2304_S1x1x256_0_0_256, kvBlk (k0_pay2 i) (scB i Z) (cdR X9) (wR X5 2560 inb_S2240x6912_S2240x256_0_2560) (sR X6 2560 inb_S1x6912_S1x256_0_2560) (oR X13 256 inb_S1x1x2304_S1x1x256_0_0_256)⟩,
   ⟨Rect.unit (s := S1x1x2304) ![0, 0, 0] S1x1x256.size inb_S1x1x2304_S1x1x256_0_0_0, kvBlk (k0_pay2 i) (scB i Z) (cdR X9) (wR X5 2304 inb_S2240x6912_S2240x256_0_2304) (sR X6 2304 inb_S1x6912_S1x256_0_2304) (oR X13 0 inb_S1x1x2304_S1x1x256_0_0_0)⟩]

/-- The nine stores of queries. -/
def qL (i : grid0.Coords) (Z : FVec F S256x2240 .f32) (X5 : S2240x6912.Idx → Elt F .fp8e4m3) (X6 : S1x6912.Idx → Elt F .f32) (X9 : S1x256x2240.Idx → Elt F .fp8e4m3) :
    List (View.Piece (Elt F) S1x256x2304 .f32) :=
  [⟨Rect.unit (s := S1x256x2304) ![0, 0, 2048] S1x256x256.size inb_S1x256x2304_S1x256x256_0_0_2048, k0_pay14 (scB i Z) (cdR X9) (wR X5 2048 inb_S2240x6912_S2240x256_0_2048) (sR X6 2048 inb_S1x6912_S1x256_0_2048)⟩,
   ⟨Rect.unit (s := S1x256x2304) ![0, 0, 1792] S1x256x256.size inb_S1x256x2304_S1x256x256_0_0_1792, k0_pay14 (scB i Z) (cdR X9) (wR X5 1792 inb_S2240x6912_S2240x256_0_1792) (sR X6 1792 inb_S1x6912_S1x256_0_1792)⟩,
   ⟨Rect.unit (s := S1x256x2304) ![0, 0, 1536] S1x256x256.size inb_S1x256x2304_S1x256x256_0_0_1536, k0_pay14 (scB i Z) (cdR X9) (wR X5 1536 inb_S2240x6912_S2240x256_0_1536) (sR X6 1536 inb_S1x6912_S1x256_0_1536)⟩,
   ⟨Rect.unit (s := S1x256x2304) ![0, 0, 1280] S1x256x256.size inb_S1x256x2304_S1x256x256_0_0_1280, k0_pay14 (scB i Z) (cdR X9) (wR X5 1280 inb_S2240x6912_S2240x256_0_1280) (sR X6 1280 inb_S1x6912_S1x256_0_1280)⟩,
   ⟨Rect.unit (s := S1x256x2304) ![0, 0, 1024] S1x256x256.size inb_S1x256x2304_S1x256x256_0_0_1024, k0_pay14 (scB i Z) (cdR X9) (wR X5 1024 inb_S2240x6912_S2240x256_0_1024) (sR X6 1024 inb_S1x6912_S1x256_0_1024)⟩,
   ⟨Rect.unit (s := S1x256x2304) ![0, 0, 768] S1x256x256.size inb_S1x256x2304_S1x256x256_0_0_768, k0_pay14 (scB i Z) (cdR X9) (wR X5 768 inb_S2240x6912_S2240x256_0_768) (sR X6 768 inb_S1x6912_S1x256_0_768)⟩,
   ⟨Rect.unit (s := S1x256x2304) ![0, 0, 512] S1x256x256.size inb_S1x256x2304_S1x256x256_0_0_512, k0_pay14 (scB i Z) (cdR X9) (wR X5 512 inb_S2240x6912_S2240x256_0_512) (sR X6 512 inb_S1x6912_S1x256_0_512)⟩,
   ⟨Rect.unit (s := S1x256x2304) ![0, 0, 256] S1x256x256.size inb_S1x256x2304_S1x256x256_0_0_256, k0_pay14 (scB i Z) (cdR X9) (wR X5 256 inb_S2240x6912_S2240x256_0_256) (sR X6 256 inb_S1x6912_S1x256_0_256)⟩,
   ⟨Rect.unit (s := S1x256x2304) ![0, 0, 0] S1x256x256.size inb_S1x256x2304_S1x256x256_0_0_0, k0_pay14 (scB i Z) (cdR X9) (wR X5 0 inb_S2240x6912_S2240x256_0_0) (sR X6 0 inb_S1x6912_S1x256_0_0)⟩]

theorem startRun_cd (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (startRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 = cdL i (lnB (arg2.view.read (Elt F) f2) (arg3.view.read (Elt F) f3) (arg4.view.read (Elt F) f4)) := rfl

theorem startRun_sc (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (startRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1 = scL i (lnB (arg2.view.read (Elt F) f2) (arg3.view.read (Elt F) f3) (arg4.view.read (Elt F) f4)) := rfl

theorem startRun_ks0 (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (startRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 = arg13.view.writes (Elt F) f13 [⟨Rect.unit (s := S1x1x2304) ![0, 0, 0] S1x1x2304.size inb_S1x1x2304_S1x1x2304_0_0_0, k0_pay13⟩] := by
  unfold startRun
  dsimp only

theorem startRun_ks (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (g9 : Bf (F := F) c arg9) (g13 : Bf (F := F) c arg13) :
    (startRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13 = ksL i (lnB (arg2.view.read (Elt F) f2) (arg3.view.read (Elt F) f3) (arg4.view.read (Elt F) f4)) (arg5.view.read (Elt F) f5) (arg6.view.read (Elt F) f6) (arg9.view.read (Elt F) g9) (arg13.view.read (Elt F) g13) := rfl

theorem startRun_q (c : Dev nD) (i : grid0.Coords) (h1 : (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (g9 : Bf (F := F) c arg9) :
    (startRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9 = qL i (lnB (arg2.view.read (Elt F) f2) (arg3.view.read (Elt F) f3) (arg4.view.read (Elt F) f4)) (arg5.view.read (Elt F) f5) (arg6.view.read (Elt F) f6) (arg9.view.read (Elt F) g9) := rfl

theorem nextRun_cd (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (nextRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.1 = cdL i (lnB (arg2.view.read (Elt F) f2) (arg3.view.read (Elt F) f3) (arg4.view.read (Elt F) f4)) := rfl

theorem nextRun_sc (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (nextRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.1 = scL i (lnB (arg2.view.read (Elt F) f2) (arg3.view.read (Elt F) f3) (arg4.view.read (Elt F) f4)) := rfl

theorem nextRun_ks0 (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    (nextRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.1 = f13 := rfl

theorem nextRun_ks (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (g9 : Bf (F := F) c arg9) (g13 : Bf (F := F) c arg13) :
    (nextRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.1 g9 g13 = ksL i (lnB (arg2.view.read (Elt F) f2) (arg3.view.read (Elt F) f3) (arg4.view.read (Elt F) f4)) (arg5.view.read (Elt F) f5) (arg6.view.read (Elt F) f6) (arg9.view.read (Elt F) g9) (arg13.view.read (Elt F) g13) := rfl

theorem nextRun_q (c : Dev nD) (i : grid0.Coords) (h1 : ¬ (Scalar.cmpi .ne (Scalar.extui (Scalar.cmpi .eq (BitVec.ofNat 32 (i 1).val) (0#32)) : BitVec 32) (0#32)) = 1#1)
    (arg2 : Memref sig .tc .vmem S1x256x2240 .bf16) (harg2 : arg2.IsWhole) (arg3 : Memref sig .tc .vmem S1x6x2240 .f32) (harg3 : arg3.IsWhole) (arg4 : Memref sig .tc .vmem S6x2240 .f32) (harg4 : arg4.IsWhole) (arg5 : Memref sig .tc .vmem S2240x6912 .fp8e4m3) (harg5 : arg5.IsWhole) (arg6 : Memref sig .tc .vmem S1x6912 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x2240 .fp8e4m3) (harg9 : arg9.IsWhole) (arg10 : Memref sig .tc .vmem S1x1x256 .f32) (harg10 : arg10.IsWhole) (arg11 : Memref sig .tc .vmem S1x256x2304 .f32) (harg11 : arg11.IsWhole) (arg12 : Memref sig .tc .vmem S1x18x128x128 .f32) (harg12 : arg12.IsWhole) (arg13 : Memref sig .tc .vmem S1x1x2304 .f32) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (g9 : Bf (F := F) c arg9) :
    (nextRun c i h1 arg2 harg2 arg3 harg3 arg4 harg4 arg5 harg5 arg6 harg6 arg7 harg7 arg8 harg8 arg9 harg9 arg10 harg10 arg11 harg11 arg12 harg12 arg13 harg13 f2 f3 f4 f5 f6 f7 f8 f9 f10 f11 f12 f13).1.2.2.2.2 g9 = qL i (lnB (arg2.view.read (Elt F) f2) (arg3.view.read (Elt F) f3) (arg4.view.read (Elt F) f4)) (arg5.view.read (Elt F) f5) (arg6.view.read (Elt F) f6) (arg9.view.read (Elt F) g9) := rfl

end Cert.QkvIdeal.Hand
end
-- ==== Proof.QSteps.lean ====
module

public import proofs.«01_k».proof.Proof.QHost
public import proofs.«01_k».proof.Proof.QBlocks

@[expose] public section

set_option maxRecDepth 16384

noncomputable section

namespace Cert.QkvIdeal.Hand

open Cert.QkvIdeal Cert.QkvIdeal.Gen Cert.FFN Cert.KeySum
open Idealize.ShloMosaic Idealize.ShloMosaic.TcCoe Idealize.ShloMosaic.Tactic
open Idealize.ShloMosaic.Pipeline

/-! What each point of the grid leaves in the outputs' blocks. -/

/-! ## The stores, over any data -/

/-- The codes read back. -/
theorem cdL_at {κ} {sp} (i : grid0.Coords) (Z : S256x2240.Idx → EReal) (v : View sig κ sp S1x256x2240 .fp8e4m3) (f) (r : Fin 256) (k : Fin 2240) :
    v.read (Elt Ideal) (v.writes (Elt Ideal) f (cdL (F := Ideal) i Z)) (ix3 0 r k) = k0_pay7 (F := Ideal) Z zf (k0_pay4 i) (ix3 0 r k) := by
  refine (View.read_writes_apply_of_pieces (Val := Elt Ideal) (v := v) (f := f) (fun y : S1x256x2240.Idx => at3 (k0_pay7 (F := Ideal) Z zf (k0_pay4 i)) (y 0).val (y 1).val (y 2).val) (cdL (F := Ideal) i Z) ?_ (ix3 0 r k) ?_).trans ?_
  · unfold cdL
    simp only [List.forall_mem_cons]
    refine ⟨?_, fun p hp => absurd hp List.not_mem_nil⟩
    refine piece3 (n0 := 1) (n1 := 256) (n2 := 2240) (b0 := 1) (b1 := 256) (b2 := 2240) (a0 := 0) (a1 := 0) (a2 := 0) (fun a b n => at3 (k0_pay7 (F := Ideal) Z zf (k0_pay4 i)) a b n) rfl _ _ fun u w l => ?_
    simp only [Nat.zero_add]
    exact at3_ix _ u w l
  · refine ⟨_, .head _, ?_⟩
    exact mem3 _ 0 0 0 1 256 2240 rfl rfl (fun _ => rfl) ⟨Nat.zero_le _, (show 0 < 1 by omega), Nat.zero_le _, (show r.val < 0 + 256 by omega), Nat.zero_le _, (show k.val < 0 + 2240 by omega)⟩
  · exact (at3_ix (k0_pay7 (F := Ideal) Z zf (k0_pay4 i)) 0 r k).symm

section Stores
variable (D : KeySum.Inp) (b R : ℕ) (i : grid0.Coords) (hi : (i 1).val = R) (Z : S256x2240.Idx → EReal)
  (hZ : ∀ (r : Fin 256) (k : Fin 2240), 256 * R + r.val < 1008 → Z (ix2 r k) = LN D b (256 * R + r.val) k)

include hi hZ

theorem masked_eq (r : Fin 256) (k : Fin 2240) (h : 256 * R + r.val < 1008) : k0_pay5 (F := Ideal) Z zf (k0_pay4 i) (ix2 r k) = LN D b (256 * R + r.val) k := by
  rw [masked_at, mask_at, hi, if_pos h, if_pos rfl]
  exact hZ r k h

omit hZ in
/-- The rows past the array are zero, and so are their codes. -/
theorem code_zero_eq (u : Fin 1) (r : Fin 256) (k : Fin 2240) (h : ¬ 256 * R + r.val < 1008) : k0_pay7 (F := Ideal) Z zf (k0_pay4 i) (ix3 u r k) = 0 := by
  refine code_zero Z (k0_pay4 i) u r k ?_
  rw [masked_at, mask_at, hi, if_neg h, if_neg (by decide)]

theorem scB_eq (r : Fin 256) (h : 256 * R + r.val < 1008) : scB (F := Ideal) i Z (ix2 r 0) = XS D b (256 * R + r.val) := by
  unfold scB
  refine (scale_at Z (k0_pay4 i) r).trans ?_
  unfold XS
  simp only [fun k => masked_eq D b R i hi Z hZ r k h]

theorem code_eq (u : Fin 1) (r : Fin 256) (k : Fin 2240) (h : 256 * R + r.val < 1008) : k0_pay7 (F := Ideal) Z zf (k0_pay4 i) (ix3 u r k) = XC D b (256 * R + r.val) k := by
  rw [code_at, masked_eq D b R i hi Z hZ r k h]
  have hs : k0_pay6 (F := Ideal) Z zf (k0_pay4 i) (ix2 r 0) = XS D b (256 * R + r.val) := scB_eq D b R i hi Z hZ r h
  rw [hs]
  rfl

theorem cdL_read {κ} {sp} (v : View sig κ sp S1x256x2240 .fp8e4m3) (f) (r : Fin 256) (k : Fin 2240) (h : 256 * R + r.val < 1008) :
    v.read (Elt Ideal) (v.writes (Elt Ideal) f (cdL (F := Ideal) i Z)) (ix3 0 r k) = XC D b (256 * R + r.val) k :=
  (cdL_at i Z v f r k).trans (code_eq D b R i hi Z hZ 0 r k h)

omit hZ in
theorem cdL_read_zero {κ} {sp} (v : View sig κ sp S1x256x2240 .fp8e4m3) (f) (r : Fin 256) (k : Fin 2240) (h : ¬ 256 * R + r.val < 1008) :
    v.read (Elt Ideal) (v.writes (Elt Ideal) f (cdL (F := Ideal) i Z)) (ix3 0 r k) = 0 :=
  (cdL_at i Z v f r k).trans (code_zero_eq R i hi Z 0 r k h)

/-- The scales read back. -/
theorem scL_read {κ} {sp} (v : View sig κ sp S1x1x256 .f32) (f) (r : Fin 256) (h : 256 * R + r.val < 1008) :
    v.read (Elt Ideal) (v.writes (Elt Ideal) f (scL (F := Ideal) i Z)) (ix3 0 0 r) = XS D b (256 * R + r.val) := by
  refine (View.read_writes_apply_of_pieces (Val := Elt Ideal) (v := v) (f := f) (fun y : S1x1x256.Idx => at3 (k0_pay8 (F := Ideal) Z zf (k0_pay4 i)) (y 0).val (y 1).val (y 2).val) (scL (F := Ideal) i Z) ?_ (ix3 0 0 r) ?_).trans ?_
  · unfold scL
    simp only [List.forall_mem_cons]
    refine ⟨?_, fun p hp => absurd hp List.not_mem_nil⟩
    refine piece3 (n0 := 1) (n1 := 1) (n2 := 256) (b0 := 1) (b1 := 1) (b2 := 256) (a0 := 0) (a1 := 0) (a2 := 0) (fun a b n => at3 (k0_pay8 (F := Ideal) Z zf (k0_pay4 i)) a b n) rfl _ _ fun u w l => ?_
    simp only [Nat.zero_add]
    exact at3_ix _ u w l
  · refine ⟨_, .head _, ?_⟩
    exact mem3 _ 0 0 0 1 1 256 rfl rfl (fun _ => rfl) ⟨Nat.zero_le _, (show 0 < 1 by omega), Nat.zero_le _, (show 0 < 1 by omega), Nat.zero_le _, (show r.val < 0 + 256 by omega)⟩
  · exact (at3_ix (k0_pay8 (F := Ideal) Z zf (k0_pay4 i)) 0 0 r).symm.trans ((scRow_at Z (k0_pay4 i) 0 0 r).trans (scB_eq D b R i hi Z hZ r h))

variable (X5 : S2240x6912.Idx → EReal) (h5 : ∀ k n, k < 2240 → n < 2304 → at2 X5 k (2304 + n) = PW D k n)
  (X6 : S1x6912.Idx → EReal) (h6 : ∀ n, n < 2304 → at2 X6 0 (2304 + n) = PS D n)
  (X9 : S1x256x2240.Idx → EReal) (h9 : ∀ (r : Fin 256) (k : Fin 2240), 256 * R + r.val < 1008 → X9 (ix3 0 r k) = XC D b (256 * R + r.val) k)
  (X13 : S1x1x2304.Idx → EReal)

include h5 h6 h9

/-- The keys of one block of rows, added up. -/
def addk (D : KeySum.Inp) (b R n : ℕ) : EReal := ∑ r : Fin 256, if 256 * R + r.val < 1008 then PK D b (256 * R + r.val) n else 0

theorem ks_piece (col wc : ℕ) (e : wc = 2304 + col) (hc : col + 256 ≤ 2304) (hw hs ho) (u v : Fin 1) (l : Fin 256) :
    kvBlk (F := Ideal) (k0_pay2 i) (scB (F := Ideal) i Z) (cdR (F := Ideal) X9) (wR (F := Ideal) X5 wc hw) (sR (F := Ideal) X6 wc hs) (oR (F := Ideal) X13 col ho) (ix3 u v l)
      = (fun a b' n => at3 X13 0 0 n + addk D b R n) (0 + u.val) (0 + v.val) (col + l.val) := by
  subst e
  rw [kvBlk_at]
  have hl := l.isLt
  have eo : oR (F := Ideal) X13 col ho (ix3 0 0 l) = at3 X13 0 0 (col + l.val) :=
    at3_ext X13 _ _ _ _ rfl rfl (show col + 1 * l.val = col + l.val by omega)
  have es : sR (F := Ideal) X6 (2304 + col) hs (ix2 0 l) = PS D (col + l.val) :=
    (at2_ext X6 _ 0 (2304 + (col + l.val)) rfl (show 2304 + col + 1 * l.val = _ by omega)).trans (h6 _ (by omega))
  have ew : ∀ k : Fin 2240, wR (F := Ideal) X5 (2304 + col) hw (ix2 k l) = PW D k.val (col + l.val) := fun k =>
    (at2_ext X5 _ k.val (2304 + (col + l.val)) (show 0 + 1 * k.val = k.val by omega) (show 2304 + col + 1 * l.val = _ by omega)).trans (h5 _ _ k.isLt (by omega))
  have ec : ∀ (r : Fin 256) (k : Fin 2240), cdR (F := Ideal) X9 (ix3 0 r k) = X9 (ix3 0 r k) := fun r k =>
    (at3_ext X9 _ 0 r.val k.val rfl (show 0 + 1 * r.val = r.val by omega) (show 0 + 1 * k.val = k.val by omega)).trans (at3_ix X9 0 r k).symm
  rw [eo, es]
  show _ = at3 X13 0 0 (col + l.val) + addk D b R (col + l.val)
  congr 1
  unfold addk
  refine Finset.sum_congr rfl fun r _ => ?_
  rw [idx_at, row_lt (i 1) r, hi]
  by_cases h : 256 * R + r.val < 1008
  · rw [if_pos h, if_pos rfl, if_pos h, scB_eq D b R i hi Z hZ r h]
    unfold PK
    simp only [ew, ec, fun k => h9 r k h]
  · rw [if_neg h, if_neg h, if_neg (by decide)]

theorem ksL_pieces : ∀ p ∈ ksL (F := Ideal) i Z X5 X6 X9 X13, ∀ x, p.2 x = (fun y : S1x1x2304.Idx => at3 X13 0 0 (y 2).val + addk D b R (y 2).val) (p.1.emb x) := by
  unfold ksL
  simp only [List.forall_mem_cons]
  refine ⟨?_, ?_, ?_, ?_, ?_, ?_, ?_, ?_, ?_, fun p hp => absurd hp List.not_mem_nil⟩
  · exact piece3 (n0 := 1) (n1 := 1) (n2 := 2304) (b0 := 1) (b1 := 1) (b2 := 256) (a0 := 0) (a1 := 0) (a2 := 2048) (fun _ _ n => at3 X13 0 0 n + addk D b R n) rfl _ _ fun u v l =>
      ks_piece D b R i hi Z hZ X5 h5 X6 h6 X9 h9 X13 2048 4352 rfl (by omega) _ _ _ u v l
  · exact piece3 (n0 := 1) (n1 := 1) (n2 := 2304) (b0 := 1) (b1 := 1) (b2 := 256) (a0 := 0) (a1 := 0) (a2 := 1792) (fun _ _ n => at3 X13 0 0 n + addk D b R n) rfl _ _ fun u v l =>
      ks_piece D b R i hi Z hZ X5 h5 X6 h6 X9 h9 X13 1792 4096 rfl (by omega) _ _ _ u v l
  · exact piece3 (n0 := 1) (n1 := 1) (n2 := 2304) (b0 := 1) (b1 := 1) (b2 := 256) (a0 := 0) (a1 := 0) (a2 := 1536) (fun _ _ n => at3 X13 0 0 n + addk D b R n) rfl _ _ fun u v l =>
      ks_piece D b R i hi Z hZ X5 h5 X6 h6 X9 h9 X13 1536 3840 rfl (by omega) _ _ _ u v l
  · exact piece3 (n0 := 1) (n1 := 1) (n2 := 2304) (b0 := 1) (b1 := 1) (b2 := 256) (a0 := 0) (a1 := 0) (a2 := 1280) (fun _ _ n => at3 X13 0 0 n + addk D b R n) rfl _ _ fun u v l =>
      ks_piece D b R i hi Z hZ X5 h5 X6 h6 X9 h9 X13 1280 3584 rfl (by omega) _ _ _ u v l
  · exact piece3 (n0 := 1) (n1 := 1) (n2 := 2304) (b0 := 1) (b1 := 1) (b2 := 256) (a0 := 0) (a1 := 0) (a2 := 1024) (fun _ _ n => at3 X13 0 0 n + addk D b R n) rfl _ _ fun u v l =>
      ks_piece D b R i hi Z hZ X5 h5 X6 h6 X9 h9 X13 1024 3328 rfl (by omega) _ _ _ u v l
  · exact piece3 (n0 := 1) (n1 := 1) (n2 := 2304) (b0 := 1) (b1 := 1) (b2 := 256) (a0 := 0) (a1 := 0) (a2 := 768) (fun _ _ n => at3 X13 0 0 n + addk D b R n) rfl _ _ fun u v l =>
      ks_piece D b R i hi Z hZ X5 h5 X6 h6 X9 h9 X13 768 3072 rfl (by omega) _ _ _ u v l
  · exact piece3 (n0 := 1) (n1 := 1) (n2 := 2304) (b0 := 1) (b1 := 1) (b2 := 256) (a0 := 0) (a1 := 0) (a2 := 512) (fun _ _ n => at3 X13 0 0 n + addk D b R n) rfl _ _ fun u v l =>
      ks_piece D b R i hi Z hZ X5 h5 X6 h6 X9 h9 X13 512 2816 rfl (by omega) _ _ _ u v l
  · exact piece3 (n0 := 1) (n1 := 1) (n2 := 2304) (b0 := 1) (b1 := 1) (b2 := 256) (a0 := 0) (a1 := 0) (a2 := 256) (fun _ _ n => at3 X13 0 0 n + addk D b R n) rfl _ _ fun u v l =>
      ks_piece D b R i hi Z hZ X5 h5 X6 h6 X9 h9 X13 256 2560 rfl (by omega) _ _ _ u v l
  · exact piece3 (n0 := 1) (n1 := 1) (n2 := 2304) (b0 := 1) (b1 := 1) (b2 := 256) (a0 := 0) (a1 := 0) (a2 := 0) (fun _ _ n => at3 X13 0 0 n + addk D b R n) rfl _ _ fun u v l =>
      ks_piece D b R i hi Z hZ X5 h5 X6 h6 X9 h9 X13 0 2304 rfl (by omega) _ _ _ u v l

theorem ksL_read {κ} {sp} (v : View sig κ sp S1x1x2304 .f32) (f) (n : ℕ) (hn : n < 2304) :
    at3 (v.read (Elt Ideal) (v.writes (Elt Ideal) f (ksL (F := Ideal) i Z X5 X6 X9 X13))) 0 0 n = at3 X13 0 0 n + addk D b R n := by
  rw [at3_pos _ (by omega) (by omega) hn]
  refine (View.read_writes_apply_of_pieces (Val := Elt Ideal) (v := v) (f := f) (fun y : S1x1x2304.Idx => at3 X13 0 0 (y 2).val + addk D b R (y 2).val) (ksL (F := Ideal) i Z X5 X6 X9 X13)
    (ksL_pieces D b R i hi Z hZ X5 h5 X6 h6 X9 h9 X13) _ ?_).trans rfl
  rcases (by omega : (2048 ≤ n ∧ n < 2304) ∨ (1792 ≤ n ∧ n < 2048) ∨ (1536 ≤ n ∧ n < 1792) ∨ (1280 ≤ n ∧ n < 1536) ∨ (1024 ≤ n ∧ n < 1280) ∨ (768 ≤ n ∧ n < 1024) ∨ (512 ≤ n ∧ n < 768) ∨ (256 ≤ n ∧ n < 512) ∨ (0 ≤ n ∧ n < 256)) with h | h | h | h | h | h | h | h | h
  · refine ⟨_, .head _, ?_⟩; exact mem3 _ 0 0 2048 1 1 256 rfl rfl (fun _ => rfl) ⟨Nat.zero_le _, (show 0 < 1 by omega), Nat.zero_le _, (show 0 < 1 by omega), (show 2048 ≤ n by omega), (show n < 2048 + 256 by omega)⟩
  · refine ⟨_, .tail _ (.head _), ?_⟩; exact mem3 _ 0 0 1792 1 1 256 rfl rfl (fun _ => rfl) ⟨Nat.zero_le _, (show 0 < 1 by omega), Nat.zero_le _, (show 0 < 1 by omega), (show 1792 ≤ n by omega), (show n < 1792 + 256 by omega)⟩
  · refine ⟨_, .tail _ (.tail _ (.head _)), ?_⟩; exact mem3 _ 0 0 1536 1 1 256 rfl rfl (fun _ => rfl) ⟨Nat.zero_le _, (show 0 < 1 by omega), Nat.zero_le _, (show 0 < 1 by omega), (show 1536 ≤ n by omega), (show n < 1536 + 256 by omega)⟩
  · refine ⟨_, .tail _ (.tail _ (.tail _ (.head _))), ?_⟩; exact mem3 _ 0 0 1280 1 1 256 rfl rfl (fun _ => rfl) ⟨Nat.zero_le _, (show 0 < 1 by omega), Nat.zero_le _, (show 0 < 1 by omega), (show 1280 ≤ n by omega), (show n < 1280 + 256 by omega)⟩
  · refine ⟨_, .tail _ (.tail _ (.tail _ (.tail _ (.head _)))), ?_⟩; exact mem3 _ 0 0 1024 1 1 256 rfl rfl (fun _ => rfl) ⟨Nat.zero_le _, (show 0 < 1 by omega), Nat.zero_le _, (show 0 < 1 by omega), (show 1024 ≤ n by omega), (show n < 1024 + 256 by omega)⟩
  · refine ⟨_, .tail _ (.tail _ (.tail _ (.tail _ (.tail _ (.head _))))), ?_⟩; exact mem3 _ 0 0 768 1 1 256 rfl rfl (fun _ => rfl) ⟨Nat.zero_le _, (show 0 < 1 by omega), Nat.zero_le _, (show 0 < 1 by omega), (show 768 ≤ n by omega), (show n < 768 + 256 by omega)⟩
  · refine ⟨_, .tail _ (.tail _ (.tail _ (.tail _ (.tail _ (.tail _ (.head _)))))), ?_⟩; exact mem3 _ 0 0 512 1 1 256 rfl rfl (fun _ => rfl) ⟨Nat.zero_le _, (show 0 < 1 by omega), Nat.zero_le _, (show 0 < 1 by omega), (show 512 ≤ n by omega), (show n < 512 + 256 by omega)⟩
  · refine ⟨_, .tail _ (.tail _ (.tail _ (.tail _ (.tail _ (.tail _ (.tail _ (.head _))))))), ?_⟩; exact mem3 _ 0 0 256 1 1 256 rfl rfl (fun _ => rfl) ⟨Nat.zero_le _, (show 0 < 1 by omega), Nat.zero_le _, (show 0 < 1 by omega), (show 256 ≤ n by omega), (show n < 256 + 256 by omega)⟩
  · refine ⟨_, .tail _ (.tail _ (.tail _ (.tail _ (.tail _ (.tail _ (.tail _ (.tail _ (.head _)))))))), ?_⟩; exact mem3 _ 0 0 0 1 1 256 rfl rfl (fun _ => rfl) ⟨Nat.zero_le _, (show 0 < 1 by omega), Nat.zero_le _, (show 0 < 1 by omega), (show 0 ≤ n by omega), (show n < 0 + 256 by omega)⟩

end Stores

/-! ## The queries -/

section Queries
variable (D : KeySum.Inp) (b R : ℕ) (i : grid0.Coords) (hi : (i 1).val = R) (Z : S256x2240.Idx → EReal)
  (hZ : ∀ (r : Fin 256) (k : Fin 2240), 256 * R + r.val < 1008 → Z (ix2 r k) = LN D b (256 * R + r.val) k)
  (X5 : S2240x6912.Idx → EReal) (h5 : ∀ k n, k < 2240 → n < 2304 → at2 X5 k n = QW D k n)
  (X6 : S1x6912.Idx → EReal) (h6 : ∀ n, n < 2304 → at2 X6 0 n = QS D n)
  (X9 : S1x256x2240.Idx → EReal) (h9 : ∀ (r : Fin 256) (k : Fin 2240), 256 * R + r.val < 1008 → X9 (ix3 0 r k) = XC D b (256 * R + r.val) k)
  (z9 : ∀ (r : Fin 256) (k : Fin 2240), ¬ 256 * R + r.val < 1008 → X9 (ix3 0 r k) = 0)

include hi hZ h5 h6 h9 z9

theorem q_piece (col : ℕ) (hc : col + 256 ≤ 2304) (hw hs) (u : Fin 1) (r l : Fin 256) :
    k0_pay14 (F := Ideal) (scB (F := Ideal) i Z) (cdR (F := Ideal) X9) (wR (F := Ideal) X5 col hw) (sR (F := Ideal) X6 col hs) (ix3 u r l)
      = (fun a r n => PQ D b (256 * R + r) n) (0 + u.val) (0 + r.val) (col + l.val) := by
  rw [query_at]
  have hl := l.isLt
  have es : sR (F := Ideal) X6 col hs (ix2 0 l) = QS D (col + l.val) :=
    (at2_ext X6 _ 0 (col + l.val) rfl (show col + 1 * l.val = _ by omega)).trans (h6 _ (by omega))
  have ew : ∀ k : Fin 2240, wR (F := Ideal) X5 col hw (ix2 k l) = QW D k.val (col + l.val) := fun k =>
    (at2_ext X5 _ k.val (col + l.val) (show 0 + 1 * k.val = k.val by omega) (show col + 1 * l.val = _ by omega)).trans (h5 _ _ k.isLt (by omega))
  have ec : ∀ k : Fin 2240, cdR (F := Ideal) X9 (ix3 0 r k) = X9 (ix3 0 r k) := fun k =>
    (at3_ext X9 _ 0 r.val k.val rfl (show 0 + 1 * r.val = r.val by omega) (show 0 + 1 * k.val = k.val by omega)).trans (at3_ix X9 0 r k).symm
  rw [es]
  show _ = PQ D b (256 * R + (0 + r.val)) (col + l.val)
  rw [Nat.zero_add]
  unfold PQ
  by_cases h : 256 * R + r.val < 1008
  · rw [if_pos h, scB_eq D b R i hi Z hZ r h]
    simp only [ew, ec, fun k => h9 r k h]
  · rw [if_neg h]
    simp only [ec, fun k => z9 r k h, zero_mul, Finset.sum_const_zero, max_self]

theorem qL_pieces : ∀ p ∈ qL (F := Ideal) i Z X5 X6 X9, ∀ x, p.2 x = (fun y : S1x256x2304.Idx => PQ D b (256 * R + (y 1).val) (y 2).val) (p.1.emb x) := by
  unfold qL
  simp only [List.forall_mem_cons]
  refine ⟨?_, ?_, ?_, ?_, ?_, ?_, ?_, ?_, ?_, fun p hp => absurd hp List.not_mem_nil⟩
  · exact piece3 (n0 := 1) (n1 := 256) (n2 := 2304) (b0 := 1) (b1 := 256) (b2 := 256) (a0 := 0) (a1 := 0) (a2 := 2048) (fun _ r n => PQ D b (256 * R + r) n) rfl _ _ fun u r l =>
      q_piece D b R i hi Z hZ X5 h5 X6 h6 X9 h9 z9 2048 (by omega) _ _ u r l
  · exact piece3 (n0 := 1) (n1 := 256) (n2 := 2304) (b0 := 1) (b1 := 256) (b2 := 256) (a0 := 0) (a1 := 0) (a2 := 1792) (fun _ r n => PQ D b (256 * R + r) n) rfl _ _ fun u r l =>
      q_piece D b R i hi Z hZ X5 h5 X6 h6 X9 h9 z9 1792 (by omega) _ _ u r l
  · exact piece3 (n0 := 1) (n1 := 256) (n2 := 2304) (b0 := 1) (b1 := 256) (b2 := 256) (a0 := 0) (a1 := 0) (a2 := 1536) (fun _ r n => PQ D b (256 * R + r) n) rfl _ _ fun u r l =>
      q_piece D b R i hi Z hZ X5 h5 X6 h6 X9 h9 z9 1536 (by omega) _ _ u r l
  · exact piece3 (n0 := 1) (n1 := 256) (n2 := 2304) (b0 := 1) (b1 := 256) (b2 := 256) (a0 := 0) (a1 := 0) (a2 := 1280) (fun _ r n => PQ D b (256 * R + r) n) rfl _ _ fun u r l =>
      q_piece D b R i hi Z hZ X5 h5 X6 h6 X9 h9 z9 1280 (by omega) _ _ u r l
  · exact piece3 (n0 := 1) (n1 := 256) (n2 := 2304) (b0 := 1) (b1 := 256) (b2 := 256) (a0 := 0) (a1 := 0) (a2 := 1024) (fun _ r n => PQ D b (256 * R + r) n) rfl _ _ fun u r l =>
      q_piece D b R i hi Z hZ X5 h5 X6 h6 X9 h9 z9 1024 (by omega) _ _ u r l
  · exact piece3 (n0 := 1) (n1 := 256) (n2 := 2304) (b0 := 1) (b1 := 256) (b2 := 256) (a0 := 0) (a1 := 0) (a2 := 768) (fun _ r n => PQ D b (256 * R + r) n) rfl _ _ fun u r l =>
      q_piece D b R i hi Z hZ X5 h5 X6 h6 X9 h9 z9 768 (by omega) _ _ u r l
  · exact piece3 (n0 := 1) (n1 := 256) (n2 := 2304) (b0 := 1) (b1 := 256) (b2 := 256) (a0 := 0) (a1 := 0) (a2 := 512) (fun _ r n => PQ D b (256 * R + r) n) rfl _ _ fun u r l =>
      q_piece D b R i hi Z hZ X5 h5 X6 h6 X9 h9 z9 512 (by omega) _ _ u r l
  · exact piece3 (n0 := 1) (n1 := 256) (n2 := 2304) (b0 := 1) (b1 := 256) (b2 := 256) (a0 := 0) (a1 := 0) (a2 := 256) (fun _ r n => PQ D b (256 * R + r) n) rfl _ _ fun u r l =>
      q_piece D b R i hi Z hZ X5 h5 X6 h6 X9 h9 z9 256 (by omega) _ _ u r l
  · exact piece3 (n0 := 1) (n1 := 256) (n2 := 2304) (b0 := 1) (b1 := 256) (b2 := 256) (a0 := 0) (a1 := 0) (a2 := 0) (fun _ r n => PQ D b (256 * R + r) n) rfl _ _ fun u r l =>
      q_piece D b R i hi Z hZ X5 h5 X6 h6 X9 h9 z9 0 (by omega) _ _ u r l

theorem qL_read {κ} {sp} (v : View sig κ sp S1x256x2304 .f32) (f) (r n : ℕ) (hr : r < 256) (hn : n < 2304) :
    at3 (v.read (Elt Ideal) (v.writes (Elt Ideal) f (qL (F := Ideal) i Z X5 X6 X9))) 0 r n = PQ D b (256 * R + r) n := by
  rw [at3_pos _ (by omega) hr hn]
  refine (View.read_writes_apply_of_pieces (Val := Elt Ideal) (v := v) (f := f) (fun y : S1x256x2304.Idx => PQ D b (256 * R + (y 1).val) (y 2).val) (qL (F := Ideal) i Z X5 X6 X9)
    (qL_pieces D b R i hi Z hZ X5 h5 X6 h6 X9 h9 z9) _ ?_).trans rfl
  rcases (by omega : (2048 ≤ n ∧ n < 2304) ∨ (1792 ≤ n ∧ n < 2048) ∨ (1536 ≤ n ∧ n < 1792) ∨ (1280 ≤ n ∧ n < 1536) ∨ (1024 ≤ n ∧ n < 1280) ∨ (768 ≤ n ∧ n < 1024) ∨ (512 ≤ n ∧ n < 768) ∨ (256 ≤ n ∧ n < 512) ∨ (0 ≤ n ∧ n < 256)) with h | h | h | h | h | h | h | h | h
  · refine ⟨_, .head _, ?_⟩; exact mem3 _ 0 0 2048 1 256 256 rfl rfl (fun _ => rfl) ⟨Nat.zero_le _, (show 0 < 1 by omega), Nat.zero_le _, (show r < 0 + 256 by omega), (show 2048 ≤ n by omega), (show n < 2048 + 256 by omega)⟩
  · refine ⟨_, .tail _ (.head _), ?_⟩; exact mem3 _ 0 0 1792 1 256 256 rfl rfl (fun _ => rfl) ⟨Nat.zero_le _, (show 0 < 1 by omega), Nat.zero_le _, (show r < 0 + 256 by omega), (show 1792 ≤ n by omega), (show n < 1792 + 256 by omega)⟩
  · refine ⟨_, .tail _ (.tail _ (.head _)), ?_⟩; exact mem3 _ 0 0 1536 1 256 256 rfl rfl (fun _ => rfl) ⟨Nat.zero_le _, (show 0 < 1 by omega), Nat.zero_le _, (show r < 0 + 256 by omega), (show 1536 ≤ n by omega), (show n < 1536 + 256 by omega)⟩
  · refine ⟨_, .tail _ (.tail _ (.tail _ (.head _))), ?_⟩; exact mem3 _ 0 0 1280 1 256 256 rfl rfl (fun _ => rfl) ⟨Nat.zero_le _, (show 0 < 1 by omega), Nat.zero_le _, (show r < 0 + 256 by omega), (show 1280 ≤ n by omega), (show n < 1280 + 256 by omega)⟩
  · refine ⟨_, .tail _ (.tail _ (.tail _ (.tail _ (.head _)))), ?_⟩; exact mem3 _ 0 0 1024 1 256 256 rfl rfl (fun _ => rfl) ⟨Nat.zero_le _, (show 0 < 1 by omega), Nat.zero_le _, (show r < 0 + 256 by omega), (show 1024 ≤ n by omega), (show n < 1024 + 256 by omega)⟩
  · refine ⟨_, .tail _ (.tail _ (.tail _ (.tail _ (.tail _ (.head _))))), ?_⟩; exact mem3 _ 0 0 768 1 256 256 rfl rfl (fun _ => rfl) ⟨Nat.zero_le _, (show 0 < 1 by omega), Nat.zero_le _, (show r < 0 + 256 by omega), (show 768 ≤ n by omega), (show n < 768 + 256 by omega)⟩
  · refine ⟨_, .tail _ (.tail _ (.tail _ (.tail _ (.tail _ (.tail _ (.head _)))))), ?_⟩; exact mem3 _ 0 0 512 1 256 256 rfl rfl (fun _ => rfl) ⟨Nat.zero_le _, (show 0 < 1 by omega), Nat.zero_le _, (show r < 0 + 256 by omega), (show 512 ≤ n by omega), (show n < 512 + 256 by omega)⟩
  · refine ⟨_, .tail _ (.tail _ (.tail _ (.tail _ (.tail _ (.tail _ (.tail _ (.head _))))))), ?_⟩; exact mem3 _ 0 0 256 1 256 256 rfl rfl (fun _ => rfl) ⟨Nat.zero_le _, (show 0 < 1 by omega), Nat.zero_le _, (show r < 0 + 256 by omega), (show 256 ≤ n by omega), (show n < 256 + 256 by omega)⟩
  · refine ⟨_, .tail _ (.tail _ (.tail _ (.tail _ (.tail _ (.tail _ (.tail _ (.tail _ (.head _)))))))), ?_⟩; exact mem3 _ 0 0 0 1 256 256 rfl rfl (fun _ => rfl) ⟨Nat.zero_le _, (show 0 < 1 by omega), Nat.zero_le _, (show r < 0 + 256 by omega), (show 0 ≤ n by omega), (show n < 0 + 256 by omega)⟩

end Queries

/-! ## The running sums -/

/-- The sums of the keys of the first `N` rows. -/
def part (D : KeySum.Inp) (b N n : ℕ) : EReal := ∑ q ∈ Finset.range N, if q < 1008 then PK D b q n else 0

theorem part_step (D : KeySum.Inp) (b R n : ℕ) : part D b (256 * R) n + addk D b R n = part D b (256 * (R + 1)) n := by
  unfold part addk
  rw [show 256 * (R + 1) = 256 * R + 256 by omega, Finset.sum_range_add, Finset.sum_range (n := 256)]

theorem part_zero (D : KeySum.Inp) (b n : ℕ) : part D b (256 * 0) n = 0 := by simp [part]

theorem part_all (D : KeySum.Inp) (b n : ℕ) : part D b (256 * (3 + 1)) n = KS D b n := by
  unfold part KS
  rw [show 256 * (3 + 1) = 1008 + 16 by omega, Finset.sum_range_add]
  rw [show (∑ x ∈ Finset.range 16, if 1008 + x < 1008 then PK D b (1008 + x) n else 0) = 0 from Finset.sum_eq_zero fun x _ => if_neg (by omega), add_zero]
  exact Finset.sum_congr rfl fun q hq => if_pos (Finset.mem_range.1 hq)

theorem zero13 {κ} {sp} (v : View sig κ sp S1x1x2304 .f32) (f) (n : ℕ) (hn : n < 2304) :
    at3 (v.read (Elt Ideal) (v.writes (Elt Ideal) f [⟨Rect.unit (s := S1x1x2304) ![0, 0, 0] S1x1x2304.size inb_S1x1x2304_S1x1x2304_0_0_0, k0_pay13 (F := Ideal)⟩])) 0 0 n = 0 := by
  rw [at3_pos _ (by omega) (by omega) hn]
  refine View.read_writes_apply_of_pieces (Val := Elt Ideal) (v := v) (f := f) (fun y : S1x1x2304.Idx => (0 : EReal)) _ ?_ _ ?_
  · simp only [List.forall_mem_cons]
    refine ⟨?_, fun p hp => absurd hp List.not_mem_nil⟩
    refine piece3 (n0 := 1) (n1 := 1) (n2 := 2304) (b0 := 1) (b1 := 1) (b2 := 2304) (a0 := 0) (a1 := 0) (a2 := 0) (fun a b n => 0) rfl inb_S1x1x2304_S1x1x2304_0_0_0 _ fun u w r => ?_
    pointwise [k0_pay13]
  · refine ⟨_, .head _, ?_⟩
    exact mem3 _ 0 0 0 1 1 2304 rfl rfl (fun _ => rfl) ⟨Nat.zero_le _, (show 0 < 1 by omega), Nat.zero_le _, (show 0 < 1 by omega), Nat.zero_le _, (show n < 0 + 2304 by omega)⟩

/-! ## One point of the grid -/

variable (m : (ℓ : Loc nD τ sig) → Buf (Elt Ideal) ℓ) (c : Dev nD)

theorem lnB_eq (t : Fin cfg0.N) (d : (cfg0.win 0).block.Idx → EReal) (X2 : S1x256x2240.Idx → EReal) (e2 : X2 = (cfg0.win 0).fill (grid0.coords t) d (iblk m c 0 t))
    (X3 : S1x6x2240.Idx → EReal) (e3 : X3 = iblk m c 1 t) (X4 : S6x2240.Idx → EReal) (e4 : X4 = iblk m c 2 t) (r : Fin 256) (k : Fin 2240) (h : 256 * (t.val % 4) + r.val < 1008) :
    lnB (F := Ideal) X2 X3 X4 (ix2 r k) = LN (inp m c) (t.val / 4) (256 * (t.val % 4) + r.val) k := by
  unfold lnB
  rw [ln_at]
  unfold lnk LN
  have a3 : ∀ r k, r < 6 → k < 2240 → at3 X3 0 r k = at3 (inp m c).t6 (t.val / 4) r k := fun r k hr hk => e3 ▸ iblk1_at m c t r k hr hk
  have a4 : ∀ r k, r < 6 → k < 2240 → at2 X4 r k = at2 (inp m c).table r k := fun r k hr hk => e4 ▸ iblk2_at m c t r k hr hk
  have a2 : ∀ k : Fin 2240, at3 X2 0 r.val k.val = row (inp m c) (t.val / 4) (256 * (t.val % 4) + r.val) k := fun k => e2 ▸ fill0_at m c t d r.val k.val r.isLt k.isLt h
  have x2 : ∀ k : Fin 2240, X2 ((Rect.unit (s := S1x256x2240) ![0, 0, 0] S1x256x2240.size inb_S1x256x2240_S1x256x2240_0_0_0).toLoadRect.idx (ix3 0 r k)) = row (inp m c) (t.val / 4) (256 * (t.val % 4) + r.val) k := fun k =>
    (at3_ext X2 _ 0 r.val k.val rfl (show 0 + 1 * r.val = r.val by omega) (show 0 + 1 * k.val = k.val by omega)).trans (a2 k)
  have x3 : ∀ q : Fin 6, X3 ((Rect.unit (s := S1x6x2240) ![0, 0, 0] S1x6x2240.size inb_S1x6x2240_S1x6x2240_0_0_0).toLoadRect.idx (ix3 0 q k)) = at3 (inp m c).t6 (t.val / 4) q.val k.val := fun q =>
    (at3_ext X3 _ 0 q.val k.val rfl (show 0 + 1 * q.val = q.val by omega) (show 0 + 1 * k.val = k.val by omega)).trans (a3 _ _ q.isLt k.isLt)
  have x4 : ∀ q : Fin 6, X4 ((Rect.unit (s := S6x2240) ![0, 0] S6x2240.size inb_S6x2240_S6x2240_0_0).toLoadRect.idx (ix2 q k)) = at2 (inp m c).table q.val k.val := fun q =>
    (at2_ext X4 _ q.val k.val (show 0 + 1 * q.val = q.val by omega) (show 0 + 1 * k.val = k.val by omega)).trans (a4 _ _ q.isLt k.isLt)
  dsimp only
  rw [x3 1, x4 1, x3 0, x4 0]
  simp only [x2]
  rfl

/-- What the blocks of codes, of scales and of queries hold after point `t`, and what the block of key sums holds after point `n`. -/
def R7 (t : Fin cfg0.N) (X : S1x256x2240.Idx → EReal) : Prop :=
  ∀ r k, r < 256 → k < 2240 → 256 * (t.val % 4) + r < 1008 → at3 X 0 r k = XCn (inp m c) (t.val / 4) (256 * (t.val % 4) + r) k
def R8 (t : Fin cfg0.N) (X : S1x1x256.Idx → EReal) : Prop :=
  ∀ r, r < 256 → 256 * (t.val % 4) + r < 1008 → at3 X 0 0 r = XS (inp m c) (t.val / 4) (256 * (t.val % 4) + r)
def R9 (t : Fin cfg0.N) (X : S1x256x2304.Idx → EReal) : Prop :=
  ∀ r n, r < 256 → n < 2304 → at3 X 0 r n = PQ (inp m c) (t.val / 4) (256 * (t.val % 4) + r) n
def R11 (n : ℕ) (X : S1x1x2304.Idx → EReal) : Prop :=
  ∀ k, k < 2304 → at3 X 0 0 k = part (inp m c) (n / 4) (256 * (n % 4 + 1)) k

theorem step (t : Fin cfg0.N) (d : (cfg0.win 0).block.Idx → EReal) (X2 : S1x256x2240.Idx → EReal) (e2 : X2 = (cfg0.win 0).fill (grid0.coords t) d (iblk m c 0 t))
    (X3 : S1x6x2240.Idx → EReal) (e3 : X3 = iblk m c 1 t) (X4 : S6x2240.Idx → EReal) (e4 : X4 = iblk m c 2 t) (X5 : S2240x6912.Idx → EReal) (e5 : X5 = iblk m c 3 t)
    (X6 : S1x6912.Idx → EReal) (e6 : X6 = iblk m c 4 t)
    {κ9 κ10 κ11 κ13} {s9 s10 s11 s13} (v9 : View sig κ9 s9 S1x256x2240 .fp8e4m3) (v10 : View sig κ10 s10 S1x1x256 .f32) (v11 : View sig κ11 s11 S1x256x2304 .f32) (v13 : View sig κ13 s13 S1x1x2304 .f32) (f9) (f10) (f11) (g9) (g13)
    (eg9 : g9 = v9.writes (Elt Ideal) f9 (cdL (F := Ideal) (grid0.coords t) (lnB (F := Ideal) X2 X3 X4)))
    (hg : ∀ k, k < 2304 → at3 (v13.read (Elt Ideal) g13) 0 0 k = part (inp m c) (t.val / 4) (256 * (t.val % 4)) k) :
    R7 m c t (v9.read (Elt Ideal) g9) ∧ R8 m c t (v10.read (Elt Ideal) (v10.writes (Elt Ideal) f10 (scL (F := Ideal) (grid0.coords t) (lnB (F := Ideal) X2 X3 X4))))
    ∧ R9 m c t (v11.read (Elt Ideal) (v11.writes (Elt Ideal) f11 (qL (F := Ideal) (grid0.coords t) (lnB (F := Ideal) X2 X3 X4) X5 X6 (v9.read (Elt Ideal) g9))))
    ∧ R11 m c t.val (v13.read (Elt Ideal) (v13.writes (Elt Ideal) g13
        (ksL (F := Ideal) (grid0.coords t) (lnB (F := Ideal) X2 X3 X4) X5 X6 (v9.read (Elt Ideal) g9) (v13.read (Elt Ideal) g13)))) := by
  have hi := coords_1 t
  have hZ := fun r k h => lnB_eq m c t d X2 e2 X3 e3 X4 e4 r k h
  have h9 : ∀ (r : Fin 256) (k : Fin 2240), 256 * (t.val % 4) + r.val < 1008 → v9.read (Elt Ideal) g9 (ix3 0 r k) = XC (inp m c) (t.val / 4) (256 * (t.val % 4) + r.val) k :=
    fun r k h => eg9 ▸ cdL_read (inp m c) (t.val / 4) (t.val % 4) (grid0.coords t) hi _ hZ v9 f9 r k h
  have z9 : ∀ (r : Fin 256) (k : Fin 2240), ¬ 256 * (t.val % 4) + r.val < 1008 → v9.read (Elt Ideal) g9 (ix3 0 r k) = 0 :=
    fun r k h => eg9 ▸ cdL_read_zero (t.val % 4) (grid0.coords t) hi _ v9 f9 r k h
  refine ⟨fun r k hr hk h => ?_, fun r hr h => ?_, fun r n hr hn => ?_, fun k hk => ?_⟩
  · rw [at3_pos _ (by omega) hr hk]
    exact (h9 ⟨r, hr⟩ ⟨k, hk⟩ h).trans (XCn_val _ _ _ ⟨k, hk⟩).symm
  · rw [at3_pos _ (by omega) (by omega) hr]
    exact scL_read (inp m c) (t.val / 4) (t.val % 4) (grid0.coords t) hi _ hZ v10 f10 ⟨r, hr⟩ h
  · exact qL_read (inp m c) (t.val / 4) (t.val % 4) (grid0.coords t) hi _ hZ X5 (fun a n ha hn => e5 ▸ iblk3_q m c t a n ha hn) X6 (fun n hn => e6 ▸ iblk4_q m c t n hn) _ h9 z9 v11 f11 r n hr hn
  · rw [ksL_read (inp m c) (t.val / 4) (t.val % 4) (grid0.coords t) hi _ hZ X5 (fun a n ha hn => e5 ▸ iblk3_at m c t a n ha hn) X6 (fun n hn => e6 ▸ iblk4_at m c t n hn) _ h9 _ v13 g13 k hk,
      hg k hk]
    exact part_step _ _ _ _

variable [∀ e, Nonempty (Elt Ideal e)]

/-- The properties that the runs keep. -/
def plan : Plan (F := Ideal) m where
  R7 c t X := R7 m c t X
  R8 c t X := R8 m c t X
  R9 c t X := R9 m c t X
  R11 c n X := R11 m c n X
  start := by
    intro c t h1 arg2 harg2 arg3 harg3 arg4 harg4 arg5 harg5 arg6 harg6 arg7 harg7 arg8 harg8 arg9 harg9 arg10 harg10 arg11 harg11 arg12 harg12 arg13 harg13
      f2 f3 f4 f5 f6 f7 f8 f9 f10 f11 f12 f13 d e2 e3 e4 e5 e6 g9 g13 eg9 eg13
    rw [startRun_cd] at eg9
    rw [startRun_ks0] at eg13
    rw [startRun_sc, startRun_q, startRun_ks]
    refine step m c t d _ e2 _ e3 _ e4 _ e5 _ e6 _ _ _ _ _ _ _ _ _ eg9 fun k hk => ?_
    have h0 : t.val % 4 = 0 := (coords_1 t).symm.trans ((first_iff _).1 h1)
    rw [h0, part_zero, eg13]
    exact zero13 _ _ k hk
  next := by
    intro c t h1 arg2 harg2 arg3 harg3 arg4 harg4 arg5 harg5 arg6 harg6 arg7 harg7 arg8 harg8 arg9 harg9 arg10 harg10 arg11 harg11 arg12 harg12 arg13 harg13
      f2 f3 f4 f5 f6 f7 f8 f9 f10 f11 f12 f13 d e2 e3 e4 e5 e6 hR g9 g13 eg9 eg13
    rw [nextRun_cd] at eg9
    rw [nextRun_ks0] at eg13
    rw [nextRun_sc, nextRun_q, nextRun_ks]
    refine step m c t d _ e2 _ e3 _ e4 _ e5 _ e6 _ _ _ _ _ _ _ _ _ eg9 fun k hk => ?_
    have h0 : ¬ t.val % 4 = 0 := fun h => h1 ((first_iff _).2 ((coords_1 t).trans h))
    have hk' := hR k hk
    rw [show (t.val - 1) / 4 = t.val / 4 by omega, show (t.val - 1) % 4 + 1 = t.val % 4 by omega] at hk'
    rw [eg13]
    exact hk'

end Cert.QkvIdeal.Hand
end
-- ==== Proof.QOutputs.lean ====
module

public import proofs.«01_k».proof.Proof.QSteps

@[expose] public section

set_option maxRecDepth 16384

noncomputable section

namespace Cert.QkvIdeal.Hand

open Cert.QkvIdeal Cert.QkvIdeal.Gen Cert.FFN Cert.KeySum
open Idealize.ShloMosaic Idealize.ShloMosaic.TcCoe Idealize.ShloMosaic.Tactic
open Idealize.SL.Sem
open Idealize.ShloMosaic.Pipeline

/-! What the four result arrays hold after the run. -/

variable (m : (ℓ : Loc nD τ sig) → Buf (Elt Ideal) ℓ) (ρ : Dev nD → PrngReg) (c : Dev nD)

/-- The codes, the scales, the queries and the sums of the keys. -/
def outC : S8x1008x2240.Idx → EReal := fun y => XCn (inp m c) (y 0).val (y 1).val (y 2).val
def outS : S8x1x1008.Idx → EReal := fun y => XS (inp m c) (y 0).val (y 2).val
def outQ : S8x1024x2304.Idx → EReal := fun y => PQ (inp m c) (y 0).val (y 1).val (y 2).val
def outK : S8x1x2304.Idx → EReal := fun y => KS (inp m c) (y 0).val (y 2).val

theorem lt_of_xsize {sig : RefSig} {G : Grid} (w : Window sig G) (i : G.Coords) (v : Fin w.shape.rank → ℕ) (hc : w.xsize i = v) (j : (w.xblock i).Idx) (a) : (j a).val < v a :=
  hc ▸ (j a).isLt

variable [∀ e, Nonempty (Elt Ideal e)]

theorem flush7_of : ∀ t : Fin cfg0.N, (cfg0.win 7).flush t = true := by decide +kernel

theorem cols7 (t : Fin cfg0.N) (j : ((cfg0.win 7).xblock (grid0.coords t)).Idx) : (j 2).val < 2240 :=
  lt_of_xsize _ _ _ (cut7 t) j 2

theorem cover7 (i : S8x1008x2240.Idx) : ∃ t : Fin cfg0.N, (cfg0.win 7).flush t = true ∧ i ∈ ((cfg0.win 7).blk t).view.set := by
  have i0 : (i 0).val < 8 := (i 0).isLt
  have i1 : (i 1).val < 1008 := (i 1).isLt
  have i2 : (i 2).val < 2240 := (i 2).isLt
  have ht : 4 * (i 0).val + (i 1).val / 256 < 32 := by omega
  refine ⟨⟨_, ht⟩, flush7_of _, ?_⟩
  refine ((cfg0.win 7).emb_mem_blk_iff ⟨_, ht⟩ i rfl).2 ?_
  have e := tr7 ⟨_, ht⟩
  have hc := cut7 ⟨_, ht⟩
  intro a
  rw [hc]
  show cc0_transform_7 (grid0.coords ⟨_, ht⟩) a * _ ≤ _ ∧ _ < cc0_transform_7 (grid0.coords ⟨_, ht⟩) a * _ + _
  rw [e]
  fin_cases a
  · show (4 * (i 0).val + (i 1).val / 256) / 4 * 1 ≤ (i 0).val ∧ (i 0).val < (4 * (i 0).val + (i 1).val / 256) / 4 * 1 + 1
    omega
  · show (4 * (i 0).val + (i 1).val / 256) % 4 * 256 ≤ (i 1).val ∧ (i 1).val < (4 * (i 0).val + (i 1).val / 256) % 4 * 256 + min 256 (1008 - 256 * ((4 * (i 0).val + (i 1).val / 256) % 4))
    omega
  · show 0 * 2240 ≤ (i 2).val ∧ (i 2).val < 0 * 2240 + 2240
    omega

theorem cut7_eq (G : ℕ → ℕ → ℕ → EReal) (t : Fin cfg0.N) (X : S1x256x2240.Idx → EReal) (hX : ∀ r k, r < 256 → k < 2240 → 256 * (t.val % 4) + r < 1008 → at3 X 0 r k = G (t.val / 4) (256 * (t.val % 4) + r) k) :
    (cfg0.win 7).cut (α := EReal) (grid0.coords t) X = ((cfg0.win 7).blk t).view.read (Elt Ideal) (fun y : S8x1008x2240.Idx => G (y 0).val (y 1).val (y 2).val) := by
  funext j
  have e := tr7 t
  have hc := cut7 t
  have j0 : (j 0).val < 1 := (j 0).isLt.trans_eq (congrFun hc 0)
  have k0 : (((cfg0.win 7).blk t).view.emb j 0).val = t.val / 4 :=
    ((cfg0.win 7).rect_emb_val t j 0).trans (by show cc0_transform_7 (grid0.coords t) 0 * 1 + _ = _; rw [e]; show t.val / 4 * 1 + (j 0).val = _; omega)
  have j1 : (j 1).val < min 256 (1008 - 256 * (t.val % 4)) := (j 1).isLt.trans_eq (congrFun hc 1)
  have j2 : (j 2).val < 2240 := cols7 t j
  refine (at3_ext (n0 := 1) (n1 := 256) (n2 := 2240) X _ 0 (j 1).val (j 2).val (by show (j 0).val = 0; omega) rfl rfl).trans ((hX (j 1).val (j 2).val (by omega) j2 (by omega)).trans ?_)
  have k1 : (((cfg0.win 7).blk t).view.emb j 1).val = 256 * (t.val % 4) + (j 1).val :=
    ((cfg0.win 7).rect_emb_val t j 1).trans (by show cc0_transform_7 (grid0.coords t) 1 * 256 + _ = _; rw [e]; show t.val % 4 * 256 + _ = _; omega)
  have k2 : (((cfg0.win 7).blk t).view.emb j 2).val = (j 2).val :=
    ((cfg0.win 7).rect_emb_val t j 2).trans (by show cc0_transform_7 (grid0.coords t) 2 * 2240 + _ = _; rw [e]; show 0 * 2240 + _ = _; omega)
  show _ = G (((cfg0.win 7).blk t).view.emb j 0).val (((cfg0.win 7).blk t).view.emb j 1).val (((cfg0.win 7).blk t).view.emb j 2).val
  rw [k0, k1, k2]

theorem final7 {r : PUnit × MemSt nD τ sig (Elt Ideal)} (h : RDat.FramePost (cfgs 0) (rdat m (plan m)) (V m) r) :
    r.2.mem ((c : Thread nD τ).loc main_v21_0) = outC m c := by
  obtain ⟨after, hL, hA⟩ := RDat.FramePost.exists_exact h c
  have hf := Dat.arrAt_eq_of_cover (cfg := cfg0) ((rdat m (plan m) c).withAfter after) 7 (outC m c) (fun t hf => ?_) cover7
  · exact (hA 7).trans hf
  have h1 := Dat.toRRel_leaves (dats m c) (fgt := marks) (Rl := Rl m (plan m) c) (by decide) (hL 7 t hf)
  exact cut7_eq (XCn (inp m c)) t (after 7 t) h1

theorem flush8_of : ∀ t : Fin cfg0.N, (cfg0.win 8).flush t = true := by decide +kernel

theorem cols8 (t : Fin cfg0.N) (j : ((cfg0.win 8).xblock (grid0.coords t)).Idx) : (j 2).val < min 256 (1008 - 256 * (t.val % 4)) :=
  lt_of_xsize _ _ _ (cut8 t) j 2

theorem cover8 (i : S8x1x1008.Idx) : ∃ t : Fin cfg0.N, (cfg0.win 8).flush t = true ∧ i ∈ ((cfg0.win 8).blk t).view.set := by
  have i0 : (i 0).val < 8 := (i 0).isLt
  have i1 : (i 1).val < 1 := (i 1).isLt
  have i2 : (i 2).val < 1008 := (i 2).isLt
  have ht : 4 * (i 0).val + (i 2).val / 256 < 32 := by omega
  refine ⟨⟨_, ht⟩, flush8_of _, ?_⟩
  refine ((cfg0.win 8).emb_mem_blk_iff ⟨_, ht⟩ i rfl).2 ?_
  have e := tr8 ⟨_, ht⟩
  have hc := cut8 ⟨_, ht⟩
  intro a
  rw [hc]
  show cc0_transform_8 (grid0.coords ⟨_, ht⟩) a * _ ≤ _ ∧ _ < cc0_transform_8 (grid0.coords ⟨_, ht⟩) a * _ + _
  rw [e]
  fin_cases a
  · show (4 * (i 0).val + (i 2).val / 256) / 4 * 1 ≤ (i 0).val ∧ (i 0).val < (4 * (i 0).val + (i 2).val / 256) / 4 * 1 + 1
    omega
  · show 0 * 1 ≤ (i 1).val ∧ (i 1).val < 0 * 1 + 1
    omega
  · show (4 * (i 0).val + (i 2).val / 256) % 4 * 256 ≤ (i 2).val ∧ (i 2).val < (4 * (i 0).val + (i 2).val / 256) % 4 * 256 + min 256 (1008 - 256 * ((4 * (i 0).val + (i 2).val / 256) % 4))
    omega

theorem cut8_eq (G : ℕ → ℕ → EReal) (t : Fin cfg0.N) (X : S1x1x256.Idx → EReal) (hX : ∀ r, r < 256 → 256 * (t.val % 4) + r < 1008 → at3 X 0 0 r = G (t.val / 4) (256 * (t.val % 4) + r)) :
    (cfg0.win 8).cut (α := EReal) (grid0.coords t) X = ((cfg0.win 8).blk t).view.read (Elt Ideal) (fun y : S8x1x1008.Idx => G (y 0).val (y 2).val) := by
  funext j
  have e := tr8 t
  have hc := cut8 t
  have j0 : (j 0).val < 1 := (j 0).isLt.trans_eq (congrFun hc 0)
  have k0 : (((cfg0.win 8).blk t).view.emb j 0).val = t.val / 4 :=
    ((cfg0.win 8).rect_emb_val t j 0).trans (by show cc0_transform_8 (grid0.coords t) 0 * 1 + _ = _; rw [e]; show t.val / 4 * 1 + (j 0).val = _; omega)
  have j1 : (j 1).val < 1 := (j 1).isLt.trans_eq (congrFun hc 1)
  have j2 : (j 2).val < min 256 (1008 - 256 * (t.val % 4)) := cols8 t j
  refine (at3_ext (n0 := 1) (n1 := 1) (n2 := 256) X _ 0 0 (j 2).val (by show (j 0).val = 0; omega) (by show (j 1).val = 0; omega) rfl).trans ((hX (j 2).val (by omega) (by omega)).trans ?_)
  have k2 : (((cfg0.win 8).blk t).view.emb j 2).val = 256 * (t.val % 4) + (j 2).val :=
    ((cfg0.win 8).rect_emb_val t j 2).trans (by show cc0_transform_8 (grid0.coords t) 2 * 256 + _ = _; rw [e]; show t.val % 4 * 256 + _ = _; omega)
  show _ = G (((cfg0.win 8).blk t).view.emb j 0).val (((cfg0.win 8).blk t).view.emb j 2).val
  rw [k0, k2]

theorem final8 {r : PUnit × MemSt nD τ sig (Elt Ideal)} (h : RDat.FramePost (cfgs 0) (rdat m (plan m)) (V m) r) :
    r.2.mem ((c : Thread nD τ).loc main_v21_1) = outS m c := by
  obtain ⟨after, hL, hA⟩ := RDat.FramePost.exists_exact h c
  have hf := Dat.arrAt_eq_of_cover (cfg := cfg0) ((rdat m (plan m) c).withAfter after) 8 (outS m c) (fun t hf => ?_) cover8
  · exact (hA 8).trans hf
  have h1 := Dat.toRRel_leaves (dats m c) (fgt := marks) (Rl := Rl m (plan m) c) (by decide) (hL 8 t hf)
  exact cut8_eq (XS (inp m c)) t (after 8 t) h1

theorem flush9_of : ∀ t : Fin cfg0.N, (cfg0.win 9).flush t = true := by decide +kernel

theorem cols9 (t : Fin cfg0.N) (j : ((cfg0.win 9).xblock (grid0.coords t)).Idx) : (j 2).val < 2304 :=
  lt_of_xsize _ _ _ (cut9 t) j 2

theorem cover9 (i : S8x1024x2304.Idx) : ∃ t : Fin cfg0.N, (cfg0.win 9).flush t = true ∧ i ∈ ((cfg0.win 9).blk t).view.set := by
  have i0 : (i 0).val < 8 := (i 0).isLt
  have i1 : (i 1).val < 1024 := (i 1).isLt
  have i2 : (i 2).val < 2304 := (i 2).isLt
  have ht : 4 * (i 0).val + (i 1).val / 256 < 32 := by omega
  refine ⟨⟨_, ht⟩, flush9_of _, ?_⟩
  refine ((cfg0.win 9).emb_mem_blk_iff ⟨_, ht⟩ i rfl).2 ?_
  have e := tr9 ⟨_, ht⟩
  have hc := cut9 ⟨_, ht⟩
  intro a
  rw [hc]
  show cc0_transform_9 (grid0.coords ⟨_, ht⟩) a * _ ≤ _ ∧ _ < cc0_transform_9 (grid0.coords ⟨_, ht⟩) a * _ + _
  rw [e]
  fin_cases a
  · show (4 * (i 0).val + (i 1).val / 256) / 4 * 1 ≤ (i 0).val ∧ (i 0).val < (4 * (i 0).val + (i 1).val / 256) / 4 * 1 + 1
    omega
  · show (4 * (i 0).val + (i 1).val / 256) % 4 * 256 ≤ (i 1).val ∧ (i 1).val < (4 * (i 0).val + (i 1).val / 256) % 4 * 256 + 256
    omega
  · show 0 * 2304 ≤ (i 2).val ∧ (i 2).val < 0 * 2304 + 2304
    omega

theorem cut9_eq (G : ℕ → ℕ → ℕ → EReal) (t : Fin cfg0.N) (X : S1x256x2304.Idx → EReal) (hX : ∀ r k, r < 256 → k < 2304 → at3 X 0 r k = G (t.val / 4) (256 * (t.val % 4) + r) k) :
    (cfg0.win 9).cut (α := EReal) (grid0.coords t) X = ((cfg0.win 9).blk t).view.read (Elt Ideal) (fun y : S8x1024x2304.Idx => G (y 0).val (y 1).val (y 2).val) := by
  funext j
  have e := tr9 t
  have hc := cut9 t
  have j0 : (j 0).val < 1 := (j 0).isLt.trans_eq (congrFun hc 0)
  have k0 : (((cfg0.win 9).blk t).view.emb j 0).val = t.val / 4 :=
    ((cfg0.win 9).rect_emb_val t j 0).trans (by show cc0_transform_9 (grid0.coords t) 0 * 1 + _ = _; rw [e]; show t.val / 4 * 1 + (j 0).val = _; omega)
  have j1 : (j 1).val < 256 := (j 1).isLt.trans_eq (congrFun hc 1)
  have j2 : (j 2).val < 2304 := cols9 t j
  refine (at3_ext (n0 := 1) (n1 := 256) (n2 := 2304) X _ 0 (j 1).val (j 2).val (by show (j 0).val = 0; omega) rfl rfl).trans ((hX (j 1).val (j 2).val j1 j2).trans ?_)
  have k1 : (((cfg0.win 9).blk t).view.emb j 1).val = 256 * (t.val % 4) + (j 1).val :=
    ((cfg0.win 9).rect_emb_val t j 1).trans (by show cc0_transform_9 (grid0.coords t) 1 * 256 + _ = _; rw [e]; show t.val % 4 * 256 + _ = _; omega)
  have k2 : (((cfg0.win 9).blk t).view.emb j 2).val = (j 2).val :=
    ((cfg0.win 9).rect_emb_val t j 2).trans (by show cc0_transform_9 (grid0.coords t) 2 * 2304 + _ = _; rw [e]; show 0 * 2304 + _ = _; omega)
  show _ = G (((cfg0.win 9).blk t).view.emb j 0).val (((cfg0.win 9).blk t).view.emb j 1).val (((cfg0.win 9).blk t).view.emb j 2).val
  rw [k0, k1, k2]

theorem final9 {r : PUnit × MemSt nD τ sig (Elt Ideal)} (h : RDat.FramePost (cfgs 0) (rdat m (plan m)) (V m) r) :
    r.2.mem ((c : Thread nD τ).loc main_v21_2) = outQ m c := by
  obtain ⟨after, hL, hA⟩ := RDat.FramePost.exists_exact h c
  have hf := Dat.arrAt_eq_of_cover (cfg := cfg0) ((rdat m (plan m) c).withAfter after) 9 (outQ m c) (fun t hf => ?_) cover9
  · exact (hA 9).trans hf
  have h1 := Dat.toRRel_leaves (dats m c) (fgt := marks) (Rl := Rl m (plan m) c) (by decide) (hL 9 t hf)
  exact cut9_eq (PQ (inp m c)) t (after 9 t) h1

theorem flush11_ge : ∀ t : Fin cfg0.N, (cfg0.win 11).flush t = true → t.val % 4 = 3 := by decide +kernel
theorem flush11_of : ∀ t : Fin cfg0.N, t.val % 4 = 3 → (cfg0.win 11).flush t = true := by decide +kernel

theorem cols11 (t : Fin cfg0.N) (j : ((cfg0.win 11).xblock (grid0.coords t)).Idx) : (j 2).val < 2304 :=
  lt_of_xsize _ _ _ (cut11 t) j 2

theorem cover11 (i : S8x1x2304.Idx) : ∃ t : Fin cfg0.N, (cfg0.win 11).flush t = true ∧ i ∈ ((cfg0.win 11).blk t).view.set := by
  have i0 : (i 0).val < 8 := (i 0).isLt
  have i1 : (i 1).val < 1 := (i 1).isLt
  have i2 : (i 2).val < 2304 := (i 2).isLt
  have ht : 4 * (i 0).val + 3 < 32 := by omega
  refine ⟨⟨_, ht⟩, flush11_of _ (by show (4 * (i 0).val + 3) % 4 = 3; omega), ?_⟩
  refine ((cfg0.win 11).emb_mem_blk_iff ⟨_, ht⟩ i rfl).2 ?_
  have e := tr11 ⟨_, ht⟩
  have hc := cut11 ⟨_, ht⟩
  intro a
  rw [hc]
  show cc0_transform_11 (grid0.coords ⟨_, ht⟩) a * _ ≤ _ ∧ _ < cc0_transform_11 (grid0.coords ⟨_, ht⟩) a * _ + _
  rw [e]
  fin_cases a
  · show (4 * (i 0).val + 3) / 4 * 1 ≤ (i 0).val ∧ (i 0).val < (4 * (i 0).val + 3) / 4 * 1 + 1
    omega
  · show 0 * 1 ≤ (i 1).val ∧ (i 1).val < 0 * 1 + 1
    omega
  · show 0 * 2304 ≤ (i 2).val ∧ (i 2).val < 0 * 2304 + 2304
    omega

theorem cut11_eq (G : ℕ → ℕ → EReal) (t : Fin cfg0.N) (X : S1x1x2304.Idx → EReal) (hX : ∀ k, k < 2304 → at3 X 0 0 k = G (t.val / 4) k) :
    (cfg0.win 11).cut (α := EReal) (grid0.coords t) X = ((cfg0.win 11).blk t).view.read (Elt Ideal) (fun y : S8x1x2304.Idx => G (y 0).val (y 2).val) := by
  funext j
  have e := tr11 t
  have hc := cut11 t
  have j0 : (j 0).val < 1 := (j 0).isLt.trans_eq (congrFun hc 0)
  have k0 : (((cfg0.win 11).blk t).view.emb j 0).val = t.val / 4 :=
    ((cfg0.win 11).rect_emb_val t j 0).trans (by show cc0_transform_11 (grid0.coords t) 0 * 1 + _ = _; rw [e]; show t.val / 4 * 1 + (j 0).val = _; omega)
  have j1 : (j 1).val < 1 := (j 1).isLt.trans_eq (congrFun hc 1)
  have j2 : (j 2).val < 2304 := cols11 t j
  refine (at3_ext (n0 := 1) (n1 := 1) (n2 := 2304) X _ 0 0 (j 2).val (by show (j 0).val = 0; omega) (by show (j 1).val = 0; omega) rfl).trans ((hX (j 2).val j2).trans ?_)
  have k2 : (((cfg0.win 11).blk t).view.emb j 2).val = (j 2).val :=
    ((cfg0.win 11).rect_emb_val t j 2).trans (by show cc0_transform_11 (grid0.coords t) 2 * 2304 + _ = _; rw [e]; show 0 * 2304 + _ = _; omega)
  show _ = G (((cfg0.win 11).blk t).view.emb j 0).val (((cfg0.win 11).blk t).view.emb j 2).val
  rw [k0, k2]

theorem final11 {r : PUnit × MemSt nD τ sig (Elt Ideal)} (h : RDat.FramePost (cfgs 0) (rdat m (plan m)) (V m) r) :
    r.2.mem ((c : Thread nD τ).loc main_v21_4) = outK m c := by
  obtain ⟨after, hL, hA⟩ := RDat.FramePost.exists_exact h c
  have hf := Dat.arrAt_eq_of_cover (cfg := cfg0) ((rdat m (plan m) c).withAfter after) 11 (outK m c) (fun t hf => ?_) cover11
  · exact (hA 11).trans hf
  have h1 := Dat.toRRel_leaves (dats m c) (fgt := marks) (Rl := Rl m (plan m) c) (by decide) (hL 11 t hf)
  have h3 := flush11_ge t hf
  have h2 : R11 m c t.val (after 11 t) := h1
  refine cut11_eq (KS (inp m c)) t (after 11 t) fun k hk => (h2 k hk).trans ?_
  rw [h3]
  exact part_all _ _ _

end Cert.QkvIdeal.Hand
end
-- ==== Proof.QRef.lean ====
module

public import proofs.«01_k».proof.Proof.QSpec
public import proofs.«01_k».proof.Proof.Gen.QkvReferenceIdeal.Value
public import Idealize.ShloMosaic.Lib.Pointwise

@[expose] public section

set_option maxRecDepth 16384

noncomputable section

namespace Cert.QkvReferenceIdeal.Hand

open Cert.QkvReferenceIdeal Cert.QkvReferenceIdeal.Gen Cert.QkvReferenceIdeal.Value Cert.FFN Cert.KeySum
open Idealize.ShloMosaic Idealize.ShloMosaic.TcCoe Idealize.ShloMosaic.Tactic

/-! The reference's values, at an index. -/

variable (D : KeySum.Inp)

theorem ln_at (b : Fin 8) (q : Fin 1008) (k : Fin 2240) : k0_pay1 (F := Ideal) D.t6 D.table D.x (ix3 b q k) = LN D b.val q.val k := by
  pointwise [k0_pay1]
  simp only [at3_ix, at2_ix]
  rfl

theorem fold_sup {n : ℕ} (g h : Fin n → EReal) (e : ∀ f, g f = h f) : Finset.fold max ⊥ g Finset.univ = Finset.univ.sup h := by
  obtain rfl : g = h := funext e
  rfl

/-- The largest magnitudes, and the scales from them. -/
def rmaxV (z : Vec Ideal S8x1008x2240 .f32) : Vec Ideal S8x1008 .f32 :=
  multiReduction (F := Ideal) (φ := .f32) .maximumf [2] S8x1008 (absf z) 0xFF800000#32 reduces_S8x1008x2240_S8x1008 (.inl rfl) rfl
def sclV (z : Vec Ideal S8x1008 .f32) : Vec Ideal S8x1008 .f32 :=
  select (cmpf (F := Ideal) (φ := .f32) .oeq z (broadcast S8x1008 (Scalar.ofBits (F := Ideal) .f32 0x00000000#32)))
    (broadcast S8x1008 (Scalar.ofBits (F := Ideal) .f32 0x3F800000#32)) (divf (F := Ideal) (φ := .f32) z (broadcast S8x1008 (Scalar.ofBits (F := Ideal) .f32 0x43E00000#32)))

theorem rmax_of (z : Vec Ideal S8x1008x2240 .f32) (hz : ∀ (b : Fin 8) (q : Fin 1008) (k : Fin 2240), z (ix3 b q k) = LN D b.val q.val k) (b : Fin 8) (q : Fin 1008) :
    rmaxV z (ix2 b q) = Finset.univ.sup fun k : Fin 2240 => absE (LN D b.val q.val k) := by
  pointwise [rmaxV]
  rw [bot_eq]
  refine fold_sup _ _ fun f => ?_
  exact congrArg absE (hz b q f)

theorem scl_of (z : S8x1008.Idx → EReal) (b : Fin 8) (q : Fin 1008) : sclV z (ix2 b q) = scl (z (ix2 b q)) := by
  pointwise [sclV]
  rfl

theorem scale_split (v0 v1 v7) : k0_pay2 (F := Ideal) v0 v1 v7 = sclV (rmaxV (k0_pay1 (F := Ideal) v0 v1 v7)) := rfl

theorem scale_at (b : Fin 8) (q : Fin 1008) : k0_pay2 (F := Ideal) D.t6 D.table D.x (ix2 b q) = XS D b.val q.val := by
  rw [scale_split, scl_of, rmax_of D _ (ln_at D)]
  rfl

/-- The quotients by the scales. -/
def quotV (z : Vec Ideal S8x1008x2240 .f32) (x : Vec Ideal S8x1008 .f32) : Vec Ideal S8x1008x2240 .f32 :=
  divf (F := Ideal) (φ := .f32) z (broadcastTo S8x1008x2240 (shapeCast S8x1008x1 x shapeCasts_S8x1008_S8x1008x1) broadcasts_S8x1008x1_S8x1008x2240)

theorem quot_of (z : S8x1008x2240.Idx → EReal) (x : S8x1008.Idx → EReal) (b : Fin 8) (q : Fin 1008) (k : Fin 2240) :
    quotV z x (ix3 b q k) = Ideal.div (z (ix3 b q k)) (x (ix2 b q)) := by
  pointwise [quotV]

theorem quot_split (v0 v1 v7) : k0_pay3 (F := Ideal) v0 v1 v7 = quotV (k0_pay1 (F := Ideal) v0 v1 v7) (k0_pay2 (F := Ideal) v0 v1 v7) := rfl

theorem quot_at (b : Fin 8) (q : Fin 1008) (k : Fin 2240) :
    k0_pay3 (F := Ideal) D.t6 D.table D.x (ix3 b q k) = Ideal.div (LN D b.val q.val k) (XS D b.val q.val) := by
  rw [quot_split, quot_of, ln_at, scale_at]

theorem codes_of (z : S8x1008x2240.Idx → EReal) (b : Fin 8) (q : Fin 1008) (k : Fin 2240) :
    k0_pay4 (F := Ideal) z (ix3 b q k) = clipE (z (ix3 b q k)) := by
  pointwise [k0_pay4]
  rfl

theorem codes_at (b : Fin 8) (q : Fin 1008) (k : Fin 2240) :
    k0_pay4 (F := Ideal) (k0_pay3 (F := Ideal) D.t6 D.table D.x) (ix3 b q k) = XC D b.val q.val k :=
  (codes_of _ b q k).trans (congrArg clipE (quot_at D b q k))

theorem scales_of (z : S8x1008.Idx → EReal) (b : Fin 8) (u : Fin 1) (q : Fin 1008) : k0_pay6 (F := Ideal) z (ix3 b u q) = z (ix2 b q) := by
  obtain rfl : u = 0 := Subsingleton.elim _ _
  pointwise [k0_pay6]

theorem keys_of (x : S8x1008.Idx → EReal) (z : S8x1008x2240.Idx → EReal) (w : S2240x6720.Idx → EReal) (s : S6720.Idx → EReal) (b : Fin 8) (u : Fin 1) (n : Fin 2304) :
    k0_pay8 (F := Ideal) x z w s (ix3 b u n)
      = if h : n.val < 2240 then ∑ q : Fin 1008, max ((∑ k : Fin 2240, k0_pay4 (F := Ideal) z (ix3 b q k) * w (ix2 k ⟨2240 + n.val, by omega⟩)) * x (ix2 b q) * s (ix1 ⟨2240 + n.val, by omega⟩)) 0
        else 0 := by
  obtain rfl : u = 0 := Subsingleton.elim _ _
  unfold k0_pay8 k0_pay5
  generalize k0_pay4 (F := Ideal) z = cs
  pointwise []
  split
  · rfl
  · show (((0#32 : BitVec 32).toInt : ℝ) : EReal) = 0
    simp

theorem sum_congr {n : ℕ} (g h : Fin n → EReal) (e : ∀ f, g f = h f) : ∑ f, g f = ∑ f, h f := by
  obtain rfl : g = h := funext e
  rfl

theorem keys_at (b : Fin 8) (u : Fin 1) (n : Fin 2304) :
    k0_pay8 (F := Ideal) (k0_pay2 (F := Ideal) D.t6 D.table D.x) (k0_pay3 (F := Ideal) D.t6 D.table D.x) D.w D.s (ix3 b u n) = KS D b.val n.val := by
  rw [keys_of]
  unfold KS
  split
  · rename_i h
    rw [Finset.sum_range]
    refine sum_congr _ _ fun q => ?_
    unfold PK PW PS
    rw [if_pos h, scale_at, at1_ix D.s]
    refine congrArg (fun v => max (v * XS D b.val q.val * at1 D.s (2240 + n.val)) 0) (sum_congr _ _ fun k => ?_)
    rw [codes_at, if_pos h, at2_ix D.w]
  · rename_i h
    exact (Finset.sum_eq_zero fun q _ => PK_pad D _ _ _ h).symm

theorem proj_at (x : S8x1008.Idx → EReal) (z : S8x1008x2240.Idx → EReal) (w : S2240x6720.Idx → EReal) (s : S6720.Idx → EReal) (b : Fin 8) (q : Fin 1008) (n : Fin 6720) :
    k0_pay5 (F := Ideal) x z w s (ix3 b q n) = (∑ k : Fin 2240, k0_pay4 (F := Ideal) z (ix3 b q k) * w (ix2 k n)) * x (ix2 b q) * s (ix1 n) := by
  unfold k0_pay5
  generalize k0_pay4 (F := Ideal) z = cs
  pointwise []

theorem queries_of (x : S8x1008.Idx → EReal) (z : S8x1008x2240.Idx → EReal) (w : S2240x6720.Idx → EReal) (s : S6720.Idx → EReal) (b : Fin 8) (q : Fin 1024) (n : Fin 2304) :
    k0_pay7 (F := Ideal) x z w s (ix3 b q n)
      = if h : n.val < 2240 ∧ q.val < 1008 then max (k0_pay5 (F := Ideal) x z w s (ix3 b ⟨q.val, h.2⟩ ⟨n.val, by omega⟩)) 0 else 0 := by
  have hz : (((0#32 : BitVec 32).toInt : ℝ) : EReal) = 0 := by simp
  unfold k0_pay7
  generalize k0_pay5 (F := Ideal) x z w s = pr
  pointwise []
  by_cases hn : n.val < 2240
  · by_cases hq : q.val < 1008
    · simp only [hn, hq, and_self, dite_true]
    · simp only [hn, hq, and_false, dite_false, dite_true]
      exact hz
  · simp only [hn, false_and, dite_false]
    exact hz

theorem queries_at (b : Fin 8) (q : Fin 1024) (n : Fin 2304) :
    k0_pay7 (F := Ideal) (k0_pay2 (F := Ideal) D.t6 D.table D.x) (k0_pay3 (F := Ideal) D.t6 D.table D.x) D.w D.s (ix3 b q n) = PQ D b.val q.val n.val := by
  rw [queries_of]
  split
  · rename_i h
    rw [proj_at]
    unfold PQ QW QS
    rw [if_pos h.2, if_pos h.1, scale_at D b ⟨q.val, h.2⟩, at1_ix D.s]
    refine congrArg (fun v => max (v * XS D b.val q.val * at1 D.s n.val) 0) (sum_congr _ _ fun k => ?_)
    rw [codes_at D b ⟨q.val, h.2⟩, if_pos h.1, at2_ix D.w]
  · rename_i h
    by_cases hn : n.val < 2240
    · unfold PQ
      rw [if_neg fun hq => h ⟨hn, hq⟩]
    · exact (PQ_pad D _ _ _ hn).symm

theorem ld_mod (X : Vec Ideal S8x6x2240 .f32) : View.ld X r0_0 = X := View.ld_unit_zero (S := S8x6x2240) hz0 _ X
theorem ld_table (X : Vec Ideal S6x2240 .f32) : View.ld X r0_1 = X := View.ld_unit_zero (S := S6x2240) hz2 _ X
theorem ld_x (X : Vec Ideal S8x1008x2240 .bf16) : View.ld X r0_2 = X := View.ld_unit_zero (S := S8x1008x2240) hz0 _ X

theorem pay9_eq : k0_pay9 (F := Ideal) D.x D.t6 D.table D.w D.s = k0_pay2 (F := Ideal) D.t6 D.table D.x := by
  unfold k0_pay9
  rw [ld_mod, ld_table, ld_x]

theorem pay10_eq : k0_pay10 (F := Ideal) D.x D.t6 D.table D.w D.s = k0_pay3 (F := Ideal) D.t6 D.table D.x := by
  unfold k0_pay10
  rw [ld_mod, ld_table, ld_x]

theorem G5_eq : G5 (F := Ideal) D.x D.t6 D.table D.w D.s = fun y : S8x1008x2240.Idx => XCn D (y 0).val (y 1).val (y 2).val := by
  unfold G5
  rw [pay10_eq]
  funext y
  exact (congrArg (k0_pay4 (F := Ideal) (k0_pay3 (F := Ideal) D.t6 D.table D.x)) (ix3_eta y).symm).trans
    ((codes_at D (y 0) (y 1) (y 2)).trans (XCn_val D (y 0).val (y 1).val (y 2)).symm)

theorem G6_eq : G6 (F := Ideal) D.x D.t6 D.table D.w D.s = fun y : S8x1x1008.Idx => XS D (y 0).val (y 2).val := by
  unfold G6
  rw [pay9_eq]
  funext y
  exact (congrArg (k0_pay6 (F := Ideal) (k0_pay2 (F := Ideal) D.t6 D.table D.x)) (ix3_eta y).symm).trans
    ((scales_of _ (y 0) (y 1) (y 2)).trans (scale_at D (y 0) (y 2)))

theorem G7_eq : G7 (F := Ideal) D.x D.t6 D.table D.w D.s = fun y : S8x1024x2304.Idx => PQ D (y 0).val (y 1).val (y 2).val := by
  unfold G7
  rw [pay9_eq, pay10_eq]
  funext y
  exact (congrArg (k0_pay7 (F := Ideal) (k0_pay2 (F := Ideal) D.t6 D.table D.x) (k0_pay3 (F := Ideal) D.t6 D.table D.x) D.w D.s) (ix3_eta y).symm).trans
    (queries_at D (y 0) (y 1) (y 2))

theorem G8_eq : G8 (F := Ideal) D.x D.t6 D.table D.w D.s = fun y : S8x1x2304.Idx => KS D (y 0).val (y 2).val := by
  unfold G8
  rw [pay9_eq, pay10_eq]
  funext y
  exact (congrArg (k0_pay8 (F := Ideal) (k0_pay2 (F := Ideal) D.t6 D.table D.x) (k0_pay3 (F := Ideal) D.t6 D.table D.x) D.w D.s) (ix3_eta y).symm).trans
    (keys_at D (y 0) (y 1) (y 2))

end Cert.QkvReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.QkvReferenceIdeal.Value
public import proofs.«01_k».proof.Proof.Body
public import proofs.«01_k».proof.Proof.KBody
public import proofs.«01_k».proof.Proof.Outputs
public import proofs.«01_k».proof.Proof.RefOut
public import proofs.«01_k».proof.Proof.QBody
public import proofs.«01_k».proof.Proof.QKBody
public import proofs.«01_k».proof.Proof.QOutputs
public import proofs.«01_k».proof.Proof.QRef
public import Idealize.ShloMosaic.Adequacy
public import Idealize.ShloMosaic.Init

@[expose] public section

noncomputable section

namespace Cert.Proof

open Idealize.ShloMosaic Idealize.SL.Sem Cert.Kernel

theorem frame_kernel [∀ e, Nonempty (Elt Bits e)] : quiescent_Kernel (hKernel := Cert.Kernel.Gen.facts) := fun m ρ _ =>
  (θ_run _ _ _).mono (fun _ h => ⟨fun c => Cert.Kernel.Hand.args_of m _ h.1 c, h.2⟩)
    (Cert.Kernel.Hand.run_main m ρ (Cert.Kernel.Hand.Plan.trivial m))

theorem frame_ideal [∀ e, Nonempty (Elt Ideal e)] : quiescent_KernelIdeal (hKernelIdeal := Cert.KernelIdeal.Gen.facts) := fun m ρ _ =>
  (θ_run _ _ _).mono (fun _ h => ⟨fun c => Cert.KernelIdeal.Hand.args_of m _ h.1 c, h.2⟩)
    (Cert.KernelIdeal.Hand.run_main m ρ (Cert.KernelIdeal.Hand.Plan.trivial m))

theorem frame_reference : quiescent_ReferenceIdeal (hReferenceIdeal := Cert.ReferenceIdeal.Gen.facts) := fun m ρ _ => Cert.ReferenceIdeal.Gen.frame m ρ

theorem values [∀ e, Nonempty (Elt Ideal e)] :
    algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.outC m c, fun c => Cert.KernelIdeal.Hand.outS m c, fun c => Cert.KernelIdeal.Hand.outY m c, ?_, ?_⟩
  · exact (θ_run _ _ _).mono
      (fun _ h c => ⟨Cert.KernelIdeal.Hand.final9 m c h.1, Cert.KernelIdeal.Hand.final10 m c h.1, Cert.KernelIdeal.Hand.final11 m c h.1, Cert.KernelIdeal.Hand.args_of m _ h.1 c⟩)
      (Cert.KernelIdeal.Hand.run_main m g (Cert.KernelIdeal.Hand.plan m))
  · refine (θ_run _ _ _).mono (fun r h c => ?_) (Cert.ReferenceIdeal.Value.run m' g')
    obtain ⟨h0, h1, h2, hr⟩ := h c
    obtain ⟨a0, a1, a2, a3, a4, a5, a6, a7, a8, a9, a10, a11⟩ := hargs c
    refine ⟨?_, ?_, ?_, hr⟩
    · refine h0.trans (Eq.trans ?_ (Cert.ReferenceIdeal.Hand.G12_eq (Cert.KernelIdeal.Hand.inp m c)))
      exact Cert.ReferenceIdeal.Hand.congr12 Cert.ReferenceIdeal.Value.G12 a0 a1 a2 a3 a4 a5 a6 a7 a8 a9 a10 a11
    · refine h1.trans (Eq.trans ?_ (Cert.ReferenceIdeal.Hand.G13_eq (Cert.KernelIdeal.Hand.inp m c)))
      exact Cert.ReferenceIdeal.Hand.congr12 Cert.ReferenceIdeal.Value.G13 a0 a1 a2 a3 a4 a5 a6 a7 a8 a9 a10 a11
    · refine h2.trans (Eq.trans ?_ (Cert.ReferenceIdeal.Hand.G14_eq (Cert.KernelIdeal.Hand.inp m c)))
      exact Cert.ReferenceIdeal.Hand.congr12 Cert.ReferenceIdeal.Value.G14 a0 a1 a2 a3 a4 a5 a6 a7 a8 a9 a10 a11

theorem frame_qkv [∀ e, Nonempty (Elt Bits e)] : quiescent_Qkv (hQkv := Cert.Qkv.Gen.facts) := fun m ρ _ =>
  (θ_run _ _ _).mono (fun _ h => ⟨fun c => Cert.Qkv.Hand.args_of m _ h.1 c, h.2⟩)
    (Cert.Qkv.Hand.run_main m ρ (Cert.Qkv.Hand.Plan.trivial m))

theorem frame_qkv_ideal [∀ e, Nonempty (Elt Ideal e)] : quiescent_QkvIdeal (hQkvIdeal := Cert.QkvIdeal.Gen.facts) := fun m ρ _ =>
  (θ_run _ _ _).mono (fun _ h => ⟨fun c => Cert.QkvIdeal.Hand.args_of m _ h.1 c, h.2⟩)
    (Cert.QkvIdeal.Hand.run_main m ρ (Cert.QkvIdeal.Hand.Plan.trivial m))

theorem frame_qkv_reference : quiescent_QkvReferenceIdeal (hQkvReferenceIdeal := Cert.QkvReferenceIdeal.Gen.facts) := fun m ρ _ =>
  Cert.QkvReferenceIdeal.Gen.frame m ρ

/-- Equal arguments give equal results. -/
theorem congr5 {T0 T1 T2 T3 T4 R : Type} (f : T0 → T1 → T2 → T3 → T4 → R) {x0 y0 : T0} {x1 y1 : T1} {x2 y2 : T2} {x3 y3 : T3} {x4 y4 : T4}
    (h0 : x0 = y0) (h1 : x1 = y1) (h2 : x2 = y2) (h3 : x3 = y3) (h4 : x4 = y4) : f x0 x1 x2 x3 x4 = f y0 y1 y2 y3 y4 := by
  subst h0 h1 h2 h3 h4
  rfl

theorem values_qkv [∀ e, Nonempty (Elt Ideal e)] :
    algebraic_QkvIdeal_QkvReferenceIdeal (hQkvIdeal := Cert.QkvIdeal.Gen.facts) (hQkvReferenceIdeal := Cert.QkvReferenceIdeal.Gen.facts) := by
  intro m g m' g' _ hargs
  refine ⟨fun c => Cert.QkvIdeal.Hand.outC m c, fun c => Cert.QkvIdeal.Hand.outS m c, fun c => Cert.QkvIdeal.Hand.outQ m c, fun c => Cert.QkvIdeal.Hand.outK m c, ?_, ?_⟩
  · exact (θ_run _ _ _).mono
      (fun _ h c => ⟨Cert.QkvIdeal.Hand.final7 m c h.1, Cert.QkvIdeal.Hand.final8 m c h.1, Cert.QkvIdeal.Hand.final9 m c h.1, Cert.QkvIdeal.Hand.final11 m c h.1, Cert.QkvIdeal.Hand.args_of m _ h.1 c⟩)
      (Cert.QkvIdeal.Hand.run_main m g (Cert.QkvIdeal.Hand.plan m))
  · refine (θ_run _ _ _).mono (fun r h c => ?_) (Cert.QkvReferenceIdeal.Value.run m' g')
    obtain ⟨h0, h1, h2, h3, hr⟩ := h c
    obtain ⟨a0, a1, a2, a3, a4, a5, a6⟩ := hargs c
    refine ⟨?_, ?_, ?_, ?_, hr⟩
    · refine h0.trans (Eq.trans ?_ (Cert.QkvReferenceIdeal.Hand.G5_eq (Cert.QkvIdeal.Hand.inp m c)))
      exact congr5 Cert.QkvReferenceIdeal.Value.G5 a0 a1 a2 a3 a4
    · refine h1.trans (Eq.trans ?_ (Cert.QkvReferenceIdeal.Hand.G6_eq (Cert.QkvIdeal.Hand.inp m c)))
      exact congr5 Cert.QkvReferenceIdeal.Value.G6 a0 a1 a2 a3 a4
    · refine h2.trans (Eq.trans ?_ (Cert.QkvReferenceIdeal.Hand.G7_eq (Cert.QkvIdeal.Hand.inp m c)))
      exact congr5 Cert.QkvReferenceIdeal.Value.G7 a0 a1 a2 a3 a4
    · refine h3.trans (Eq.trans ?_ (Cert.QkvReferenceIdeal.Hand.G8_eq (Cert.QkvIdeal.Hand.inp m c)))
      exact congr5 Cert.QkvReferenceIdeal.Value.G8 a0 a1 a2 a3 a4

theorem claim : Cert.Claim :=
  ⟨Cert.Kernel.Gen.facts, Cert.KernelIdeal.Gen.facts, Cert.ReferenceIdeal.Gen.facts, Cert.Qkv.Gen.facts, Cert.QkvIdeal.Gen.facts, Cert.QkvReferenceIdeal.Gen.facts,
    frame_kernel, frame_ideal, frame_reference, frame_qkv, frame_qkv_ideal, frame_qkv_reference, trivial, values, trivial, values_qkv⟩

end Cert.Proof

end
